-- ==== Defs.lean ====
def Pre_Kernel [hPre_indices_name_rows : Cert.Pre_indices_name_rows.Facts] (m : (ℓ : Loc Cert.Kernel.nD Cert.Kernel.τ Cert.Kernel.sig) → Buf (Elt Bits) ℓ) : Prop :=
  ∀ c : Dev Cert.Kernel.nD,
    (Cert.Pre_indices_name_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_indices_name_rows : Cert.Pre_indices_name_rows.Facts] (m : (ℓ : Loc Cert.KernelIdeal.nD Cert.KernelIdeal.τ Cert.KernelIdeal.sig) → Buf (Elt Ideal) ℓ) : Prop :=
  ∀ c : Dev Cert.KernelIdeal.nD,
    (Cert.Pre_indices_name_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_indices_name_rows : Cert.Pre_indices_name_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_name_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Stats (m : (ℓ : Loc Cert.Stats.nD Cert.Stats.τ Cert.Stats.sig) → Buf (Elt Bits) ℓ) : Prop :=
  True

def Pre_StatsIdeal (m : (ℓ : Loc Cert.StatsIdeal.nD Cert.StatsIdeal.τ Cert.StatsIdeal.sig) → Buf (Elt Ideal) ℓ) : Prop :=
  True

def Pre_StatsReferenceIdeal (m : (ℓ : Loc Cert.StatsReferenceIdeal.nD Cert.StatsReferenceIdeal.τ Cert.StatsReferenceIdeal.sig) → Buf (Elt Ideal) ℓ) : Prop :=
  True

def Pre_Farthest (m : (ℓ : Loc Cert.Farthest.nD Cert.Farthest.τ Cert.Farthest.sig) → Buf (Elt Bits) ℓ) : Prop :=
  True

def Pre_Farthest_one_farthest [hPre_one_farthest : Cert.Pre_one_farthest.Facts] (m : (ℓ : Loc Cert.Farthest.nD Cert.Farthest.τ Cert.Farthest.sig) → Buf (Elt Bits) ℓ) : Prop :=
  ∀ c : Dev Cert.Farthest.nD,
    (Cert.Pre_one_farthest.fn (F := Bits) (m ((c.tc : Thread Cert.Farthest.nD Cert.Farthest.τ).loc Cert.Farthest.main_arg0))) = (fun _ => 1#1)

def Pre_FarthestIdeal [hPre_one_farthest : Cert.Pre_one_farthest.Facts] (m : (ℓ : Loc Cert.FarthestIdeal.nD Cert.FarthestIdeal.τ Cert.FarthestIdeal.sig) → Buf (Elt Ideal) ℓ) : Prop :=
  ∀ c : Dev Cert.FarthestIdeal.nD,
    (Cert.Pre_one_farthest.fn (F := Ideal) (m ((c.tc : Thread Cert.FarthestIdeal.nD Cert.FarthestIdeal.τ).loc Cert.FarthestIdeal.main_arg0))) = (fun _ => 1#1)

def Pre_FarthestReferenceIdeal (m : (ℓ : Loc Cert.FarthestReferenceIdeal.nD Cert.FarthestReferenceIdeal.τ Cert.FarthestReferenceIdeal.sig) → Buf (Elt Ideal) ℓ) : Prop :=
  True

def Pre_FarthestReferenceIdeal_one_farthest [hPre_one_farthest : Cert.Pre_one_farthest.Facts] (m : (ℓ : Loc Cert.FarthestReferenceIdeal.nD Cert.FarthestReferenceIdeal.τ Cert.FarthestReferenceIdeal.sig) → Buf (Elt Ideal) ℓ) : Prop :=
  ∀ c : Dev Cert.FarthestReferenceIdeal.nD,
    (Cert.Pre_one_farthest.fn (F := Ideal) (m ((c.tc : Thread Cert.FarthestReferenceIdeal.nD Cert.FarthestReferenceIdeal.τ).loc Cert.FarthestReferenceIdeal.main_arg0))) = (fun _ => 1#1)

def Pre_Nearest (m : (ℓ : Loc Cert.Nearest.nD Cert.Nearest.τ Cert.Nearest.sig) → Buf (Elt Bits) ℓ) : Prop :=
  True

def Pre_Nearest_one_nearest [hPre_one_nearest : Cert.Pre_one_nearest.Facts] (m : (ℓ : Loc Cert.Nearest.nD Cert.Nearest.τ Cert.Nearest.sig) → Buf (Elt Bits) ℓ) : Prop :=
  ∀ c : Dev Cert.Nearest.nD,
    (Cert.Pre_one_nearest.fn (F := Bits) (m ((c.tc : Thread Cert.Nearest.nD Cert.Nearest.τ).loc Cert.Nearest.main_arg0)) (m ((c.tc : Thread Cert.Nearest.nD Cert.Nearest.τ).loc Cert.Nearest.main_arg1))) = (fun _ => 1#1)

def Pre_NearestIdeal [hPre_one_nearest : Cert.Pre_one_nearest.Facts] (m : (ℓ : Loc Cert.NearestIdeal.nD Cert.NearestIdeal.τ Cert.NearestIdeal.sig) → Buf (Elt Ideal) ℓ) : Prop :=
  ∀ c : Dev Cert.NearestIdeal.nD,
    (Cert.Pre_one_nearest.fn (F := Ideal) (m ((c.tc : Thread Cert.NearestIdeal.nD Cert.NearestIdeal.τ).loc Cert.NearestIdeal.main_arg0)) (m ((c.tc : Thread Cert.NearestIdeal.nD Cert.NearestIdeal.τ).loc Cert.NearestIdeal.main_arg1))) = (fun _ => 1#1)

def Pre_NearestReferenceIdeal (m : (ℓ : Loc Cert.NearestReferenceIdeal.nD Cert.NearestReferenceIdeal.τ Cert.NearestReferenceIdeal.sig) → Buf (Elt Ideal) ℓ) : Prop :=
  True

def Pre_NearestReferenceIdeal_one_nearest [hPre_one_nearest : Cert.Pre_one_nearest.Facts] (m : (ℓ : Loc Cert.NearestReferenceIdeal.nD Cert.NearestReferenceIdeal.τ Cert.NearestReferenceIdeal.sig) → Buf (Elt Ideal) ℓ) : Prop :=
  ∀ c : Dev Cert.NearestReferenceIdeal.nD,
    (Cert.Pre_one_nearest.fn (F := Ideal) (m ((c.tc : Thread Cert.NearestReferenceIdeal.nD Cert.NearestReferenceIdeal.τ).loc Cert.NearestReferenceIdeal.main_arg0)) (m ((c.tc : Thread Cert.NearestReferenceIdeal.nD Cert.NearestReferenceIdeal.τ).loc Cert.NearestReferenceIdeal.main_arg1))) = (fun _ => 1#1)

def Pre_Embed (m : (ℓ : Loc Cert.Embed.nD Cert.Embed.τ Cert.Embed.sig) → Buf (Elt Bits) ℓ) : Prop :=
  True

def Pre_EmbedIdeal (m : (ℓ : Loc Cert.EmbedIdeal.nD Cert.EmbedIdeal.τ Cert.EmbedIdeal.sig) → Buf (Elt Ideal) ℓ) : Prop :=
  True

def Pre_EmbedIdeal_coordinates_finite [hPre_coordinates_finite : Cert.Pre_coordinates_finite.Facts] (m : (ℓ : Loc Cert.EmbedIdeal.nD Cert.EmbedIdeal.τ Cert.EmbedIdeal.sig) → Buf (Elt Ideal) ℓ) : Prop :=
  ∀ c : Dev Cert.EmbedIdeal.nD,
    (Cert.Pre_coordinates_finite.fn (F := Ideal) (m ((c.tc : Thread Cert.EmbedIdeal.nD Cert.EmbedIdeal.τ).loc Cert.EmbedIdeal.main_arg0)) (m ((c.tc : Thread Cert.EmbedIdeal.nD Cert.EmbedIdeal.τ).loc Cert.EmbedIdeal.main_arg1)) (m ((c.tc : Thread Cert.EmbedIdeal.nD Cert.EmbedIdeal.τ).loc Cert.EmbedIdeal.main_arg2)) (m ((c.tc : Thread Cert.EmbedIdeal.nD Cert.EmbedIdeal.τ).loc Cert.EmbedIdeal.main_arg3)) (m ((c.tc : Thread Cert.EmbedIdeal.nD Cert.EmbedIdeal.τ).loc Cert.EmbedIdeal.main_arg4)) (m ((c.tc : Thread Cert.EmbedIdeal.nD Cert.EmbedIdeal.τ).loc Cert.EmbedIdeal.main_arg5))) = (fun _ => 1#1)

def Pre_EmbedReferenceIdeal (m : (ℓ : Loc Cert.EmbedReferenceIdeal.nD Cert.EmbedReferenceIdeal.τ Cert.EmbedReferenceIdeal.sig) → Buf (Elt Ideal) ℓ) : Prop :=
  True

def Pre_EmbedReferenceIdeal_coordinates_finite [hPre_coordinates_finite : Cert.Pre_coordinates_finite.Facts] (m : (ℓ : Loc Cert.EmbedReferenceIdeal.nD Cert.EmbedReferenceIdeal.τ Cert.EmbedReferenceIdeal.sig) → Buf (Elt Ideal) ℓ) : Prop :=
  ∀ c : Dev Cert.EmbedReferenceIdeal.nD,
    (Cert.Pre_coordinates_finite.fn (F := Ideal) (m ((c.tc : Thread Cert.EmbedReferenceIdeal.nD Cert.EmbedReferenceIdeal.τ).loc Cert.EmbedReferenceIdeal.main_arg0)) (m ((c.tc : Thread Cert.EmbedReferenceIdeal.nD Cert.EmbedReferenceIdeal.τ).loc Cert.EmbedReferenceIdeal.main_arg1)) (m ((c.tc : Thread Cert.EmbedReferenceIdeal.nD Cert.EmbedReferenceIdeal.τ).loc Cert.EmbedReferenceIdeal.main_arg2)) (m ((c.tc : Thread Cert.EmbedReferenceIdeal.nD Cert.EmbedReferenceIdeal.τ).loc Cert.EmbedReferenceIdeal.main_arg3)) (m ((c.tc : Thread Cert.EmbedReferenceIdeal.nD Cert.EmbedReferenceIdeal.τ).loc Cert.EmbedReferenceIdeal.main_arg4)) (m ((c.tc : Thread Cert.EmbedReferenceIdeal.nD Cert.EmbedReferenceIdeal.τ).loc Cert.EmbedReferenceIdeal.main_arg5))) = (fun _ => 1#1)

def Pre_Whole (m : (ℓ : Loc Cert.Whole.nD Cert.Whole.τ Cert.Whole.sig) → Buf (Elt Bits) ℓ) : Prop :=
  True

def Pre_WholeIdeal (m : (ℓ : Loc Cert.WholeIdeal.nD Cert.WholeIdeal.τ Cert.WholeIdeal.sig) → Buf (Elt Ideal) ℓ) : Prop :=
  True

def Pre_WholeIdeal_coordinates_finite [hPre_coordinates_finite : Cert.Pre_coordinates_finite.Facts] (m : (ℓ : Loc Cert.WholeIdeal.nD Cert.WholeIdeal.τ Cert.WholeIdeal.sig) → Buf (Elt Ideal) ℓ) : Prop :=
  ∀ c : Dev Cert.WholeIdeal.nD,
    (Cert.Pre_coordinates_finite.fn (F := Ideal) (m ((c.tc : Thread Cert.WholeIdeal.nD Cert.WholeIdeal.τ).loc Cert.WholeIdeal.main_arg0)) (m ((c.tc : Thread Cert.WholeIdeal.nD Cert.WholeIdeal.τ).loc Cert.WholeIdeal.main_arg1)) (m ((c.tc : Thread Cert.WholeIdeal.nD Cert.WholeIdeal.τ).loc Cert.WholeIdeal.main_arg2)) (m ((c.tc : Thread Cert.WholeIdeal.nD Cert.WholeIdeal.τ).loc Cert.WholeIdeal.main_arg3)) (m ((c.tc : Thread Cert.WholeIdeal.nD Cert.WholeIdeal.τ).loc Cert.WholeIdeal.main_arg4)) (m ((c.tc : Thread Cert.WholeIdeal.nD Cert.WholeIdeal.τ).loc Cert.WholeIdeal.main_arg5))) = (fun _ => 1#1)

def Pre_WholeReferenceIdeal (m : (ℓ : Loc Cert.WholeReferenceIdeal.nD Cert.WholeReferenceIdeal.τ Cert.WholeReferenceIdeal.sig) → Buf (Elt Ideal) ℓ) : Prop :=
  True

def Pre_WholeReferenceIdeal_coordinates_finite [hPre_coordinates_finite : Cert.Pre_coordinates_finite.Facts] (m : (ℓ : Loc Cert.WholeReferenceIdeal.nD Cert.WholeReferenceIdeal.τ Cert.WholeReferenceIdeal.sig) → Buf (Elt Ideal) ℓ) : Prop :=
  ∀ c : Dev Cert.WholeReferenceIdeal.nD,
    (Cert.Pre_coordinates_finite.fn (F := Ideal) (m ((c.tc : Thread Cert.WholeReferenceIdeal.nD Cert.WholeReferenceIdeal.τ).loc Cert.WholeReferenceIdeal.main_arg0)) (m ((c.tc : Thread Cert.WholeReferenceIdeal.nD Cert.WholeReferenceIdeal.τ).loc Cert.WholeReferenceIdeal.main_arg1)) (m ((c.tc : Thread Cert.WholeReferenceIdeal.nD Cert.WholeReferenceIdeal.τ).loc Cert.WholeReferenceIdeal.main_arg2)) (m ((c.tc : Thread Cert.WholeReferenceIdeal.nD Cert.WholeReferenceIdeal.τ).loc Cert.WholeReferenceIdeal.main_arg3)) (m ((c.tc : Thread Cert.WholeReferenceIdeal.nD Cert.WholeReferenceIdeal.τ).loc Cert.WholeReferenceIdeal.main_arg4)) (m ((c.tc : Thread Cert.WholeReferenceIdeal.nD Cert.WholeReferenceIdeal.τ).loc Cert.WholeReferenceIdeal.main_arg5))) = (fun _ => 1#1)

def quiescent_Kernel [hKernel : Cert.Kernel.Facts] [hPre_indices_name_rows : Cert.Pre_indices_name_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_indices_name_rows : Cert.Pre_indices_name_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_indices_name_rows : Cert.Pre_indices_name_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Stats [hStats : Cert.Stats.Facts] : Prop :=
  ∀ (m : (ℓ : Loc Cert.Stats.nD Cert.Stats.τ Cert.Stats.sig) → Buf (Elt Bits) ℓ) (g : Dev Cert.Stats.nD → PrngReg), Pre_Stats m →
    θ_run (Cert.Stats.defs (F := Bits)) (onTc (τ := Cert.Stats.τ) (Cert.Stats.main (F := Bits))) ⟨m, fun _ => 0, g⟩ (fun r => (∀ c : Dev Cert.Stats.nD,
      r.2.mem ((c.tc : Thread Cert.Stats.nD Cert.Stats.τ).loc Cert.Stats.main_arg0) = m ((c.tc : Thread Cert.Stats.nD Cert.Stats.τ).loc Cert.Stats.main_arg0)
      ∧ r.2.mem ((c.tc : Thread Cert.Stats.nD Cert.Stats.τ).loc Cert.Stats.main_arg1) = m ((c.tc : Thread Cert.Stats.nD Cert.Stats.τ).loc Cert.Stats.main_arg1))
      ∧ r.2.sem = fun _ => 0)

def quiescent_StatsIdeal [hStatsIdeal : Cert.StatsIdeal.Facts] : Prop :=
  ∀ (m : (ℓ : Loc Cert.StatsIdeal.nD Cert.StatsIdeal.τ Cert.StatsIdeal.sig) → Buf (Elt Ideal) ℓ) (g : Dev Cert.StatsIdeal.nD → PrngReg), Pre_StatsIdeal m →
    θ_run (Cert.StatsIdeal.defs (F := Ideal)) (onTc (τ := Cert.StatsIdeal.τ) (Cert.StatsIdeal.main (F := Ideal))) ⟨m, fun _ => 0, g⟩ (fun r => (∀ c : Dev Cert.StatsIdeal.nD,
      r.2.mem ((c.tc : Thread Cert.StatsIdeal.nD Cert.StatsIdeal.τ).loc Cert.StatsIdeal.main_arg0) = m ((c.tc : Thread Cert.StatsIdeal.nD Cert.StatsIdeal.τ).loc Cert.StatsIdeal.main_arg0)
      ∧ r.2.mem ((c.tc : Thread Cert.StatsIdeal.nD Cert.StatsIdeal.τ).loc Cert.StatsIdeal.main_arg1) = m ((c.tc : Thread Cert.StatsIdeal.nD Cert.StatsIdeal.τ).loc Cert.StatsIdeal.main_arg1))
      ∧ r.2.sem = fun _ => 0)

def quiescent_StatsReferenceIdeal [hStatsReferenceIdeal : Cert.StatsReferenceIdeal.Facts] : Prop :=
  ∀ (m : (ℓ : Loc Cert.StatsReferenceIdeal.nD Cert.StatsReferenceIdeal.τ Cert.StatsReferenceIdeal.sig) → Buf (Elt Ideal) ℓ) (g : Dev Cert.StatsReferenceIdeal.nD → PrngReg), Pre_StatsReferenceIdeal m →
    θ_run (Cert.StatsReferenceIdeal.defs (F := Ideal)) (onTc (τ := Cert.StatsReferenceIdeal.τ) (Cert.StatsReferenceIdeal.main (F := Ideal))) ⟨m, fun _ => 0, g⟩ (fun r => (∀ c : Dev Cert.StatsReferenceIdeal.nD,
      r.2.mem ((c.tc : Thread Cert.StatsReferenceIdeal.nD Cert.StatsReferenceIdeal.τ).loc Cert.StatsReferenceIdeal.main_arg0) = m ((c.tc : Thread Cert.StatsReferenceIdeal.nD Cert.StatsReferenceIdeal.τ).loc Cert.StatsReferenceIdeal.main_arg0)
      ∧ r.2.mem ((c.tc : Thread Cert.StatsReferenceIdeal.nD Cert.StatsReferenceIdeal.τ).loc Cert.StatsReferenceIdeal.main_arg1) = m ((c.tc : Thread Cert.StatsReferenceIdeal.nD Cert.StatsReferenceIdeal.τ).loc Cert.StatsReferenceIdeal.main_arg1))
      ∧ r.2.sem = fun _ => 0)

def quiescent_Farthest [hFarthest : Cert.Farthest.Facts] : Prop :=
  ∀ (m : (ℓ : Loc Cert.Farthest.nD Cert.Farthest.τ Cert.Farthest.sig) → Buf (Elt Bits) ℓ) (g : Dev Cert.Farthest.nD → PrngReg), Pre_Farthest m →
    θ_run (Cert.Farthest.defs (F := Bits)) (onTc (τ := Cert.Farthest.τ) (Cert.Farthest.main (F := Bits))) ⟨m, fun _ => 0, g⟩ (fun r => (∀ c : Dev Cert.Farthest.nD,
      r.2.mem ((c.tc : Thread Cert.Farthest.nD Cert.Farthest.τ).loc Cert.Farthest.main_arg0) = m ((c.tc : Thread Cert.Farthest.nD Cert.Farthest.τ).loc Cert.Farthest.main_arg0))
      ∧ r.2.sem = fun _ => 0)

def quiescent_Farthest_pre_one_farthest [hFarthest : Cert.Farthest.Facts] [hPre_one_farthest : Cert.Pre_one_farthest.Facts] : Prop :=
  ∀ (m : (ℓ : Loc Cert.Farthest.nD Cert.Farthest.τ Cert.Farthest.sig) → Buf (Elt Bits) ℓ) (g : Dev Cert.Farthest.nD → PrngReg), Pre_Farthest_one_farthest m →
    θ_run (Cert.Farthest.defs (F := Bits)) (onTc (τ := Cert.Farthest.τ) (Cert.Farthest.main (F := Bits))) ⟨m, fun _ => 0, g⟩ (fun r => (∀ c : Dev Cert.Farthest.nD,
      r.2.mem ((c.tc : Thread Cert.Farthest.nD Cert.Farthest.τ).loc Cert.Farthest.main_arg0) = m ((c.tc : Thread Cert.Farthest.nD Cert.Farthest.τ).loc Cert.Farthest.main_arg0))
      ∧ r.2.sem = fun _ => 0)

def quiescent_FarthestIdeal [hFarthestIdeal : Cert.FarthestIdeal.Facts] [hPre_one_farthest : Cert.Pre_one_farthest.Facts] : Prop :=
  ∀ (m : (ℓ : Loc Cert.FarthestIdeal.nD Cert.FarthestIdeal.τ Cert.FarthestIdeal.sig) → Buf (Elt Ideal) ℓ) (g : Dev Cert.FarthestIdeal.nD → PrngReg), Pre_FarthestIdeal m →
    θ_run (Cert.FarthestIdeal.defs (F := Ideal)) (onTc (τ := Cert.FarthestIdeal.τ) (Cert.FarthestIdeal.main (F := Ideal))) ⟨m, fun _ => 0, g⟩ (fun r => (∀ c : Dev Cert.FarthestIdeal.nD,
      r.2.mem ((c.tc : Thread Cert.FarthestIdeal.nD Cert.FarthestIdeal.τ).loc Cert.FarthestIdeal.main_arg0) = m ((c.tc : Thread Cert.FarthestIdeal.nD Cert.FarthestIdeal.τ).loc Cert.FarthestIdeal.main_arg0))
      ∧ r.2.sem = fun _ => 0)

def quiescent_FarthestReferenceIdeal [hFarthestReferenceIdeal : Cert.FarthestReferenceIdeal.Facts] : Prop :=
  ∀ (m : (ℓ : Loc Cert.FarthestReferenceIdeal.nD Cert.FarthestReferenceIdeal.τ Cert.FarthestReferenceIdeal.sig) → Buf (Elt Ideal) ℓ) (g : Dev Cert.FarthestReferenceIdeal.nD → PrngReg), Pre_FarthestReferenceIdeal m →
    θ_run (Cert.FarthestReferenceIdeal.defs (F := Ideal)) (onTc (τ := Cert.FarthestReferenceIdeal.τ) (Cert.FarthestReferenceIdeal.main (F := Ideal))) ⟨m, fun _ => 0, g⟩ (fun r => (∀ c : Dev Cert.FarthestReferenceIdeal.nD,
      r.2.mem ((c.tc : Thread Cert.FarthestReferenceIdeal.nD Cert.FarthestReferenceIdeal.τ).loc Cert.FarthestReferenceIdeal.main_arg0) = m ((c.tc : Thread Cert.FarthestReferenceIdeal.nD Cert.FarthestReferenceIdeal.τ).loc Cert.FarthestReferenceIdeal.main_arg0))
      ∧ r.2.sem = fun _ => 0)

def quiescent_FarthestReferenceIdeal_pre_one_farthest [hFarthestReferenceIdeal : Cert.FarthestReferenceIdeal.Facts] [hPre_one_farthest : Cert.Pre_one_farthest.Facts] : Prop :=
  ∀ (m : (ℓ : Loc Cert.FarthestReferenceIdeal.nD Cert.FarthestReferenceIdeal.τ Cert.FarthestReferenceIdeal.sig) → Buf (Elt Ideal) ℓ) (g : Dev Cert.FarthestReferenceIdeal.nD → PrngReg), Pre_FarthestReferenceIdeal_one_farthest m →
    θ_run (Cert.FarthestReferenceIdeal.defs (F := Ideal)) (onTc (τ := Cert.FarthestReferenceIdeal.τ) (Cert.FarthestReferenceIdeal.main (F := Ideal))) ⟨m, fun _ => 0, g⟩ (fun r => (∀ c : Dev Cert.FarthestReferenceIdeal.nD,
      r.2.mem ((c.tc : Thread Cert.FarthestReferenceIdeal.nD Cert.FarthestReferenceIdeal.τ).loc Cert.FarthestReferenceIdeal.main_arg0) = m ((c.tc : Thread Cert.FarthestReferenceIdeal.nD Cert.FarthestReferenceIdeal.τ).loc Cert.FarthestReferenceIdeal.main_arg0))
      ∧ r.2.sem = fun _ => 0)

def quiescent_Nearest [hNearest : Cert.Nearest.Facts] : Prop :=
  ∀ (m : (ℓ : Loc Cert.Nearest.nD Cert.Nearest.τ Cert.Nearest.sig) → Buf (Elt Bits) ℓ) (g : Dev Cert.Nearest.nD → PrngReg), Pre_Nearest m →
    θ_run (Cert.Nearest.defs (F := Bits)) (onTc (τ := Cert.Nearest.τ) (Cert.Nearest.main (F := Bits))) ⟨m, fun _ => 0, g⟩ (fun r => (∀ c : Dev Cert.Nearest.nD,
      r.2.mem ((c.tc : Thread Cert.Nearest.nD Cert.Nearest.τ).loc Cert.Nearest.main_arg0) = m ((c.tc : Thread Cert.Nearest.nD Cert.Nearest.τ).loc Cert.Nearest.main_arg0)
      ∧ r.2.mem ((c.tc : Thread Cert.Nearest.nD Cert.Nearest.τ).loc Cert.Nearest.main_arg1) = m ((c.tc : Thread Cert.Nearest.nD Cert.Nearest.τ).loc Cert.Nearest.main_arg1))
      ∧ r.2.sem = fun _ => 0)

def quiescent_Nearest_pre_one_nearest [hNearest : Cert.Nearest.Facts] [hPre_one_nearest : Cert.Pre_one_nearest.Facts] : Prop :=
  ∀ (m : (ℓ : Loc Cert.Nearest.nD Cert.Nearest.τ Cert.Nearest.sig) → Buf (Elt Bits) ℓ) (g : Dev Cert.Nearest.nD → PrngReg), Pre_Nearest_one_nearest m →
    θ_run (Cert.Nearest.defs (F := Bits)) (onTc (τ := Cert.Nearest.τ) (Cert.Nearest.main (F := Bits))) ⟨m, fun _ => 0, g⟩ (fun r => (∀ c : Dev Cert.Nearest.nD,
      r.2.mem ((c.tc : Thread Cert.Nearest.nD Cert.Nearest.τ).loc Cert.Nearest.main_arg0) = m ((c.tc : Thread Cert.Nearest.nD Cert.Nearest.τ).loc Cert.Nearest.main_arg0)
      ∧ r.2.mem ((c.tc : Thread Cert.Nearest.nD Cert.Nearest.τ).loc Cert.Nearest.main_arg1) = m ((c.tc : Thread Cert.Nearest.nD Cert.Nearest.τ).loc Cert.Nearest.main_arg1))
      ∧ r.2.sem = fun _ => 0)

def quiescent_NearestIdeal [hNearestIdeal : Cert.NearestIdeal.Facts] [hPre_one_nearest : Cert.Pre_one_nearest.Facts] : Prop :=
  ∀ (m : (ℓ : Loc Cert.NearestIdeal.nD Cert.NearestIdeal.τ Cert.NearestIdeal.sig) → Buf (Elt Ideal) ℓ) (g : Dev Cert.NearestIdeal.nD → PrngReg), Pre_NearestIdeal m →
    θ_run (Cert.NearestIdeal.defs (F := Ideal)) (onTc (τ := Cert.NearestIdeal.τ) (Cert.NearestIdeal.main (F := Ideal))) ⟨m, fun _ => 0, g⟩ (fun r => (∀ c : Dev Cert.NearestIdeal.nD,
      r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0)
      ∧ r.2.mem ((c.tc : Thread Cert.NearestIdeal.nD Cert.NearestIdeal.τ).loc Cert.NearestIdeal.main_arg1) = m ((c.tc : Thread Cert.NearestIdeal.nD Cert.NearestIdeal.τ).loc Cert.NearestIdeal.main_arg1))
      ∧ r.2.sem = fun _ => 0)

def quiescent_NearestReferenceIdeal [hNearestReferenceIdeal : Cert.NearestReferenceIdeal.Facts] : Prop :=
  ∀ (m : (ℓ : Loc Cert.NearestReferenceIdeal.nD Cert.NearestReferenceIdeal.τ Cert.NearestReferenceIdeal.sig) → Buf (Elt Ideal) ℓ) (g : Dev Cert.NearestReferenceIdeal.nD → PrngReg), Pre_NearestReferenceIdeal m →
    θ_run (Cert.NearestReferenceIdeal.defs (F := Ideal)) (onTc (τ := Cert.NearestReferenceIdeal.τ) (Cert.NearestReferenceIdeal.main (F := Ideal))) ⟨m, fun _ => 0, g⟩ (fun r => (∀ c : Dev Cert.NearestReferenceIdeal.nD,
      r.2.mem ((c.tc : Thread Cert.NearestReferenceIdeal.nD Cert.NearestReferenceIdeal.τ).loc Cert.NearestReferenceIdeal.main_arg0) = m ((c.tc : Thread Cert.NearestReferenceIdeal.nD Cert.NearestReferenceIdeal.τ).loc Cert.NearestReferenceIdeal.main_arg0)
      ∧ r.2.mem ((c.tc : Thread Cert.NearestReferenceIdeal.nD Cert.NearestReferenceIdeal.τ).loc Cert.NearestReferenceIdeal.main_arg1) = m ((c.tc : Thread Cert.NearestReferenceIdeal.nD Cert.NearestReferenceIdeal.τ).loc Cert.NearestReferenceIdeal.main_arg1))
      ∧ r.2.sem = fun _ => 0)

def quiescent_NearestReferenceIdeal_pre_one_nearest [hNearestReferenceIdeal : Cert.NearestReferenceIdeal.Facts] [hPre_one_nearest : Cert.Pre_one_nearest.Facts] : Prop :=
  ∀ (m : (ℓ : Loc Cert.NearestReferenceIdeal.nD Cert.NearestReferenceIdeal.τ Cert.NearestReferenceIdeal.sig) → Buf (Elt Ideal) ℓ) (g : Dev Cert.NearestReferenceIdeal.nD → PrngReg), Pre_NearestReferenceIdeal_one_nearest m →
    θ_run (Cert.NearestReferenceIdeal.defs (F := Ideal)) (onTc (τ := Cert.NearestReferenceIdeal.τ) (Cert.NearestReferenceIdeal.main (F := Ideal))) ⟨m, fun _ => 0, g⟩ (fun r => (∀ c : Dev Cert.NearestReferenceIdeal.nD,
      r.2.mem ((c.tc : Thread Cert.NearestReferenceIdeal.nD Cert.NearestReferenceIdeal.τ).loc Cert.NearestReferenceIdeal.main_arg0) = m ((c.tc : Thread Cert.NearestReferenceIdeal.nD Cert.NearestReferenceIdeal.τ).loc Cert.NearestReferenceIdeal.main_arg0)
      ∧ r.2.mem ((c.tc : Thread Cert.NearestReferenceIdeal.nD Cert.NearestReferenceIdeal.τ).loc Cert.NearestReferenceIdeal.main_arg1) = m ((c.tc : Thread Cert.NearestReferenceIdeal.nD Cert.NearestReferenceIdeal.τ).loc Cert.NearestReferenceIdeal.main_arg1))
      ∧ r.2.sem = fun _ => 0)

def quiescent_Embed [hEmbed : Cert.Embed.Facts] : Prop :=
  ∀ (m : (ℓ : Loc Cert.Embed.nD Cert.Embed.τ Cert.Embed.sig) → Buf (Elt Bits) ℓ) (g : Dev Cert.Embed.nD → PrngReg), Pre_Embed m →
    θ_run (Cert.Embed.defs (F := Bits)) (onTc (τ := Cert.Embed.τ) (Cert.Embed.main (F := Bits))) ⟨m, fun _ => 0, g⟩ (fun r => (∀ c : Dev Cert.Embed.nD,
      r.2.mem ((c.tc : Thread Cert.Embed.nD Cert.Embed.τ).loc Cert.Embed.main_arg0) = m ((c.tc : Thread Cert.Embed.nD Cert.Embed.τ).loc Cert.Embed.main_arg0)
      ∧ r.2.mem ((c.tc : Thread Cert.Embed.nD Cert.Embed.τ).loc Cert.Embed.main_arg1) = m ((c.tc : Thread Cert.Embed.nD Cert.Embed.τ).loc Cert.Embed.main_arg1)
      ∧ r.2.mem ((c.tc : Thread Cert.Embed.nD Cert.Embed.τ).loc Cert.Embed.main_arg2) = m ((c.tc : Thread Cert.Embed.nD Cert.Embed.τ).loc Cert.Embed.main_arg2)
      ∧ r.2.mem ((c.tc : Thread Cert.Embed.nD Cert.Embed.τ).loc Cert.Embed.main_arg3) = m ((c.tc : Thread Cert.Embed.nD Cert.Embed.τ).loc Cert.Embed.main_arg3)
      ∧ r.2.mem ((c.tc : Thread Cert.Embed.nD Cert.Embed.τ).loc Cert.Embed.main_arg4) = m ((c.tc : Thread Cert.Embed.nD Cert.Embed.τ).loc Cert.Embed.main_arg4)
      ∧ r.2.mem ((c.tc : Thread Cert.Embed.nD Cert.Embed.τ).loc Cert.Embed.main_arg5) = m ((c.tc : Thread Cert.Embed.nD Cert.Embed.τ).loc Cert.Embed.main_arg5))
      ∧ r.2.sem = fun _ => 0)

def quiescent_EmbedIdeal [hEmbedIdeal : Cert.EmbedIdeal.Facts] : Prop :=
  ∀ (m : (ℓ : Loc Cert.EmbedIdeal.nD Cert.EmbedIdeal.τ Cert.EmbedIdeal.sig) → Buf (Elt Ideal) ℓ) (g : Dev Cert.EmbedIdeal.nD → PrngReg), Pre_EmbedIdeal m →
    θ_run (Cert.EmbedIdeal.defs (F := Ideal)) (onTc (τ := Cert.EmbedIdeal.τ) (Cert.EmbedIdeal.main (F := Ideal))) ⟨m, fun _ => 0, g⟩ (fun r => (∀ c : Dev Cert.EmbedIdeal.nD,
      r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
      ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1)
      ∧ r.2.mem ((c.tc : Thread Cert.EmbedIdeal.nD Cert.EmbedIdeal.τ).loc Cert.EmbedIdeal.main_arg2) = m ((c.tc : Thread Cert.EmbedIdeal.nD Cert.EmbedIdeal.τ).loc Cert.EmbedIdeal.main_arg2)
      ∧ r.2.mem ((c.tc : Thread Cert.EmbedIdeal.nD Cert.EmbedIdeal.τ).loc Cert.EmbedIdeal.main_arg3) = m ((c.tc : Thread Cert.EmbedIdeal.nD Cert.EmbedIdeal.τ).loc Cert.EmbedIdeal.main_arg3)
      ∧ r.2.mem ((c.tc : Thread Cert.EmbedIdeal.nD Cert.EmbedIdeal.τ).loc Cert.EmbedIdeal.main_arg4) = m ((c.tc : Thread Cert.EmbedIdeal.nD Cert.EmbedIdeal.τ).loc Cert.EmbedIdeal.main_arg4)
      ∧ r.2.mem ((c.tc : Thread Cert.EmbedIdeal.nD Cert.EmbedIdeal.τ).loc Cert.EmbedIdeal.main_arg5) = m ((c.tc : Thread Cert.EmbedIdeal.nD Cert.EmbedIdeal.τ).loc Cert.EmbedIdeal.main_arg5))
      ∧ r.2.sem = fun _ => 0)

def quiescent_EmbedIdeal_pre_coordinates_finite [hEmbedIdeal : Cert.EmbedIdeal.Facts] [hPre_coordinates_finite : Cert.Pre_coordinates_finite.Facts] : Prop :=
  ∀ (m : (ℓ : Loc Cert.EmbedIdeal.nD Cert.EmbedIdeal.τ Cert.EmbedIdeal.sig) → Buf (Elt Ideal) ℓ) (g : Dev Cert.EmbedIdeal.nD → PrngReg), Pre_EmbedIdeal_coordinates_finite m →
    θ_run (Cert.EmbedIdeal.defs (F := Ideal)) (onTc (τ := Cert.EmbedIdeal.τ) (Cert.EmbedIdeal.main (F := Ideal))) ⟨m, fun _ => 0, g⟩ (fun r => (∀ c : Dev Cert.EmbedIdeal.nD,
      r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
      ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1)
      ∧ r.2.mem ((c.tc : Thread Cert.EmbedIdeal.nD Cert.EmbedIdeal.τ).loc Cert.EmbedIdeal.main_arg2) = m ((c.tc : Thread Cert.EmbedIdeal.nD Cert.EmbedIdeal.τ).loc Cert.EmbedIdeal.main_arg2)
      ∧ r.2.mem ((c.tc : Thread Cert.EmbedIdeal.nD Cert.EmbedIdeal.τ).loc Cert.EmbedIdeal.main_arg3) = m ((c.tc : Thread Cert.EmbedIdeal.nD Cert.EmbedIdeal.τ).loc Cert.EmbedIdeal.main_arg3)
      ∧ r.2.mem ((c.tc : Thread Cert.EmbedIdeal.nD Cert.EmbedIdeal.τ).loc Cert.EmbedIdeal.main_arg4) = m ((c.tc : Thread Cert.EmbedIdeal.nD Cert.EmbedIdeal.τ).loc Cert.EmbedIdeal.main_arg4)
      ∧ r.2.mem ((c.tc : Thread Cert.EmbedIdeal.nD Cert.EmbedIdeal.τ).loc Cert.EmbedIdeal.main_arg5) = m ((c.tc : Thread Cert.EmbedIdeal.nD Cert.EmbedIdeal.τ).loc Cert.EmbedIdeal.main_arg5))
      ∧ r.2.sem = fun _ => 0)

def quiescent_EmbedReferenceIdeal [hEmbedReferenceIdeal : Cert.EmbedReferenceIdeal.Facts] : Prop :=
  ∀ (m : (ℓ : Loc Cert.EmbedReferenceIdeal.nD Cert.EmbedReferenceIdeal.τ Cert.EmbedReferenceIdeal.sig) → Buf (Elt Ideal) ℓ) (g : Dev Cert.EmbedReferenceIdeal.nD → PrngReg), Pre_EmbedReferenceIdeal m →
    θ_run (Cert.EmbedReferenceIdeal.defs (F := Ideal)) (onTc (τ := Cert.EmbedReferenceIdeal.τ) (Cert.EmbedReferenceIdeal.main (F := Ideal))) ⟨m, fun _ => 0, g⟩ (fun r => (∀ c : Dev Cert.EmbedReferenceIdeal.nD,
      r.2.mem ((c.tc : Thread Cert.EmbedReferenceIdeal.nD Cert.EmbedReferenceIdeal.τ).loc Cert.EmbedReferenceIdeal.main_arg0) = m ((c.tc : Thread Cert.EmbedReferenceIdeal.nD Cert.EmbedReferenceIdeal.τ).loc Cert.EmbedReferenceIdeal.main_arg0)
      ∧ r.2.mem ((c.tc : Thread Cert.EmbedReferenceIdeal.nD Cert.EmbedReferenceIdeal.τ).loc Cert.EmbedReferenceIdeal.main_arg1) = m ((c.tc : Thread Cert.EmbedReferenceIdeal.nD Cert.EmbedReferenceIdeal.τ).loc Cert.EmbedReferenceIdeal.main_arg1)
      ∧ r.2.mem ((c.tc : Thread Cert.EmbedReferenceIdeal.nD Cert.EmbedReferenceIdeal.τ).loc Cert.EmbedReferenceIdeal.main_arg2) = m ((c.tc : Thread Cert.EmbedReferenceIdeal.nD Cert.EmbedReferenceIdeal.τ).loc Cert.EmbedReferenceIdeal.main_arg2)
      ∧ r.2.mem ((c.tc : Thread Cert.EmbedReferenceIdeal.nD Cert.EmbedReferenceIdeal.τ).loc Cert.EmbedReferenceIdeal.main_arg3) = m ((c.tc : Thread Cert.EmbedReferenceIdeal.nD Cert.EmbedReferenceIdeal.τ).loc Cert.EmbedReferenceIdeal.main_arg3)
      ∧ r.2.mem ((c.tc : Thread Cert.EmbedReferenceIdeal.nD Cert.EmbedReferenceIdeal.τ).loc Cert.EmbedReferenceIdeal.main_arg4) = m ((c.tc : Thread Cert.EmbedReferenceIdeal.nD Cert.EmbedReferenceIdeal.τ).loc Cert.EmbedReferenceIdeal.main_arg4)
      ∧ r.2.mem ((c.tc : Thread Cert.EmbedReferenceIdeal.nD Cert.EmbedReferenceIdeal.τ).loc Cert.EmbedReferenceIdeal.main_arg5) = m ((c.tc : Thread Cert.EmbedReferenceIdeal.nD Cert.EmbedReferenceIdeal.τ).loc Cert.EmbedReferenceIdeal.main_arg5))
      ∧ r.2.sem = fun _ => 0)

def quiescent_EmbedReferenceIdeal_pre_coordinates_finite [hEmbedReferenceIdeal : Cert.EmbedReferenceIdeal.Facts] [hPre_coordinates_finite : Cert.Pre_coordinates_finite.Facts] : Prop :=
  ∀ (m : (ℓ : Loc Cert.EmbedReferenceIdeal.nD Cert.EmbedReferenceIdeal.τ Cert.EmbedReferenceIdeal.sig) → Buf (Elt Ideal) ℓ) (g : Dev Cert.EmbedReferenceIdeal.nD → PrngReg), Pre_EmbedReferenceIdeal_coordinates_finite m →
    θ_run (Cert.EmbedReferenceIdeal.defs (F := Ideal)) (onTc (τ := Cert.EmbedReferenceIdeal.τ) (Cert.EmbedReferenceIdeal.main (F := Ideal))) ⟨m, fun _ => 0, g⟩ (fun r => (∀ c : Dev Cert.EmbedReferenceIdeal.nD,
      r.2.mem ((c.tc : Thread Cert.EmbedReferenceIdeal.nD Cert.EmbedReferenceIdeal.τ).loc Cert.EmbedReferenceIdeal.main_arg0) = m ((c.tc : Thread Cert.EmbedReferenceIdeal.nD Cert.EmbedReferenceIdeal.τ).loc Cert.EmbedReferenceIdeal.main_arg0)
      ∧ r.2.mem ((c.tc : Thread Cert.EmbedReferenceIdeal.nD Cert.EmbedReferenceIdeal.τ).loc Cert.EmbedReferenceIdeal.main_arg1) = m ((c.tc : Thread Cert.EmbedReferenceIdeal.nD Cert.EmbedReferenceIdeal.τ).loc Cert.EmbedReferenceIdeal.main_arg1)
      ∧ r.2.mem ((c.tc : Thread Cert.EmbedReferenceIdeal.nD Cert.EmbedReferenceIdeal.τ).loc Cert.EmbedReferenceIdeal.main_arg2) = m ((c.tc : Thread Cert.EmbedReferenceIdeal.nD Cert.EmbedReferenceIdeal.τ).loc Cert.EmbedReferenceIdeal.main_arg2)
      ∧ r.2.mem ((c.tc : Thread Cert.EmbedReferenceIdeal.nD Cert.EmbedReferenceIdeal.τ).loc Cert.EmbedReferenceIdeal.main_arg3) = m ((c.tc : Thread Cert.EmbedReferenceIdeal.nD Cert.EmbedReferenceIdeal.τ).loc Cert.EmbedReferenceIdeal.main_arg3)
      ∧ r.2.mem ((c.tc : Thread Cert.EmbedReferenceIdeal.nD Cert.EmbedReferenceIdeal.τ).loc Cert.EmbedReferenceIdeal.main_arg4) = m ((c.tc : Thread Cert.EmbedReferenceIdeal.nD Cert.EmbedReferenceIdeal.τ).loc Cert.EmbedReferenceIdeal.main_arg4)
      ∧ r.2.mem ((c.tc : Thread Cert.EmbedReferenceIdeal.nD Cert.EmbedReferenceIdeal.τ).loc Cert.EmbedReferenceIdeal.main_arg5) = m ((c.tc : Thread Cert.EmbedReferenceIdeal.nD Cert.EmbedReferenceIdeal.τ).loc Cert.EmbedReferenceIdeal.main_arg5))
      ∧ r.2.sem = fun _ => 0)

def quiescent_Whole [hWhole : Cert.Whole.Facts] : Prop :=
  ∀ (m : (ℓ : Loc Cert.Whole.nD Cert.Whole.τ Cert.Whole.sig) → Buf (Elt Bits) ℓ) (g : Dev Cert.Whole.nD → PrngReg), Pre_Whole m →
    θ_run (Cert.Whole.defs (F := Bits)) (onTc (τ := Cert.Whole.τ) (Cert.Whole.main (F := Bits))) ⟨m, fun _ => 0, g⟩ (fun r => (∀ c : Dev Cert.Whole.nD,
      r.2.mem ((c.tc : Thread Cert.Whole.nD Cert.Whole.τ).loc Cert.Whole.main_arg0) = m ((c.tc : Thread Cert.Whole.nD Cert.Whole.τ).loc Cert.Whole.main_arg0)
      ∧ r.2.mem ((c.tc : Thread Cert.Whole.nD Cert.Whole.τ).loc Cert.Whole.main_arg1) = m ((c.tc : Thread Cert.Whole.nD Cert.Whole.τ).loc Cert.Whole.main_arg1)
      ∧ r.2.mem ((c.tc : Thread Cert.Whole.nD Cert.Whole.τ).loc Cert.Whole.main_arg2) = m ((c.tc : Thread Cert.Whole.nD Cert.Whole.τ).loc Cert.Whole.main_arg2)
      ∧ r.2.mem ((c.tc : Thread Cert.Whole.nD Cert.Whole.τ).loc Cert.Whole.main_arg3) = m ((c.tc : Thread Cert.Whole.nD Cert.Whole.τ).loc Cert.Whole.main_arg3)
      ∧ r.2.mem ((c.tc : Thread Cert.Whole.nD Cert.Whole.τ).loc Cert.Whole.main_arg4) = m ((c.tc : Thread Cert.Whole.nD Cert.Whole.τ).loc Cert.Whole.main_arg4)
      ∧ r.2.mem ((c.tc : Thread Cert.Whole.nD Cert.Whole.τ).loc Cert.Whole.main_arg5) = m ((c.tc : Thread Cert.Whole.nD Cert.Whole.τ).loc Cert.Whole.main_arg5))
      ∧ r.2.sem = fun _ => 0)

def quiescent_WholeIdeal [hWholeIdeal : Cert.WholeIdeal.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal m →
    θ_run (Cert.WholeIdeal.defs (F := Ideal)) (onTc (τ := Cert.WholeIdeal.τ) (Cert.WholeIdeal.main (F := Ideal))) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
      ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
      ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4)
      ∧ r.2.mem ((c.tc : Thread Cert.WholeIdeal.nD Cert.WholeIdeal.τ).loc Cert.WholeIdeal.main_arg5) = m ((c.tc : Thread Cert.WholeIdeal.nD Cert.WholeIdeal.τ).loc Cert.WholeIdeal.main_arg5))
      ∧ r.2.sem = fun _ => 0)

def quiescent_WholeIdeal_pre_coordinates_finite [hWholeIdeal : Cert.WholeIdeal.Facts] [hPre_coordinates_finite : Cert.Pre_coordinates_finite.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal_coordinates_finite m →
    θ_run (Cert.WholeIdeal.defs (F := Ideal)) (onTc (τ := Cert.WholeIdeal.τ) (Cert.WholeIdeal.main (F := Ideal))) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
      ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
      ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4)
      ∧ r.2.mem ((c.tc : Thread Cert.WholeIdeal.nD Cert.WholeIdeal.τ).loc Cert.WholeIdeal.main_arg5) = m ((c.tc : Thread Cert.WholeIdeal.nD Cert.WholeIdeal.τ).loc Cert.WholeIdeal.main_arg5))
      ∧ r.2.sem = fun _ => 0)

def quiescent_WholeReferenceIdeal [hWholeReferenceIdeal : Cert.WholeReferenceIdeal.Facts] : Prop :=
  ∀ (m : (ℓ : Loc Cert.WholeReferenceIdeal.nD Cert.WholeReferenceIdeal.τ Cert.WholeReferenceIdeal.sig) → Buf (Elt Ideal) ℓ) (g : Dev Cert.WholeReferenceIdeal.nD → PrngReg), Pre_WholeReferenceIdeal m →
    θ_run (Cert.WholeReferenceIdeal.defs (F := Ideal)) (onTc (τ := Cert.WholeReferenceIdeal.τ) (Cert.WholeReferenceIdeal.main (F := Ideal))) ⟨m, fun _ => 0, g⟩ (fun r => (∀ c : Dev Cert.WholeReferenceIdeal.nD,
      r.2.mem ((c.tc : Thread Cert.WholeReferenceIdeal.nD Cert.WholeReferenceIdeal.τ).loc Cert.WholeReferenceIdeal.main_arg0) = m ((c.tc : Thread Cert.WholeReferenceIdeal.nD Cert.WholeReferenceIdeal.τ).loc Cert.WholeReferenceIdeal.main_arg0)
      ∧ r.2.mem ((c.tc : Thread Cert.WholeReferenceIdeal.nD Cert.WholeReferenceIdeal.τ).loc Cert.WholeReferenceIdeal.main_arg1) = m ((c.tc : Thread Cert.WholeReferenceIdeal.nD Cert.WholeReferenceIdeal.τ).loc Cert.WholeReferenceIdeal.main_arg1)
      ∧ r.2.mem ((c.tc : Thread Cert.WholeReferenceIdeal.nD Cert.WholeReferenceIdeal.τ).loc Cert.WholeReferenceIdeal.main_arg2) = m ((c.tc : Thread Cert.WholeReferenceIdeal.nD Cert.WholeReferenceIdeal.τ).loc Cert.WholeReferenceIdeal.main_arg2)
      ∧ r.2.mem ((c.tc : Thread Cert.WholeReferenceIdeal.nD Cert.WholeReferenceIdeal.τ).loc Cert.WholeReferenceIdeal.main_arg3) = m ((c.tc : Thread Cert.WholeReferenceIdeal.nD Cert.WholeReferenceIdeal.τ).loc Cert.WholeReferenceIdeal.main_arg3)
      ∧ r.2.mem ((c.tc : Thread Cert.WholeReferenceIdeal.nD Cert.WholeReferenceIdeal.τ).loc Cert.WholeReferenceIdeal.main_arg4) = m ((c.tc : Thread Cert.WholeReferenceIdeal.nD Cert.WholeReferenceIdeal.τ).loc Cert.WholeReferenceIdeal.main_arg4)
      ∧ r.2.mem ((c.tc : Thread Cert.WholeReferenceIdeal.nD Cert.WholeReferenceIdeal.τ).loc Cert.WholeReferenceIdeal.main_arg5) = m ((c.tc : Thread Cert.WholeReferenceIdeal.nD Cert.WholeReferenceIdeal.τ).loc Cert.WholeReferenceIdeal.main_arg5))
      ∧ r.2.sem = fun _ => 0)

def quiescent_WholeReferenceIdeal_pre_coordinates_finite [hWholeReferenceIdeal : Cert.WholeReferenceIdeal.Facts] [hPre_coordinates_finite : Cert.Pre_coordinates_finite.Facts] : Prop :=
  ∀ (m : (ℓ : Loc Cert.WholeReferenceIdeal.nD Cert.WholeReferenceIdeal.τ Cert.WholeReferenceIdeal.sig) → Buf (Elt Ideal) ℓ) (g : Dev Cert.WholeReferenceIdeal.nD → PrngReg), Pre_WholeReferenceIdeal_coordinates_finite m →
    θ_run (Cert.WholeReferenceIdeal.defs (F := Ideal)) (onTc (τ := Cert.WholeReferenceIdeal.τ) (Cert.WholeReferenceIdeal.main (F := Ideal))) ⟨m, fun _ => 0, g⟩ (fun r => (∀ c : Dev Cert.WholeReferenceIdeal.nD,
      r.2.mem ((c.tc : Thread Cert.WholeReferenceIdeal.nD Cert.WholeReferenceIdeal.τ).loc Cert.WholeReferenceIdeal.main_arg0) = m ((c.tc : Thread Cert.WholeReferenceIdeal.nD Cert.WholeReferenceIdeal.τ).loc Cert.WholeReferenceIdeal.main_arg0)
      ∧ r.2.mem ((c.tc : Thread Cert.WholeReferenceIdeal.nD Cert.WholeReferenceIdeal.τ).loc Cert.WholeReferenceIdeal.main_arg1) = m ((c.tc : Thread Cert.WholeReferenceIdeal.nD Cert.WholeReferenceIdeal.τ).loc Cert.WholeReferenceIdeal.main_arg1)
      ∧ r.2.mem ((c.tc : Thread Cert.WholeReferenceIdeal.nD Cert.WholeReferenceIdeal.τ).loc Cert.WholeReferenceIdeal.main_arg2) = m ((c.tc : Thread Cert.WholeReferenceIdeal.nD Cert.WholeReferenceIdeal.τ).loc Cert.WholeReferenceIdeal.main_arg2)
      ∧ r.2.mem ((c.tc : Thread Cert.WholeReferenceIdeal.nD Cert.WholeReferenceIdeal.τ).loc Cert.WholeReferenceIdeal.main_arg3) = m ((c.tc : Thread Cert.WholeReferenceIdeal.nD Cert.WholeReferenceIdeal.τ).loc Cert.WholeReferenceIdeal.main_arg3)
      ∧ r.2.mem ((c.tc : Thread Cert.WholeReferenceIdeal.nD Cert.WholeReferenceIdeal.τ).loc Cert.WholeReferenceIdeal.main_arg4) = m ((c.tc : Thread Cert.WholeReferenceIdeal.nD Cert.WholeReferenceIdeal.τ).loc Cert.WholeReferenceIdeal.main_arg4)
      ∧ r.2.mem ((c.tc : Thread Cert.WholeReferenceIdeal.nD Cert.WholeReferenceIdeal.τ).loc Cert.WholeReferenceIdeal.main_arg5) = m ((c.tc : Thread Cert.WholeReferenceIdeal.nD Cert.WholeReferenceIdeal.τ).loc Cert.WholeReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_indices_name_rows : Cert.Pre_indices_name_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Stats_StatsIdeal : Prop :=
  True

def algebraic_StatsIdeal_StatsReferenceIdeal [hStatsIdeal : Cert.StatsIdeal.Facts] [hStatsReferenceIdeal : Cert.StatsReferenceIdeal.Facts] : Prop :=
  ∀ (m : (ℓ : Loc Cert.StatsIdeal.nD Cert.StatsIdeal.τ Cert.StatsIdeal.sig) → Buf (Elt Ideal) ℓ) (g : Dev Cert.StatsIdeal.nD → PrngReg)
    (m' : (ℓ : Loc Cert.StatsReferenceIdeal.nD Cert.StatsReferenceIdeal.τ Cert.StatsReferenceIdeal.sig) → Buf (Elt Ideal) ℓ) (g' : Dev Cert.StatsReferenceIdeal.nD → PrngReg), Pre_StatsIdeal m →
    (∀ c : Dev Cert.StatsIdeal.nD,
      m' ((c.tc : Thread Cert.StatsReferenceIdeal.nD Cert.StatsReferenceIdeal.τ).loc Cert.StatsReferenceIdeal.main_arg0) = m ((c.tc : Thread Cert.StatsIdeal.nD Cert.StatsIdeal.τ).loc Cert.StatsIdeal.main_arg0)
      ∧ m' ((c.tc : Thread Cert.StatsReferenceIdeal.nD Cert.StatsReferenceIdeal.τ).loc Cert.StatsReferenceIdeal.main_arg1) = m ((c.tc : Thread Cert.StatsIdeal.nD Cert.StatsIdeal.τ).loc Cert.StatsIdeal.main_arg1)) →
    ∃ (v0 : (c : Dev Cert.StatsIdeal.nD) → Buf (Elt Ideal) ((c.tc : Thread Cert.StatsIdeal.nD Cert.StatsIdeal.τ).loc Cert.StatsIdeal.main_v0_0)) (v1 : (c : Dev Cert.StatsIdeal.nD) → Buf (Elt Ideal) ((c.tc : Thread Cert.StatsIdeal.nD Cert.StatsIdeal.τ).loc Cert.StatsIdeal.main_v0_1)) (v2 : (c : Dev Cert.StatsIdeal.nD) → Buf (Elt Ideal) ((c.tc : Thread Cert.StatsIdeal.nD Cert.StatsIdeal.τ).loc Cert.StatsIdeal.main_v0_2)) (v3 : (c : Dev Cert.StatsIdeal.nD) → Buf (Elt Ideal) ((c.tc : Thread Cert.StatsIdeal.nD Cert.StatsIdeal.τ).loc Cert.StatsIdeal.main_v0_3)),
      θ_run (Cert.StatsIdeal.defs (F := Ideal)) (onTc (τ := Cert.StatsIdeal.τ) (Cert.StatsIdeal.main (F := Ideal))) ⟨m, fun _ => 0, g⟩ (fun r => ∀ c : Dev Cert.StatsIdeal.nD,
          r.2.mem ((c.tc : Thread Cert.StatsIdeal.nD Cert.StatsIdeal.τ).loc Cert.StatsIdeal.main_v0_0) = v0 c
          ∧ r.2.mem ((c.tc : Thread Cert.StatsIdeal.nD Cert.StatsIdeal.τ).loc Cert.StatsIdeal.main_v0_1) = v1 c
          ∧ r.2.mem ((c.tc : Thread Cert.StatsIdeal.nD Cert.StatsIdeal.τ).loc Cert.StatsIdeal.main_v0_2) = v2 c
          ∧ r.2.mem ((c.tc : Thread Cert.StatsIdeal.nD Cert.StatsIdeal.τ).loc Cert.StatsIdeal.main_v0_3) = v3 c
          ∧ r.2.mem ((c.tc : Thread Cert.StatsIdeal.nD Cert.StatsIdeal.τ).loc Cert.StatsIdeal.main_arg0) = m ((c.tc : Thread Cert.StatsIdeal.nD Cert.StatsIdeal.τ).loc Cert.StatsIdeal.main_arg0)
          ∧ r.2.mem ((c.tc : Thread Cert.StatsIdeal.nD Cert.StatsIdeal.τ).loc Cert.StatsIdeal.main_arg1) = m ((c.tc : Thread Cert.StatsIdeal.nD Cert.StatsIdeal.τ).loc Cert.StatsIdeal.main_arg1))
      ∧ θ_run (Cert.StatsReferenceIdeal.defs (F := Ideal)) (onTc (τ := Cert.StatsReferenceIdeal.τ) (Cert.StatsReferenceIdeal.main (F := Ideal))) ⟨m', fun _ => 0, g'⟩ (fun r => ∀ c : Dev Cert.StatsReferenceIdeal.nD,
          r.2.mem ((c.tc : Thread Cert.StatsReferenceIdeal.nD Cert.StatsReferenceIdeal.τ).loc Cert.StatsReferenceIdeal.main_v9) = v0 c
          ∧ r.2.mem ((c.tc : Thread Cert.StatsReferenceIdeal.nD Cert.StatsReferenceIdeal.τ).loc Cert.StatsReferenceIdeal.main_v11) = v1 c
          ∧ r.2.mem ((c.tc : Thread Cert.StatsReferenceIdeal.nD Cert.StatsReferenceIdeal.τ).loc Cert.StatsReferenceIdeal.main_v14) = v2 c
          ∧ r.2.mem ((c.tc : Thread Cert.StatsReferenceIdeal.nD Cert.StatsReferenceIdeal.τ).loc Cert.StatsReferenceIdeal.main_v18) = v3 c
          ∧ r.2.mem ((c.tc : Thread Cert.StatsReferenceIdeal.nD Cert.StatsReferenceIdeal.τ).loc Cert.StatsReferenceIdeal.main_arg0) = m' ((c.tc : Thread Cert.StatsReferenceIdeal.nD Cert.StatsReferenceIdeal.τ).loc Cert.StatsReferenceIdeal.main_arg0)
          ∧ r.2.mem ((c.tc : Thread Cert.StatsReferenceIdeal.nD Cert.StatsReferenceIdeal.τ).loc Cert.StatsReferenceIdeal.main_arg1) = m' ((c.tc : Thread Cert.StatsReferenceIdeal.nD Cert.StatsReferenceIdeal.τ).loc Cert.StatsReferenceIdeal.main_arg1))

def preserves_Farthest_FarthestIdeal : Prop :=
  True

def algebraic_FarthestIdeal_FarthestReferenceIdeal [hFarthestIdeal : Cert.FarthestIdeal.Facts] [hFarthestReferenceIdeal : Cert.FarthestReferenceIdeal.Facts] [hPre_one_farthest : Cert.Pre_one_farthest.Facts] : Prop :=
  ∀ (m : (ℓ : Loc Cert.FarthestIdeal.nD Cert.FarthestIdeal.τ Cert.FarthestIdeal.sig) → Buf (Elt Ideal) ℓ) (g : Dev Cert.FarthestIdeal.nD → PrngReg)
    (m' : (ℓ : Loc Cert.FarthestReferenceIdeal.nD Cert.FarthestReferenceIdeal.τ Cert.FarthestReferenceIdeal.sig) → Buf (Elt Ideal) ℓ) (g' : Dev Cert.FarthestReferenceIdeal.nD → PrngReg), Pre_FarthestIdeal m →
    (∀ c : Dev Cert.FarthestIdeal.nD,
      m' ((c.tc : Thread Cert.FarthestReferenceIdeal.nD Cert.FarthestReferenceIdeal.τ).loc Cert.FarthestReferenceIdeal.main_arg0) = m ((c.tc : Thread Cert.FarthestIdeal.nD Cert.FarthestIdeal.τ).loc Cert.FarthestIdeal.main_arg0)) →
    ∃ (v0 : (c : Dev Cert.FarthestIdeal.nD) → Buf (Elt Ideal) ((c.tc : Thread Cert.FarthestIdeal.nD Cert.FarthestIdeal.τ).loc Cert.FarthestIdeal.main_v6)),
      θ_run (Cert.FarthestIdeal.defs (F := Ideal)) (onTc (τ := Cert.FarthestIdeal.τ) (Cert.FarthestIdeal.main (F := Ideal))) ⟨m, fun _ => 0, g⟩ (fun r => ∀ c : Dev Cert.FarthestIdeal.nD,
          r.2.mem ((c.tc : Thread Cert.FarthestIdeal.nD Cert.FarthestIdeal.τ).loc Cert.FarthestIdeal.main_v6) = v0 c
          ∧ r.2.mem ((c.tc : Thread Cert.FarthestIdeal.nD Cert.FarthestIdeal.τ).loc Cert.FarthestIdeal.main_arg0) = m ((c.tc : Thread Cert.FarthestIdeal.nD Cert.FarthestIdeal.τ).loc Cert.FarthestIdeal.main_arg0))
      ∧ θ_run (Cert.FarthestReferenceIdeal.defs (F := Ideal)) (onTc (τ := Cert.FarthestReferenceIdeal.τ) (Cert.FarthestReferenceIdeal.main (F := Ideal))) ⟨m', fun _ => 0, g'⟩ (fun r => ∀ c : Dev Cert.FarthestReferenceIdeal.nD,
          r.2.mem ((c.tc : Thread Cert.FarthestReferenceIdeal.nD Cert.FarthestReferenceIdeal.τ).loc Cert.FarthestReferenceIdeal.main_v7) = v0 c
          ∧ r.2.mem ((c.tc : Thread Cert.FarthestReferenceIdeal.nD Cert.FarthestReferenceIdeal.τ).loc Cert.FarthestReferenceIdeal.main_arg0) = m' ((c.tc : Thread Cert.FarthestReferenceIdeal.nD Cert.FarthestReferenceIdeal.τ).loc Cert.FarthestReferenceIdeal.main_arg0))

def preserves_Nearest_NearestIdeal : Prop :=
  True

def algebraic_NearestIdeal_NearestReferenceIdeal [hNearestIdeal : Cert.NearestIdeal.Facts] [hNearestReferenceIdeal : Cert.NearestReferenceIdeal.Facts] [hPre_one_nearest : Cert.Pre_one_nearest.Facts] : Prop :=
  ∀ (m : (ℓ : Loc Cert.NearestIdeal.nD Cert.NearestIdeal.τ Cert.NearestIdeal.sig) → Buf (Elt Ideal) ℓ) (g : Dev Cert.NearestIdeal.nD → PrngReg)
    (m' : (ℓ : Loc Cert.NearestReferenceIdeal.nD Cert.NearestReferenceIdeal.τ Cert.NearestReferenceIdeal.sig) → Buf (Elt Ideal) ℓ) (g' : Dev Cert.NearestReferenceIdeal.nD → PrngReg), Pre_NearestIdeal m →
    (∀ c : Dev Cert.NearestIdeal.nD,
      m' ((c.tc : Thread Cert.NearestReferenceIdeal.nD Cert.NearestReferenceIdeal.τ).loc Cert.NearestReferenceIdeal.main_arg0) = m ((c.tc : Thread Cert.NearestIdeal.nD Cert.NearestIdeal.τ).loc Cert.NearestIdeal.main_arg0)
      ∧ m' ((c.tc : Thread Cert.NearestReferenceIdeal.nD Cert.NearestReferenceIdeal.τ).loc Cert.NearestReferenceIdeal.main_arg1) = m ((c.tc : Thread Cert.NearestIdeal.nD Cert.NearestIdeal.τ).loc Cert.NearestIdeal.main_arg1)) →
    ∃ (v0 : (c : Dev Cert.NearestIdeal.nD) → Buf (Elt Ideal) ((c.tc : Thread Cert.NearestIdeal.nD Cert.NearestIdeal.τ).loc Cert.NearestIdeal.main_v2)),
      θ_run (Cert.NearestIdeal.defs (F := Ideal)) (onTc (τ := Cert.NearestIdeal.τ) (Cert.NearestIdeal.main (F := Ideal))) ⟨m, fun _ => 0, g⟩ (fun r => ∀ c : Dev Cert.NearestIdeal.nD,
          r.2.mem ((c.tc : Thread Cert.NearestIdeal.nD Cert.NearestIdeal.τ).loc Cert.NearestIdeal.main_v2) = v0 c
          ∧ r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0)
          ∧ r.2.mem ((c.tc : Thread Cert.NearestIdeal.nD Cert.NearestIdeal.τ).loc Cert.NearestIdeal.main_arg1) = m ((c.tc : Thread Cert.NearestIdeal.nD Cert.NearestIdeal.τ).loc Cert.NearestIdeal.main_arg1))
      ∧ θ_run (Cert.NearestReferenceIdeal.defs (F := Ideal)) (onTc (τ := Cert.NearestReferenceIdeal.τ) (Cert.NearestReferenceIdeal.main (F := Ideal))) ⟨m', fun _ => 0, g'⟩ (fun r => ∀ c : Dev Cert.NearestReferenceIdeal.nD,
          r.2.mem ((c.tc : Thread Cert.NearestReferenceIdeal.nD Cert.NearestReferenceIdeal.τ).loc Cert.NearestReferenceIdeal.main_v23) = v0 c
          ∧ r.2.mem ((c.tc : Thread Cert.NearestReferenceIdeal.nD Cert.NearestReferenceIdeal.τ).loc Cert.NearestReferenceIdeal.main_arg0) = m' ((c.tc : Thread Cert.NearestReferenceIdeal.nD Cert.NearestReferenceIdeal.τ).loc Cert.NearestReferenceIdeal.main_arg0)
          ∧ r.2.mem ((c.tc : Thread Cert.NearestReferenceIdeal.nD Cert.NearestReferenceIdeal.τ).loc Cert.NearestReferenceIdeal.main_arg1) = m' ((c.tc : Thread Cert.NearestReferenceIdeal.nD Cert.NearestReferenceIdeal.τ).loc Cert.NearestReferenceIdeal.main_arg1))

def preserves_Embed_EmbedIdeal : Prop :=
  True

def algebraic_EmbedIdeal_EmbedReferenceIdeal_pre_coordinates_finite [hEmbedIdeal : Cert.EmbedIdeal.Facts] [hEmbedReferenceIdeal : Cert.EmbedReferenceIdeal.Facts] [hPre_coordinates_finite : Cert.Pre_coordinates_finite.Facts] : Prop :=
  ∀ (m : (ℓ : Loc Cert.EmbedIdeal.nD Cert.EmbedIdeal.τ Cert.EmbedIdeal.sig) → Buf (Elt Ideal) ℓ) (g : Dev Cert.EmbedIdeal.nD → PrngReg)
    (m' : (ℓ : Loc Cert.EmbedReferenceIdeal.nD Cert.EmbedReferenceIdeal.τ Cert.EmbedReferenceIdeal.sig) → Buf (Elt Ideal) ℓ) (g' : Dev Cert.EmbedReferenceIdeal.nD → PrngReg), Pre_EmbedIdeal_coordinates_finite m →
    (∀ c : Dev Cert.EmbedIdeal.nD,
      m' ((c.tc : Thread Cert.EmbedReferenceIdeal.nD Cert.EmbedReferenceIdeal.τ).loc Cert.EmbedReferenceIdeal.main_arg0) = m ((c.tc : Thread Cert.EmbedIdeal.nD Cert.EmbedIdeal.τ).loc Cert.EmbedIdeal.main_arg0)
      ∧ m' ((c.tc : Thread Cert.EmbedReferenceIdeal.nD Cert.EmbedReferenceIdeal.τ).loc Cert.EmbedReferenceIdeal.main_arg1) = m ((c.tc : Thread Cert.EmbedIdeal.nD Cert.EmbedIdeal.τ).loc Cert.EmbedIdeal.main_arg1)
      ∧ m' ((c.tc : Thread Cert.EmbedReferenceIdeal.nD Cert.EmbedReferenceIdeal.τ).loc Cert.EmbedReferenceIdeal.main_arg2) = m ((c.tc : Thread Cert.EmbedIdeal.nD Cert.EmbedIdeal.τ).loc Cert.EmbedIdeal.main_arg2)
      ∧ m' ((c.tc : Thread Cert.EmbedReferenceIdeal.nD Cert.EmbedReferenceIdeal.τ).loc Cert.EmbedReferenceIdeal.main_arg3) = m ((c.tc : Thread Cert.EmbedIdeal.nD Cert.EmbedIdeal.τ).loc Cert.EmbedIdeal.main_arg3)
      ∧ m' ((c.tc : Thread Cert.EmbedReferenceIdeal.nD Cert.EmbedReferenceIdeal.τ).loc Cert.EmbedReferenceIdeal.main_arg4) = m ((c.tc : Thread Cert.EmbedIdeal.nD Cert.EmbedIdeal.τ).loc Cert.EmbedIdeal.main_arg4)
      ∧ m' ((c.tc : Thread Cert.EmbedReferenceIdeal.nD Cert.EmbedReferenceIdeal.τ).loc Cert.EmbedReferenceIdeal.main_arg5) = m ((c.tc : Thread Cert.EmbedIdeal.nD Cert.EmbedIdeal.τ).loc Cert.EmbedIdeal.main_arg5)) →
    ∃ (v0 : (c : Dev Cert.EmbedIdeal.nD) → Buf (Elt Ideal) ((c.tc : Thread Cert.EmbedIdeal.nD Cert.EmbedIdeal.τ).loc Cert.EmbedIdeal.main_v0)),
      θ_run (Cert.EmbedIdeal.defs (F := Ideal)) (onTc (τ := Cert.EmbedIdeal.τ) (Cert.EmbedIdeal.main (F := Ideal))) ⟨m, fun _ => 0, g⟩ (fun r => ∀ c : Dev Cert.EmbedIdeal.nD,
          r.2.mem ((c.tc : Thread Cert.EmbedIdeal.nD Cert.EmbedIdeal.τ).loc Cert.EmbedIdeal.main_v0) = v0 c
          ∧ r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
          ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1)
          ∧ r.2.mem ((c.tc : Thread Cert.EmbedIdeal.nD Cert.EmbedIdeal.τ).loc Cert.EmbedIdeal.main_arg2) = m ((c.tc : Thread Cert.EmbedIdeal.nD Cert.EmbedIdeal.τ).loc Cert.EmbedIdeal.main_arg2)
          ∧ r.2.mem ((c.tc : Thread Cert.EmbedIdeal.nD Cert.EmbedIdeal.τ).loc Cert.EmbedIdeal.main_arg3) = m ((c.tc : Thread Cert.EmbedIdeal.nD Cert.EmbedIdeal.τ).loc Cert.EmbedIdeal.main_arg3)
          ∧ r.2.mem ((c.tc : Thread Cert.EmbedIdeal.nD Cert.EmbedIdeal.τ).loc Cert.EmbedIdeal.main_arg4) = m ((c.tc : Thread Cert.EmbedIdeal.nD Cert.EmbedIdeal.τ).loc Cert.EmbedIdeal.main_arg4)
          ∧ r.2.mem ((c.tc : Thread Cert.EmbedIdeal.nD Cert.EmbedIdeal.τ).loc Cert.EmbedIdeal.main_arg5) = m ((c.tc : Thread Cert.EmbedIdeal.nD Cert.EmbedIdeal.τ).loc Cert.EmbedIdeal.main_arg5))
      ∧ θ_run (Cert.EmbedReferenceIdeal.defs (F := Ideal)) (onTc (τ := Cert.EmbedReferenceIdeal.τ) (Cert.EmbedReferenceIdeal.main (F := Ideal))) ⟨m', fun _ => 0, g'⟩ (fun r => ∀ c : Dev Cert.EmbedReferenceIdeal.nD,
          r.2.mem ((c.tc : Thread Cert.EmbedReferenceIdeal.nD Cert.EmbedReferenceIdeal.τ).loc Cert.EmbedReferenceIdeal.main_v127) = v0 c
          ∧ r.2.mem ((c.tc : Thread Cert.EmbedReferenceIdeal.nD Cert.EmbedReferenceIdeal.τ).loc Cert.EmbedReferenceIdeal.main_arg0) = m' ((c.tc : Thread Cert.EmbedReferenceIdeal.nD Cert.EmbedReferenceIdeal.τ).loc Cert.EmbedReferenceIdeal.main_arg0)
          ∧ r.2.mem ((c.tc : Thread Cert.EmbedReferenceIdeal.nD Cert.EmbedReferenceIdeal.τ).loc Cert.EmbedReferenceIdeal.main_arg1) = m' ((c.tc : Thread Cert.EmbedReferenceIdeal.nD Cert.EmbedReferenceIdeal.τ).loc Cert.EmbedReferenceIdeal.main_arg1)
          ∧ r.2.mem ((c.tc : Thread Cert.EmbedReferenceIdeal.nD Cert.EmbedReferenceIdeal.τ).loc Cert.EmbedReferenceIdeal.main_arg2) = m' ((c.tc : Thread Cert.EmbedReferenceIdeal.nD Cert.EmbedReferenceIdeal.τ).loc Cert.EmbedReferenceIdeal.main_arg2)
          ∧ r.2.mem ((c.tc : Thread Cert.EmbedReferenceIdeal.nD Cert.EmbedReferenceIdeal.τ).loc Cert.EmbedReferenceIdeal.main_arg3) = m' ((c.tc : Thread Cert.EmbedReferenceIdeal.nD Cert.EmbedReferenceIdeal.τ).loc Cert.EmbedReferenceIdeal.main_arg3)
          ∧ r.2.mem ((c.tc : Thread Cert.EmbedReferenceIdeal.nD Cert.EmbedReferenceIdeal.τ).loc Cert.EmbedReferenceIdeal.main_arg4) = m' ((c.tc : Thread Cert.EmbedReferenceIdeal.nD Cert.EmbedReferenceIdeal.τ).loc Cert.EmbedReferenceIdeal.main_arg4)
          ∧ r.2.mem ((c.tc : Thread Cert.EmbedReferenceIdeal.nD Cert.EmbedReferenceIdeal.τ).loc Cert.EmbedReferenceIdeal.main_arg5) = m' ((c.tc : Thread Cert.EmbedReferenceIdeal.nD Cert.EmbedReferenceIdeal.τ).loc Cert.EmbedReferenceIdeal.main_arg5))

def preserves_Whole_WholeIdeal : Prop :=
  IdealRules.sign_bit.Statement Cert.WholeIdeal.S256x128 .f32

def algebraic_WholeIdeal_WholeReferenceIdeal_pre_coordinates_finite [hWholeIdeal : Cert.WholeIdeal.Facts] [hWholeReferenceIdeal : Cert.WholeReferenceIdeal.Facts] [hPre_coordinates_finite : Cert.Pre_coordinates_finite.Facts] : Prop :=
  ∀ (m : (ℓ : Loc Cert.WholeIdeal.nD Cert.WholeIdeal.τ Cert.WholeIdeal.sig) → Buf (Elt Ideal) ℓ) (g : Dev Cert.WholeIdeal.nD → PrngReg)
    (m' : (ℓ : Loc Cert.WholeReferenceIdeal.nD Cert.WholeReferenceIdeal.τ Cert.WholeReferenceIdeal.sig) → Buf (Elt Ideal) ℓ) (g' : Dev Cert.WholeReferenceIdeal.nD → PrngReg), Pre_WholeIdeal_coordinates_finite m →
    (∀ c : Dev Cert.WholeIdeal.nD,
      m' ((c.tc : Thread Cert.WholeReferenceIdeal.nD Cert.WholeReferenceIdeal.τ).loc Cert.WholeReferenceIdeal.main_arg0) = m ((c.tc : Thread Cert.WholeIdeal.nD Cert.WholeIdeal.τ).loc Cert.WholeIdeal.main_arg0)
      ∧ m' ((c.tc : Thread Cert.WholeReferenceIdeal.nD Cert.WholeReferenceIdeal.τ).loc Cert.WholeReferenceIdeal.main_arg1) = m ((c.tc : Thread Cert.WholeIdeal.nD Cert.WholeIdeal.τ).loc Cert.WholeIdeal.main_arg1)
      ∧ m' ((c.tc : Thread Cert.WholeReferenceIdeal.nD Cert.WholeReferenceIdeal.τ).loc Cert.WholeReferenceIdeal.main_arg2) = m ((c.tc : Thread Cert.WholeIdeal.nD Cert.WholeIdeal.τ).loc Cert.WholeIdeal.main_arg2)
      ∧ m' ((c.tc : Thread Cert.WholeReferenceIdeal.nD Cert.WholeReferenceIdeal.τ).loc Cert.WholeReferenceIdeal.main_arg3) = m ((c.tc : Thread Cert.WholeIdeal.nD Cert.WholeIdeal.τ).loc Cert.WholeIdeal.main_arg3)
      ∧ m' ((c.tc : Thread Cert.WholeReferenceIdeal.nD Cert.WholeReferenceIdeal.τ).loc Cert.WholeReferenceIdeal.main_arg4) = m ((c.tc : Thread Cert.WholeIdeal.nD Cert.WholeIdeal.τ).loc Cert.WholeIdeal.main_arg4)
      ∧ m' ((c.tc : Thread Cert.WholeReferenceIdeal.nD Cert.WholeReferenceIdeal.τ).loc Cert.WholeReferenceIdeal.main_arg5) = m ((c.tc : Thread Cert.WholeIdeal.nD Cert.WholeIdeal.τ).loc Cert.WholeIdeal.main_arg5)) →
    ∃ (v0 : (c : Dev Cert.WholeIdeal.nD) → Buf (Elt Ideal) ((c.tc : Thread Cert.WholeIdeal.nD Cert.WholeIdeal.τ).loc Cert.WholeIdeal.main_v0)),
      θ_run (Cert.WholeIdeal.defs (F := Ideal)) (onTc (τ := Cert.WholeIdeal.τ) (Cert.WholeIdeal.main (F := Ideal))) ⟨m, fun _ => 0, g⟩ (fun r => ∀ c : Dev Cert.WholeIdeal.nD,
          r.2.mem ((c.tc : Thread Cert.WholeIdeal.nD Cert.WholeIdeal.τ).loc Cert.WholeIdeal.main_v0) = v0 c
          ∧ r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
          ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
          ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
          ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
          ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4)
          ∧ r.2.mem ((c.tc : Thread Cert.WholeIdeal.nD Cert.WholeIdeal.τ).loc Cert.WholeIdeal.main_arg5) = m ((c.tc : Thread Cert.WholeIdeal.nD Cert.WholeIdeal.τ).loc Cert.WholeIdeal.main_arg5))
      ∧ θ_run (Cert.WholeReferenceIdeal.defs (F := Ideal)) (onTc (τ := Cert.WholeReferenceIdeal.τ) (Cert.WholeReferenceIdeal.main (F := Ideal))) ⟨m', fun _ => 0, g'⟩ (fun r => ∀ c : Dev Cert.WholeReferenceIdeal.nD,
          r.2.mem ((c.tc : Thread Cert.WholeReferenceIdeal.nD Cert.WholeReferenceIdeal.τ).loc Cert.WholeReferenceIdeal.main_v164) = v0 c
          ∧ r.2.mem ((c.tc : Thread Cert.WholeReferenceIdeal.nD Cert.WholeReferenceIdeal.τ).loc Cert.WholeReferenceIdeal.main_arg0) = m' ((c.tc : Thread Cert.WholeReferenceIdeal.nD Cert.WholeReferenceIdeal.τ).loc Cert.WholeReferenceIdeal.main_arg0)
          ∧ r.2.mem ((c.tc : Thread Cert.WholeReferenceIdeal.nD Cert.WholeReferenceIdeal.τ).loc Cert.WholeReferenceIdeal.main_arg1) = m' ((c.tc : Thread Cert.WholeReferenceIdeal.nD Cert.WholeReferenceIdeal.τ).loc Cert.WholeReferenceIdeal.main_arg1)
          ∧ r.2.mem ((c.tc : Thread Cert.WholeReferenceIdeal.nD Cert.WholeReferenceIdeal.τ).loc Cert.WholeReferenceIdeal.main_arg2) = m' ((c.tc : Thread Cert.WholeReferenceIdeal.nD Cert.WholeReferenceIdeal.τ).loc Cert.WholeReferenceIdeal.main_arg2)
          ∧ r.2.mem ((c.tc : Thread Cert.WholeReferenceIdeal.nD Cert.WholeReferenceIdeal.τ).loc Cert.WholeReferenceIdeal.main_arg3) = m' ((c.tc : Thread Cert.WholeReferenceIdeal.nD Cert.WholeReferenceIdeal.τ).loc Cert.WholeReferenceIdeal.main_arg3)
          ∧ r.2.mem ((c.tc : Thread Cert.WholeReferenceIdeal.nD Cert.WholeReferenceIdeal.τ).loc Cert.WholeReferenceIdeal.main_arg4) = m' ((c.tc : Thread Cert.WholeReferenceIdeal.nD Cert.WholeReferenceIdeal.τ).loc Cert.WholeReferenceIdeal.main_arg4)
          ∧ r.2.mem ((c.tc : Thread Cert.WholeReferenceIdeal.nD Cert.WholeReferenceIdeal.τ).loc Cert.WholeReferenceIdeal.main_arg5) = m' ((c.tc : Thread Cert.WholeReferenceIdeal.nD Cert.WholeReferenceIdeal.τ).loc Cert.WholeReferenceIdeal.main_arg5))

def Claim : Prop :=
  ∃ (hKernel : Cert.Kernel.Facts) (hKernelIdeal : Cert.KernelIdeal.Facts) (hReferenceIdeal : Cert.ReferenceIdeal.Facts) (hStats : Cert.Stats.Facts) (hStatsIdeal : Cert.StatsIdeal.Facts) (hStatsReferenceIdeal : Cert.StatsReferenceIdeal.Facts) (hFarthest : Cert.Farthest.Facts) (hFarthestIdeal : Cert.FarthestIdeal.Facts) (hFarthestReferenceIdeal : Cert.FarthestReferenceIdeal.Facts) (hNearest : Cert.Nearest.Facts) (hNearestIdeal : Cert.NearestIdeal.Facts) (hNearestReferenceIdeal : Cert.NearestReferenceIdeal.Facts) (hEmbed : Cert.Embed.Facts) (hEmbedIdeal : Cert.EmbedIdeal.Facts) (hEmbedReferenceIdeal : Cert.EmbedReferenceIdeal.Facts) (hWhole : Cert.Whole.Facts) (hWholeIdeal : Cert.WholeIdeal.Facts) (hWholeReferenceIdeal : Cert.WholeReferenceIdeal.Facts) (hPre_indices_name_rows : Cert.Pre_indices_name_rows.Facts) (hPre_one_farthest : Cert.Pre_one_farthest.Facts) (hPre_one_nearest : Cert.Pre_one_nearest.Facts) (hPre_coordinates_finite : Cert.Pre_coordinates_finite.Facts),
    quiescent_Kernel (hKernel := hKernel) (hPre_indices_name_rows := hPre_indices_name_rows)
    ∧ quiescent_KernelIdeal (hKernelIdeal := hKernelIdeal) (hPre_indices_name_rows := hPre_indices_name_rows)
    ∧ quiescent_ReferenceIdeal (hReferenceIdeal := hReferenceIdeal) (hPre_indices_name_rows := hPre_indices_name_rows)
    ∧ quiescent_Stats (hStats := hStats)
    ∧ quiescent_StatsIdeal (hStatsIdeal := hStatsIdeal)
    ∧ quiescent_StatsReferenceIdeal (hStatsReferenceIdeal := hStatsReferenceIdeal)
    ∧ quiescent_Farthest (hFarthest := hFarthest)
    ∧ quiescent_Farthest_pre_one_farthest (hFarthest := hFarthest) (hPre_one_farthest := hPre_one_farthest)
    ∧ quiescent_FarthestIdeal (hFarthestIdeal := hFarthestIdeal) (hPre_one_farthest := hPre_one_farthest)
    ∧ quiescent_FarthestReferenceIdeal (hFarthestReferenceIdeal := hFarthestReferenceIdeal)
    ∧ quiescent_FarthestReferenceIdeal_pre_one_farthest (hFarthestReferenceIdeal := hFarthestReferenceIdeal) (hPre_one_farthest := hPre_one_farthest)
    ∧ quiescent_Nearest (hNearest := hNearest)
    ∧ quiescent_Nearest_pre_one_nearest (hNearest := hNearest) (hPre_one_nearest := hPre_one_nearest)
    ∧ quiescent_NearestIdeal (hNearestIdeal := hNearestIdeal) (hPre_one_nearest := hPre_one_nearest)
    ∧ quiescent_NearestReferenceIdeal (hNearestReferenceIdeal := hNearestReferenceIdeal)
    ∧ quiescent_NearestReferenceIdeal_pre_one_nearest (hNearestReferenceIdeal := hNearestReferenceIdeal) (hPre_one_nearest := hPre_one_nearest)
    ∧ quiescent_Embed (hEmbed := hEmbed)
    ∧ quiescent_EmbedIdeal (hEmbedIdeal := hEmbedIdeal)
    ∧ quiescent_EmbedIdeal_pre_coordinates_finite (hEmbedIdeal := hEmbedIdeal) (hPre_coordinates_finite := hPre_coordinates_finite)
    ∧ quiescent_EmbedReferenceIdeal (hEmbedReferenceIdeal := hEmbedReferenceIdeal)
    ∧ quiescent_EmbedReferenceIdeal_pre_coordinates_finite (hEmbedReferenceIdeal := hEmbedReferenceIdeal) (hPre_coordinates_finite := hPre_coordinates_finite)
    ∧ quiescent_Whole (hWhole := hWhole)
    ∧ quiescent_WholeIdeal (hWholeIdeal := hWholeIdeal)
    ∧ quiescent_WholeIdeal_pre_coordinates_finite (hWholeIdeal := hWholeIdeal) (hPre_coordinates_finite := hPre_coordinates_finite)
    ∧ quiescent_WholeReferenceIdeal (hWholeReferenceIdeal := hWholeReferenceIdeal)
    ∧ quiescent_WholeReferenceIdeal_pre_coordinates_finite (hWholeReferenceIdeal := hWholeReferenceIdeal) (hPre_coordinates_finite := hPre_coordinates_finite)
    ∧ preserves_Kernel_KernelIdeal
    ∧ algebraic_KernelIdeal_ReferenceIdeal (hKernelIdeal := hKernelIdeal) (hReferenceIdeal := hReferenceIdeal) (hPre_indices_name_rows := hPre_indices_name_rows)
    ∧ preserves_Stats_StatsIdeal
    ∧ algebraic_StatsIdeal_StatsReferenceIdeal (hStatsIdeal := hStatsIdeal) (hStatsReferenceIdeal := hStatsReferenceIdeal)
    ∧ preserves_Farthest_FarthestIdeal
    ∧ algebraic_FarthestIdeal_FarthestReferenceIdeal (hFarthestIdeal := hFarthestIdeal) (hFarthestReferenceIdeal := hFarthestReferenceIdeal) (hPre_one_farthest := hPre_one_farthest)
    ∧ preserves_Nearest_NearestIdeal
    ∧ algebraic_NearestIdeal_NearestReferenceIdeal (hNearestIdeal := hNearestIdeal) (hNearestReferenceIdeal := hNearestReferenceIdeal) (hPre_one_nearest := hPre_one_nearest)
    ∧ preserves_Embed_EmbedIdeal
    ∧ algebraic_EmbedIdeal_EmbedReferenceIdeal_pre_coordinates_finite (hEmbedIdeal := hEmbedIdeal) (hEmbedReferenceIdeal := hEmbedReferenceIdeal) (hPre_coordinates_finite := hPre_coordinates_finite)
    ∧ preserves_Whole_WholeIdeal
    ∧ algebraic_WholeIdeal_WholeReferenceIdeal_pre_coordinates_finite (hWholeIdeal := hWholeIdeal) (hWholeReferenceIdeal := hWholeReferenceIdeal) (hPre_coordinates_finite := hPre_coordinates_finite)
-- ==== Pre_coordinates_finite.lean ====
abbrev S8x32x1024x256 : Shape := ⟨4, ![8, 32, 1024, 256]⟩
abbrev S8192x256 : Shape := ⟨2, ![8192, 256]⟩
abbrev S8x32x16 : Shape := ⟨3, ![8, 32, 16]⟩
abbrev S8x1x32 : Shape := ⟨3, ![8, 1, 32]⟩
abbrev S8x32x1024x3 : Shape := ⟨4, ![8, 32, 1024, 3]⟩
abbrev S_ : Shape := ⟨0, ![]⟩
abbrev S8192x3 : Shape := ⟨2, ![8192, 3]⟩

class Facts : Prop where
  slices_S8x32x1024x256_S8x32x1024x3_0_0_0_128 : S8x32x1024x256.Slices ![0, 0, 0, 128] S8x32x1024x3
  bcast_S_S8x32x1024x3 : S_.BroadcastsInDim S8x32x1024x3 (![] : Fin 0 → Fin S8x32x1024x3.rank)
  reducesTo_S8x32x1024x3_S_d0_1_2_3 : S8x32x1024x3.ReducesTo [0, 1, 2, 3] S_
  h_S_ : 0 < S_.numel
  slices_S8192x256_S8192x3_0_128 : S8192x256.Slices ![0, 128] S8192x3
  bcast_S_S8192x3 : S_.BroadcastsInDim S8192x3 (![] : Fin 0 → Fin S8192x3.rank)
  reducesTo_S8192x3_S_d0_1 : S8192x3.ReducesTo [0, 1] S_

variable [Facts]

def fn {F : FTy → Type} [FloatOps F] (main_arg0 : FVec F S8x32x1024x256 .f32) (main_arg1 : FVec F S8192x256 .f32) (main_arg2 : FVec F S8x32x16 .f32) (main_arg3 : FVec F S8x32x16 .f32) (main_arg4 : FVec F S8x1x32 .f32) (main_arg5 : FVec F S8x1x32 .f32) : IVec S_ 1 :=
  let main_v0 : FVec F S8x32x1024x3 .f32 := (extractStridedSlice S8x32x1024x3 ![0, 0, 0, 128] · slices_S8x32x1024x256_S8x32x1024x3_0_0_0_128) main_arg0
  let main_v1 : FVec F S8x32x1024x3 .f32 := Host.absf main_v0
  let main_cst : FVec F S_ .f32 := constant S_ .f32 0x7F800000#32
  let main_v2 : FVec F S8x32x1024x3 .f32 := broadcastInDim S8x32x1024x3 ![] bcast_S_S8x32x1024x3 main_cst
  let main_v3 : IVec S8x32x1024x3 1 := cmpf .olt main_v1 main_v2
  let main_c : IVec S_ 1 := constantI S_ 1 1#1
  let main_v4 : IVec S_ 1 := (fun x v => Host.reduce IntOp.andi x v reducesTo_S8x32x1024x3_S_d0_1_2_3 h_S_) main_v3 main_c
  let main_v5 : FVec F S8192x3 .f32 := (extractStridedSlice S8192x3 ![0, 128] · slices_S8192x256_S8192x3_0_128) main_arg1
  let main_v6 : FVec F S8192x3 .f32 := Host.absf main_v5
  let main_cst_0 : FVec F S_ .f32 := constant S_ .f32 0x7F800000#32
  let main_v7 : FVec F S8192x3 .f32 := broadcastInDim S8192x3 ![] bcast_S_S8192x3 main_cst_0
  let main_v8 : IVec S8192x3 1 := cmpf .olt main_v6 main_v7
  let main_c_1 : IVec S_ 1 := constantI S_ 1 1#1
  let main_v9 : IVec S_ 1 := (fun x v => Host.reduce IntOp.andi x v reducesTo_S8192x3_S_d0_1 h_S_) main_v8 main_c_1
  let main_v10 : IVec S_ 1 := andi main_v4 main_v9
  main_v10
-- ==== Pre_indices_name_rows.lean ====
abbrev S8x4096x3 : Shape := ⟨3, ![8, 4096, 3]⟩
abbrev S8x4096x128 : Shape := ⟨3, ![8, 4096, 128]⟩
abbrev S8x1024 : Shape := ⟨2, ![8, 1024]⟩
abbrev S8x32x1024 : Shape := ⟨3, ![8, 32, 1024]⟩
abbrev S_ : Shape := ⟨0, ![]⟩

class Facts : Prop where
  bcast_S_S8x1024 : S_.BroadcastsInDim S8x1024 (![] : Fin 0 → Fin S8x1024.rank)
  reducesTo_S8x1024_S_d0_1 : S8x1024.ReducesTo [0, 1] S_
  h_S_ : 0 < S_.numel
  bcast_S_S8x32x1024 : S_.BroadcastsInDim S8x32x1024 (![] : Fin 0 → Fin S8x32x1024.rank)
  reducesTo_S8x32x1024_S_d0_1_2 : S8x32x1024.ReducesTo [0, 1, 2] S_

variable [Facts]

def fn {F : FTy → Type} [FloatOps F] (main_arg0 : FVec F S8x4096x3 .f32) (main_arg1 : FVec F S8x4096x128 .f32) (main_arg2 : IVec S8x1024 32) (main_arg3 : IVec S8x32x1024 32) : IVec S_ 1 :=
  let main_c : IVec S_ 32 := constantI S_ 32 0#32
  let main_v0 : IVec S8x1024 32 := broadcastInDim S8x1024 ![] bcast_S_S8x1024 main_c
  let main_v1 : IVec S8x1024 1 := cmpi .sge main_arg2 main_v0
  let main_c_0 : IVec S_ 32 := constantI S_ 32 32768#32
  let main_v2 : IVec S8x1024 32 := broadcastInDim S8x1024 ![] bcast_S_S8x1024 main_c_0
  let main_v3 : IVec S8x1024 1 := cmpi .slt main_arg2 main_v2
  let main_v4 : IVec S8x1024 1 := andi main_v1 main_v3
  let main_c_1 : IVec S_ 1 := constantI S_ 1 1#1
  let main_v5 : IVec S_ 1 := (fun x v => Host.reduce IntOp.andi x v reducesTo_S8x1024_S_d0_1 h_S_) main_v4 main_c_1
  let main_c_2 : IVec S_ 32 := constantI S_ 32 0#32
  let main_v6 : IVec S8x32x1024 32 := broadcastInDim S8x32x1024 ![] bcast_S_S8x32x1024 main_c_2
  let main_v7 : IVec S8x32x1024 1 := cmpi .sge main_arg3 main_v6
  let main_c_3 : IVec S_ 32 := constantI S_ 32 32768#32
  let main_v8 : IVec S8x32x1024 32 := broadcastInDim S8x32x1024 ![] bcast_S_S8x32x1024 main_c_3
  let main_v9 : IVec S8x32x1024 1 := cmpi .slt main_arg3 main_v8
  let main_v10 : IVec S8x32x1024 1 := andi main_v7 main_v9
  let main_c_4 : IVec S_ 1 := constantI S_ 1 1#1
  let main_v11 : IVec S_ 1 := (fun x v => Host.reduce IntOp.andi x v reducesTo_S8x32x1024_S_d0_1_2 h_S_) main_v10 main_c_4
  let main_v12 : IVec S_ 1 := andi main_v5 main_v11
  main_v12
-- ==== Pre_one_farthest.lean ====
abbrev S8x4096x3 : Shape := ⟨3, ![8, 4096, 3]⟩
abbrev S_ : Shape := ⟨0, ![]⟩
abbrev S8x4096 : Shape := ⟨2, ![8, 4096]⟩
abbrev S8 : Shape := ⟨1, ![8]⟩
abbrev S4096 : Shape := ⟨1, ![4096]⟩
abbrev S1x4096x1 : Shape := ⟨3, ![1, 4096, 1]⟩
abbrev S8x1x1 : Shape := ⟨3, ![8, 1, 1]⟩
abbrev S8x4096x1 : Shape := ⟨3, ![8, 4096, 1]⟩
abbrev S8x3 : Shape := ⟨2, ![8, 3]⟩
abbrev S8x1x3 : Shape := ⟨3, ![8, 1, 3]⟩
abbrev S8x1 : Shape := ⟨2, ![8, 1]⟩

class Facts : Prop where
  bcast_S_S8x4096 : S_.BroadcastsInDim S8x4096 (![] : Fin 0 → Fin S8x4096.rank)
  bcast_S_S8 : S_.BroadcastsInDim S8 (![] : Fin 0 → Fin S8.rank)
  bcast_S4096_S1x4096x1_1 : S4096.BroadcastsInDim S1x4096x1 (![1] : Fin 1 → Fin S1x4096x1.rank)
  bcast_S8_S8x1x1_0 : S8.BroadcastsInDim S8x1x1 (![0] : Fin 1 → Fin S8x1x1.rank)
  bcast_S1x4096x1_S8x4096x1_0_1_2 : S1x4096x1.BroadcastsInDim S8x4096x1 (![0, 1, 2] : Fin 3 → Fin S8x4096x1.rank)
  bcast_S8x1x1_S8x4096x1_0_1_2 : S8x1x1.BroadcastsInDim S8x4096x1 (![0, 1, 2] : Fin 3 → Fin S8x4096x1.rank)
  bcast_S8x4096x1_S8x4096x3_0_1_2 : S8x4096x1.BroadcastsInDim S8x4096x3 (![0, 1, 2] : Fin 3 → Fin S8x4096x3.rank)
  bcast_S_S8x4096x3 : S_.BroadcastsInDim S8x4096x3 (![] : Fin 0 → Fin S8x4096x3.rank)
  reducesTo_S8x4096x3_S8x3_d1 : S8x4096x3.ReducesTo [1] S8x3
  h_S_ : 0 < S_.numel
  bcast_S8x3_S8x1x3_0_2 : S8x3.BroadcastsInDim S8x1x3 (![0, 2] : Fin 2 → Fin S8x1x3.rank)
  bcast_S8x1x3_S8x4096x3_0_1_2 : S8x1x3.BroadcastsInDim S8x4096x3 (![0, 1, 2] : Fin 3 → Fin S8x4096x3.rank)
  reducesTo_S8x4096x3_S8x4096_d2 : S8x4096x3.ReducesTo [2] S8x4096
  reducesTo_S8x4096_S8_d1 : S8x4096.ReducesTo [1] S8
  bcast_S8_S8x1_0 : S8.BroadcastsInDim S8x1 (![0] : Fin 1 → Fin S8x1.rank)
  bcast_S8x1_S8x4096_0_1 : S8x1.BroadcastsInDim S8x4096 (![0, 1] : Fin 2 → Fin S8x4096.rank)
  natLt_1_32 : 1 < 32

variable [Facts]

variable {F : FTy → Type} [FloatOps F]
def reducer_argmax_f32_i32 : F .f32 × BitVec 32 → F .f32 × BitVec 32 → F .f32 × BitVec 32 :=
  fun a b =>
    let v2 := FloatOps.cmpf .ogt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

def fn_where {F : FTy → Type} [FloatOps F] (arg0 : IVec S8x4096x1 1) (arg1 : FVec F S8x4096x3 .f32) (arg2 : FVec F S_ .f32) : FVec F S8x4096x3 .f32 :=
  let v0 : FVec F S_ .f32 := id arg2
  let v1 : IVec S8x4096x3 1 := broadcastInDim S8x4096x3 ![0, 1, 2] bcast_S8x4096x1_S8x4096x3_0_1_2 arg0
  let v2 : FVec F S8x4096x3 .f32 := broadcastInDim S8x4096x3 ![] bcast_S_S8x4096x3 v0
  let v3 : FVec F S8x4096x3 .f32 := select v1 arg1 v2
  v3

def fn_argmax {F : FTy → Type} [FloatOps F] (arg0 : FVec F S8x4096 .f32) : IVec S8 32 :=
  let v0 : IVec S8x4096 32 := iotaInDim S8x4096 32 1
  let cst : FVec F S_ .f32 := constant S_ .f32 0xFF800000#32
  let c : IVec S_ 32 := constantI S_ 32 0#32
  let v1_0 : FVec F S8 .f32 := (fun x y u v j => (Host.argReduce reducer_argmax_f32_i32 x y u v reducesTo_S8x4096_S8_d1 h_S_ j).1) arg0 v0 cst c
  let v1_1 : IVec S8 32 := (fun x y u v j => (Host.argReduce reducer_argmax_f32_i32 x y u v reducesTo_S8x4096_S8_d1 h_S_ j).2) arg0 v0 cst c
  v1_1

def fn_one_step_part1 {F : FTy → Type} [FloatOps F] (arg3 : IVec S8 1) (v13 : FVec F S8x4096 .f32) (v18 : IVec S8x4096 32) (c : IVec S_ 32) : FVec F S8x4096 .f32 × IVec S8 32 × IVec S8 1 :=
  let v19 : IVec S8 32 := (fun x v => Host.reduce IntOp.addi x v reducesTo_S8x4096_S8_d1 h_S_) v18 c
  let c_3 : IVec S_ 32 := constantI S_ 32 1#32
  let v20 : IVec S8 32 := broadcastInDim S8 ![] bcast_S_S8 c_3
  let v21 : IVec S8 1 := cmpi .eq v19 v20
  let v22 : IVec S8 1 := andi arg3 v21
  let v23 : IVec S8 32 := fn_argmax (F := F) v13
  (v13, v23, v22)

def fn_one_step {F : FTy → Type} [FloatOps F] (arg0 : FVec F S8x4096x3 .f32) (arg1 : FVec F S8x4096 .f32) (arg2 : IVec S8 32) (arg3 : IVec S8 1) : FVec F S8x4096 .f32 × IVec S8 32 × IVec S8 1 :=
  let v0 : IVec S4096 32 := iotaInDim S4096 32 0
  let v1 : IVec S1x4096x1 32 := broadcastInDim S1x4096x1 ![1] bcast_S4096_S1x4096x1_1 v0
  let v2 : IVec S8x1x1 32 := broadcastInDim S8x1x1 ![0] bcast_S8_S8x1x1_0 arg2
  let v3 : IVec S8x4096x1 32 := broadcastInDim S8x4096x1 ![0, 1, 2] bcast_S1x4096x1_S8x4096x1_0_1_2 v1
  let v4 : IVec S8x4096x1 32 := broadcastInDim S8x4096x1 ![0, 1, 2] bcast_S8x1x1_S8x4096x1_0_1_2 v2
  let v5 : IVec S8x4096x1 1 := cmpi .eq v3 v4
  let cst : FVec F S_ .f32 := constant S_ .f32 0x00000000#32
  let v6 : FVec F S8x4096x3 .f32 := fn_where (F := F) v5 arg0 cst
  let cst_0 : FVec F S_ .f32 := constant S_ .f32 0x00000000#32
  let v7 : FVec F S8x3 .f32 := (fun x v => Host.reduceAdd x v reducesTo_S8x4096x3_S8x3_d1 h_S_) v6 cst_0
  let v8 : FVec F S8x1x3 .f32 := broadcastInDim S8x1x3 ![0, 2] bcast_S8x3_S8x1x3_0_2 v7
  let v9 : FVec F S8x4096x3 .f32 := broadcastInDim S8x4096x3 ![0, 1, 2] bcast_S8x1x3_S8x4096x3_0_1_2 v8
  let v10 : FVec F S8x4096x3 .f32 := subf arg0 v9
  let v11 : FVec F S8x4096x3 .f32 := mulf v10 v10
  let cst_1 : FVec F S_ .f32 := constant S_ .f32 0x00000000#32
  let v12 : FVec F S8x4096 .f32 := (fun x v => Host.reduceAdd x v reducesTo_S8x4096x3_S8x4096_d2 h_S_) v11 cst_1
  let v13 : FVec F S8x4096 .f32 := minimumf arg1 v12
  let cst_2 : FVec F S_ .f32 := constant S_ .f32 0xFF800000#32
  let v14 : FVec F S8 .f32 := (fun x v => Host.reduce FloatOps.maximumf x v reducesTo_S8x4096_S8_d1 h_S_) v13 cst_2
  let v15 : FVec F S8x1 .f32 := broadcastInDim S8x1 ![0] bcast_S8_S8x1_0 v14
  let v16 : FVec F S8x4096 .f32 := broadcastInDim S8x4096 ![0, 1] bcast_S8x1_S8x4096_0_1 v15
  let v17 : IVec S8x4096 1 := cmpf .oeq v13 v16
  let v18 : IVec S8x4096 32 := (extui 32 · natLt_1_32) v17
  let c : IVec S_ 32 := constantI S_ 32 0#32
  fn_one_step_part1 (F := F) arg3 v13 v18 c

def fn_steps_3 {F : FTy → Type} [FloatOps F] (arg0 : FVec F S8x4096x3 .f32) (arg1 : FVec F S8x4096 .f32) (arg2 : IVec S8 32) (arg3 : IVec S8 1) : FVec F S8x4096 .f32 × IVec S8 32 × IVec S8 1 :=
  let v0_0 : FVec F S8x4096 .f32 := (fn_one_step (F := F) arg0 arg1 arg2 arg3).1
  let v0_1 : IVec S8 32 := (fn_one_step (F := F) arg0 arg1 arg2 arg3).2.1
  let v0_2 : IVec S8 1 := (fn_one_step (F := F) arg0 arg1 arg2 arg3).2.2
  let v1_0 : FVec F S8x4096 .f32 := (fn_one_step (F := F) arg0 v0_0 v0_1 v0_2).1
  let v1_1 : IVec S8 32 := (fn_one_step (F := F) arg0 v0_0 v0_1 v0_2).2.1
  let v1_2 : IVec S8 1 := (fn_one_step (F := F) arg0 v0_0 v0_1 v0_2).2.2
  let v2_0 : FVec F S8x4096 .f32 := (fn_one_step (F := F) arg0 v1_0 v1_1 v1_2).1
  let v2_1 : IVec S8 32 := (fn_one_step (F := F) arg0 v1_0 v1_1 v1_2).2.1
  let v2_2 : IVec S8 1 := (fn_one_step (F := F) arg0 v1_0 v1_1 v1_2).2.2
  let v3_0 : FVec F S8x4096 .f32 := (fn_one_step (F := F) arg0 v2_0 v2_1 v2_2).1
  let v3_1 : IVec S8 32 := (fn_one_step (F := F) arg0 v2_0 v2_1 v2_2).2.1
  let v3_2 : IVec S8 1 := (fn_one_step (F := F) arg0 v2_0 v2_1 v2_2).2.2
  (v3_0, v3_1, v3_2)

def fn_steps_2 {F : FTy → Type} [FloatOps F] (arg0 : FVec F S8x4096x3 .f32) (arg1 : FVec F S8x4096 .f32) (arg2 : IVec S8 32) (arg3 : IVec S8 1) : FVec F S8x4096 .f32 × IVec S8 32 × IVec S8 1 :=
  let v0_0 : FVec F S8x4096 .f32 := (fn_steps_3 (F := F) arg0 arg1 arg2 arg3).1
  let v0_1 : IVec S8 32 := (fn_steps_3 (F := F) arg0 arg1 arg2 arg3).2.1
  let v0_2 : IVec S8 1 := (fn_steps_3 (F := F) arg0 arg1 arg2 arg3).2.2
  let v1_0 : FVec F S8x4096 .f32 := (fn_steps_3 (F := F) arg0 v0_0 v0_1 v0_2).1
  let v1_1 : IVec S8 32 := (fn_steps_3 (F := F) arg0 v0_0 v0_1 v0_2).2.1
  let v1_2 : IVec S8 1 := (fn_steps_3 (F := F) arg0 v0_0 v0_1 v0_2).2.2
  let v2_0 : FVec F S8x4096 .f32 := (fn_steps_3 (F := F) arg0 v1_0 v1_1 v1_2).1
  let v2_1 : IVec S8 32 := (fn_steps_3 (F := F) arg0 v1_0 v1_1 v1_2).2.1
  let v2_2 : IVec S8 1 := (fn_steps_3 (F := F) arg0 v1_0 v1_1 v1_2).2.2
  let v3_0 : FVec F S8x4096 .f32 := (fn_steps_3 (F := F) arg0 v2_0 v2_1 v2_2).1
  let v3_1 : IVec S8 32 := (fn_steps_3 (F := F) arg0 v2_0 v2_1 v2_2).2.1
  let v3_2 : IVec S8 1 := (fn_steps_3 (F := F) arg0 v2_0 v2_1 v2_2).2.2
  (v3_0, v3_1, v3_2)

def fn_steps_1 {F : FTy → Type} [FloatOps F] (arg0 : FVec F S8x4096x3 .f32) (arg1 : FVec F S8x4096 .f32) (arg2 : IVec S8 32) (arg3 : IVec S8 1) : FVec F S8x4096 .f32 × IVec S8 32 × IVec S8 1 :=
  let v0_0 : FVec F S8x4096 .f32 := (fn_steps_2 (F := F) arg0 arg1 arg2 arg3).1
  let v0_1 : IVec S8 32 := (fn_steps_2 (F := F) arg0 arg1 arg2 arg3).2.1
  let v0_2 : IVec S8 1 := (fn_steps_2 (F := F) arg0 arg1 arg2 arg3).2.2
  let v1_0 : FVec F S8x4096 .f32 := (fn_steps_2 (F := F) arg0 v0_0 v0_1 v0_2).1
  let v1_1 : IVec S8 32 := (fn_steps_2 (F := F) arg0 v0_0 v0_1 v0_2).2.1
  let v1_2 : IVec S8 1 := (fn_steps_2 (F := F) arg0 v0_0 v0_1 v0_2).2.2
  let v2_0 : FVec F S8x4096 .f32 := (fn_steps_2 (F := F) arg0 v1_0 v1_1 v1_2).1
  let v2_1 : IVec S8 32 := (fn_steps_2 (F := F) arg0 v1_0 v1_1 v1_2).2.1
  let v2_2 : IVec S8 1 := (fn_steps_2 (F := F) arg0 v1_0 v1_1 v1_2).2.2
  let v3_0 : FVec F S8x4096 .f32 := (fn_steps_2 (F := F) arg0 v2_0 v2_1 v2_2).1
  let v3_1 : IVec S8 32 := (fn_steps_2 (F := F) arg0 v2_0 v2_1 v2_2).2.1
  let v3_2 : IVec S8 1 := (fn_steps_2 (F := F) arg0 v2_0 v2_1 v2_2).2.2
  (v3_0, v3_1, v3_2)

def fn_steps_0 {F : FTy → Type} [FloatOps F] (arg0 : FVec F S8x4096x3 .f32) (arg1 : FVec F S8x4096 .f32) (arg2 : IVec S8 32) (arg3 : IVec S8 1) : FVec F S8x4096 .f32 × IVec S8 32 × IVec S8 1 :=
  let v0_0 : FVec F S8x4096 .f32 := (fn_steps_1 (F := F) arg0 arg1 arg2 arg3).1
  let v0_1 : IVec S8 32 := (fn_steps_1 (F := F) arg0 arg1 arg2 arg3).2.1
  let v0_2 : IVec S8 1 := (fn_steps_1 (F := F) arg0 arg1 arg2 arg3).2.2
  let v1_0 : FVec F S8x4096 .f32 := (fn_steps_1 (F := F) arg0 v0_0 v0_1 v0_2).1
  let v1_1 : IVec S8 32 := (fn_steps_1 (F := F) arg0 v0_0 v0_1 v0_2).2.1
  let v1_2 : IVec S8 1 := (fn_steps_1 (F := F) arg0 v0_0 v0_1 v0_2).2.2
  let v2_0 : FVec F S8x4096 .f32 := (fn_steps_1 (F := F) arg0 v1_0 v1_1 v1_2).1
  let v2_1 : IVec S8 32 := (fn_steps_1 (F := F) arg0 v1_0 v1_1 v1_2).2.1
  let v2_2 : IVec S8 1 := (fn_steps_1 (F := F) arg0 v1_0 v1_1 v1_2).2.2
  let v3_0 : FVec F S8x4096 .f32 := (fn_steps_1 (F := F) arg0 v2_0 v2_1 v2_2).1
  let v3_1 : IVec S8 32 := (fn_steps_1 (F := F) arg0 v2_0 v2_1 v2_2).2.1
  let v3_2 : IVec S8 1 := (fn_steps_1 (F := F) arg0 v2_0 v2_1 v2_2).2.2
  (v3_0, v3_1, v3_2)

def fn_steps {F : FTy → Type} [FloatOps F] (arg0 : FVec F S8x4096x3 .f32) (arg1 : FVec F S8x4096 .f32) (arg2 : IVec S8 32) (arg3 : IVec S8 1) : FVec F S8x4096 .f32 × IVec S8 32 × IVec S8 1 :=
  let v0_0 : FVec F S8x4096 .f32 := (fn_steps_0 (F := F) arg0 arg1 arg2 arg3).1
  let v0_1 : IVec S8 32 := (fn_steps_0 (F := F) arg0 arg1 arg2 arg3).2.1
  let v0_2 : IVec S8 1 := (fn_steps_0 (F := F) arg0 arg1 arg2 arg3).2.2
  let v1_0 : FVec F S8x4096 .f32 := (fn_steps_0 (F := F) arg0 v0_0 v0_1 v0_2).1
  let v1_1 : IVec S8 32 := (fn_steps_0 (F := F) arg0 v0_0 v0_1 v0_2).2.1
  let v1_2 : IVec S8 1 := (fn_steps_0 (F := F) arg0 v0_0 v0_1 v0_2).2.2
  let v2_0 : FVec F S8x4096 .f32 := (fn_steps_0 (F := F) arg0 v1_0 v1_1 v1_2).1
  let v2_1 : IVec S8 32 := (fn_steps_0 (F := F) arg0 v1_0 v1_1 v1_2).2.1
  let v2_2 : IVec S8 1 := (fn_steps_0 (F := F) arg0 v1_0 v1_1 v1_2).2.2
  let v3_0 : FVec F S8x4096 .f32 := (fn_steps_0 (F := F) arg0 v2_0 v2_1 v2_2).1
  let v3_1 : IVec S8 32 := (fn_steps_0 (F := F) arg0 v2_0 v2_1 v2_2).2.1
  let v3_2 : IVec S8 1 := (fn_steps_0 (F := F) arg0 v2_0 v2_1 v2_2).2.2
  (v3_0, v3_1, v3_2)

def fn {F : FTy → Type} [FloatOps F] (main_arg0 : FVec F S8x4096x3 .f32) : IVec S8 1 :=
  let main_cst : FVec F S_ .f32 := constant S_ .f32 0x501502F9#32
  let main_v0 : FVec F S8x4096 .f32 := broadcastInDim S8x4096 ![] bcast_S_S8x4096 main_cst
  let main_c : IVec S_ 32 := constantI S_ 32 0#32
  let main_v1 : IVec S8 32 := broadcastInDim S8 ![] bcast_S_S8 main_c
  let main_c_0 : IVec S_ 1 := constantI S_ 1 1#1
  let main_v2 : IVec S8 1 := broadcastInDim S8 ![] bcast_S_S8 main_c_0
  let main_v3_0 : FVec F S8x4096 .f32 := (fn_steps (F := F) main_arg0 main_v0 main_v1 main_v2).1
  let main_v3_1 : IVec S8 32 := (fn_steps (F := F) main_arg0 main_v0 main_v1 main_v2).2.1
  let main_v3_2 : IVec S8 1 := (fn_steps (F := F) main_arg0 main_v0 main_v1 main_v2).2.2
  main_v3_2
-- ==== Pre_one_nearest.lean ====
abbrev S8x4096x3 : Shape := ⟨3, ![8, 4096, 3]⟩
abbrev S8192x256 : Shape := ⟨2, ![8192, 256]⟩
abbrev S8192x3 : Shape := ⟨2, ![8192, 3]⟩
abbrev S8x1024x3 : Shape := ⟨3, ![8, 1024, 3]⟩
abbrev S8x3x4096 : Shape := ⟨3, ![8, 3, 4096]⟩
abbrev S8x1024x4096 : Shape := ⟨3, ![8, 1024, 4096]⟩
abbrev S_ : Shape := ⟨0, ![]⟩
abbrev S8x1024 : Shape := ⟨2, ![8, 1024]⟩
abbrev S8x1024x1 : Shape := ⟨3, ![8, 1024, 1]⟩
abbrev S8x4096 : Shape := ⟨2, ![8, 4096]⟩
abbrev S8x1x4096 : Shape := ⟨3, ![8, 1, 4096]⟩
abbrev S8x1024x33 : Shape := ⟨3, ![8, 1024, 33]⟩
abbrev S8x1024x32 : Shape := ⟨3, ![8, 1024, 32]⟩

class Facts : Prop where
  slices_S8192x256_S8192x3_0_128 : S8192x256.Slices ![0, 128] S8192x3
  shapeCasts_S8192x3_S8x1024x3 : S8192x3.ShapeCasts S8x1024x3
  transposes_S8x4096x3_S8x3x4096_0_2_1 : S8x4096x3.Transposes [0, 2, 1] S8x3x4096
  bcast_S_S8x1024x4096 : S_.BroadcastsInDim S8x1024x4096 (![] : Fin 0 → Fin S8x1024x4096.rank)
  reducesTo_S8x1024x3_S8x1024_d2 : S8x1024x3.ReducesTo [2] S8x1024
  h_S_ : 0 < S_.numel
  bcast_S8x1024_S8x1024x1_0_1 : S8x1024.BroadcastsInDim S8x1024x1 (![0, 1] : Fin 2 → Fin S8x1024x1.rank)
  bcast_S8x1024x1_S8x1024x4096_0_1_2 : S8x1024x1.BroadcastsInDim S8x1024x4096 (![0, 1, 2] : Fin 3 → Fin S8x1024x4096.rank)
  reducesTo_S8x4096x3_S8x4096_d2 : S8x4096x3.ReducesTo [2] S8x4096
  bcast_S8x4096_S8x1x4096_0_2 : S8x4096.BroadcastsInDim S8x1x4096 (![0, 2] : Fin 2 → Fin S8x1x4096.rank)
  bcast_S8x1x4096_S8x1024x4096_0_1_2 : S8x1x4096.BroadcastsInDim S8x1024x4096 (![0, 1, 2] : Fin 3 → Fin S8x1024x4096.rank)
  sliceFits_S8x1024x4096_S8x1024x33 : S8x1024x4096.Slices (fun _ => 0) S8x1024x33
  slices_S8x1024x33_S8x1024x32_0_0_0 : S8x1024x33.Slices ![0, 0, 0] S8x1024x32
  slices_S8x1024x33_S8x1024x32_0_0_1 : S8x1024x33.Slices ![0, 0, 1] S8x1024x32
  reducesTo_S8x1024x32_S_d0_1_2 : S8x1024x32.ReducesTo [0, 1, 2] S_
  dot_S8x1024x3_S8x3x4096_S8x1024x4096_2_1_1_2_0_0_wf : DotDims.WF S8x1024x3 S8x3x4096 S8x1024x4096 [2] [1] [1] [2] [0] [0]

variable [Facts]

def dot_S8x1024x3_S8x3x4096_S8x1024x4096_2_1_1_2_0_0 : DotDims S8x1024x3 S8x3x4096 S8x1024x4096 where
  lhsContracting := [2]
  rhsContracting := [1]
  lhsNonContracting := [1]
  rhsNonContracting := [2]
  lhsBatch := [0]
  rhsBatch := [0]
  wf := dot_S8x1024x3_S8x3x4096_S8x1024x4096_2_1_1_2_0_0_wf
def fn_part1 {F : FTy → Type} [FloatOps F] (main_v17 : FVec F S8x1024x32 .f32) (main_v18 : FVec F S8x1024x32 .f32) : IVec S_ 1 :=
  let main_v19 : IVec S8x1024x32 1 := cmpf .ogt main_v17 main_v18
  let main_c : IVec S_ 1 := constantI S_ 1 1#1
  let main_v20 : IVec S_ 1 := (fun x v => Host.reduce IntOp.andi x v reducesTo_S8x1024x32_S_d0_1_2 h_S_) main_v19 main_c
  main_v20

def fn {F : FTy → Type} [FloatOps F] (main_arg0 : FVec F S8x4096x3 .f32) (main_arg1 : FVec F S8192x256 .f32) : IVec S_ 1 :=
  let main_v0 : FVec F S8192x3 .f32 := (extractStridedSlice S8192x3 ![0, 128] · slices_S8192x256_S8192x3_0_128) main_arg1
  let main_v1 : FVec F S8x1024x3 .f32 := shapeCast S8x1024x3 main_v0 shapeCasts_S8192x3_S8x1024x3
  let main_v2 : FVec F S8x3x4096 .f32 := (transpose S8x3x4096 [0, 2, 1] · transposes_S8x4096x3_S8x3x4096_0_2_1) main_arg0
  let main_v3 : FVec F S8x1024x4096 .f32 := (fun l r => Host.dotGeneral dot_S8x1024x3_S8x3x4096_S8x1024x4096_2_1_1_2_0_0 none l r) main_v1 main_v2
  let main_cst : FVec F S_ .f32 := constant S_ .f32 0xC0000000#32
  let main_v4 : FVec F S8x1024x4096 .f32 := broadcastInDim S8x1024x4096 ![] bcast_S_S8x1024x4096 main_cst
  let main_v5 : FVec F S8x1024x4096 .f32 := mulf main_v4 main_v3
  let main_v6 : FVec F S8x1024x3 .f32 := mulf main_v1 main_v1
  let main_cst_0 : FVec F S_ .f32 := constant S_ .f32 0x00000000#32
  let main_v7 : FVec F S8x1024 .f32 := (fun x v => Host.reduceAdd x v reducesTo_S8x1024x3_S8x1024_d2 h_S_) main_v6 main_cst_0
  let main_v8 : FVec F S8x1024x1 .f32 := broadcastInDim S8x1024x1 ![0, 1] bcast_S8x1024_S8x1024x1_0_1 main_v7
  let main_v9 : FVec F S8x1024x4096 .f32 := broadcastInDim S8x1024x4096 ![0, 1, 2] bcast_S8x1024x1_S8x1024x4096_0_1_2 main_v8
  let main_v10 : FVec F S8x1024x4096 .f32 := addf main_v5 main_v9
  let main_v11 : FVec F S8x4096x3 .f32 := mulf main_arg0 main_arg0
  let main_cst_1 : FVec F S_ .f32 := constant S_ .f32 0x00000000#32
  let main_v12 : FVec F S8x4096 .f32 := (fun x v => Host.reduceAdd x v reducesTo_S8x4096x3_S8x4096_d2 h_S_) main_v11 main_cst_1
  let main_v13 : FVec F S8x1x4096 .f32 := broadcastInDim S8x1x4096 ![0, 2] bcast_S8x4096_S8x1x4096_0_2 main_v12
  let main_v14 : FVec F S8x1024x4096 .f32 := broadcastInDim S8x1024x4096 ![0, 1, 2] bcast_S8x1x4096_S8x1024x4096_0_1_2 main_v13
  let main_v15 : FVec F S8x1024x4096 .f32 := addf main_v10 main_v14
  let main_v16 : FVec F S8x1024x4096 .f32 := Host.negf main_v15
  let main_values : FVec F S8x1024x33 .f32 := (fun x => (Host.topK S8x1024x33 2 (FloatOps.cmpfTotal .gt) x sliceFits_S8x1024x4096_S8x1024x33).1) main_v16
  let main_indices : IVec S8x1024x33 32 := (fun x => (Host.topK S8x1024x33 2 (FloatOps.cmpfTotal .gt) x sliceFits_S8x1024x4096_S8x1024x33).2) main_v16
  let main_v17 : FVec F S8x1024x32 .f32 := (extractStridedSlice S8x1024x32 ![0, 0, 0] · slices_S8x1024x33_S8x1024x32_0_0_0) main_values
  let main_v18 : FVec F S8x1024x32 .f32 := (extractStridedSlice S8x1024x32 ![0, 0, 1] · slices_S8x1024x33_S8x1024x32_0_0_1) main_values
  fn_part1 (F := F) main_v17 main_v18
-- ==== Kernel.lean ====
abbrev S8x4096x3 : Shape := ⟨3, ![8, 4096, 3]⟩
abbrev S8x4096x128 : Shape := ⟨3, ![8, 4096, 128]⟩
abbrev S8x1024 : Shape := ⟨2, ![8, 1024]⟩
abbrev S8x32x1024 : Shape := ⟨3, ![8, 32, 1024]⟩
abbrev S_ : Shape := ⟨0, ![]⟩
abbrev S8x4096x256 : Shape := ⟨3, ![8, 4096, 256]⟩
abbrev S32768x2x128 : Shape := ⟨3, ![32768, 2, 128]⟩
abbrev S8192 : Shape := ⟨1, ![8192]⟩
abbrev S8192x2x128 : Shape := ⟨3, ![8192, 2, 128]⟩
abbrev S128 : Shape := ⟨1, ![128]⟩
abbrev S128x2x128 : Shape := ⟨3, ![128, 2, 128]⟩
abbrev S262144 : Shape := ⟨1, ![262144]⟩
abbrev S262144x2x128 : Shape := ⟨3, ![262144, 2, 128]⟩

abbrev nBuf : Table → Nat
  | .hbm => 13
  | .local .scVector .vmem => 8
  | _ => 0

abbrev bufTy : (tb : Table) → Fin (nBuf tb) → BufTy
  | .hbm, ⟨0, _⟩ => ⟨S8x4096x3, .f32⟩
  | .hbm, ⟨1, _⟩ => ⟨S8x4096x128, .f32⟩
  | .hbm, ⟨2, _⟩ => ⟨S8x1024, .i32⟩
  | .hbm, ⟨3, _⟩ => ⟨S8x32x1024, .i32⟩
  | .hbm, ⟨4, _⟩ => ⟨S_, .i32⟩
  | .hbm, ⟨5, _⟩ => ⟨S_, .f32⟩
  | .hbm, ⟨6, _⟩ => ⟨S8x4096x128, .f32⟩
  | .hbm, ⟨7, _⟩ => ⟨S8x4096x256, .f32⟩
  | .hbm, ⟨8, _⟩ => ⟨S32768x2x128, .f32⟩
  | .hbm, ⟨9, _⟩ => ⟨S8192, .i32⟩
  | .hbm, ⟨10, _⟩ => ⟨S8192x2x128, .f32⟩
  | .hbm, ⟨11, _⟩ => ⟨S262144, .i32⟩
  | .hbm, ⟨12, _⟩ => ⟨S262144x2x128, .f32⟩
  | .local .scVector .vmem, ⟨0, _⟩ => ⟨S128, .i32⟩
  | .local .scVector .vmem, ⟨1, _⟩ => ⟨S128, .i32⟩
  | .local .scVector .vmem, ⟨2, _⟩ => ⟨S128x2x128, .f32⟩
  | .local .scVector .vmem, ⟨3, _⟩ => ⟨S128x2x128, .f32⟩
  | .local .scVector .vmem, ⟨4, _⟩ => ⟨S128, .i32⟩
  | .local .scVector .vmem, ⟨5, _⟩ => ⟨S128, .i32⟩
  | .local .scVector .vmem, ⟨6, _⟩ => ⟨S128x2x128, .f32⟩
  | .local .scVector .vmem, ⟨7, _⟩ => ⟨S128x2x128, .f32⟩
  | _, _ => ⟨S8x4096x3, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v2_scv : Ref sig .scVector := ⟨.hbm, 8, rfl⟩
abbrev main_v3_scv : Ref sig .scVector := ⟨.hbm, 9, rfl⟩
abbrev main_v4_scv : Ref sig .scVector := ⟨.hbm, 10, rfl⟩
abbrev main_v5_scv : Ref sig .scVector := ⟨.hbm, 11, rfl⟩
abbrev main_v6_scv : Ref sig .scVector := ⟨.hbm, 12, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_scratch0 : Ref sig .scVector := ⟨.vmem, 4, rfl⟩
abbrev cc1_scratch1 : Ref sig .scVector := ⟨.vmem, 5, rfl⟩
abbrev cc1_scratch2 : Ref sig .scVector := ⟨.vmem, 6, rfl⟩
abbrev cc1_scratch3 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_2 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v3 : BitVec 32 := Scalar.muli v1 c256_i32
  let c0_i32_0 : BitVec 32 := 0#32
  let c2_i32_1 : BitVec 32 := 2#32
  let v2 : BitVec 32 := Scalar.muli c0_i32_0 c2_i32_1
  let v4 : BitVec 32 := Scalar.addi v2 c0_i32_2
  let c128_i32 : BitVec 32 := 128#32
  let v5 : BitVec 32 := Scalar.muli v4 c128_i32
  let v6 : BitVec 32 := Scalar.addi v3 v5
  ![v6.toNat]
def k0_off2 (i : grid0.Coords) (c0_i32_12 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32_11 : BitVec 32 := 256#32
  let v13 : BitVec 32 := Scalar.muli v1 c256_i32_11
  let c0_i32_0 : BitVec 32 := 0#32
  let c2_i32_1 : BitVec 32 := 2#32
  let v2 : BitVec 32 := Scalar.muli c0_i32_0 c2_i32_1
  let v14 : BitVec 32 := Scalar.addi v2 c0_i32_12
  let c128_i32_13 : BitVec 32 := 128#32
  let v15 : BitVec 32 := Scalar.muli v14 c128_i32_13
  let v16 : BitVec 32 := Scalar.addi v13 v15
  let c0_i32_17 : BitVec 32 := 0#32
  let c0_i32_18 : BitVec 32 := 0#32
  ![v16.toNat, 0, 0]
abbrev grid1 : Pipeline.Grid := ⟨2, ![2, 16], ![false, false]⟩

@[reducible] def k1_t1_loop : Scf.Loop 32 :=
  let c0_i32_0 : BitVec 32 := 0#32
  let c32_i32 : BitVec 32 := 32#32
  let v2 : BitVec 32 := Scalar.addi c0_i32_0 c32_i32
  let c1_i32 : BitVec 32 := 1#32
  ⟨c0_i32_0, v2, c1_i32⟩
def k1_off1 (i : grid1.Coords) (k1_t1 : Fin k1_t1_loop.trips) (c0_i32_3 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v5 : BitVec 32 := Scalar.muli v1 c8192_i32
  let c0_i32_0 : BitVec 32 := 0#32
  let c1_i32 : BitVec 32 := 1#32
  let arg13 : BitVec 32 := Scf.iv c0_i32_0 c1_i32 k1_t1
  let c2_i32_2 : BitVec 32 := 2#32
  let v4 : BitVec 32 := Scalar.muli arg13 c2_i32_2
  let v6 : BitVec 32 := Scalar.addi v4 c0_i32_3
  let c128_i32 : BitVec 32 := 128#32
  let v7 : BitVec 32 := Scalar.muli v6 c128_i32
  let v8 : BitVec 32 := Scalar.addi v5 v7
  ![v8.toNat]
def k1_off2 (i : grid1.Coords) (k1_t1 : Fin k1_t1_loop.trips) (c0_i32_14 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32_13 : BitVec 32 := 8192#32
  let v15 : BitVec 32 := Scalar.muli v1 c8192_i32_13
  let c0_i32_0 : BitVec 32 := 0#32
  let c1_i32 : BitVec 32 := 1#32
  let arg13 : BitVec 32 := Scf.iv c0_i32_0 c1_i32 k1_t1
  let c2_i32_2 : BitVec 32 := 2#32
  let v4 : BitVec 32 := Scalar.muli arg13 c2_i32_2
  let v16 : BitVec 32 := Scalar.addi v4 c0_i32_14
  let c128_i32_15 : BitVec 32 := 128#32
  let v17 : BitVec 32 := Scalar.muli v16 c128_i32_15
  let v18 : BitVec 32 := Scalar.addi v15 v17
  let c0_i32_19 : BitVec 32 := 0#32
  let c0_i32_20 : BitVec 32 := 0#32
  ![v18.toNat, 0, 0]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S8x4096x3 : Shape := ⟨3, ![8, 4096, 3]⟩
abbrev S8x4096x128 : Shape := ⟨3, ![8, 4096, 128]⟩
abbrev S8x1024 : Shape := ⟨2, ![8, 1024]⟩
abbrev S8x32x1024 : Shape := ⟨3, ![8, 32, 1024]⟩
abbrev S32768x128 : Shape := ⟨2, ![32768, 128]⟩
abbrev S8192 : Shape := ⟨1, ![8192]⟩
abbrev S_ : Shape := ⟨0, ![]⟩
abbrev S8192x1 : Shape := ⟨2, ![8192, 1]⟩
abbrev S8192x128 : Shape := ⟨2, ![8192, 128]⟩
abbrev S32768x3 : Shape := ⟨2, ![32768, 3]⟩
abbrev S8192x3 : Shape := ⟨2, ![8192, 3]⟩
abbrev S8192x1x128 : Shape := ⟨3, ![8192, 1, 128]⟩
abbrev S8192x2x128 : Shape := ⟨3, ![8192, 2, 128]⟩
abbrev S262144 : Shape := ⟨1, ![262144]⟩
abbrev S262144x1 : Shape := ⟨2, ![262144, 1]⟩
abbrev S262144x128 : Shape := ⟨2, ![262144, 128]⟩
abbrev S262144x3 : Shape := ⟨2, ![262144, 3]⟩
abbrev S262144x1x128 : Shape := ⟨3, ![262144, 1, 128]⟩
abbrev S262144x2x128 : Shape := ⟨3, ![262144, 2, 128]⟩

abbrev nBuf : Space → Nat
  | .hbm => 60
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x128, .f32⟩
  | .hbm, ⟨2, _⟩ => ⟨S8x1024, .i32⟩
  | .hbm, ⟨3, _⟩ => ⟨S8x32x1024, .i32⟩
  | .hbm, ⟨4, _⟩ => ⟨S32768x128, .f32⟩
  | .hbm, ⟨5, _⟩ => ⟨S8192, .i32⟩
  | .hbm, ⟨6, _⟩ => ⟨S_, .i32⟩
  | .hbm, ⟨7, _⟩ => ⟨S8192, .i32⟩
  | .hbm, ⟨8, _⟩ => ⟨S8192, .i1⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S8192x1, .i32⟩
  | .hbm, ⟨14, _⟩ => ⟨S8192x128, .f32⟩
  | .hbm, ⟨15, _⟩ => ⟨S32768x3, .f32⟩
  | .hbm, ⟨16, _⟩ => ⟨S8192, .i32⟩
  | .hbm, ⟨17, _⟩ => ⟨S_, .i32⟩
  | .hbm, ⟨18, _⟩ => ⟨S8192, .i32⟩
  | .hbm, ⟨19, _⟩ => ⟨S8192, .i1⟩
  | .hbm, ⟨20, _⟩ => ⟨S_, .i32⟩
  | .hbm, ⟨21, _⟩ => ⟨S8192, .i32⟩
  | .hbm, ⟨22, _⟩ => ⟨S8192, .i32⟩
  | .hbm, ⟨23, _⟩ => ⟨S8192, .i32⟩
  | .hbm, ⟨24, _⟩ => ⟨S8192x1, .i32⟩
  | .hbm, ⟨25, _⟩ => ⟨S8192x3, .f32⟩
  | .hbm, ⟨26, _⟩ => ⟨S_, .i32⟩
  | .hbm, ⟨27, _⟩ => ⟨S_, .f32⟩
  | .hbm, ⟨28, _⟩ => ⟨S8192x128, .f32⟩
  | .hbm, ⟨29, _⟩ => ⟨S8192x1x128, .f32⟩
  | .hbm, ⟨30, _⟩ => ⟨S8192x1x128, .f32⟩
  | .hbm, ⟨31, _⟩ => ⟨S8192x2x128, .f32⟩
  | .hbm, ⟨32, _⟩ => ⟨S32768x128, .f32⟩
  | .hbm, ⟨33, _⟩ => ⟨S262144, .i32⟩
  | .hbm, ⟨34, _⟩ => ⟨S_, .i32⟩
  | .hbm, ⟨35, _⟩ => ⟨S262144, .i32⟩
  | .hbm, ⟨36, _⟩ => ⟨S262144, .i1⟩
  | .hbm, ⟨37, _⟩ => ⟨S_, .i32⟩
  | .hbm, ⟨38, _⟩ => ⟨S262144, .i32⟩
  | .hbm, ⟨39, _⟩ => ⟨S262144, .i32⟩
  | .hbm, ⟨40, _⟩ => ⟨S262144, .i32⟩
  | .hbm, ⟨41, _⟩ => ⟨S262144x1, .i32⟩
  | .hbm, ⟨42, _⟩ => ⟨S262144x128, .f32⟩
  | .hbm, ⟨43, _⟩ => ⟨S32768x3, .f32⟩
  | .hbm, ⟨44, _⟩ => ⟨S262144, .i32⟩
  | .hbm, ⟨45, _⟩ => ⟨S_, .i32⟩
  | .hbm, ⟨46, _⟩ => ⟨S262144, .i32⟩
  | .hbm, ⟨47, _⟩ => ⟨S262144, .i1⟩
  | .hbm, ⟨48, _⟩ => ⟨S_, .i32⟩
  | .hbm, ⟨49, _⟩ => ⟨S262144, .i32⟩
  | .hbm, ⟨50, _⟩ => ⟨S262144, .i32⟩
  | .hbm, ⟨51, _⟩ => ⟨S262144, .i32⟩
  | .hbm, ⟨52, _⟩ => ⟨S262144x1, .i32⟩
  | .hbm, ⟨53, _⟩ => ⟨S262144x3, .f32⟩
  | .hbm, ⟨54, _⟩ => ⟨S_, .i32⟩
  | .hbm, ⟨55, _⟩ => ⟨S_, .f32⟩
  | .hbm, ⟨56, _⟩ => ⟨S262144x128, .f32⟩
  | .hbm, ⟨57, _⟩ => ⟨S262144x1x128, .f32⟩
  | .hbm, ⟨58, _⟩ => ⟨S262144x1x128, .f32⟩
  | .hbm, ⟨59, _⟩ => ⟨S262144x2x128, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_3 : Ref sig .tc := ⟨.hbm, 26, rfl⟩
abbrev main_call0_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_6 : Ref sig .tc := ⟨.hbm, 45, rfl⟩
abbrev main_v33 : Ref sig .tc := ⟨.hbm, 46, rfl⟩
abbrev main_v34 : Ref sig .tc := ⟨.hbm, 47, rfl⟩
abbrev main_c_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_8 : Ref sig .tc := ⟨.hbm, 54, rfl⟩
abbrev main_call1_v0 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== Stats.lean ====
abbrev S8x32x1024x256 : Shape := ⟨4, ![8, 32, 1024, 256]⟩
abbrev S8192x256 : Shape := ⟨2, ![8192, 256]⟩
abbrev S8x32x16 : Shape := ⟨3, ![8, 32, 16]⟩
abbrev S8x1x32 : Shape := ⟨3, ![8, 1, 32]⟩
abbrev S1x32x256x256 : Shape := ⟨4, ![1, 32, 256, 256]⟩
abbrev S256x256 : Shape := ⟨2, ![256, 256]⟩
abbrev S1x32x16 : Shape := ⟨3, ![1, 32, 16]⟩
abbrev S1x1x32 : Shape := ⟨3, ![1, 1, 32]⟩
abbrev S32x256x256 : Shape := ⟨3, ![32, 256, 256]⟩
abbrev S32x256x16 : Shape := ⟨3, ![32, 256, 16]⟩
abbrev S256x16 : Shape := ⟨2, ![256, 16]⟩
abbrev S32x256x128 : Shape := ⟨3, ![32, 256, 128]⟩
abbrev S256x128 : Shape := ⟨2, ![256, 128]⟩
abbrev S1x256x16 : Shape := ⟨3, ![1, 256, 16]⟩
abbrev S32x16 : Shape := ⟨2, ![32, 16]⟩
abbrev S1x256x128 : Shape := ⟨3, ![1, 256, 128]⟩
abbrev S32x256 : Shape := ⟨2, ![32, 256]⟩
abbrev S32 : Shape := ⟨1, ![32]⟩

abbrev nBuf : Space → Nat
  | .hbm => 6
  | .vmem => 12
  | .smem => 0
  | _ => 0

abbrev bufTy : (tb : Table) → Fin (tcTables nBuf tb) → BufTy
  | .hbm, ⟨0, _⟩ => ⟨S8x32x1024x256, .f32⟩
  | .hbm, ⟨1, _⟩ => ⟨S8192x256, .f32⟩
  | .hbm, ⟨2, _⟩ => ⟨S8x32x16, .f32⟩
  | .hbm, ⟨3, _⟩ => ⟨S8x32x16, .f32⟩
  | .hbm, ⟨4, _⟩ => ⟨S8x1x32, .f32⟩
  | .hbm, ⟨5, _⟩ => ⟨S8x1x32, .f32⟩
  | .local _ .vmem, ⟨0, _⟩ => ⟨S1x32x256x256, .f32⟩
  | .local _ .vmem, ⟨1, _⟩ => ⟨S1x32x256x256, .f32⟩
  | .local _ .vmem, ⟨2, _⟩ => ⟨S256x256, .f32⟩
  | .local _ .vmem, ⟨3, _⟩ => ⟨S256x256, .f32⟩
  | .local _ .vmem, ⟨4, _⟩ => ⟨S1x32x16, .f32⟩
  | .local _ .vmem, ⟨5, _⟩ => ⟨S1x32x16, .f32⟩
  | .local _ .vmem, ⟨6, _⟩ => ⟨S1x32x16, .f32⟩
  | .local _ .vmem, ⟨7, _⟩ => ⟨S1x32x16, .f32⟩
  | .local _ .vmem, ⟨8, _⟩ => ⟨S1x1x32, .f32⟩
  | .local _ .vmem, ⟨9, _⟩ => ⟨S1x1x32, .f32⟩
  | .local _ .vmem, ⟨10, _⟩ => ⟨S1x1x32, .f32⟩
  | .local _ .vmem, ⟨11, _⟩ => ⟨S1x1x32, .f32⟩
  | _, _ => ⟨S8x32x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x32x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== StatsReferenceIdeal.lean ====
abbrev S8x32x1024x256 : Shape := ⟨4, ![8, 32, 1024, 256]⟩
abbrev S8192x256 : Shape := ⟨2, ![8192, 256]⟩
abbrev S8x1x1024x256 : Shape := ⟨4, ![8, 1, 1024, 256]⟩
abbrev S8x32x1024x16 : Shape := ⟨4, ![8, 32, 1024, 16]⟩
abbrev S8x1x1024x16 : Shape := ⟨4, ![8, 1, 1024, 16]⟩
abbrev S8x32x1024x128 : Shape := ⟨4, ![8, 32, 1024, 128]⟩
abbrev S8x1x1024x128 : Shape := ⟨4, ![8, 1, 1024, 128]⟩
abbrev S_ : Shape := ⟨0, ![]⟩
abbrev S8x32x16 : Shape := ⟨3, ![8, 32, 16]⟩
abbrev S8x32x1024 : Shape := ⟨3, ![8, 32, 1024]⟩
abbrev S8x32 : Shape := ⟨2, ![8, 32]⟩
abbrev S8x1x32 : Shape := ⟨3, ![8, 1, 32]⟩

abbrev nBuf : Space → Nat
  | .hbm => 27
  | .vmem => 0
  | .smem => 0
  | _ => 0

abbrev bufTy : (tb : Table) → Fin (tcTables nBuf tb) → BufTy
  | .hbm, ⟨0, _⟩ => ⟨S8x32x1024x256, .f32⟩
  | .hbm, ⟨1, _⟩ => ⟨S8192x256, .f32⟩
  | .hbm, ⟨2, _⟩ => ⟨S8x1x1024x256, .f32⟩
  | .hbm, ⟨3, _⟩ => ⟨S8x32x1024x16, .f32⟩
  | .hbm, ⟨4, _⟩ => ⟨S8x1x1024x16, .f32⟩
  | .hbm, ⟨5, _⟩ => ⟨S8x32x1024x16, .f32⟩
  | .hbm, ⟨6, _⟩ => ⟨S8x32x1024x16, .f32⟩
  | .hbm, ⟨7, _⟩ => ⟨S8x32x1024x128, .f32⟩
  | .hbm, ⟨8, _⟩ => ⟨S8x1x1024x128, .f32⟩
  | .hbm, ⟨9, _⟩ => ⟨S8x32x1024x128, .f32⟩
  | .hbm, ⟨10, _⟩ => ⟨S8x32x1024x128, .f32⟩
  | .hbm, ⟨11, _⟩ => ⟨S_, .f32⟩
  | .hbm, ⟨12, _⟩ => ⟨S8x32x16, .f32⟩
  | .hbm, ⟨13, _⟩ => ⟨S8x32x1024x16, .f32⟩
  | .hbm, ⟨14, _⟩ => ⟨S_, .f32⟩
  | .hbm, ⟨15, _⟩ => ⟨S8x32x16, .f32⟩
  | .hbm, ⟨16, _⟩ => ⟨S_, .f32⟩
  | .hbm, ⟨17, _⟩ => ⟨S8x32x1024, .f32⟩
  | .hbm, ⟨18, _⟩ => ⟨S_, .f32⟩
  | .hbm, ⟨19, _⟩ => ⟨S8x32, .f32⟩
  | .hbm, ⟨20, _⟩ => ⟨S8x1x32, .f32⟩
  | .hbm, ⟨21, _⟩ => ⟨S8x32x1024x128, .f32⟩
  | .hbm, ⟨22, _⟩ => ⟨S_, .f32⟩
  | .hbm, ⟨23, _⟩ => ⟨S8x32x1024, .f32⟩
  | .hbm, ⟨24, _⟩ => ⟨S_, .f32⟩
  | .hbm, ⟨25, _⟩ => ⟨S8x32, .f32⟩
  | .hbm, ⟨26, _⟩ => ⟨S8x1x32, .f32⟩
  | _, _ => ⟨S8x32x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Farthest.lean ====
abbrev S8x4096x3 : Shape := ⟨3, ![8, 4096, 3]⟩
abbrev S8x4096x1 : Shape := ⟨3, ![8, 4096, 1]⟩
abbrev S8x4096 : Shape := ⟨2, ![8, 4096]⟩
abbrev S8x1024 : Shape := ⟨2, ![8, 1024]⟩
abbrev S8x1 : Shape := ⟨2, ![8, 1]⟩
abbrev S8 : Shape := ⟨1, ![8]⟩

abbrev nBuf : Space → Nat
  | .hbm => 8
  | .vmem => 4
  | .smem => 0
  | _ => 0

abbrev bufTy : (tb : Table) → Fin (tcTables nBuf tb) → BufTy
  | .hbm, ⟨0, _⟩ => ⟨S8x4096x3, .f32⟩
  | .hbm, ⟨1, _⟩ => ⟨S8x4096x1, .f32⟩
  | .hbm, ⟨2, _⟩ => ⟨S8x4096, .f32⟩
  | .hbm, ⟨3, _⟩ => ⟨S8x4096x1, .f32⟩
  | .hbm, ⟨4, _⟩ => ⟨S8x4096, .f32⟩
  | .hbm, ⟨5, _⟩ => ⟨S8x4096x1, .f32⟩
  | .hbm, ⟨6, _⟩ => ⟨S8x4096, .f32⟩
  | .hbm, ⟨7, _⟩ => ⟨S8x1024, .i32⟩
  | .local _ .vmem, ⟨0, _⟩ => ⟨S8x4096, .f32⟩
  | .local _ .vmem, ⟨1, _⟩ => ⟨S8x4096, .f32⟩
  | .local _ .vmem, ⟨2, _⟩ => ⟨S8x4096, .f32⟩
  | .local _ .vmem, ⟨3, _⟩ => ⟨S8x1024, .i32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c1024_i32 : BitVec 32 := 1024#32
  let v23 : BitVec 32 := Scalar.addi c0_i32 c1024_i32
  let c1_i32 : BitVec 32 := 1#32
  ⟨c0_i32, v23, c1_i32⟩
abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== FarthestReferenceIdeal.lean ====
abbrev S8x4096x3 : Shape := ⟨3, ![8, 4096, 3]⟩
abbrev S32768x3 : Shape := ⟨2, ![32768, 3]⟩
abbrev S8 : Shape := ⟨1, ![8]⟩
abbrev S_ : Shape := ⟨0, ![]⟩
abbrev S8x4096 : Shape := ⟨2, ![8, 4096]⟩
abbrev S1024x8 : Shape := ⟨2, ![1024, 8]⟩
abbrev S8x1 : Shape := ⟨2, ![8, 1]⟩
abbrev S8x3 : Shape := ⟨2, ![8, 3]⟩
abbrev S8x1x3 : Shape := ⟨3, ![8, 1, 3]⟩
abbrev S4096 : Shape := ⟨1, ![4096]⟩
abbrev S1x8 : Shape := ⟨2, ![1, 8]⟩
abbrev S8x1024 : Shape := ⟨2, ![8, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S32768x3, .f32⟩
  | .hbm, ⟨2, _⟩ => ⟨S8, .i32⟩
  | .hbm, ⟨3, _⟩ => ⟨S_, .i32⟩
  | .hbm, ⟨4, _⟩ => ⟨S8, .i32⟩
  | .hbm, ⟨5, _⟩ => ⟨S8, .i32⟩
  | .hbm, ⟨6, _⟩ => ⟨S_, .f32⟩
  | .hbm, ⟨7, _⟩ => ⟨S8x4096, .f32⟩
  | .hbm, ⟨8, _⟩ => ⟨S_, .i32⟩
  | .hbm, ⟨9, _⟩ => ⟨S1024x8, .i32⟩
  | .hbm, ⟨10, _⟩ => ⟨S_, .i32⟩
  | .hbm, ⟨11, _⟩ => ⟨S32768x3, .f32⟩
  | .hbm, ⟨12, _⟩ => ⟨S8x4096x3, .f32⟩
  | .hbm, ⟨13, _⟩ => ⟨S8, .i32⟩
  | .hbm, ⟨14, _⟩ => ⟨S_, .i32⟩
  | .hbm, ⟨15, _⟩ => ⟨S8x4096, .f32⟩
  | .hbm, ⟨16, _⟩ => ⟨S8, .i32⟩
  | .hbm, ⟨17, _⟩ => ⟨S1024x8, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S8, .i32⟩
  | .hbm, ⟨22, _⟩ => ⟨S8, .i1⟩
  | .hbm, ⟨23, _⟩ => ⟨S_, .i32⟩
  | .hbm, ⟨24, _⟩ => ⟨S8, .i32⟩
  | .hbm, ⟨25, _⟩ => ⟨S8, .i32⟩
  | .hbm, ⟨26, _⟩ => ⟨S8, .i32⟩
  | .hbm, ⟨27, _⟩ => ⟨S8x1, .i32⟩
  | .hbm, ⟨28, _⟩ => ⟨S8x3, .f32⟩
  | .hbm, ⟨29, _⟩ => ⟨S8x1x3, .f32⟩
  | .hbm, ⟨30, _⟩ => ⟨S8x4096x3, .f32⟩
  | .hbm, ⟨31, _⟩ => ⟨S8x4096x3, .f32⟩
  | .hbm, ⟨32, _⟩ => ⟨S8x4096x3, .f32⟩
  | .hbm, ⟨33, _⟩ => ⟨S_, .f32⟩
  | .hbm, ⟨34, _⟩ => ⟨S8x4096, .f32⟩
  | .hbm, ⟨35, _⟩ => ⟨S8x4096, .f32⟩
  | .hbm, ⟨36, _⟩ => ⟨S_, .f32⟩
  | .hbm, ⟨37, _⟩ => ⟨S8, .f32⟩
  | .hbm, ⟨38, _⟩ => ⟨S8x1, .f32⟩
  | .hbm, ⟨39, _⟩ => ⟨S8x4096, .f32⟩
  | .hbm, ⟨40, _⟩ => ⟨S8x4096, .i1⟩
  | .hbm, ⟨41, _⟩ => ⟨S4096, .i32⟩
  | .hbm, ⟨42, _⟩ => ⟨S_, .i32⟩
  | .hbm, ⟨43, _⟩ => ⟨S_, .i32⟩
  | .hbm, ⟨44, _⟩ => ⟨S8x4096, .i32⟩
  | .hbm, ⟨45, _⟩ => ⟨S8x4096, .i32⟩
  | .hbm, ⟨46, _⟩ => ⟨S8x4096, .i32⟩
  | .hbm, ⟨47, _⟩ => ⟨S_, .i32⟩
  | .hbm, ⟨48, _⟩ => ⟨S8, .i32⟩
  | .hbm, ⟨49, _⟩ => ⟨S8, .i32⟩
  | .hbm, ⟨50, _⟩ => ⟨S1x8, .i32⟩
  | .hbm, ⟨51, _⟩ => ⟨S_, .i32⟩
  | .hbm, ⟨52, _⟩ => ⟨S1024x8, .i32⟩
  | .hbm, ⟨53, _⟩ => ⟨S_, .i32⟩
  | .hbm, ⟨54, _⟩ => ⟨S_, .i32⟩
  | .hbm, ⟨55, _⟩ => ⟨S8x1024, .i32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_c_1 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v6_4 : Ref sig .tc := ⟨.hbm, 15, rfl⟩
abbrev main_v6_5 : Ref sig .tc := ⟨.hbm, 16, rfl⟩
abbrev main_v6_6 : Ref sig .tc := ⟨.hbm, 17, rfl⟩
abbrev main_while0c_c_8 : Ref sig .tc := ⟨.hbm, 18, rfl⟩
abbrev main_while0c_v8 : Ref sig .tc := ⟨.hbm, 19, rfl⟩
abbrev main_while0b_c_8 : Ref sig .tc := ⟨.hbm, 20, rfl⟩
abbrev main_while0b_v8 : Ref sig .tc := ⟨.hbm, 21, rfl⟩
abbrev main_while0b_v9 : Ref sig .tc := ⟨.hbm, 22, rfl⟩
abbrev main_while0b_c_9 : Ref sig .tc := ⟨.hbm, 23, rfl⟩
abbrev main_while0b_v10 : Ref sig .tc := ⟨.hbm, 24, rfl⟩
abbrev main_while0b_v11 : Ref sig .tc := ⟨.hbm, 25, rfl⟩
abbrev main_while0b_v12 : Ref sig .tc := ⟨.hbm, 26, rfl⟩
abbrev main_while0b_v13 : Ref sig .tc := ⟨.hbm, 27, rfl⟩
abbrev main_while0b_v14 : Ref sig .tc := ⟨.hbm, 28, rfl⟩
abbrev main_while0b_v15 : Ref sig .tc := ⟨.hbm, 29, rfl⟩
abbrev main_while0b_v16 : Ref sig .tc := ⟨.hbm, 30, rfl⟩
abbrev main_while0b_v17 : Ref sig .tc := ⟨.hbm, 31, rfl⟩
abbrev main_while0b_v18 : Ref sig .tc := ⟨.hbm, 32, rfl⟩
abbrev main_while0b_cst_10 : Ref sig .tc := ⟨.hbm, 33, rfl⟩
abbrev main_while0b_v19 : Ref sig .tc := ⟨.hbm, 34, rfl⟩
abbrev main_while0b_v20 : Ref sig .tc := ⟨.hbm, 35, rfl⟩
abbrev main_while0b_cst_11 : Ref sig .tc := ⟨.hbm, 36, rfl⟩
abbrev main_while0b_v21 : Ref sig .tc := ⟨.hbm, 37, rfl⟩
abbrev main_while0b_v22 : Ref sig .tc := ⟨.hbm, 38, rfl⟩
abbrev main_while0b_v23 : Ref sig .tc := ⟨.hbm, 39, rfl⟩
abbrev main_while0b_v24 : Ref sig .tc := ⟨.hbm, 40, rfl⟩
abbrev main_while0b_v25 : Ref sig .tc := ⟨.hbm, 41, rfl⟩
abbrev main_while0b_c_12 : Ref sig .tc := ⟨.hbm, 42, rfl⟩
abbrev main_while0b_call0_v0 : Ref sig .tc := ⟨.hbm, 43, rfl⟩
abbrev main_while0b_call0_v1 : Ref sig .tc := ⟨.hbm, 44, rfl⟩
abbrev main_while0b_call0_v2 : Ref sig .tc := ⟨.hbm, 45, rfl⟩
abbrev main_while0b_v26 : Ref sig .tc := ⟨.hbm, 46, rfl⟩
abbrev main_while0b_c_13 : Ref sig .tc := ⟨.hbm, 47, rfl⟩
abbrev main_while0b_v27 : Ref sig .tc := ⟨.hbm, 48, rfl⟩
abbrev main_while0b_v28 : Ref sig .tc := ⟨.hbm, 49, rfl⟩
abbrev main_while0b_call1_v0 : Ref sig .tc := ⟨.hbm, 50, rfl⟩
abbrev main_while0b_call1_c : Ref sig .tc := ⟨.hbm, 51, rfl⟩
abbrev main_while0b_v29 : Ref sig .tc := ⟨.hbm, 52, rfl⟩
abbrev main_while0b_c_14 : Ref sig .tc := ⟨.hbm, 53, rfl⟩
abbrev main_while0b_v30 : Ref sig .tc := ⟨.hbm, 54, rfl⟩
abbrev main_v7 : Ref sig .tc := ⟨.hbm, 55, rfl⟩

abbrev nD : Nat := 1
abbrev τ : Topo := Topo.v7x

variable {F : FTy → Type} [FloatOps F]

abbrev main_while0_count : Scf.Loop 32 := ⟨0#32, 1024#32, 1#32⟩
-- ==== Nearest.lean ====
abbrev S8x4096x3 : Shape := ⟨3, ![8, 4096, 3]⟩
abbrev S8192x256 : Shape := ⟨2, ![8192, 256]⟩
abbrev S_ : Shape := ⟨0, ![]⟩
abbrev S8x4096x16 : Shape := ⟨3, ![8, 4096, 16]⟩
abbrev S8x16x4096 : Shape := ⟨3, ![8, 16, 4096]⟩
abbrev S8x32x1024 : Shape := ⟨3, ![8, 32, 1024]⟩
abbrev S256x256 : Shape := ⟨2, ![256, 256]⟩
abbrev S1x16x4096 : Shape := ⟨3, ![1, 16, 4096]⟩
abbrev S1x32x256 : Shape := ⟨3, ![1, 32, 256]⟩
abbrev S256x16 : Shape := ⟨2, ![256, 16]⟩
abbrev S16x4096 : Shape := ⟨2, ![16, 4096]⟩
abbrev S256x4096 : Shape := ⟨2, ![256, 4096]⟩
abbrev S256x1 : Shape := ⟨2, ![256, 1]⟩
abbrev S1x4096 : Shape := ⟨2, ![1, 4096]⟩
abbrev S256x32 : Shape := ⟨2, ![256, 32]⟩
abbrev S256 : Shape := ⟨1, ![256]⟩
abbrev S32x256 : Shape := ⟨2, ![32, 256]⟩

abbrev nBuf : Space → Nat
  | .hbm => 7
  | .vmem => 6
  | .smem => 0
  | _ => 0

abbrev bufTy : (tb : Table) → Fin (tcTables nBuf tb) → BufTy
  | .hbm, ⟨0, _⟩ => ⟨S8x4096x3, .f32⟩
  | .hbm, ⟨1, _⟩ => ⟨S8192x256, .f32⟩
  | .hbm, ⟨2, _⟩ => ⟨S_, .i32⟩
  | .hbm, ⟨3, _⟩ => ⟨S_, .f32⟩
  | .hbm, ⟨4, _⟩ => ⟨S8x4096x16, .f32⟩
  | .hbm, ⟨5, _⟩ => ⟨S8x16x4096, .f32⟩
  | .hbm, ⟨6, _⟩ => ⟨S8x32x1024, .i32⟩
  | .local _ .vmem, ⟨0, _⟩ => ⟨S256x256, .f32⟩
  | .local _ .vmem, ⟨1, _⟩ => ⟨S256x256, .f32⟩
  | .local _ .vmem, ⟨2, _⟩ => ⟨S1x16x4096, .f32⟩
  | .local _ .vmem, ⟨3, _⟩ => ⟨S1x16x4096, .f32⟩
  | .local _ .vmem, ⟨4, _⟩ => ⟨S1x32x256, .i32⟩
  | .local _ .vmem, ⟨5, _⟩ => ⟨S1x32x256, .i32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NearestReferenceIdeal.lean ====
abbrev S8x4096x3 : Shape := ⟨3, ![8, 4096, 3]⟩
abbrev S8192x256 : Shape := ⟨2, ![8192, 256]⟩
abbrev S8192x3 : Shape := ⟨2, ![8192, 3]⟩
abbrev S8x1024x3 : Shape := ⟨3, ![8, 1024, 3]⟩
abbrev S8x3x4096 : Shape := ⟨3, ![8, 3, 4096]⟩
abbrev S8x1024x4096 : Shape := ⟨3, ![8, 1024, 4096]⟩
abbrev S_ : Shape := ⟨0, ![]⟩
abbrev S8x1024 : Shape := ⟨2, ![8, 1024]⟩
abbrev S8x1024x1 : Shape := ⟨3, ![8, 1024, 1]⟩
abbrev S8x4096 : Shape := ⟨2, ![8, 4096]⟩
abbrev S8x1x4096 : Shape := ⟨3, ![8, 1, 4096]⟩
abbrev S8x1024x32 : Shape := ⟨3, ![8, 1024, 32]⟩
abbrev S8 : Shape := ⟨1, ![8]⟩
abbrev S8x1x1 : Shape := ⟨3, ![8, 1, 1]⟩
abbrev S8x32x1024 : Shape := ⟨3, ![8, 32, 1024]⟩

abbrev nBuf : Space → Nat
  | .hbm => 32
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8192x256, .f32⟩
  | .hbm, ⟨2, _⟩ => ⟨S8192x3, .f32⟩
  | .hbm, ⟨3, _⟩ => ⟨S8x1024x3, .f32⟩
  | .hbm, ⟨4, _⟩ => ⟨S8x3x4096, .f32⟩
  | .hbm, ⟨5, _⟩ => ⟨S8x1024x4096, .f32⟩
  | .hbm, ⟨6, _⟩ => ⟨S_, .f32⟩
  | .hbm, ⟨7, _⟩ => ⟨S8x1024x4096, .f32⟩
  | .hbm, ⟨8, _⟩ => ⟨S8x1024x4096, .f32⟩
  | .hbm, ⟨9, _⟩ => ⟨S8x1024x3, .f32⟩
  | .hbm, ⟨10, _⟩ => ⟨S_, .f32⟩
  | .hbm, ⟨11, _⟩ => ⟨S8x1024, .f32⟩
  | .hbm, ⟨12, _⟩ => ⟨S8x1024x1, .f32⟩
  | .hbm, ⟨13, _⟩ => ⟨S8x1024x4096, .f32⟩
  | .hbm, ⟨14, _⟩ => ⟨S8x1024x4096, .f32⟩
  | .hbm, ⟨15, _⟩ => ⟨S8x4096x3, .f32⟩
  | .hbm, ⟨16, _⟩ => ⟨S_, .f32⟩
  | .hbm, ⟨17, _⟩ => ⟨S8x4096, .f32⟩
  | .hbm, ⟨18, _⟩ => ⟨S8x1x4096, .f32⟩
  | .hbm, ⟨19, _⟩ => ⟨S8x1024x4096, .f32⟩
  | .hbm, ⟨20, _⟩ => ⟨S8x1024x4096, .f32⟩
  | .hbm, ⟨21, _⟩ => ⟨S8x1024x4096, .f32⟩
  | .hbm, ⟨22, _⟩ => ⟨S8x1024x32, .f32⟩
  | .hbm, ⟨23, _⟩ => ⟨S8x1024x32, .i32⟩
  | .hbm, ⟨24, _⟩ => ⟨S8, .i32⟩
  | .hbm, ⟨25, _⟩ => ⟨S8x1x1, .i32⟩
  | .hbm, ⟨26, _⟩ => ⟨S_, .i32⟩
  | .hbm, ⟨27, _⟩ => ⟨S8x1x1, .i32⟩
  | .hbm, ⟨28, _⟩ => ⟨S8x1x1, .i32⟩
  | .hbm, ⟨29, _⟩ => ⟨S8x1024x32, .i32⟩
  | .hbm, ⟨30, _⟩ => ⟨S8x1024x32, .i32⟩
  | .hbm, ⟨31, _⟩ => ⟨S8x32x1024, .i32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_values : Ref sig .tc := ⟨.hbm, 22, rfl⟩
abbrev main_indices : Ref sig .tc := ⟨.hbm, 23, rfl⟩
abbrev main_v17 : Ref sig .tc := ⟨.hbm, 24, rfl⟩
abbrev main_v18 : Ref sig .tc := ⟨.hbm, 25, rfl⟩
abbrev main_c : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Embed.lean ====
abbrev S8x32x1024x256 : Shape := ⟨4, ![8, 32, 1024, 256]⟩
abbrev S8192x256 : Shape := ⟨2, ![8192, 256]⟩
abbrev S8x32x16 : Shape := ⟨3, ![8, 32, 16]⟩
abbrev S8x1x32 : Shape := ⟨3, ![8, 1, 32]⟩
abbrev S1x256 : Shape := ⟨2, ![1, 256]⟩
abbrev S16x256 : Shape := ⟨2, ![16, 256]⟩
abbrev S8x1024x256 : Shape := ⟨3, ![8, 1024, 256]⟩
abbrev S1x32x256x256 : Shape := ⟨4, ![1, 32, 256, 256]⟩
abbrev S256x256 : Shape := ⟨2, ![256, 256]⟩
abbrev S1x256x256 : Shape := ⟨3, ![1, 256, 256]⟩
abbrev S32x16 : Shape := ⟨2, ![32, 16]⟩
abbrev S32 : Shape := ⟨1, ![32]⟩
abbrev S32x1 : Shape := ⟨2, ![32, 1]⟩
abbrev S1x32x1 : Shape := ⟨3, ![1, 32, 1]⟩
abbrev S8x16 : Shape := ⟨2, ![8, 16]⟩
abbrev S1x8x16 : Shape := ⟨3, ![1, 8, 16]⟩
abbrev S1 : Shape := ⟨1, ![1]⟩
abbrev S1x1x1 : Shape := ⟨3, ![1, 1, 1]⟩
abbrev S1x32 : Shape := ⟨2, ![1, 32]⟩
abbrev S256x128 : Shape := ⟨2, ![256, 128]⟩
abbrev S256x16 : Shape := ⟨2, ![256, 16]⟩
abbrev S1x1x256x256 : Shape := ⟨4, ![1, 1, 256, 256]⟩
abbrev S1x1 : Shape := ⟨2, ![1, 1]⟩
abbrev S1x256x128 : Shape := ⟨3, ![1, 256, 128]⟩

abbrev nBuf : Space → Nat
  | .hbm => 9
  | .vmem => 12
  | .smem => 0
  | _ => 0

abbrev bufTy : (tb : Table) → Fin (tcTables nBuf tb) → BufTy
  | .hbm, ⟨0, _⟩ => ⟨S8x32x1024x256, .f32⟩
  | .hbm, ⟨1, _⟩ => ⟨S8192x256, .f32⟩
  | .hbm, ⟨2, _⟩ => ⟨S8x32x16, .f32⟩
  | .hbm, ⟨3, _⟩ => ⟨S8x32x16, .f32⟩
  | .hbm, ⟨4, _⟩ => ⟨S8x1x32, .f32⟩
  | .hbm, ⟨5, _⟩ => ⟨S8x1x32, .f32⟩
  | .hbm, ⟨6, _⟩ => ⟨S1x256, .f32⟩
  | .hbm, ⟨7, _⟩ => ⟨S16x256, .f32⟩
  | .hbm, ⟨8, _⟩ => ⟨S8x1024x256, .f32⟩
  | .local _ .vmem, ⟨0, _⟩ => ⟨S1x32x256x256, .f32⟩
  | .local _ .vmem, ⟨1, _⟩ => ⟨S1x32x256x256, .f32⟩
  | .local _ .vmem, ⟨2, _⟩ => ⟨S256x256, .f32⟩
  | .local _ .vmem, ⟨3, _⟩ => ⟨S256x256, .f32⟩
  | .local _ .vmem, ⟨4, _⟩ => ⟨S8x32x16, .f32⟩
  | .local _ .vmem, ⟨5, _⟩ => ⟨S8x32x16, .f32⟩
  | .local _ .vmem, ⟨6, _⟩ => ⟨S8x1x32, .f32⟩
  | .local _ .vmem, ⟨7, _⟩ => ⟨S8x1x32, .f32⟩
  | .local _ .vmem, ⟨8, _⟩ => ⟨S1x256, .f32⟩
  | .local _ .vmem, ⟨9, _⟩ => ⟨S16x256, .f32⟩
  | .local _ .vmem, ⟨10, _⟩ => ⟨S1x256x256, .f32⟩
  | .local _ .vmem, ⟨11, _⟩ => ⟨S1x256x256, .f32⟩
  | _, _ => ⟨S8x32x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x32x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x32x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== EmbedReferenceIdeal.lean ====
abbrev S8x32x1024x256 : Shape := ⟨4, ![8, 32, 1024, 256]⟩
abbrev S8192x256 : Shape := ⟨2, ![8192, 256]⟩
abbrev S8x32x16 : Shape := ⟨3, ![8, 32, 16]⟩
abbrev S8x1x32 : Shape := ⟨3, ![8, 1, 32]⟩
abbrev S86 : Shape := ⟨1, ![86]⟩
abbrev S_ : Shape := ⟨0, ![]⟩
abbrev S32x16 : Shape := ⟨2, ![32, 16]⟩
abbrev S32 : Shape := ⟨1, ![32]⟩
abbrev S1x32 : Shape := ⟨2, ![1, 32]⟩
abbrev S8x1x1024x256 : Shape := ⟨4, ![8, 1, 1024, 256]⟩
abbrev S8x32x1024x3 : Shape := ⟨4, ![8, 32, 1024, 3]⟩
abbrev S8x1x1024x3 : Shape := ⟨4, ![8, 1, 1024, 3]⟩
abbrev S32x1x1 : Shape := ⟨3, ![32, 1, 1]⟩
abbrev S1x32x1x1 : Shape := ⟨4, ![1, 32, 1, 1]⟩
abbrev S8x32x1024x128 : Shape := ⟨4, ![8, 32, 1024, 128]⟩
abbrev S8x1x1024x128 : Shape := ⟨4, ![8, 1, 1024, 128]⟩
abbrev S32x1 : Shape := ⟨2, ![32, 1]⟩
abbrev S1x32x1 : Shape := ⟨3, ![1, 32, 1]⟩
abbrev S8x16 : Shape := ⟨2, ![8, 16]⟩
abbrev S8x32x1024x1 : Shape := ⟨4, ![8, 32, 1024, 1]⟩
abbrev S1x1x1x86 : Shape := ⟨4, ![1, 1, 1, 86]⟩
abbrev S8x32x1024x86 : Shape := ⟨4, ![8, 32, 1024, 86]⟩
abbrev S8x32x1024x258 : Shape := ⟨4, ![8, 32, 1024, 258]⟩
abbrev S8x32x1024x127 : Shape := ⟨4, ![8, 32, 1024, 127]⟩
abbrev S8x1024x256 : Shape := ⟨3, ![8, 1024, 256]⟩

abbrev nBuf : Space → Nat
  | .hbm => 170
  | .vmem => 0
  | .smem => 0
  | _ => 0

abbrev hbmTy0_0 (i : Nat) : BufTy := match i % 128 with
  | 0 => ⟨S8x32x1024x256, .f32⟩
  | 1 => ⟨S8192x256, .f32⟩
  | 2 => ⟨S8x32x16, .f32⟩
  | 3 => ⟨S8x32x16, .f32⟩
  | 4 => ⟨S8x1x32, .f32⟩
  | 5 => ⟨S8x1x32, .f32⟩
  | 6 => ⟨S86, .f32⟩
  | 7 => ⟨S_, .f32⟩
  | 8 => ⟨S32x16, .f32⟩
  | 9 => ⟨S_, .f32⟩
  | 10 => ⟨S32, .f32⟩
  | 11 => ⟨S_, .f32⟩
  | 12 => ⟨S32x16, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S32, .f32⟩
  | 20 => ⟨S_, .f32⟩
  | 21 => ⟨S32, .f32⟩
  | 22 => ⟨S32, .f32⟩
  | 23 => ⟨S_, .f32⟩
  | 24 => ⟨S32, .f32⟩
  | 25 => ⟨S32, .f32⟩
  | 26 => ⟨S32, .f32⟩
  | 27 => ⟨S_, .f32⟩
  | 28 => ⟨S32, .f32⟩
  | 29 => ⟨S32, .f32⟩
  | 30 => ⟨S_, .f32⟩
  | 31 => ⟨S1x32, .f32⟩
  | 32 => ⟨S32, .f32⟩
  | 33 => ⟨S_, .f32⟩
  | 34 => ⟨S1x32, .f32⟩
  | 35 => ⟨S32, .f32⟩
  | 36 => ⟨S32, .f32⟩
  | 37 => ⟨S_, .f32⟩
  | 38 => ⟨S32, .f32⟩
  | 39 => ⟨S32, .f32⟩
  | 40 => ⟨S32, .f32⟩
  | 41 => ⟨S_, .f32⟩
  | 42 => ⟨S32, .f32⟩
  | 43 => ⟨S32, .f32⟩
  | 44 => ⟨S_, .f32⟩
  | 45 => ⟨S32, .f32⟩
  | 46 => ⟨S32, .f32⟩
  | 47 => ⟨S32, .f32⟩
  | 48 => ⟨S_, .f32⟩
  | 49 => ⟨S32, .f32⟩
  | 50 => ⟨S32, .f32⟩
  | 51 => ⟨S8x1x1024x256, .f32⟩
  | 52 => ⟨S8x32x1024x3, .f32⟩
  | 53 => ⟨S8x1x1024x3, .f32⟩
  | 54 => ⟨S8x32x1024x3, .f32⟩
  | 55 => ⟨S8x32x1024x3, .f32⟩
  | 56 => ⟨S32x1x1, .f32⟩
  | 57 => ⟨S1x32x1x1, .f32⟩
  | 58 => ⟨S8x32x1024x3, .f32⟩
  | 59 => ⟨S8x32x1024x3, .f32⟩
  | 60 => ⟨S8x32x1024x128, .f32⟩
  | 61 => ⟨S8x1x1024x128, .f32⟩
  | 62 => ⟨S8x32x1024x128, .f32⟩
  | 63 => ⟨S8x32x1024x128, .f32⟩
  | 64 => ⟨S32x1x1, .f32⟩
  | 65 => ⟨S1x32x1x1, .f32⟩
  | 66 => ⟨S8x32x1024x128, .f32⟩
  | 67 => ⟨S8x32x1024x128, .f32⟩
  | 68 => ⟨S8x1x1024x128, .f32⟩
  | 69 => ⟨S8x32x1024x128, .f32⟩
  | 70 => ⟨S8x32x1024x256, .f32⟩
  | 71 => ⟨S32x1, .f32⟩
  | 72 => ⟨S1x32x1, .f32⟩
  | 73 => ⟨S8x32x16, .f32⟩
  | 74 => ⟨S8x32x16, .f32⟩
  | 75 => ⟨S_, .f32⟩
  | 76 => ⟨S8x16, .f32⟩
  | 77 => ⟨S32x1, .f32⟩
  | 78 => ⟨S32x1, .f32⟩
  | 79 => ⟨S1x32x1, .f32⟩
  | 80 => ⟨S8x32x16, .f32⟩
  | 81 => ⟨S8x32x16, .f32⟩
  | 82 => ⟨S_, .f32⟩
  | 83 => ⟨S8x16, .f32⟩
  | 84 => ⟨S8x16, .f32⟩
  | 85 => ⟨S_, .f32⟩
  | 86 => ⟨S8x16, .f32⟩
  | 87 => ⟨S8x16, .f32⟩
  | 88 => ⟨S8x16, .f32⟩
  | 89 => ⟨S_, .f32⟩
  | 90 => ⟨S8x16, .f32⟩
  | 91 => ⟨S8x16, .f32⟩
  | 92 => ⟨S_, .f32⟩
  | 93 => ⟨S8x16, .f32⟩
  | 94 => ⟨S8x16, .f32⟩
  | 95 => ⟨S8x16, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S8x32x1024x1, .f32⟩
  | 115 => ⟨S1x1x1x86, .f32⟩
  | 116 => ⟨S8x32x1024x86, .f32⟩
  | 117 => ⟨S8x32x1024x86, .f32⟩
  | 118 => ⟨S8x32x1024x86, .f32⟩
  | 119 => ⟨S8x32x1024x1, .f32⟩
  | 120 => ⟨S1x1x1x86, .f32⟩
  | 121 => ⟨S8x32x1024x86, .f32⟩
  | 122 => ⟨S8x32x1024x86, .f32⟩
  | 123 => ⟨S8x32x1024x86, .f32⟩
  | 124 => ⟨S8x32x1024x1, .f32⟩
  | 125 => ⟨S1x1x1x86, .f32⟩
  | 126 => ⟨S8x32x1024x86, .f32⟩
  | 127 => ⟨S8x32x1024x86, .f32⟩
  | _ => ⟨S8x32x1024x256, .f32⟩

abbrev hbmTy0_1 (i : Nat) : BufTy := match i % 128 with
  | 0 => ⟨S8x32x1024x86, .f32⟩
  | 1 => ⟨S8x32x1024x258, .f32⟩
  | 2 => ⟨S8x32x1024x128, .f32⟩
  | 3 => ⟨S8x32x1024x127, .f32⟩
  | 4 => ⟨S8x32x1024x1, .f32⟩
  | 5 => ⟨S8x32x1024x256, .f32⟩
  | 6 => ⟨S_, .f32⟩
  | 7 => ⟨S_, .f32⟩
  | 8 => ⟨S8x32x1024x256, .f32⟩
  | 9 => ⟨S8x32x1024x256, .f32⟩
  | 10 => ⟨S8x32x1024x256, .f32⟩
  | 11 => ⟨S_, .f32⟩
  | 12 => ⟨S8x32x1024x256, .f32⟩
  | 13 => ⟨S8x32x1024x256, .f32⟩
  | 14 => ⟨S8x32x1024x256, .f32⟩
  | 15 => ⟨S8x32x1024x256, .f32⟩
  | 16 => ⟨S8x32x1024x256, .f32⟩
  | 17 => ⟨S_, .f32⟩
  | 18 => ⟨S_, .f32⟩
  | 19 => ⟨S8x32x1024x256, .f32⟩
  | 20 => ⟨S8x32x1024x256, .f32⟩
  | 21 => ⟨S8x32x1024x256, .f32⟩
  | 22 => ⟨S8x32x1024x256, .f32⟩
  | 23 => ⟨S8x32x1024x256, .f32⟩
  | 24 => ⟨S8x32x1024x256, .f32⟩
  | 25 => ⟨S_, .f32⟩
  | 26 => ⟨S8x1024x256, .f32⟩
  | 27 => ⟨S_, .f32⟩
  | 28 => ⟨S8x1024x256, .f32⟩
  | 29 => ⟨S8x1024x256, .f32⟩
  | 30 => ⟨S_, .f32⟩
  | 31 => ⟨S8x1024x256, .f32⟩
  | 32 => ⟨S8x1024x256, .f32⟩
  | 33 => ⟨S_, .f32⟩
  | 34 => ⟨S8x1024x256, .f32⟩
  | 35 => ⟨S8x1024x256, .f32⟩
  | 36 => ⟨S8x1024x256, .f32⟩
  | 37 => ⟨S_, .f32⟩
  | 38 => ⟨S8x1024x256, .f32⟩
  | 39 => ⟨S8x1024x256, .f32⟩
  | 40 => ⟨S8x1024x256, .f32⟩
  | 41 => ⟨S8x1024x256, .f32⟩
  | _ => ⟨S8x32x1024x256, .f32⟩

abbrev hbmTy (i : Nat) : BufTy := match i / 128 with
  | 0 => hbmTy0_0 i
  | 1 => hbmTy0_1 i
  | _ => ⟨S8x32x1024x256, .f32⟩

abbrev bufTy : (tb : Table) → Fin (tcTables nBuf tb) → BufTy
  | .hbm, ⟨i, _⟩ => hbmTy i
  | _, _ => ⟨S8x32x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_v0 : Ref sig .tc := ⟨.hbm, 8, rfl⟩
abbrev main_cst_1 : Ref sig .tc := ⟨.hbm, 9, rfl⟩
abbrev main_v1 : Ref sig .tc := ⟨.hbm, 10, rfl⟩
abbrev main_cst_2 : Ref sig .tc := ⟨.hbm, 11, rfl⟩
abbrev main_v2 : Ref sig .tc := ⟨.hbm, 12, rfl⟩
abbrev main_cst_3 : Ref sig .tc := ⟨.hbm, 13, rfl⟩
abbrev main_v3 : Ref sig .tc := ⟨.hbm, 14, rfl⟩
abbrev main_v4 : Ref sig .tc := ⟨.hbm, 15, rfl⟩
abbrev main_cst_4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_5 : Ref sig .tc := ⟨.hbm, 20, rfl⟩
abbrev main_v8 : Ref sig .tc := ⟨.hbm, 21, rfl⟩
abbrev main_v9 : Ref sig .tc := ⟨.hbm, 22, rfl⟩
abbrev main_cst_6 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_7 : Ref sig .tc := ⟨.hbm, 27, rfl⟩
abbrev main_v13 : Ref sig .tc := ⟨.hbm, 28, rfl⟩
abbrev main_v14 : Ref sig .tc := ⟨.hbm, 29, rfl⟩
abbrev main_cst_8 : Ref sig .tc := ⟨.hbm, 30, rfl⟩
abbrev main_v15 : Ref sig .tc := ⟨.hbm, 31, rfl⟩
abbrev main_v16 : Ref sig .tc := ⟨.hbm, 32, rfl⟩
abbrev main_cst_9 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_10 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_11 : Ref sig .tc := ⟨.hbm, 41, rfl⟩
abbrev main_v23 : Ref sig .tc := ⟨.hbm, 42, rfl⟩
abbrev main_v24 : Ref sig .tc := ⟨.hbm, 43, rfl⟩
abbrev main_cst_12 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_13 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_14 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_15 : Ref sig .tc := ⟨.hbm, 82, rfl⟩
abbrev main_v60 : Ref sig .tc := ⟨.hbm, 83, rfl⟩
abbrev main_v61 : Ref sig .tc := ⟨.hbm, 84, rfl⟩
abbrev main_cst_16 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_17 : Ref sig .tc := ⟨.hbm, 89, rfl⟩
abbrev main_v65 : Ref sig .tc := ⟨.hbm, 90, rfl⟩
abbrev main_v66 : Ref sig .tc := ⟨.hbm, 91, rfl⟩
abbrev main_cst_18 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_19 : Ref sig .tc := ⟨.hbm, 96, rfl⟩
abbrev main_v70 : Ref sig .tc := ⟨.hbm, 97, rfl⟩
abbrev main_cst_20 : Ref sig .tc := ⟨.hbm, 98, rfl⟩
abbrev main_v71 : Ref sig .tc := ⟨.hbm, 99, rfl⟩
abbrev main_cst_21 : Ref sig .tc := ⟨.hbm, 100, rfl⟩
abbrev main_v72 : Ref sig .tc := ⟨.hbm, 101, rfl⟩
abbrev main_cst_22 : Ref sig .tc := ⟨.hbm, 102, rfl⟩
abbrev main_v73 : Ref sig .tc := ⟨.hbm, 103, rfl⟩
abbrev main_cst_23 : Ref sig .tc := ⟨.hbm, 104, rfl⟩
abbrev main_v74 : Ref sig .tc := ⟨.hbm, 105, rfl⟩
abbrev main_cst_24 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_25 : Ref sig .tc := ⟨.hbm, 110, rfl⟩
abbrev main_v78 : Ref sig .tc := ⟨.hbm, 111, rfl⟩
abbrev main_cst_26 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_cst_27 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_cst_28 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_cst_29 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_cst_30 : Ref sig .tc := ⟨.hbm, 153, rfl⟩
abbrev main_v116 : Ref sig .tc := ⟨.hbm, 154, rfl⟩
abbrev main_cst_31 : Ref sig .tc := ⟨.hbm, 155, rfl⟩
abbrev main_v117 : Ref sig .tc := ⟨.hbm, 156, rfl⟩
abbrev main_v118 : Ref sig .tc := ⟨.hbm, 157, rfl⟩
abbrev main_cst_32 : Ref sig .tc := ⟨.hbm, 158, rfl⟩
abbrev main_v119 : Ref sig .tc := ⟨.hbm, 159, rfl⟩
abbrev main_v120 : Ref sig .tc := ⟨.hbm, 160, rfl⟩
abbrev main_cst_33 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_cst_34 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩

abbrev nD : Nat := 1
abbrev τ : Topo := Topo.v7x

variable {F : FTy → Type} [FloatOps F]
-- ==== Whole.lean ====
abbrev S8x32x1024x256 : Shape := ⟨4, ![8, 32, 1024, 256]⟩
abbrev S8192x256 : Shape := ⟨2, ![8192, 256]⟩
abbrev S8x32x16 : Shape := ⟨3, ![8, 32, 16]⟩
abbrev S8x1x32 : Shape := ⟨3, ![8, 1, 32]⟩
abbrev S1x256 : Shape := ⟨2, ![1, 256]⟩
abbrev S16x256 : Shape := ⟨2, ![16, 256]⟩
abbrev S8x1024x256 : Shape := ⟨3, ![8, 1024, 256]⟩
abbrev S1x32x256x256 : Shape := ⟨4, ![1, 32, 256, 256]⟩
abbrev S256x256 : Shape := ⟨2, ![256, 256]⟩
abbrev S1x256x256 : Shape := ⟨3, ![1, 256, 256]⟩
abbrev S32x16 : Shape := ⟨2, ![32, 16]⟩
abbrev S32 : Shape := ⟨1, ![32]⟩
abbrev S32x1 : Shape := ⟨2, ![32, 1]⟩
abbrev S1x32x1 : Shape := ⟨3, ![1, 32, 1]⟩
abbrev S8x16 : Shape := ⟨2, ![8, 16]⟩
abbrev S1x8x16 : Shape := ⟨3, ![1, 8, 16]⟩
abbrev S1 : Shape := ⟨1, ![1]⟩
abbrev S1x1x1 : Shape := ⟨3, ![1, 1, 1]⟩
abbrev S1x32 : Shape := ⟨2, ![1, 32]⟩
abbrev S256x128 : Shape := ⟨2, ![256, 128]⟩
abbrev S256x16 : Shape := ⟨2, ![256, 16]⟩
abbrev S1x1x256x256 : Shape := ⟨4, ![1, 1, 256, 256]⟩
abbrev S1x1 : Shape := ⟨2, ![1, 1]⟩
abbrev S1x256x128 : Shape := ⟨3, ![1, 256, 128]⟩

abbrev nBuf : Space → Nat
  | .hbm => 9
  | .vmem => 12
  | .smem => 0
  | _ => 0

abbrev bufTy : (tb : Table) → Fin (tcTables nBuf tb) → BufTy
  | .hbm, ⟨0, _⟩ => ⟨S8x32x1024x256, .f32⟩
  | .hbm, ⟨1, _⟩ => ⟨S8192x256, .f32⟩
  | .hbm, ⟨2, _⟩ => ⟨S8x32x16, .f32⟩
  | .hbm, ⟨3, _⟩ => ⟨S8x32x16, .f32⟩
  | .hbm, ⟨4, _⟩ => ⟨S8x1x32, .f32⟩
  | .hbm, ⟨5, _⟩ => ⟨S8x1x32, .f32⟩
  | .hbm, ⟨6, _⟩ => ⟨S1x256, .f32⟩
  | .hbm, ⟨7, _⟩ => ⟨S16x256, .f32⟩
  | .hbm, ⟨8, _⟩ => ⟨S8x1024x256, .f32⟩
  | .local _ .vmem, ⟨0, _⟩ => ⟨S1x32x256x256, .f32⟩
  | .local _ .vmem, ⟨1, _⟩ => ⟨S1x32x256x256, .f32⟩
  | .local _ .vmem, ⟨2, _⟩ => ⟨S256x256, .f32⟩
  | .local _ .vmem, ⟨3, _⟩ => ⟨S256x256, .f32⟩
  | .local _ .vmem, ⟨4, _⟩ => ⟨S8x32x16, .f32⟩
  | .local _ .vmem, ⟨5, _⟩ => ⟨S8x32x16, .f32⟩
  | .local _ .vmem, ⟨6, _⟩ => ⟨S8x1x32, .f32⟩
  | .local _ .vmem, ⟨7, _⟩ => ⟨S8x1x32, .f32⟩
  | .local _ .vmem, ⟨8, _⟩ => ⟨S1x256, .f32⟩
  | .local _ .vmem, ⟨9, _⟩ => ⟨S16x256, .f32⟩
  | .local _ .vmem, ⟨10, _⟩ => ⟨S1x256x256, .f32⟩
  | .local _ .vmem, ⟨11, _⟩ => ⟨S1x256x256, .f32⟩
  | _, _ => ⟨S8x32x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [BitOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x32x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x32x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== WholeIdeal.lean ====
variable {F : FTy → Type} [FloatOps F]
-- ==== WholeReferenceIdeal.lean ====
abbrev S8x32x1024x256 : Shape := ⟨4, ![8, 32, 1024, 256]⟩
abbrev S8192x256 : Shape := ⟨2, ![8192, 256]⟩
abbrev S8x32x16 : Shape := ⟨3, ![8, 32, 16]⟩
abbrev S8x1x32 : Shape := ⟨3, ![8, 1, 32]⟩
abbrev S86 : Shape := ⟨1, ![86]⟩
abbrev S_ : Shape := ⟨0, ![]⟩
abbrev S32x16 : Shape := ⟨2, ![32, 16]⟩
abbrev S32 : Shape := ⟨1, ![32]⟩
abbrev S1x32 : Shape := ⟨2, ![1, 32]⟩
abbrev S8x1x1024x256 : Shape := ⟨4, ![8, 1, 1024, 256]⟩
abbrev S8x32x1024x3 : Shape := ⟨4, ![8, 32, 1024, 3]⟩
abbrev S8x1x1024x3 : Shape := ⟨4, ![8, 1, 1024, 3]⟩
abbrev S32x1x1 : Shape := ⟨3, ![32, 1, 1]⟩
abbrev S1x32x1x1 : Shape := ⟨4, ![1, 32, 1, 1]⟩
abbrev S8x32x1024x128 : Shape := ⟨4, ![8, 32, 1024, 128]⟩
abbrev S8x1x1024x128 : Shape := ⟨4, ![8, 1, 1024, 128]⟩
abbrev S32x1 : Shape := ⟨2, ![32, 1]⟩
abbrev S1x32x1 : Shape := ⟨3, ![1, 32, 1]⟩
abbrev S8x16 : Shape := ⟨2, ![8, 16]⟩
abbrev S8x32x1024x1 : Shape := ⟨4, ![8, 32, 1024, 1]⟩
abbrev S1x1x1x86 : Shape := ⟨4, ![1, 1, 1, 86]⟩
abbrev S8x32x1024x86 : Shape := ⟨4, ![8, 32, 1024, 86]⟩
abbrev S8x32x1024x258 : Shape := ⟨4, ![8, 32, 1024, 258]⟩
abbrev S8x32x1024x127 : Shape := ⟨4, ![8, 32, 1024, 127]⟩
abbrev S8x1024x256 : Shape := ⟨3, ![8, 1024, 256]⟩

abbrev nBuf : Space → Nat
  | .hbm => 217
  | .vmem => 0
  | .smem => 0
  | _ => 0

abbrev hbmTy0_0 (i : Nat) : BufTy := match i % 128 with
  | 0 => ⟨S8x32x1024x256, .f32⟩
  | 1 => ⟨S8192x256, .f32⟩
  | 2 => ⟨S8x32x16, .f32⟩
  | 3 => ⟨S8x32x16, .f32⟩
  | 4 => ⟨S8x1x32, .f32⟩
  | 5 => ⟨S8x1x32, .f32⟩
  | 6 => ⟨S86, .f32⟩
  | 7 => ⟨S_, .f32⟩
  | 8 => ⟨S32x16, .f32⟩
  | 9 => ⟨S_, .f32⟩
  | 10 => ⟨S32, .f32⟩
  | 11 => ⟨S_, .f32⟩
  | 12 => ⟨S32x16, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S32, .f32⟩
  | 20 => ⟨S_, .f32⟩
  | 21 => ⟨S32, .f32⟩
  | 22 => ⟨S32, .f32⟩
  | 23 => ⟨S_, .f32⟩
  | 24 => ⟨S32, .f32⟩
  | 25 => ⟨S32, .f32⟩
  | 26 => ⟨S32, .f32⟩
  | 27 => ⟨S_, .f32⟩
  | 28 => ⟨S32, .f32⟩
  | 29 => ⟨S32, .f32⟩
  | 30 => ⟨S_, .f32⟩
  | 31 => ⟨S1x32, .f32⟩
  | 32 => ⟨S32, .f32⟩
  | 33 => ⟨S_, .f32⟩
  | 34 => ⟨S1x32, .f32⟩
  | 35 => ⟨S32, .f32⟩
  | 36 => ⟨S32, .f32⟩
  | 37 => ⟨S_, .f32⟩
  | 38 => ⟨S32, .f32⟩
  | 39 => ⟨S32, .f32⟩
  | 40 => ⟨S32, .f32⟩
  | 41 => ⟨S_, .f32⟩
  | 42 => ⟨S32, .f32⟩
  | 43 => ⟨S32, .f32⟩
  | 44 => ⟨S_, .f32⟩
  | 45 => ⟨S32, .f32⟩
  | 46 => ⟨S32, .f32⟩
  | 47 => ⟨S32, .f32⟩
  | 48 => ⟨S_, .f32⟩
  | 49 => ⟨S32, .f32⟩
  | 50 => ⟨S32, .f32⟩
  | 51 => ⟨S8x1x1024x256, .f32⟩
  | 52 => ⟨S8x32x1024x3, .f32⟩
  | 53 => ⟨S8x1x1024x3, .f32⟩
  | 54 => ⟨S8x32x1024x3, .f32⟩
  | 55 => ⟨S8x32x1024x3, .f32⟩
  | 56 => ⟨S32x1x1, .f32⟩
  | 57 => ⟨S1x32x1x1, .f32⟩
  | 58 => ⟨S8x32x1024x3, .f32⟩
  | 59 => ⟨S8x32x1024x3, .f32⟩
  | 60 => ⟨S8x32x1024x128, .f32⟩
  | 61 => ⟨S8x1x1024x128, .f32⟩
  | 62 => ⟨S8x32x1024x128, .f32⟩
  | 63 => ⟨S8x32x1024x128, .f32⟩
  | 64 => ⟨S32x1x1, .f32⟩
  | 65 => ⟨S1x32x1x1, .f32⟩
  | 66 => ⟨S8x32x1024x128, .f32⟩
  | 67 => ⟨S8x32x1024x128, .f32⟩
  | 68 => ⟨S8x1x1024x128, .f32⟩
  | 69 => ⟨S8x32x1024x128, .f32⟩
  | 70 => ⟨S8x32x1024x256, .f32⟩
  | 71 => ⟨S32x1, .f32⟩
  | 72 => ⟨S1x32x1, .f32⟩
  | 73 => ⟨S8x32x16, .f32⟩
  | 74 => ⟨S8x32x16, .f32⟩
  | 75 => ⟨S_, .f32⟩
  | 76 => ⟨S8x16, .f32⟩
  | 77 => ⟨S32x1, .f32⟩
  | 78 => ⟨S32x1, .f32⟩
  | 79 => ⟨S1x32x1, .f32⟩
  | 80 => ⟨S8x32x16, .f32⟩
  | 81 => ⟨S8x32x16, .f32⟩
  | 82 => ⟨S_, .f32⟩
  | 83 => ⟨S8x16, .f32⟩
  | 84 => ⟨S8x16, .f32⟩
  | 85 => ⟨S_, .f32⟩
  | 86 => ⟨S8x16, .f32⟩
  | 87 => ⟨S8x16, .f32⟩
  | 88 => ⟨S8x16, .f32⟩
  | 89 => ⟨S_, .f32⟩
  | 90 => ⟨S8x16, .f32⟩
  | 91 => ⟨S8x16, .f32⟩
  | 92 => ⟨S_, .f32⟩
  | 93 => ⟨S8x16, .f32⟩
  | 94 => ⟨S8x16, .f32⟩
  | 95 => ⟨S8x16, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S8x32x1024x1, .f32⟩
  | 115 => ⟨S1x1x1x86, .f32⟩
  | 116 => ⟨S8x32x1024x86, .f32⟩
  | 117 => ⟨S8x32x1024x86, .f32⟩
  | 118 => ⟨S8x32x1024x86, .f32⟩
  | 119 => ⟨S8x32x1024x1, .f32⟩
  | 120 => ⟨S1x1x1x86, .f32⟩
  | 121 => ⟨S8x32x1024x86, .f32⟩
  | 122 => ⟨S8x32x1024x86, .f32⟩
  | 123 => ⟨S8x32x1024x86, .f32⟩
  | 124 => ⟨S8x32x1024x1, .f32⟩
  | 125 => ⟨S1x1x1x86, .f32⟩
  | 126 => ⟨S8x32x1024x86, .f32⟩
  | 127 => ⟨S8x32x1024x86, .f32⟩
  | _ => ⟨S8x32x1024x256, .f32⟩

abbrev hbmTy0_1 (i : Nat) : BufTy := match i % 128 with
  | 0 => ⟨S8x32x1024x86, .f32⟩
  | 1 => ⟨S8x32x1024x258, .f32⟩
  | 2 => ⟨S8x32x1024x128, .f32⟩
  | 3 => ⟨S8x32x1024x127, .f32⟩
  | 4 => ⟨S8x32x1024x1, .f32⟩
  | 5 => ⟨S8x32x1024x256, .f32⟩
  | 6 => ⟨S_, .f32⟩
  | 7 => ⟨S_, .f32⟩
  | 8 => ⟨S8x32x1024x256, .f32⟩
  | 9 => ⟨S8x32x1024x256, .f32⟩
  | 10 => ⟨S8x32x1024x256, .f32⟩
  | 11 => ⟨S_, .f32⟩
  | 12 => ⟨S8x32x1024x256, .f32⟩
  | 13 => ⟨S8x32x1024x256, .f32⟩
  | 14 => ⟨S8x32x1024x256, .f32⟩
  | 15 => ⟨S8x32x1024x256, .f32⟩
  | 16 => ⟨S8x32x1024x256, .f32⟩
  | 17 => ⟨S_, .f32⟩
  | 18 => ⟨S_, .f32⟩
  | 19 => ⟨S8x32x1024x256, .f32⟩
  | 20 => ⟨S8x32x1024x256, .f32⟩
  | 21 => ⟨S8x32x1024x256, .f32⟩
  | 22 => ⟨S8x32x1024x256, .f32⟩
  | 23 => ⟨S8x32x1024x256, .f32⟩
  | 24 => ⟨S8x32x1024x256, .f32⟩
  | 25 => ⟨S_, .f32⟩
  | 26 => ⟨S8x1024x256, .f32⟩
  | 27 => ⟨S_, .f32⟩
  | 28 => ⟨S8x1024x256, .f32⟩
  | 29 => ⟨S8x1024x256, .f32⟩
  | 30 => ⟨S_, .f32⟩
  | 31 => ⟨S8x1024x256, .f32⟩
  | 32 => ⟨S8x1024x256, .f32⟩
  | 33 => ⟨S_, .f32⟩
  | 34 => ⟨S8x1024x256, .f32⟩
  | 35 => ⟨S8x1024x256, .f32⟩
  | 36 => ⟨S8x1024x256, .f32⟩
  | 37 => ⟨S_, .f32⟩
  | 38 => ⟨S8x1024x256, .f32⟩
  | 39 => ⟨S8x1024x256, .f32⟩
  | 40 => ⟨S_, .f32⟩
  | 41 => ⟨S8x1024x256, .f32⟩
  | 42 => ⟨S8x1024x256, .f32⟩
  | 43 => ⟨S_, .f32⟩
  | 44 => ⟨S8x1024x256, .f32⟩
  | 45 => ⟨S8x1024x256, .f32⟩
  | 46 => ⟨S_, .f32⟩
  | 47 => ⟨S8x1024x256, .f32⟩
  | 48 => ⟨S8x1024x256, .f32⟩
  | 49 => ⟨S8x1024x256, .f32⟩
  | 50 => ⟨S_, .f32⟩
  | 51 => ⟨S8x1024x256, .f32⟩
  | 52 => ⟨S8x1024x256, .f32⟩
  | 53 => ⟨S8x1024x256, .f32⟩
  | 54 => ⟨S8x1024x256, .f32⟩
  | 55 => ⟨S8x1024x256, .f32⟩
  | 56 => ⟨S_, .f32⟩
  | 57 => ⟨S8x1024x256, .f32⟩
  | 58 => ⟨S8x1024x256, .f32⟩
  | 59 => ⟨S8x1024x256, .f32⟩
  | 60 => ⟨S8x1024x256, .f32⟩
  | 61 => ⟨S8x1024x256, .f32⟩
  | 62 => ⟨S_, .f32⟩
  | 63 => ⟨S8x1024x256, .f32⟩
  | 64 => ⟨S8x1024x256, .f32⟩
  | 65 => ⟨S8x1024x256, .f32⟩
  | 66 => ⟨S8x1024x256, .f32⟩
  | 67 => ⟨S8x1024x256, .f32⟩
  | 68 => ⟨S8x1024x256, .f32⟩
  | 69 => ⟨S_, .f32⟩
  | 70 => ⟨S8x1024x256, .f32⟩
  | 71 => ⟨S8x1024x256, .f32⟩
  | 72 => ⟨S8x1024x256, .f32⟩
  | 73 => ⟨S_, .f32⟩
  | 74 => ⟨S8x1024x256, .f32⟩
  | 75 => ⟨S8x1024x256, .f32⟩
  | 76 => ⟨S8x1024x256, .f32⟩
  | 77 => ⟨S8x1024x256, .f32⟩
  | 78 => ⟨S8x1024x256, .f32⟩
  | 79 => ⟨S8x1024x256, .f32⟩
  | 80 => ⟨S8x1024x256, .f32⟩
  | 81 => ⟨S_, .f32⟩
  | 82 => ⟨S8x1024x256, .f32⟩
  | 83 => ⟨S8x1024x256, .f32⟩
  | 84 => ⟨S8x1024x256, .f32⟩
  | 85 => ⟨S_, .f32⟩
  | 86 => ⟨S8x1024x256, .f32⟩
  | 87 => ⟨S8x1024x256, .f32⟩
  | 88 => ⟨S8x1024x256, .f32⟩
  | _ => ⟨S8x32x1024x256, .f32⟩

abbrev hbmTy (i : Nat) : BufTy := match i / 128 with
  | 0 => hbmTy0_0 i
  | 1 => hbmTy0_1 i
  | _ => ⟨S8x32x1024x256, .f32⟩

abbrev bufTy : (tb : Table) → Fin (tcTables nBuf tb) → BufTy
  | .hbm, ⟨i, _⟩ => hbmTy i
  | _, _ => ⟨S8x32x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_v0 : Ref sig .tc := ⟨.hbm, 8, rfl⟩
abbrev main_cst_1 : Ref sig .tc := ⟨.hbm, 9, rfl⟩
abbrev main_v1 : Ref sig .tc := ⟨.hbm, 10, rfl⟩
abbrev main_cst_2 : Ref sig .tc := ⟨.hbm, 11, rfl⟩
abbrev main_v2 : Ref sig .tc := ⟨.hbm, 12, rfl⟩
abbrev main_cst_3 : Ref sig .tc := ⟨.hbm, 13, rfl⟩
abbrev main_v3 : Ref sig .tc := ⟨.hbm, 14, rfl⟩
abbrev main_v4 : Ref sig .tc := ⟨.hbm, 15, rfl⟩
abbrev main_cst_4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_5 : Ref sig .tc := ⟨.hbm, 20, rfl⟩
abbrev main_v8 : Ref sig .tc := ⟨.hbm, 21, rfl⟩
abbrev main_v9 : Ref sig .tc := ⟨.hbm, 22, rfl⟩
abbrev main_cst_6 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_7 : Ref sig .tc := ⟨.hbm, 27, rfl⟩
abbrev main_v13 : Ref sig .tc := ⟨.hbm, 28, rfl⟩
abbrev main_v14 : Ref sig .tc := ⟨.hbm, 29, rfl⟩
abbrev main_cst_8 : Ref sig .tc := ⟨.hbm, 30, rfl⟩
abbrev main_v15 : Ref sig .tc := ⟨.hbm, 31, rfl⟩
abbrev main_v16 : Ref sig .tc := ⟨.hbm, 32, rfl⟩
abbrev main_cst_9 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_10 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_11 : Ref sig .tc := ⟨.hbm, 41, rfl⟩
abbrev main_v23 : Ref sig .tc := ⟨.hbm, 42, rfl⟩
abbrev main_v24 : Ref sig .tc := ⟨.hbm, 43, rfl⟩
abbrev main_cst_12 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_13 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_14 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_15 : Ref sig .tc := ⟨.hbm, 82, rfl⟩
abbrev main_v60 : Ref sig .tc := ⟨.hbm, 83, rfl⟩
abbrev main_v61 : Ref sig .tc := ⟨.hbm, 84, rfl⟩
abbrev main_cst_16 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_17 : Ref sig .tc := ⟨.hbm, 89, rfl⟩
abbrev main_v65 : Ref sig .tc := ⟨.hbm, 90, rfl⟩
abbrev main_v66 : Ref sig .tc := ⟨.hbm, 91, rfl⟩
abbrev main_cst_18 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_19 : Ref sig .tc := ⟨.hbm, 96, rfl⟩
abbrev main_v70 : Ref sig .tc := ⟨.hbm, 97, rfl⟩
abbrev main_cst_20 : Ref sig .tc := ⟨.hbm, 98, rfl⟩
abbrev main_v71 : Ref sig .tc := ⟨.hbm, 99, rfl⟩
abbrev main_cst_21 : Ref sig .tc := ⟨.hbm, 100, rfl⟩
abbrev main_v72 : Ref sig .tc := ⟨.hbm, 101, rfl⟩
abbrev main_cst_22 : Ref sig .tc := ⟨.hbm, 102, rfl⟩
abbrev main_v73 : Ref sig .tc := ⟨.hbm, 103, rfl⟩
abbrev main_cst_23 : Ref sig .tc := ⟨.hbm, 104, rfl⟩
abbrev main_v74 : Ref sig .tc := ⟨.hbm, 105, rfl⟩
abbrev main_cst_24 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_25 : Ref sig .tc := ⟨.hbm, 110, rfl⟩
abbrev main_v78 : Ref sig .tc := ⟨.hbm, 111, rfl⟩
abbrev main_cst_26 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_cst_27 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_cst_28 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_cst_29 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_cst_30 : Ref sig .tc := ⟨.hbm, 153, rfl⟩
abbrev main_v116 : Ref sig .tc := ⟨.hbm, 154, rfl⟩
abbrev main_cst_31 : Ref sig .tc := ⟨.hbm, 155, rfl⟩
abbrev main_v117 : Ref sig .tc := ⟨.hbm, 156, rfl⟩
abbrev main_v118 : Ref sig .tc := ⟨.hbm, 157, rfl⟩
abbrev main_cst_32 : Ref sig .tc := ⟨.hbm, 158, rfl⟩
abbrev main_v119 : Ref sig .tc := ⟨.hbm, 159, rfl⟩
abbrev main_v120 : Ref sig .tc := ⟨.hbm, 160, rfl⟩
abbrev main_cst_33 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_cst_34 : Ref sig .tc := ⟨.hbm, 165, rfl⟩
abbrev main_v124 : Ref sig .tc := ⟨.hbm, 166, rfl⟩
abbrev main_v125 : Ref sig .tc := ⟨.hbm, 167, rfl⟩
abbrev main_cst_35 : Ref sig .tc := ⟨.hbm, 168, rfl⟩
abbrev main_v126 : Ref sig .tc := ⟨.hbm, 169, rfl⟩
abbrev main_v127 : Ref sig .tc := ⟨.hbm, 170, rfl⟩
abbrev main_cst_36 : Ref sig .tc := ⟨.hbm, 171, rfl⟩
abbrev main_v128 : Ref sig .tc := ⟨.hbm, 172, rfl⟩
abbrev main_v129 : Ref sig .tc := ⟨.hbm, 173, rfl⟩
abbrev main_cst_37 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_cst_38 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_cst_39 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_cst_40 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_cst_41 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_cst_42 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_cst_43 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_cst_44 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩

abbrev nD : Nat := 1
abbrev τ : Topo := Topo.v7x

variable {F : FTy → Type} [FloatOps F]
-- ==== Proof.Pair.lean ====
/-
  One step of a gather task: two blocks of 128 rows each, fetched through the task's two pairs of buffers.

  Both SparseCore calls of the kernel run the same twelve transfers and waits on every step: fetch 128 row numbers,
  start the gather of those table rows, fetch the next 128 and start their gather, wait for the first rows and start
  writing them out, the same for the second, then wait for both write-backs. Call 0 does it once per tile, call 1
  thirty-two times in a loop. This file states those twelve operations once, over any memory references (`pairStep`),
  and proves what they do (`pair_wp`): both output blocks end up holding the named rows of the table.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 2) (Elt F) ℕ UU ℕ

abbrev EH : Emb UH (MT nD τ sig (HIx 2) (Elt F) ℕ UU ℕ) := embL

/-! ## The twelve operations -/

section
variable [FloatOps F] {c : Fin τ.nSC} {s : Fin τ.nSub}

/-- The twelve operations of one step, over the table `tb`, the two blocks of row numbers `i0` and `i1`, the two output
    blocks `o0` and `o1`, the tile's buffers and its semaphores. -/
def pairStep (tb : Memref sig .scVector .hbm S32768x2x128 .f32) (i0 i1 : Memref sig .scVector .hbm S128 .i32)
    (o0 o1 : Memref sig .scVector .hbm S128x2x128 .f32)
    (b0 : Memref sig .scVector .vmem S128 .i32) (hb0 : b0.IsWhole) (b1 : Memref sig .scVector .vmem S128 .i32) (hb1 : b1.IsWhole)
    (r0 : Memref sig .scVector .vmem S128x2x128 .f32) (hr0 : r0.IsWhole) (r1 : Memref sig .scVector .vmem S128x2x128 .f32) (hr1 : r1.IsWhole)
    (g0 g1 w0 w1 f0 f1 : DmaSem sig) : Prog (TpuEff nD τ sig (Elt F) Λ₀ (.scVector c s)) PUnit :=
  .op (.enqueueDma i0 (.here b0) (.dma f0) (View.wordExact_bits rfl) hb0.wordExact ⟨Or.inl rfl, trivial⟩) fun _ =>
  .op (.waitDma2 f0 i0 b0 (View.wordExact_bits rfl) hb0.wordExact) fun _ =>
  SparseCore.enqueueIndirectGather rfl tb r0 gathers_S32768x2x128_S128x2x128 b0 rfl g0 (View.wordExact_bits rfl) rfl (Or.inl rfl) >>= fun _ =>
  .op (.enqueueDma i1 (.here b1) (.dma f1) (View.wordExact_bits rfl) hb1.wordExact ⟨Or.inl rfl, trivial⟩) fun _ =>
  .op (.waitDma2 f1 i1 b1 (View.wordExact_bits rfl) hb1.wordExact) fun _ =>
  SparseCore.enqueueIndirectGather rfl tb r1 gathers_S32768x2x128_S128x2x128 b1 rfl g1 (View.wordExact_bits rfl) rfl (Or.inl rfl) >>= fun _ =>
  .op (.waitDma2 g0 tb r0 (View.wordExact_bits rfl) hr0.wordExact) fun _ =>
  .op (.enqueueDma r0 (.here o0) (.dma w0) hr0.wordExact (View.wordExact_bits rfl) ⟨Or.inl rfl, trivial⟩) fun _ =>
  .op (.waitDma2 g1 tb r1 (View.wordExact_bits rfl) hr1.wordExact) fun _ =>
  .op (.enqueueDma r1 (.here o1) (.dma w1) hr1.wordExact (View.wordExact_bits rfl) ⟨Or.inl rfl, trivial⟩) fun _ =>
  .op (.waitDma2 w0 r0 o0 hr0.wordExact (View.wordExact_bits rfl)) fun _ =>
  .op (.waitDma2 w1 r1 o1 hr1.wordExact (View.wordExact_bits rfl)) fun _ =>
  .ret ⟨⟩

/-- The rows of the table `t` that the 128 numbers `w` name. -/
def named (t : S32768x2x128.Idx → Elt F .f32) (w : S128.Idx → Elt F .i32) (h : ∀ x, (w x).toNat < 32768) : S128x2x128.Idx → Elt F .f32 :=
  SparseCore.gatherPayload gathers_S32768x2x128_S128x2x128 t (SparseCore.rows w rfl h)

omit [FloatOps F] in
theorem named_congr {t : S32768x2x128.Idx → Elt F .f32} {w w' : S128.Idx → Elt F .i32} (e : w = w') (h : ∀ x, (w x).toNat < 32768)
    (h' : ∀ x, (w' x).toNat < 32768) : named t w h = named t w' h' := by
  subst e; rfl

omit [FloatOps F] in
/-- Writing through a view what the view reads of `G` leaves `G`, on the view's elements. -/
theorem write_read_eq {sp : Space} {sh : Shape} {e : EltTy} (v : View sig .scVector sp sh e) (f G : v.ty.Contents (Elt F)) :
    ∀ i ∈ v.set, v.write (Elt F) f (v.read (Elt F) G) Finset.univ i = G i := by
  intro i hi
  obtain ⟨x, -, rfl⟩ := Finset.mem_map.1 hi
  change v.write (Elt F) f _ Finset.univ (v.emb x) = _
  rw [View.write_emb_of_mem _ _ (Finset.mem_univ x), View.read_apply, cast_cast, cast_eq]

omit [FloatOps F] in
/-- The 128 rows of a gather credit together what the whole row buffer is waited for with. -/
theorem rowCredits (r : Memref sig .scVector .vmem S128x2x128 .f32) :
    ∑ j, (r.slice (S128x2x128.rowRect (gathers_S32768x2x128_S128x2x128).axis' j) (S128x2x128.stride_rowRect _ j)).view.dmaCredit = r.view.dmaCredit :=
  SparseCore.sum_rowCredit_eq_dmaCredit r _ fun _ => rfl

/-- What the tile owes, every wait recorded since `W₀` being one of its own transfers'. -/
def owed (d : Dev nD) (c : Fin τ.nSC) (s : Fin τ.nSub) (O : CellTallies nD τ sig (HIx 2)) (W₀ : Waits sig (HIx 2)) : sProp 𝕄 :=
  iprop(∃ W', ⌜∀ p ∈ W', p ∈ W₀ ∨ p.2 = none⌝ ∗ owes (V d c s) O W')

/-- The buffers of one step, at any contents, and its six semaphores, each at zero. -/
def scratch (d : Dev nD) (c : Fin τ.nSC) (s : Fin τ.nSub) (b0 b1 : Memref sig .scVector .vmem S128 .i32) (r0 r1 : Memref sig .scVector .vmem S128x2x128 .f32)
    (g0 g1 w0 w1 f0 f1 : DmaSem sig) : sProp 𝕄 :=
  iprop((∃ f, b0.view.loc (V d c s) ↦[b0.view.set]{fullShare} f) ∗ (∃ f, b1.view.loc (V d c s) ↦[b1.view.set]{fullShare} f)
    ∗ (∃ f, r0.view.loc (V d c s) ↦[r0.view.set]{fullShare} f) ∗ (∃ f, r1.view.loc (V d c s) ↦[r1.view.set]{fullShare} f)
    ∗ semVal (V d c s, SemLoc.dma g0) 0 ∗ semVal (V d c s, SemLoc.dma g1) 0 ∗ semVal (V d c s, SemLoc.dma w0) 0
    ∗ semVal (V d c s, SemLoc.dma w1) 0 ∗ semVal (V d c s, SemLoc.dma f0) 0 ∗ semVal (V d c s, SemLoc.dma f1) 0)

/-- One step on the tile: from the table and the two blocks of row numbers at any shares, the two output blocks and the
    tile's buffers, the twelve operations leave in each output block the table's rows that its block of numbers names. -/
theorem pair_wp (d : Dev nD) {O : CellTallies nD τ sig (HIx 2)} {W₀ : Waits sig (HIx 2)}
    (tb : Memref sig .scVector .hbm S32768x2x128 .f32) (i0 i1 : Memref sig .scVector .hbm S128 .i32)
    (o0 o1 : Memref sig .scVector .hbm S128x2x128 .f32)
    (b0 : Memref sig .scVector .vmem S128 .i32) (hb0 : b0.IsWhole) (b1 : Memref sig .scVector .vmem S128 .i32) (hb1 : b1.IsWhole)
    (r0 : Memref sig .scVector .vmem S128x2x128 .f32) (hr0 : r0.IsWhole) (r1 : Memref sig .scVector .vmem S128x2x128 .f32) (hr1 : r1.IsWhole)
    (g0 g1 w0 w1 f0 f1 : DmaSem sig) {q0 q1 p0 p1 : PosShare TreeShare}
    {ft : Buf (Elt F) (tb.view.loc (V d c s))} {n0 : Buf (Elt F) (i0.view.loc (V d c s))} {n1 : Buf (Elt F) (i1.view.loc (V d c s))}
    {a0 G0 : Buf (Elt F) (o0.view.loc (V d c s))} {a1 G1 : Buf (Elt F) (o1.view.loc (V d c s))}
    (h0 : ∀ x, (i0.view.read (Elt F) n0 x).toNat < 32768) (h1 : ∀ x, (i1.view.read (Elt F) n1 x).toNat < 32768)
    (hG0 : o0.view.read (Elt F) G0 = named (tb.view.read (Elt F) ft) (i0.view.read (Elt F) n0) h0)
    (hG1 : o1.view.read (Elt F) G1 = named (tb.view.read (Elt F) ft) (i1.view.read (Elt F) n1) h1) :
    iprop(Transfers.MayWaits (V d c s) (default : HIx 2) O
        ∗ (tb.view.loc (V d c s) ↦[tb.view.set]{q0} ft) ∗ (tb.view.loc (V d c s) ↦[tb.view.set]{q1} ft)
        ∗ (i0.view.loc (V d c s) ↦[i0.view.set]{p0} n0) ∗ (i1.view.loc (V d c s) ↦[i1.view.set]{p1} n1)
        ∗ (o0.view.loc (V d c s) ↦[o0.view.set]{fullShare} a0) ∗ (o1.view.loc (V d c s) ↦[o1.view.set]{fullShare} a1)
        ∗ scratch d c s b0 b1 r0 r1 g0 g1 w0 w1 f0 f1 ∗ owed d c s O W₀)
      ⊢ wp (M := 𝕄) frame (wpE (defs₀ (F := F)) 𝒱₀ (V d c s) none) Set.univ
          (pairStep tb i0 i1 o0 o1 b0 hb0 b1 hb1 r0 hr0 r1 hr1 g0 g1 w0 w1 f0 f1)
        fun _ => iprop((tb.view.loc (V d c s) ↦[tb.view.set]{q0} ft) ∗ (tb.view.loc (V d c s) ↦[tb.view.set]{q1} ft)
          ∗ (i0.view.loc (V d c s) ↦[i0.view.set]{p0} n0) ∗ (i1.view.loc (V d c s) ↦[i1.view.set]{p1} n1)
          ∗ (o0.view.loc (V d c s) ↦[o0.view.set]{fullShare} G0) ∗ (o1.view.loc (V d c s) ↦[o1.view.set]{fullShare} G1)
          ∗ scratch d c s b0 b1 r0 r1 g0 g1 w0 w1 f0 f1 ∗ owed d c s O W₀) := by
  unfold pairStep scratch owed
  iintro ⟨#Hmw, Ht0, Ht1, Hi0, Hi1, Ho0, Ho1, ⟨⟨%x0, Hb0⟩, ⟨%x1, Hb1⟩, ⟨%y0, Hr0⟩, ⟨%y1, Hr1⟩, Hg0, Hg1, Hw0, Hw1, Hf0, Hf1⟩, %W, %hW, Howes⟩
  have hin0 : ∀ x, (b0.view.read (Elt F) (b0.view.write (Elt F) x0 (i0.view.read (Elt F) n0) Finset.univ) x).toNat < 32768 := by
    rw [View.read_write_univ]; exact h0
  have hin1 : ∀ x, (b1.view.read (Elt F) (b1.view.write (Elt F) x1 (i1.view.read (Elt F) n1) Finset.univ) x).toNat < 32768 := by
    rw [View.read_write_univ]; exact h1
  have hval0 : ∀ a y, ∀ i ∈ o0.view.set, o0.view.write (Elt F) a (r0.view.read (Elt F) (r0.view.write (Elt F) y
      (named (tb.view.read (Elt F) ft) (b0.view.read (Elt F) (b0.view.write (Elt F) x0 (i0.view.read (Elt F) n0) Finset.univ)) hin0) Finset.univ))
      Finset.univ i = G0 i := by
    intro a y
    rw [View.read_write_univ, named_congr (View.read_write_univ _ _) hin0 h0, ← hG0]
    exact write_read_eq o0.view a G0
  have hval1 : ∀ a y, ∀ i ∈ o1.view.set, o1.view.write (Elt F) a (r1.view.read (Elt F) (r1.view.write (Elt F) y
      (named (tb.view.read (Elt F) ft) (b1.view.read (Elt F) (b1.view.write (Elt F) x1 (i1.view.read (Elt F) n1) Finset.univ)) hin1) Finset.univ))
      Finset.univ i = G1 i := by
    intro a y
    rw [View.read_write_univ, named_congr (View.read_write_univ _ _) hin1 h1, ← hG1]
    exact write_read_eq o1.view a G1
  -- each block of row numbers fetched, its gather started
  iapply (Transfers.wp_dmaLocal countersEmb 𝒱₀ (V d c s) none (default : HIx 2) _ rfl (View.amount_pos _ _ (by decide)) subset_rfl) $$ [Hi0 Hb0 Hf0]
  · isplitl [Hi0]; · iexact Hi0
    isplitl [Hb0] <;> iassumption
  iintro Hfl
  iapply (Transfers.wp_waitLocalO countersEmb 𝒱₀ (V d c s) none (default : HIx 2) rfl) $$ [Hfl Howes]
  · isplitl [Hfl]; · iexact Hfl
    isplitl [Howes]; · iexact Howes
    iapply (Transfers.MayWaits.elim (SemLoc.dma f0)) $$ Hmw
  iintro ⟨⟨Hb0, Hi0⟩, Hf0, Howes⟩
  iapply (SparseCore.wp_indirectGatherLocal countersEmb 𝒱₀ (V d c s) none (default : HIx 2) r0.view.dmaCredit (rowCredits r0) (by decide) hin0) $$ [Ht0 Hr0 Hb0 Hg0]
  · isplitl [Ht0]; · iexact Ht0
    isplitl [Hr0]; · iexact Hr0
    isplitl [Hb0] <;> iassumption
  iintro Hflg0
  iapply (Transfers.wp_dmaLocal countersEmb 𝒱₀ (V d c s) none (default : HIx 2) _ rfl (View.amount_pos _ _ (by decide)) subset_rfl) $$ [Hi1 Hb1 Hf1]
  · isplitl [Hi1]; · iexact Hi1
    isplitl [Hb1] <;> iassumption
  iintro Hfl
  iapply (Transfers.wp_waitLocalO countersEmb 𝒱₀ (V d c s) none (default : HIx 2) rfl) $$ [Hfl Howes]
  · isplitl [Hfl]; · iexact Hfl
    isplitl [Howes]; · iexact Howes
    iapply (Transfers.MayWaits.elim (SemLoc.dma f1)) $$ Hmw
  iintro ⟨⟨Hb1, Hi1⟩, Hf1, Howes⟩
  iapply (SparseCore.wp_indirectGatherLocal countersEmb 𝒱₀ (V d c s) none (default : HIx 2) r1.view.dmaCredit (rowCredits r1) (by decide) hin1) $$ [Ht1 Hr1 Hb1 Hg1]
  · isplitl [Ht1]; · iexact Ht1
    isplitl [Hr1]; · iexact Hr1
    isplitl [Hb1] <;> iassumption
  iintro Hflg1
  -- each gather finished, its rows on the way out
  iapply (Transfers.wp_waitLocalO countersEmb 𝒱₀ (V d c s) none (default : HIx 2) rfl) $$ [Hflg0 Howes]
  · isplitl [Hflg0]; · iexact Hflg0
    isplitl [Howes]; · iexact Howes
    iapply (Transfers.MayWaits.elim (SemLoc.dma g0)) $$ Hmw
  iintro ⟨⟨Hr0, Ht0, Hb0⟩, Hg0, Howes⟩
  iapply (Transfers.wp_dmaLocal countersEmb 𝒱₀ (V d c s) none (default : HIx 2) _ rfl (View.amount_pos _ _ (by decide)) subset_rfl) $$ [Hr0 Ho0 Hw0]
  · isplitl [Hr0]; · iexact Hr0
    isplitl [Ho0] <;> iassumption
  iintro Hflw0
  iapply (Transfers.wp_waitLocalO countersEmb 𝒱₀ (V d c s) none (default : HIx 2) rfl) $$ [Hflg1 Howes]
  · isplitl [Hflg1]; · iexact Hflg1
    isplitl [Howes]; · iexact Howes
    iapply (Transfers.MayWaits.elim (SemLoc.dma g1)) $$ Hmw
  iintro ⟨⟨Hr1, Ht1, Hb1⟩, Hg1, Howes⟩
  iapply (Transfers.wp_dmaLocal countersEmb 𝒱₀ (V d c s) none (default : HIx 2) _ rfl (View.amount_pos _ _ (by decide)) subset_rfl) $$ [Hr1 Ho1 Hw1]
  · isplitl [Hr1]; · iexact Hr1
    isplitl [Ho1] <;> iassumption
  iintro Hflw1
  -- both write-backs finished
  iapply (Transfers.wp_waitLocalO countersEmb 𝒱₀ (V d c s) none (default : HIx 2) rfl) $$ [Hflw0 Howes]
  · isplitl [Hflw0]; · iexact Hflw0
    isplitl [Howes]; · iexact Howes
    iapply (Transfers.MayWaits.elim (SemLoc.dma w0)) $$ Hmw
  iintro ⟨⟨Ho0, Hr0⟩, Hw0, Howes⟩
  ihave Ho0 := (Entails.of_eq (pointsTo_congr (hval0 a0 y0))) $$ Ho0
  iapply (Transfers.wp_waitLocalO countersEmb 𝒱₀ (V d c s) none (default : HIx 2) rfl) $$ [Hflw1 Howes]
  · isplitl [Hflw1]; · iexact Hflw1
    isplitl [Howes]; · iexact Howes
    iapply (Transfers.MayWaits.elim (SemLoc.dma w1)) $$ Hmw
  iintro ⟨⟨Ho1, Hr1⟩, Hw1, Howes⟩
  ihave Ho1 := (Entails.of_eq (pointsTo_congr (hval1 a1 y1))) $$ Ho1
  rw [wp_ret]; imodintro
  isplitl [Ht0]; · iexact Ht0
  isplitl [Ht1]; · iexact Ht1
  isplitl [Hi0]; · iexact Hi0
  isplitl [Hi1]; · iexact Hi1
  isplitl [Ho0]; · iexact Ho0
  isplitl [Ho1]; · iexact Ho1
  isplitr [Howes]
  · isplitl [Hb0]; · iexists _; iexact Hb0
    isplitl [Hb1]; · iexists _; iexact Hb1
    isplitl [Hr0]; · iexists _; iexact Hr0
    isplitl [Hr1]; · iexists _; iexact Hr1
    isplitl [Hg0]; · iexact Hg0
    isplitl [Hg1]; · iexact Hg1
    isplitl [Hw0]; · iexact Hw0
    isplitl [Hw1]; · iexact Hw1
    isplitl [Hf0] <;> iassumption
  iexists _
  isplitr [Howes]
  rotate_left
  · iexact Howes
  ipureintro
  intro p hp
  simp only [Finset.mem_insert] at hp
  rcases hp with rfl | rfl | rfl | rfl | rfl | rfl | hp
  all_goals first | exact Or.inr rfl | exact hW p hp

end

end Cert.Proof.Rows
-- ==== Proof.Tiles.lean ====
/-
  What one vector subcore does in each of the two SparseCore calls.

  The 32 subcores cut the output into consecutive blocks of 128 rows. In call 0 a subcore has two blocks, in call 1
  sixty-four, two per trip of its loop. Each subcore holds a share of the table and of the row numbers, its own blocks
  of the output, and its own buffers and semaphores; it leaves in its blocks the rows of the table that the row numbers
  name (`tile0_wp`, `tile1_wp`).
-/
module

public import proofs.«01_k».proof.Proof.Pair

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## The rows, as a function of the table and the row numbers -/

/-- An element of the table. -/
def cell (k : Fin 32768) (p : Fin 2) (l : Fin 128) : S32768x2x128.Idx :=
  fun | 0 => k | 1 => p | 2 => l | ⟨_ + 3, h⟩ => absurd h (Nat.not_lt.2 (Nat.le_add_left _ _))

/-- The table row a number names: the number itself, when it is below 32768. -/
def rowNo (w : BitVec 32) : Fin 32768 := ⟨w.toNat % 32768, Nat.mod_lt _ (by decide)⟩

/-- The rows of `t` that the `N` numbers `n` name, one after the other. -/
def gathered {N : ℕ} (t : S32768x2x128.Idx → Elt F .f32) (n : (⟨1, ![N]⟩ : Shape).Idx → BitVec 32) : (⟨3, ![N, 2, 128]⟩ : Shape).Idx → Elt F .f32 :=
  fun j => t (cell (rowNo (n fun | 0 => j 0)) (j 1) (j 2))

/-- On a block of 128 consecutive rows the result is the rows the block's 128 numbers name. -/
theorem gathered_block {N : ℕ} (t : S32768x2x128.Idx → Elt F .f32) (n : (⟨1, ![N]⟩ : Shape).Idx → BitVec 32) (off : ℕ)
    (e1 : S128.Idx → (⟨1, ![N]⟩ : Shape).Idx) (e3 : S128x2x128.Idx → (⟨3, ![N, 2, 128]⟩ : Shape).Idx)
    (h1 : ∀ x, (e1 x 0).val = off + (x 0).val) (h3 : ∀ x, (e3 x 0).val = off + (x 0).val ∧ (e3 x 1).val = (x 1).val ∧ (e3 x 2).val = (x 2).val)
    (h : ∀ x, (n (e1 x)).toNat < 32768) :
    (fun x => gathered t n (e3 x)) = named (F := F) t (fun x => n (e1 x)) h := by
  funext x
  obtain ⟨ha, hb, hc⟩ := h3 x
  have hx : (n (e1 (S128.rowMajor.symm ((x 0).cast rfl)))) = n fun | 0 => e3 x 0 := by
    refine congrArg n (funext fun a => ?_)
    match a with
    | 0 =>
      apply Fin.ext
      rw [h1]
      change _ = (e3 x 0).val
      rw [ha]
      have := Shape.rowMajor_val_one (d := ![128]) (S128.rowMajor.symm ((x 0).cast rfl))
      rw [← this]
      change off + (S128.rowMajor (S128.rowMajor.symm _)).val = _
      rw [Equiv.apply_symm_apply]; rfl
  refine congrArg t (funext fun a => ?_)
  match a with
  | 0 =>
    refine Fin.ext ?_
    refine Eq.trans ?_ (congrArg Fin.val (Shape.Gathers.idx_axis gathers_S32768x2x128_S128x2x128 _ x)).symm
    change (n fun | 0 => e3 x 0).toNat % 32768 = (n (e1 (S128.rowMajor.symm ((x 0).cast rfl)))).toNat
    rw [← hx]
    exact Nat.mod_eq_of_lt (h _)
  | 1 =>
    refine Fin.ext ?_
    exact hb.trans (Shape.Gathers.idx_of_ne gathers_S32768x2x128_S128x2x128 _ x (b := 1) (by decide)).symm
  | 2 =>
    refine Fin.ext ?_
    exact hc.trans (Shape.Gathers.idx_of_ne gathers_S32768x2x128_S128x2x128 _ x (b := 2) (by decide)).symm

/-! ## The places: memory references of a subcore -/

abbrev tc (c : Fin 2) : Fin τ.nSC := c.castLE hcore0
abbrev ts (s : Fin 16) : Fin τ.nSub := s.castLE hsub0
/-- Subcore `s` of SparseCore `c`, on device `d`. -/
abbrev thr (d : Dev nD) (c : Fin 2) (s : Fin 16) : Thread nD τ := V d (tc c) (ts s)

def coords0 (c : Fin 2) (s : Fin 16) : grid0.Coords :=
  fun | 0 => c | 1 => s | ⟨_ + 2, h⟩ => absurd h (Nat.not_lt.2 (Nat.le_add_left _ _))
def coords1 (c : Fin 2) (s : Fin 16) : grid1.Coords :=
  fun | 0 => c | 1 => s | ⟨_ + 2, h⟩ => absurd h (Nat.not_lt.2 (Nat.le_add_left _ _))

/-- The table as the gathers name it: the slice that is all of it. -/
abbrev tbM : Memref sig .scVector .hbm S32768x2x128 .f32 :=
  (Memref.whole main_v2_scv).slice (Rect.unit (s := S32768x2x128) ![0, 0, 0] S32768x2x128.size inb_S32768x2x128_S32768x2x128_0_0_0) (fun _ => rfl)
/-- Block `r` of the row numbers in call 0, -/
abbrev nb0 (i : grid0.Coords) (r : Fin 2) : Memref sig .scVector .hbm S128 .i32 :=
  (Memref.whole main_v3_scv).slice (Rect.unit (s := S8192) (k0_off1 i (BitVec.ofNat 32 r.val)) S128.size (k0_off1_inb i r)) (fun _ => rfl)
/-- and the output block it names rows for. -/
abbrev ob0 (i : grid0.Coords) (r : Fin 2) : Memref sig .scVector .hbm S128x2x128 .f32 :=
  (Memref.whole main_v4_scv).slice (Rect.unit (s := S8192x2x128) (k0_off2 i (BitVec.ofNat 32 r.val)) S128x2x128.size (k0_off2_inb i r)) (fun _ => rfl)
/-- Block `r` of trip `t` of the row numbers in call 1, -/
abbrev nb1 (i : grid1.Coords) (t : Fin k1_t1_loop.trips) (r : Fin 2) : Memref sig .scVector .hbm S128 .i32 :=
  (Memref.whole main_v5_scv).slice (Rect.unit (s := S262144) (k1_off1 i t (BitVec.ofNat 32 r.val)) S128.size (k1_off1_inb i t r)) (fun _ => rfl)
/-- and the output block it names rows for. -/
abbrev ob1 (i : grid1.Coords) (t : Fin k1_t1_loop.trips) (r : Fin 2) : Memref sig .scVector .hbm S128x2x128 .f32 :=
  (Memref.whole main_v6_scv).slice (Rect.unit (s := S262144x2x128) (k1_off2 i t (BitVec.ofNat 32 r.val)) S128x2x128.size (k1_off2_inb i t r)) (fun _ => rfl)

/-! ## The calls' bodies are the step -/

section
variable [FloatOps F]

/-- A subcore's body in call 0: one step. -/
def body0 (c : Fin 2) (s : Fin 16) : Prog (TpuEff nD τ sig (Elt F) Λ₀ (.scVector (tc c) (ts s))) PUnit :=
  pairStep tbM (nb0 (coords0 c s) 0) (nb0 (coords0 c s) 1) (ob0 (coords0 c s) 0) (ob0 (coords0 c s) 1)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4.sem cc0_scratch5.sem cc0_scratch6.sem cc0_scratch7.sem cc0_scoped0.sem cc0_scoped1.sem

/-- One trip of a subcore's loop in call 1: one step. -/
def trip1 (c : Fin 2) (s : Fin 16) (t : Fin k1_t1_loop.trips) : Prog (TpuEff nD τ sig (Elt F) Λ₀ (.scVector (tc c) (ts s))) PUnit :=
  pairStep tbM (nb1 (coords1 c s) t 0) (nb1 (coords1 c s) t 1) (ob1 (coords1 c s) t 0) (ob1 (coords1 c s) t 1)
    (Memref.whole cc1_scratch0) (Memref.isWhole_whole _) (Memref.whole cc1_scratch1) (Memref.isWhole_whole _)
    (Memref.whole cc1_scratch2) (Memref.isWhole_whole _) (Memref.whole cc1_scratch3) (Memref.isWhole_whole _)
    cc1_scratch4.sem cc1_scratch5.sem cc1_scratch6.sem cc1_scratch7.sem cc1_scoped0.sem cc1_scoped1.sem

set_option maxRecDepth 65536 in
theorem cc0_eq (c : Fin 2) (s : Fin 16) : cc0_k (F := F) (coords0 c s) (Memref.whole main_v2_scv) (Memref.isWhole_whole _) (Memref.whole main_v3_scv) (Memref.isWhole_whole _)
    (Memref.whole main_v4_scv) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 cc0_scoped0 cc0_scoped1 = body0 c s := rfl

set_option maxRecDepth 65536 in
theorem cc1_eq (c : Fin 2) (s : Fin 16) : cc1_k (F := F) (coords1 c s) (Memref.whole main_v2_scv) (Memref.isWhole_whole _) (Memref.whole main_v5_scv) (Memref.isWhole_whole _)
    (Memref.whole main_v6_scv) (Memref.isWhole_whole _) (Memref.whole cc1_scratch0) (Memref.isWhole_whole _) (Memref.whole cc1_scratch1) (Memref.isWhole_whole _)
    (Memref.whole cc1_scratch2) (Memref.isWhole_whole _) (Memref.whole cc1_scratch3) (Memref.isWhole_whole _)
    cc1_scratch4 cc1_scratch5 cc1_scratch6 cc1_scratch7 cc1_scoped0 cc1_scoped1
    = Scf.Loop.for k1_t1_loop k1_t1_ok 0#32 (fun t _ => trip1 c s t >>= fun _ => pure 0#32) >>= fun _ => pure ⟨⟩ := rfl

end

/-! ## The blocks cut the output -/

/-- An array held whole is its blocks held one by one, when each element's key is the code of exactly one block. -/
theorem pts_blocks {ℓ : Loc nD τ sig} {ι : Type} [Fintype ι] [DecidableEq ι] (B : ι → Finset (Idx ℓ)) (key : Idx ℓ → ℕ) (code : ι → ℕ)
    (hm : ∀ x j, j ∈ B x ↔ key j = code x) (hinj : Function.Injective code) (hsurj : ∀ j, ∃ x, key j = code x) (q : PosShare TreeShare) (f : Buf (Elt F) ℓ) :
    (ℓ ↦{q} f : sProp 𝕄) = bigSep Finset.univ fun x => ℓ ↦[B x]{q} f := by
  rw [← pointsTo_biUnion Finset.univ B fun x _ y _ hxy => Finset.disjoint_left.mpr fun j h1 h2 =>
    hxy (hinj (((hm x j).1 h1).symm.trans ((hm y j).1 h2)))]
  rw [show Finset.univ.biUnion B = Finset.univ from Finset.eq_univ_iff_forall.mpr fun j => by
    obtain ⟨x, hx⟩ := hsurj j
    exact Finset.mem_biUnion.mpr ⟨x, Finset.mem_univ x, (hm x j).2 hx⟩]

/-- Block `r` of subcore `(c, s)` in call 0. -/
abbrev blk0 (c : Fin 2) (s : Fin 16) (r : Fin 2) : Finset S8192x2x128.Idx := (ob0 (coords0 c s) r).view.set
/-- Block `r` of trip `t` of subcore `(c, s)` in call 1. -/
abbrev blk1 (c : Fin 2) (s : Fin 16) (t : Fin k1_t1_loop.trips) (r : Fin 2) : Finset S262144x2x128.Idx := (ob1 (coords1 c s) t r).view.set

theorem trips_eq : k1_t1_loop.trips = 32 := by decide +kernel

theorem mem_blk0 (c : Fin 2) (s : Fin 16) (r : Fin 2) (j : S8192x2x128.Idx) :
    j ∈ blk0 c s r ↔ (j 0).val / 128 = 4 * s.val + 2 * c.val + r.val := by
  have e : (ob0 (coords0 c s) r).view.set = (Rect.unit (s := S8192x2x128) (k0_off2 (coords0 c s) (BitVec.ofNat 32 r.val)) S128x2x128.size (k0_off2_inb (coords0 c s) r)).set :=
    View.set_slice_whole _ _
  rw [blk0, e, Rect.mem_set_unit, k0_off2_eq]
  have h1 : (j 1).val < 2 := (j 1).isLt
  have h2 : (j 2).val < 128 := (j 2).isLt
  constructor
  · intro h
    have h0 : 512 * s.val + 256 * c.val + 128 * r.val ≤ (j 0).val ∧ (j 0).val < 512 * s.val + 256 * c.val + 128 * r.val + 128 := h 0
    omega
  · intro h a
    match a with
    | 0 => show 512 * s.val + 256 * c.val + 128 * r.val ≤ (j 0).val ∧ (j 0).val < 512 * s.val + 256 * c.val + 128 * r.val + 128; omega
    | 1 => show 0 ≤ (j 1).val ∧ (j 1).val < 0 + 2; omega
    | 2 => show 0 ≤ (j 2).val ∧ (j 2).val < 0 + 128; omega

theorem mem_blk1 (c : Fin 2) (s : Fin 16) (t : Fin k1_t1_loop.trips) (r : Fin 2) (j : S262144x2x128.Idx) :
    j ∈ blk1 c s t r ↔ (j 0).val / 128 = 128 * s.val + 64 * c.val + 2 * t.val + r.val := by
  have e : (ob1 (coords1 c s) t r).view.set = (Rect.unit (s := S262144x2x128) (k1_off2 (coords1 c s) t (BitVec.ofNat 32 r.val)) S128x2x128.size (k1_off2_inb (coords1 c s) t r)).set :=
    View.set_slice_whole _ _
  rw [blk1, e, Rect.mem_set_unit, k1_off2_eq]
  have h1 : (j 1).val < 2 := (j 1).isLt
  have h2 : (j 2).val < 128 := (j 2).isLt
  constructor
  · intro h
    have h0 : 16384 * s.val + 8192 * c.val + 256 * t.val + 128 * r.val ≤ (j 0).val ∧ (j 0).val < 16384 * s.val + 8192 * c.val + 256 * t.val + 128 * r.val + 128 := h 0
    omega
  · intro h a
    match a with
    | 0 => show 16384 * s.val + 8192 * c.val + 256 * t.val + 128 * r.val ≤ (j 0).val ∧ (j 0).val < 16384 * s.val + 8192 * c.val + 256 * t.val + 128 * r.val + 128; omega
    | 1 => show 0 ≤ (j 1).val ∧ (j 1).val < 0 + 2; omega
    | 2 => show 0 ≤ (j 2).val ∧ (j 2).val < 0 + 128; omega

/-- Call 0's output, whole, is its 64 blocks, subcore by subcore. -/
theorem out0_blocks (d : Dev nD) (f : Buf (Elt F) ((SparseCore.T d).loc main_v4)) :
    ((SparseCore.T d).loc main_v4 ↦{fullShare} f : sProp 𝕄)
      = bigSep Finset.univ fun c : Fin 2 => bigSep Finset.univ fun s : Fin 16 => bigSep Finset.univ fun r : Fin 2 => (SparseCore.T d).loc main_v4 ↦[blk0 c s r]{fullShare} f := by
  rw [pts_blocks (ℓ := (SparseCore.T d).loc main_v4) (ι := Fin 2 × Fin 16 × Fin 2) (fun x => blk0 x.1 x.2.1 x.2.2) (fun j => ((j : S8192x2x128.Idx) 0).val / 128) (fun x => 4 * x.2.1.val + 2 * x.1.val + x.2.2.val)
    (fun x j => mem_blk0 _ _ _ j) ?_ ?_, bigSep_univ_prod]
  · exact bigSep_congr fun c _ => bigSep_univ_prod _
  · rintro ⟨c, s, r⟩ ⟨c', s', r'⟩ h
    have h : 4 * s.val + 2 * c.val + r.val = 4 * s'.val + 2 * c'.val + r'.val := h
    exact Prod.ext (Fin.ext (by dsimp only; omega)) (Prod.ext (Fin.ext (by dsimp only; omega)) (Fin.ext (by dsimp only; omega)))
  · intro j
    have hj : ((j : S8192x2x128.Idx) 0).val < 8192 := ((j : S8192x2x128.Idx) 0).isLt
    refine ⟨(⟨((j : S8192x2x128.Idx) 0).val / 128 / 2 % 2, by omega⟩, ⟨((j : S8192x2x128.Idx) 0).val / 128 / 4, by omega⟩, ⟨((j : S8192x2x128.Idx) 0).val / 128 % 2, by omega⟩), ?_⟩
    dsimp only; omega

/-- Call 1's output, whole, is its 2048 blocks, subcore by subcore and trip by trip. -/
theorem out1_blocks (d : Dev nD) (f : Buf (Elt F) ((SparseCore.T d).loc main_v6)) :
    ((SparseCore.T d).loc main_v6 ↦{fullShare} f : sProp 𝕄)
      = bigSep Finset.univ fun c : Fin 2 => bigSep Finset.univ fun s : Fin 16 => bigSep Finset.univ fun t : Fin k1_t1_loop.trips =>
          bigSep Finset.univ fun r : Fin 2 => (SparseCore.T d).loc main_v6 ↦[blk1 c s t r]{fullShare} f := by
  rw [pts_blocks (ℓ := (SparseCore.T d).loc main_v6) (ι := Fin 2 × Fin 16 × Fin k1_t1_loop.trips × Fin 2) (fun x => blk1 x.1 x.2.1 x.2.2.1 x.2.2.2) (fun j => ((j : S262144x2x128.Idx) 0).val / 128)
    (fun x => 128 * x.2.1.val + 64 * x.1.val + 2 * x.2.2.1.val + x.2.2.2.val) (fun x j => mem_blk1 _ _ _ _ j) ?_ ?_, bigSep_univ_prod]
  · exact bigSep_congr fun c _ => (bigSep_univ_prod _).trans (bigSep_congr fun s _ => bigSep_univ_prod _)
  · rintro ⟨c, s, t, r⟩ ⟨c', s', t', r'⟩ h
    have h : 128 * s.val + 64 * c.val + 2 * t.val + r.val = 128 * s'.val + 64 * c'.val + 2 * t'.val + r'.val := h
    have ht := t.isLt.trans_eq trips_eq
    have ht' := t'.isLt.trans_eq trips_eq
    exact Prod.ext (Fin.ext (by dsimp only; omega)) (Prod.ext (Fin.ext (by dsimp only; omega))
      (Prod.ext (Fin.ext (by dsimp only; omega)) (Fin.ext (by dsimp only; omega))))
  · intro j
    have hj : ((j : S262144x2x128.Idx) 0).val < 262144 := ((j : S262144x2x128.Idx) 0).isLt
    refine ⟨(⟨((j : S262144x2x128.Idx) 0).val / 128 / 64 % 2, by omega⟩, ⟨((j : S262144x2x128.Idx) 0).val / 128 / 128, by omega⟩,
      ⟨((j : S262144x2x128.Idx) 0).val / 128 / 2 % 32, by rw [trips_eq]; omega⟩, ⟨((j : S262144x2x128.Idx) 0).val / 128 % 2, by omega⟩), ?_⟩
    dsimp only; omega

/-- Subcore `(c, s)`'s share of an array all 32 subcores read. -/
def qs (c : Fin 2) (s : Fin 16) : PosShare TreeShare :=
  pieceOf (pieceOf fullShare 2 (by decide) c) 16 (by decide) s

/-- An array held whole is the 32 subcores' shares of it. -/
theorem pts_shares {ℓ : Loc nD τ sig} (f : Buf (Elt F) ℓ) :
    (ℓ ↦{fullShare} f : sProp 𝕄) = bigSep Finset.univ fun c : Fin 2 => bigSep Finset.univ fun s : Fin 16 => ℓ ↦{qs c s} f :=
  (pointsTo_piecesOf Finset.univ f (by decide) fullShare).trans
    (bigSep_congr fun c _ => pointsTo_piecesOf Finset.univ f (by decide) _)

/-! ## A subcore's own buffers and semaphores -/

/-- Six of a subcore's semaphores, and the rest. -/
theorem ownSems_six (d : Dev nD) (c : Fin 2) (s : Fin 16) (g : Fin 6 → DmaSem sig) (hinj : Function.Injective g)
    (hsc : ∀ k, (SemLoc.dma (g k) : SemLoc sig).isScoped .scVector = true) :
    ∃ R : sProp 𝕄, (ownSems0 (thr d c s) : sProp 𝕄) = iprop((semVal (thr d c s, SemLoc.dma (g 0)) 0 ∗ semVal (thr d c s, SemLoc.dma (g 1)) 0
      ∗ semVal (thr d c s, SemLoc.dma (g 2)) 0 ∗ semVal (thr d c s, SemLoc.dma (g 3)) 0 ∗ semVal (thr d c s, SemLoc.dma (g 4)) 0
      ∗ semVal (thr d c s, SemLoc.dma (g 5)) 0) ∗ R) := by
  classical
  have hne : ∀ a b : Fin 6, a ≠ b → ((thr d c s, SemLoc.dma (g a)) : GSem nD τ sig) ≠ (thr d c s, SemLoc.dma (g b)) :=
    fun a b hab e => hab (hinj (SemLoc.dma.inj (Prod.ext_iff.1 e).2))
  have hmem : ∀ k, ((thr d c s, SemLoc.dma (g k)) : GSem nD τ sig) ∈ ownCells (thr d c s) := fun k => mem_ownCells.mpr ⟨rfl, hsc k⟩
  refine ⟨bigSep (ownCells (thr d c s) \ {(thr d c s, SemLoc.dma (g 0)), (thr d c s, SemLoc.dma (g 1)), (thr d c s, SemLoc.dma (g 2)),
    (thr d c s, SemLoc.dma (g 3)), (thr d c s, SemLoc.dma (g 4)), (thr d c s, SemLoc.dma (g 5))}) fun x => semVal x 0, ?_⟩
  unfold SparseCore.Cfg.ownSems0
  rw [SparseCore.bigSep_sdiff_split' (s := ownCells (thr d c s)) (t := {(thr d c s, SemLoc.dma (g 0)), (thr d c s, SemLoc.dma (g 1)), (thr d c s, SemLoc.dma (g 2)),
    (thr d c s, SemLoc.dma (g 3)), (thr d c s, SemLoc.dma (g 4)), (thr d c s, SemLoc.dma (g 5))}) (by
      intro x hx
      simp only [Finset.mem_insert, Finset.mem_singleton] at hx
      rcases hx with rfl | rfl | rfl | rfl | rfl | rfl <;> exact hmem _)]
  rw [SparseCore.bigSep_insert' (by simp only [Finset.mem_insert, Finset.mem_singleton, not_or]; exact ⟨hne _ _ (by decide), hne _ _ (by decide), hne _ _ (by decide), hne _ _ (by decide), hne _ _ (by decide)⟩),
    SparseCore.bigSep_insert' (by simp only [Finset.mem_insert, Finset.mem_singleton, not_or]; exact ⟨hne _ _ (by decide), hne _ _ (by decide), hne _ _ (by decide), hne _ _ (by decide)⟩),
    SparseCore.bigSep_insert' (by simp only [Finset.mem_insert, Finset.mem_singleton, not_or]; exact ⟨hne _ _ (by decide), hne _ _ (by decide), hne _ _ (by decide)⟩),
    SparseCore.bigSep_insert' (by simp only [Finset.mem_insert, Finset.mem_singleton, not_or]; exact ⟨hne _ _ (by decide), hne _ _ (by decide)⟩),
    SparseCore.bigSep_insert' (by simp only [Finset.mem_singleton]; exact hne _ _ (by decide)), bigSep_singleton]

/-- Four of a subcore's buffers, and the rest. -/
theorem ownBufs_four (d : Dev nD) (c : Fin 2) (s : Fin 16) (b : Fin 4 → Ref sig .scVector) (hinj : Function.Injective b)
    (hown : ∀ k, ((Proc.scVector (tc c) (ts s)).devRef (b k)).owner = .proc (Proc.scVector (tc c) (ts s))) :
    ∃ R : sProp 𝕄, (ownBufs (thr d c s) : sProp 𝕄) = iprop(((∃ f, (thr d c s).loc (b 0) ↦{fullShare} f) ∗ (∃ f, (thr d c s).loc (b 1) ↦{fullShare} f)
      ∗ (∃ f, (thr d c s).loc (b 2) ↦{fullShare} f) ∗ (∃ f, (thr d c s).loc (b 3) ↦{fullShare} f)) ∗ R) := by
  classical
  let e : Fin 4 → DevRef τ sig := fun k => (Proc.scVector (tc c) (ts s)).devRef (b k)
  have hne : ∀ x y : Fin 4, x ≠ y → e x ≠ e y := fun x y hxy h => hxy (hinj (Proc.devRef_injective _ h))
  have hmem : ∀ k, e k ∈ ownRefs (τ := τ) (sig := sig) (Proc.scVector (tc c) (ts s)) := fun k => SparseCore.Cfg.mem_ownRefs_of_owner (hown k)
  refine ⟨bigSep (ownRefs (τ := τ) (Proc.scVector (tc c) (ts s)) \ {e 0, e 1, e 2, e 3}) fun x => iprop(∃ f, ((d, x) : Loc nD τ sig) ↦{fullShare} f), ?_⟩
  unfold SparseCore.Cfg.ownBufs
  rw [SparseCore.bigSep_sdiff_split' (s := ownRefs (thr d c s).2) (t := {e 0, e 1, e 2, e 3}) (by
      intro x hx
      simp only [Finset.mem_insert, Finset.mem_singleton] at hx
      rcases hx with rfl | rfl | rfl | rfl <;> exact hmem _)]
  rw [SparseCore.bigSep_insert' (by simp only [Finset.mem_insert, Finset.mem_singleton, not_or]; exact ⟨hne _ _ (by decide), hne _ _ (by decide), hne _ _ (by decide)⟩),
    SparseCore.bigSep_insert' (by simp only [Finset.mem_insert, Finset.mem_singleton, not_or]; exact ⟨hne _ _ (by decide), hne _ _ (by decide)⟩),
    SparseCore.bigSep_insert' (by simp only [Finset.mem_singleton]; exact hne _ _ (by decide)), bigSep_singleton]

end Cert.Proof.Rows
-- ==== Proof.Bodies.lean ====
/-
  The two calls' tile obligations: what a subcore is handed, what it hands back, and that its body does so.

  A subcore is handed a share of the table, a share of the row numbers and its own blocks of the output at any
  contents; it hands back the same shares and its blocks holding the named rows. Call 0's body is one step; call 1's
  is a loop of thirty-two, whose invariant says which trips' blocks already hold their rows.
-/
module

public import proofs.«01_k».proof.Proof.Tiles

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## Pieces of what a step needs -/

/-- A share of an array gives a share of any two of its parts, at once, and the rest. -/
theorem two_parts {ℓ : Loc nD τ sig} (A B : Finset (Idx ℓ)) (q : PosShare TreeShare) (f : Buf (Elt F) ℓ) :
    (ℓ ↦{q} f : sProp 𝕄) ⊣⊢ iprop(((ℓ ↦[A]{q.left} f) ∗ (ℓ ↦[Finset.univ \ A]{q.left} f)) ∗ ((ℓ ↦[B]{q.right} f) ∗ (ℓ ↦[Finset.univ \ B]{q.right} f))) := by
  have h := pointsTo_share (Ix := HIx 2) (Name := ℕ) (U := UU) (Lvl := ℕ) (ℓ := ℓ) (I := Finset.univ) (f := f) (PosShare.mem_left_op_right q)
  have hA := pointsTo_split_subset (Ix := HIx 2) (Name := ℕ) (U := UU) (Lvl := ℕ) (ℓ := ℓ) (q := q.left) (f := f) (S := Finset.univ) (Finset.subset_univ A)
  have hB := pointsTo_split_subset (Ix := HIx 2) (Name := ℕ) (U := UU) (Lvl := ℕ) (ℓ := ℓ) (q := q.right) (f := f) (S := Finset.univ) (Finset.subset_univ B)
  exact ⟨h.1.trans (BI.sep_mono hA.1 hB.1), (BI.sep_mono hA.2 hB.2).trans h.2⟩

/-- The step's buffers, when they are whole: each at any contents. -/
theorem scratch_whole (d : Dev nD) (c : Fin 2) (s : Fin 16)
    (e0 : Memref sig .scVector .vmem S128 .i32) (e1 : Memref sig .scVector .vmem S128 .i32) (e2 e3 : Memref sig .scVector .vmem S128x2x128 .f32)
    (h0 : e0.view.set = Finset.univ) (h1 : e1.view.set = Finset.univ) (h2 : e2.view.set = Finset.univ) (h3 : e3.view.set = Finset.univ)
    (g0 g1 w0 w1 f0 f1 : DmaSem sig) :
    (scratch d (tc c) (ts s) e0 e1 e2 e3 g0 g1 w0 w1 f0 f1 : sProp 𝕄)
      = iprop((∃ f, e0.view.loc (thr d c s) ↦{fullShare} f) ∗ (∃ f, e1.view.loc (thr d c s) ↦{fullShare} f)
        ∗ (∃ f, e2.view.loc (thr d c s) ↦{fullShare} f) ∗ (∃ f, e3.view.loc (thr d c s) ↦{fullShare} f)
        ∗ semVal (thr d c s, SemLoc.dma g0) 0 ∗ semVal (thr d c s, SemLoc.dma g1) 0 ∗ semVal (thr d c s, SemLoc.dma w0) 0
        ∗ semVal (thr d c s, SemLoc.dma w1) 0 ∗ semVal (thr d c s, SemLoc.dma f0) 0 ∗ semVal (thr d c s, SemLoc.dma f1) 0) := by
  unfold scratch
  rw [h0, h1, h2, h3]

section
variable [FloatOps F]

abbrev scr0 (d : Dev nD) (c : Fin 2) (s : Fin 16) : sProp 𝕄 :=
  scratch d (tc c) (ts s) (Memref.whole cc0_scratch0) (Memref.whole cc0_scratch1) (Memref.whole cc0_scratch2) (Memref.whole cc0_scratch3)
    cc0_scratch4.sem cc0_scratch5.sem cc0_scratch6.sem cc0_scratch7.sem cc0_scoped0.sem cc0_scoped1.sem
abbrev scr1 (d : Dev nD) (c : Fin 2) (s : Fin 16) : sProp 𝕄 :=
  scratch d (tc c) (ts s) (Memref.whole cc1_scratch0) (Memref.whole cc1_scratch1) (Memref.whole cc1_scratch2) (Memref.whole cc1_scratch3)
    cc1_scratch4.sem cc1_scratch5.sem cc1_scratch6.sem cc1_scratch7.sem cc1_scoped0.sem cc1_scoped1.sem

theorem read_tb (d : Dev nD) (c : Fin 2) (s : Fin 16) (t : S32768x2x128.Idx → Elt F .f32) :
    (tbM.view.read (Elt F) (t : Buf (Elt F) (tbM.view.loc (thr d c s))) : S32768x2x128.Idx → Elt F .f32) = t := by
  funext x
  refine (View.read_apply _ _).trans ((cast_eq _ _).trans (congrArg t (funext fun a => Fin.ext ?_)))
  match a with
  | 0 => show 0 + 1 * (x 0).val = (x 0).val; omega
  | 1 => show 0 + 1 * (x 1).val = (x 1).val; omega
  | 2 => show 0 + 1 * (x 2).val = (x 2).val; omega

/-- A step of call 0 or 1 from shares of the whole table and of the whole list of row numbers: `A` the list's array, `G`
    what the output is to hold. -/
theorem step_wp (d : Dev nD) (c : Fin 2) (s : Fin 16) {O : CellTallies nD τ sig (HIx 2)} {W₀ : Waits sig (HIx 2)}
    (i0 i1 : Memref sig .scVector .hbm S128 .i32) (o0 o1 : Memref sig .scVector .hbm S128x2x128 .f32)
    (b0 : Memref sig .scVector .vmem S128 .i32) (hb0 : b0.IsWhole) (b1 : Memref sig .scVector .vmem S128 .i32) (hb1 : b1.IsWhole)
    (r0 : Memref sig .scVector .vmem S128x2x128 .f32) (hr0 : r0.IsWhole) (r1 : Memref sig .scVector .vmem S128x2x128 .f32) (hr1 : r1.IsWhole)
    (g0 g1 w0 w1 f0 f1 : DmaSem sig) (q : PosShare TreeShare) (t : S32768x2x128.Idx → Elt F .f32)
    {n0 : Buf (Elt F) (i0.view.loc (thr d c s))} {n1 : Buf (Elt F) (i1.view.loc (thr d c s))}
    {a0 G0 : Buf (Elt F) (o0.view.loc (thr d c s))} {a1 G1 : Buf (Elt F) (o1.view.loc (thr d c s))}
    (h0 : ∀ x, (i0.view.read (Elt F) n0 x).toNat < 32768) (h1 : ∀ x, (i1.view.read (Elt F) n1 x).toNat < 32768)
    (hG0 : o0.view.read (Elt F) G0 = named t (i0.view.read (Elt F) n0) h0)
    (hG1 : o1.view.read (Elt F) G1 = named t (i1.view.read (Elt F) n1) h1)
    (N RN : sProp 𝕄) (hN : N ⊣⊢ iprop(((i0.view.loc (thr d c s) ↦[i0.view.set]{q.left} n0) ∗ (i1.view.loc (thr d c s) ↦[i1.view.set]{q.right} n1)) ∗ RN)) :
    iprop(Transfers.MayWaits (thr d c s) (default : HIx 2) O ∗ ((SparseCore.T d).loc main_v2 ↦{q} t) ∗ N
        ∗ ((o0.view.loc (thr d c s) ↦[o0.view.set]{fullShare} a0) ∗ (o1.view.loc (thr d c s) ↦[o1.view.set]{fullShare} a1))
        ∗ scratch d (tc c) (ts s) b0 b1 r0 r1 g0 g1 w0 w1 f0 f1 ∗ owed d (tc c) (ts s) O W₀)
      ⊢ wp (M := 𝕄) frame (wpE (defs₀ (F := F)) 𝒱₀ (thr d c s) none) Set.univ
          (pairStep tbM i0 i1 o0 o1 b0 hb0 b1 hb1 r0 hr0 r1 hr1 g0 g1 w0 w1 f0 f1)
        fun _ => iprop(((SparseCore.T d).loc main_v2 ↦{q} t) ∗ N
          ∗ ((o0.view.loc (thr d c s) ↦[o0.view.set]{fullShare} G0) ∗ (o1.view.loc (thr d c s) ↦[o1.view.set]{fullShare} G1))
          ∗ scratch d (tc c) (ts s) b0 b1 r0 r1 g0 g1 w0 w1 f0 f1 ∗ owed d (tc c) (ts s) O W₀) := by
  have ht := two_parts (F := F) (ℓ := tbM.view.loc (thr d c s)) tbM.view.set tbM.view.set q t
  have hread := read_tb (F := F) d c s t
  have hp := pair_wp (F := F) (c := tc c) (s := ts s) d (O := O) (W₀ := W₀) tbM i0 i1 o0 o1 b0 hb0 b1 hb1 r0 hr0 r1 hr1 g0 g1 w0 w1 f0 f1
    (q0 := q.left) (q1 := q.right) (p0 := q.left) (p1 := q.right) (ft := t) (n0 := n0) (n1 := n1) (a0 := a0) (G0 := G0) (a1 := a1) (G1 := G1) h0 h1
    (by rw [hread]; exact hG0) (by rw [hread]; exact hG1)
  iintro ⟨Hmw, Ht, Hn, ⟨Ho0, Ho1⟩, Hs, Hw⟩
  ihave Ht := ht.1 $$ Ht
  icases Ht with ⟨⟨Ht0, Hx0⟩, Ht1, Hx1⟩
  ihave Hn := hN.1 $$ Hn
  icases Hn with ⟨⟨Hn0, Hn1⟩, Hx2⟩
  iapply (wp_mono frame (wpE (defs₀ (F := F)) 𝒱₀ (thr d c s) none) Set.univ (Q := fun _ => iprop((_ ) ∗ ((tbM.view.loc (thr d c s) ↦[Finset.univ \ tbM.view.set]{q.left} t)
      ∗ (tbM.view.loc (thr d c s) ↦[Finset.univ \ tbM.view.set]{q.right} t) ∗ RN))) fun _ => ?_)
  rotate_left
  · iapply (wp_frame_r frame _ _)
    isplitr [Hx0 Hx1 Hx2]
    · iapply hp
      isplitl [Hmw]; · iexact Hmw
      isplitl [Ht0]; · iexact Ht0
      isplitl [Ht1]; · iexact Ht1
      isplitl [Hn0]; · iexact Hn0
      isplitl [Hn1]; · iexact Hn1
      isplitl [Ho0]; · iexact Ho0
      isplitl [Ho1]; · iexact Ho1
      isplitl [Hs] <;> iassumption
    · isplitl [Hx0]; · iexact Hx0
      isplitl [Hx1] <;> iassumption
  iintro ⟨⟨Ht0, Ht1, Hn0, Hn1, Ho0, Ho1, Hs, Hw⟩, Hx0, Hx1, Hx2⟩
  isplitl [Ht0 Ht1 Hx0 Hx1]
  · iapply ht.2
    isplitl [Ht0 Hx0]; · isplitl [Ht0] <;> iassumption
    isplitl [Ht1] <;> iassumption
  isplitl [Hn0 Hn1 Hx2]
  · iapply hN.2
    isplitl [Hn0 Hn1]; · isplitl [Hn0] <;> iassumption
    iexact Hx2
  isplitl [Ho0 Ho1]; · isplitl [Ho0] <;> iassumption
  isplitl [Hs] <;> iassumption

/-! ## Call 0 -/

/-- What a subcore holds in call 0: a share of the table and of the row numbers, its two output blocks at `a`. -/
def held0 (d : Dev nD) (c : Fin 2) (s : Fin 16) (t : S32768x2x128.Idx → Elt F .f32) (n : S8192.Idx → BitVec 32) (a : S8192x2x128.Idx → Elt F .f32) : sProp 𝕄 :=
  iprop(((SparseCore.T d).loc main_v2 ↦{qs c s} t) ∗ ((SparseCore.T d).loc main_v3 ↦{qs c s} n)
    ∗ bigSep Finset.univ fun r : Fin 2 => (SparseCore.T d).loc main_v4 ↦[blk0 c s r]{fullShare} a)

theorem read_nb0 (d : Dev nD) (c : Fin 2) (s : Fin 16) (r : Fin 2) (n : S8192.Idx → BitVec 32) :
    ((nb0 (coords0 c s) r).view.read (Elt F) (n : Buf (Elt F) ((nb0 (coords0 c s) r).view.loc (thr d c s))) : S128.Idx → Elt F .i32)
      = fun x => n ((nb0 (coords0 c s) r).view.emb x) :=
  funext fun x => (View.read_apply _ _).trans (cast_eq _ _)

theorem read_ob0 (d : Dev nD) (c : Fin 2) (s : Fin 16) (r : Fin 2) (t : S32768x2x128.Idx → Elt F .f32) (n : S8192.Idx → BitVec 32) (hn : ∀ x, (n x).toNat < 32768)
    (h : ∀ x, ((nb0 (coords0 c s) r).view.read (Elt F) (n : Buf (Elt F) ((nb0 (coords0 c s) r).view.loc (thr d c s))) x).toNat < 32768) :
    ((ob0 (coords0 c s) r).view.read (Elt F) (gathered t n : Buf (Elt F) ((ob0 (coords0 c s) r).view.loc (thr d c s))) : S128x2x128.Idx → Elt F .f32)
      = named t ((nb0 (coords0 c s) r).view.read (Elt F) (n : Buf (Elt F) ((nb0 (coords0 c s) r).view.loc (thr d c s)))) h := by
  refine (funext fun x => (View.read_apply _ _).trans (cast_eq _ _)).trans
    ((gathered_block t n (512 * s.val + 256 * c.val + 128 * r.val) (fun x => (nb0 (coords0 c s) r).view.emb x)
      (fun x => (ob0 (coords0 c s) r).view.emb x) ?_ ?_ fun x => hn _).trans (named_congr (read_nb0 d c s r n).symm _ h))
  · intro x
    show k0_off1 (coords0 c s) (BitVec.ofNat 32 r.val) 0 + 1 * (x 0).val = _
    rw [k0_off1_eq, Nat.one_mul]; rfl
  · intro x
    refine ⟨?_, ?_, ?_⟩
    · show k0_off2 (coords0 c s) (BitVec.ofNat 32 r.val) 0 + 1 * (x 0).val = _
      rw [k0_off2_eq, Nat.one_mul]; rfl
    · show k0_off2 (coords0 c s) (BitVec.ofNat 32 r.val) 1 + 1 * (x 1).val = _
      rw [k0_off2_eq, Nat.one_mul]; exact Nat.zero_add _
    · show k0_off2 (coords0 c s) (BitVec.ofNat 32 r.val) 2 + 1 * (x 2).val = _
      rw [k0_off2_eq, Nat.one_mul]; exact Nat.zero_add _

/-- The subcore's body in call 0 fills its two blocks. -/
theorem body0_wp (d : Dev nD) (c : Fin 2) (s : Fin 16) {O : CellTallies nD τ sig (HIx 2)} {W₀ : Waits sig (HIx 2)}
    (t : S32768x2x128.Idx → Elt F .f32) (n : S8192.Idx → BitVec 32) (hn : ∀ x, (n x).toNat < 32768) (a : S8192x2x128.Idx → Elt F .f32) :
    iprop(Transfers.MayWaits (thr d c s) (default : HIx 2) O ∗ held0 d c s t n a ∗ scr0 d c s ∗ owed d (tc c) (ts s) O W₀)
      ⊢ wp (M := 𝕄) frame (wpE (defs₀ (F := F)) 𝒱₀ (thr d c s) none) Set.univ (body0 (F := F) c s)
        fun _ => iprop(held0 d c s t n (gathered t n) ∗ scr0 d c s ∗ owed d (tc c) (ts s) O W₀) := by
  have hrd : ∀ r x, ((nb0 (coords0 c s) r).view.read (Elt F) (n : Buf (Elt F) ((nb0 (coords0 c s) r).view.loc (thr d c s))) x).toNat < 32768 := by
    intro r x; rw [read_nb0 (F := F) d]; exact hn _
  have hn2 := two_parts (F := F) (ℓ := (SparseCore.T d).loc main_v3) (nb0 (coords0 c s) 0).view.set (nb0 (coords0 c s) 1).view.set (qs c s) n
  have hp := step_wp (F := F) d c s (O := O) (W₀ := W₀) (nb0 (coords0 c s) 0) (nb0 (coords0 c s) 1) (ob0 (coords0 c s) 0) (ob0 (coords0 c s) 1)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4.sem cc0_scratch5.sem cc0_scratch6.sem cc0_scratch7.sem cc0_scoped0.sem cc0_scoped1.sem (qs c s) t
    (n0 := n) (n1 := n) (a0 := a) (a1 := a) (G0 := gathered t n) (G1 := gathered t n) (hrd 0) (hrd 1)
    (read_ob0 d c s 0 t n hn (hrd 0)) (read_ob0 d c s 1 t n hn (hrd 1)) ((SparseCore.T d).loc main_v3 ↦{qs c s} n)
    iprop(((SparseCore.T d).loc main_v3 ↦[Finset.univ \ (nb0 (coords0 c s) 0).view.set]{(qs c s).left} n)
      ∗ ((SparseCore.T d).loc main_v3 ↦[Finset.univ \ (nb0 (coords0 c s) 1).view.set]{(qs c s).right} n))
    ⟨hn2.1.trans sep_sep_sep_comm.1, sep_sep_sep_comm.1.trans hn2.2⟩
  unfold held0
  rw [bigSep_univ_two, bigSep_univ_two]
  iintro ⟨Hmw, ⟨Ht, Hn, Ho⟩, Hs, Hw⟩
  iapply (wp_mono frame (wpE (defs₀ (F := F)) 𝒱₀ (thr d c s) none) Set.univ (fun _ => ?_))
  rotate_left
  · iapply hp
    isplitl [Hmw]; · iexact Hmw
    isplitl [Ht]; · iexact Ht
    isplitl [Hn]; · iexact Hn
    isplitl [Ho]; · iexact Ho
    isplitl [Hs] <;> iassumption
  iintro ⟨Ht, Hn, Ho, Hs, Hw⟩
  isplitl [Ht Hn Ho]
  · isplitl [Ht]; · iexact Ht
    isplitl [Hn]; · iexact Hn
    iexact Ho
  isplitl [Hs] <;> iassumption

/-! ## Call 1 -/

/-- What a subcore holds in call 1: a share of the table and of the row numbers, its output blocks, those of trip `t` at
    `a t`. -/
def held1 (d : Dev nD) (c : Fin 2) (s : Fin 16) (t : S32768x2x128.Idx → Elt F .f32) (n : S262144.Idx → BitVec 32)
    (a : Fin k1_t1_loop.trips → S262144x2x128.Idx → Elt F .f32) : sProp 𝕄 :=
  iprop(((SparseCore.T d).loc main_v2 ↦{qs c s} t) ∗ ((SparseCore.T d).loc main_v5 ↦{qs c s} n)
    ∗ bigSep Finset.univ fun u : Fin k1_t1_loop.trips => bigSep Finset.univ fun r : Fin 2 => (SparseCore.T d).loc main_v6 ↦[blk1 c s u r]{fullShare} a u)

theorem read_nb1 (d : Dev nD) (c : Fin 2) (s : Fin 16) (u : Fin k1_t1_loop.trips) (r : Fin 2) (n : S262144.Idx → BitVec 32) :
    ((nb1 (coords1 c s) u r).view.read (Elt F) (n : Buf (Elt F) ((nb1 (coords1 c s) u r).view.loc (thr d c s))) : S128.Idx → Elt F .i32)
      = fun x => n ((nb1 (coords1 c s) u r).view.emb x) :=
  funext fun x => (View.read_apply _ _).trans (cast_eq _ _)

theorem read_ob1 (d : Dev nD) (c : Fin 2) (s : Fin 16) (u : Fin k1_t1_loop.trips) (r : Fin 2) (t : S32768x2x128.Idx → Elt F .f32) (n : S262144.Idx → BitVec 32) (hn : ∀ x, (n x).toNat < 32768)
    (h : ∀ x, ((nb1 (coords1 c s) u r).view.read (Elt F) (n : Buf (Elt F) ((nb1 (coords1 c s) u r).view.loc (thr d c s))) x).toNat < 32768) :
    ((ob1 (coords1 c s) u r).view.read (Elt F) (gathered t n : Buf (Elt F) ((ob1 (coords1 c s) u r).view.loc (thr d c s))) : S128x2x128.Idx → Elt F .f32)
      = named t ((nb1 (coords1 c s) u r).view.read (Elt F) (n : Buf (Elt F) ((nb1 (coords1 c s) u r).view.loc (thr d c s)))) h := by
  refine (funext fun x => (View.read_apply _ _).trans (cast_eq _ _)).trans
    ((gathered_block t n (16384 * s.val + 8192 * c.val + 256 * u.val + 128 * r.val) (fun x => (nb1 (coords1 c s) u r).view.emb x)
      (fun x => (ob1 (coords1 c s) u r).view.emb x) ?_ ?_ fun x => hn _).trans (named_congr (read_nb1 d c s u r n).symm _ h))
  · intro x
    show k1_off1 (coords1 c s) u (BitVec.ofNat 32 r.val) 0 + 1 * (x 0).val = _
    rw [k1_off1_eq, Nat.one_mul]; rfl
  · intro x
    refine ⟨?_, ?_, ?_⟩
    · show k1_off2 (coords1 c s) u (BitVec.ofNat 32 r.val) 0 + 1 * (x 0).val = _
      rw [k1_off2_eq, Nat.one_mul]; rfl
    · show k1_off2 (coords1 c s) u (BitVec.ofNat 32 r.val) 1 + 1 * (x 1).val = _
      rw [k1_off2_eq, Nat.one_mul]; exact Nat.zero_add _
    · show k1_off2 (coords1 c s) u (BitVec.ofNat 32 r.val) 2 + 1 * (x 2).val = _
      rw [k1_off2_eq, Nat.one_mul]; exact Nat.zero_add _

/-- One trip of call 1 fills its two blocks. -/
theorem trip1_wp (d : Dev nD) (c : Fin 2) (s : Fin 16) (u : Fin k1_t1_loop.trips) {O : CellTallies nD τ sig (HIx 2)} {W₀ : Waits sig (HIx 2)}
    (t : S32768x2x128.Idx → Elt F .f32) (n : S262144.Idx → BitVec 32) (hn : ∀ x, (n x).toNat < 32768) (a : S262144x2x128.Idx → Elt F .f32) :
    iprop(Transfers.MayWaits (thr d c s) (default : HIx 2) O ∗ ((SparseCore.T d).loc main_v2 ↦{qs c s} t) ∗ ((SparseCore.T d).loc main_v5 ↦{qs c s} n)
        ∗ (bigSep Finset.univ fun r : Fin 2 => (SparseCore.T d).loc main_v6 ↦[blk1 c s u r]{fullShare} a) ∗ scr1 d c s ∗ owed d (tc c) (ts s) O W₀)
      ⊢ wp (M := 𝕄) frame (wpE (defs₀ (F := F)) 𝒱₀ (thr d c s) none) Set.univ (trip1 (F := F) c s u)
        fun _ => iprop(((SparseCore.T d).loc main_v2 ↦{qs c s} t) ∗ ((SparseCore.T d).loc main_v5 ↦{qs c s} n)
          ∗ (bigSep Finset.univ fun r : Fin 2 => (SparseCore.T d).loc main_v6 ↦[blk1 c s u r]{fullShare} (gathered t n : S262144x2x128.Idx → Elt F .f32))
          ∗ scr1 d c s ∗ owed d (tc c) (ts s) O W₀) := by
  have hrd : ∀ r x, ((nb1 (coords1 c s) u r).view.read (Elt F) (n : Buf (Elt F) ((nb1 (coords1 c s) u r).view.loc (thr d c s))) x).toNat < 32768 := by
    intro r x; rw [read_nb1 (F := F) d]; exact hn _
  have hn2 := two_parts (F := F) (ℓ := (SparseCore.T d).loc main_v5) (nb1 (coords1 c s) u 0).view.set (nb1 (coords1 c s) u 1).view.set (qs c s) n
  have hp := step_wp (F := F) d c s (O := O) (W₀ := W₀) (nb1 (coords1 c s) u 0) (nb1 (coords1 c s) u 1) (ob1 (coords1 c s) u 0) (ob1 (coords1 c s) u 1)
    (Memref.whole cc1_scratch0) (Memref.isWhole_whole _) (Memref.whole cc1_scratch1) (Memref.isWhole_whole _)
    (Memref.whole cc1_scratch2) (Memref.isWhole_whole _) (Memref.whole cc1_scratch3) (Memref.isWhole_whole _)
    cc1_scratch4.sem cc1_scratch5.sem cc1_scratch6.sem cc1_scratch7.sem cc1_scoped0.sem cc1_scoped1.sem (qs c s) t
    (n0 := n) (n1 := n) (a0 := a) (a1 := a) (G0 := gathered t n) (G1 := gathered t n) (hrd 0) (hrd 1)
    (read_ob1 d c s u 0 t n hn (hrd 0)) (read_ob1 d c s u 1 t n hn (hrd 1)) ((SparseCore.T d).loc main_v5 ↦{qs c s} n)
    iprop(((SparseCore.T d).loc main_v5 ↦[Finset.univ \ (nb1 (coords1 c s) u 0).view.set]{(qs c s).left} n)
      ∗ ((SparseCore.T d).loc main_v5 ↦[Finset.univ \ (nb1 (coords1 c s) u 1).view.set]{(qs c s).right} n))
    ⟨hn2.1.trans sep_sep_sep_comm.1, sep_sep_sep_comm.1.trans hn2.2⟩
  rw [bigSep_univ_two, bigSep_univ_two]
  exact hp

/-- The output before trip `k`: the rows already in place in the blocks of the trips run, the old contents in the others'. -/
def upTo (k : ℕ) (G a : S262144x2x128.Idx → Elt F .f32) (u : Fin k1_t1_loop.trips) : S262144x2x128.Idx → Elt F .f32 :=
  if u.val < k then G else a

/-- What holds before trip `k` of call 1's loop. -/
def inv1 (d : Dev nD) (c : Fin 2) (s : Fin 16) (O : CellTallies nD τ sig (HIx 2)) (W₀ : Waits sig (HIx 2))
    (t : S32768x2x128.Idx → Elt F .f32) (n : S262144.Idx → BitVec 32) (a : S262144x2x128.Idx → Elt F .f32) (k : ℕ) : sProp 𝕄 :=
  iprop(Transfers.MayWaits (thr d c s) (default : HIx 2) O ∗ held1 d c s t n (upTo k (gathered t n) a) ∗ scr1 d c s ∗ owed d (tc c) (ts s) O W₀)

/-- A trip takes the state before it to the state after it. -/
theorem inv1_step (d : Dev nD) (c : Fin 2) (s : Fin 16) (u : Fin k1_t1_loop.trips) {O : CellTallies nD τ sig (HIx 2)} {W₀ : Waits sig (HIx 2)}
    (t : S32768x2x128.Idx → Elt F .f32) (n : S262144.Idx → BitVec 32) (hn : ∀ x, (n x).toNat < 32768) (a : S262144x2x128.Idx → Elt F .f32) :
    inv1 d c s O W₀ t n a u.val ⊢ wp (M := 𝕄) frame (wpE (defs₀ (F := F)) 𝒱₀ (thr d c s) none) Set.univ (trip1 (F := F) c s u)
      fun _ => inv1 d c s O W₀ t n a (u.val + 1) := by
  classical
  have hp := trip1_wp d c s u (O := O) (W₀ := W₀) t n hn a
  have hrest : (bigSep (Finset.univ.erase u) fun v : Fin k1_t1_loop.trips => bigSep Finset.univ fun r : Fin 2 =>
        (SparseCore.T d).loc main_v6 ↦[blk1 c s v r]{fullShare} upTo u.val (gathered t n) a v : sProp 𝕄)
      = bigSep (Finset.univ.erase u) fun v : Fin k1_t1_loop.trips => bigSep Finset.univ fun r : Fin 2 =>
        (SparseCore.T d).loc main_v6 ↦[blk1 c s v r]{fullShare} upTo (u.val + 1) (gathered t n) a v := by
    refine bigSep_congr fun v hv => ?_
    have hne : v.val ≠ u.val := fun e => (Finset.mem_erase.1 hv).1 (Fin.ext e)
    have e : upTo u.val (gathered t n) a v = upTo (u.val + 1) (gathered t n) a v := by
      unfold upTo
      by_cases h : v.val < u.val
      · rw [if_pos h, if_pos (by omega)]
      · rw [if_neg h, if_neg (by omega)]
    rw [e]
  have e0 : upTo u.val (gathered t n) a u = a := if_neg (Nat.lt_irrefl _)
  have e1 : upTo (u.val + 1) (gathered t n) a u = gathered t n := if_pos (Nat.lt_succ_self _)
  unfold inv1 held1
  rw [bigSep_univ_at _ u, bigSep_univ_at _ u, hrest, e0, e1]
  iintro ⟨#Hmw, ⟨Ht, Hn, Ho, Hrest⟩, Hs, Hw⟩
  iapply (wp_mono frame (wpE (defs₀ (F := F)) 𝒱₀ (thr d c s) none) Set.univ (Q := fun _ => iprop((_ ) ∗ (Transfers.MayWaits (thr d c s) (default : HIx 2) O
      ∗ bigSep (Finset.univ.erase u) fun v : Fin k1_t1_loop.trips => bigSep Finset.univ fun r : Fin 2 =>
        (SparseCore.T d).loc main_v6 ↦[blk1 c s v r]{fullShare} upTo (u.val + 1) (gathered t n) a v))) fun _ => ?_)
  rotate_left
  · iapply (wp_frame_r frame _ _)
    isplitr [Hrest]
    · iapply hp
      isplitr; · iexact Hmw
      isplitl [Ht]; · iexact Ht
      isplitl [Hn]; · iexact Hn
      isplitl [Ho]; · iexact Ho
      isplitl [Hs] <;> iassumption
    · isplitr; · iexact Hmw
      iexact Hrest
  iintro ⟨⟨Ht, Hn, Ho, Hs, Hw⟩, Hmw, Hrest⟩
  isplitl [Hmw]; · iexact Hmw
  isplitl [Ht Hn Ho Hrest]
  · isplitl [Ht]; · iexact Ht
    isplitl [Hn]; · iexact Hn
    isplitl [Ho] <;> iassumption
  isplitl [Hs] <;> iassumption

/-- The subcore's body in call 1 fills its sixty-four blocks. -/
theorem body1_wp (d : Dev nD) (c : Fin 2) (s : Fin 16) {O : CellTallies nD τ sig (HIx 2)} {W₀ : Waits sig (HIx 2)}
    (t : S32768x2x128.Idx → Elt F .f32) (n : S262144.Idx → BitVec 32) (hn : ∀ x, (n x).toNat < 32768) (a : S262144x2x128.Idx → Elt F .f32) :
    iprop(Transfers.MayWaits (thr d c s) (default : HIx 2) O ∗ held1 d c s t n (fun _ => a) ∗ scr1 d c s ∗ owed d (tc c) (ts s) O W₀)
      ⊢ wp (M := 𝕄) frame (wpE (defs₀ (F := F)) 𝒱₀ (thr d c s) none) Set.univ
        (Scf.Loop.for k1_t1_loop k1_t1_ok 0#32 (fun u _ => trip1 (F := F) c s u >>= fun _ => pure 0#32) >>= fun _ => (pure PUnit.unit : Prog (TpuEff nD τ sig (Elt F) Λ₀ (.scVector (tc c) (ts s))) PUnit))
        fun _ => iprop(held1 d c s t n (fun _ => gathered t n) ∗ scr1 d c s ∗ owed d (tc c) (ts s) O W₀) := by
  have e0 : upTo 0 (gathered t n) a = fun _ => a := funext fun u => if_neg (Nat.not_lt_zero _)
  have e1 : upTo k1_t1_loop.trips (gathered t n) a = fun _ => gathered t n := funext fun u => if_pos u.isLt
  have hl := Scf.wp_for_bind frame (wpE (defs₀ (F := F)) 𝒱₀ (thr d c s) none) Set.univ k1_t1_loop.lb k1_t1_loop.ub k1_t1_loop.st k1_t1_ok (0#32 : BitVec 32)
    (fun u _ => trip1 (F := F) c s u >>= fun _ => pure 0#32) (fun k _ => inv1 d c s O W₀ t n a k)
    (fun k acc => by
      rw [wp_bind]
      refine (inv1_step d c s k t n hn a).trans (wp_mono frame _ _ fun _ => ?_)
      rw [wp_pure]
      iintro H
      imodintro
      iexact H)
    (kk := fun _ => pure PUnit.unit) (Q := fun _ => iprop(held1 d c s t n (fun _ => gathered t n) ∗ scr1 d c s ∗ owed d (tc c) (ts s) O W₀))
  have hi : inv1 d c s O W₀ t n a k1_t1_loop.trips = iprop(Transfers.MayWaits (thr d c s) (default : HIx 2) O ∗ held1 d c s t n (fun _ => gathered t n)
      ∗ scr1 d c s ∗ owed d (tc c) (ts s) O W₀) := by unfold inv1; rw [e1]
  iintro H
  iapply hl $$ [H]
  · unfold inv1; rw [e0]; iexact H
  iintro %acc HI
  ihave HI := (Entails.of_eq hi) $$ HI
  icases HI with ⟨-, HI⟩
  rw [wp_pure]
  imodintro
  iexact HI

end

end Cert.Proof.Rows
-- ==== Proof.Launch.lean ====
/-
  The launch: what each call hands a subcore and gets back, and that every subcore meets it.

  A call hands every subcore a share of the table and of the row numbers and the subcore's own blocks of the output;
  the subcores bring the same back, the blocks holding the named rows. Nothing passes between the subcores, so what a
  call hands a SparseCore is simply what it hands that SparseCore's subcores.
-/
module

public import proofs.«01_k».proof.Proof.Bodies

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

/-! ## The obligation of one subcore, in the launch's own terms -/

theorem scr_inj0 : Function.Injective (fun | 0 => cc0_scratch4.sem | 1 => cc0_scratch5.sem | 2 => cc0_scratch6.sem | 3 => cc0_scratch7.sem | 4 => cc0_scoped0.sem | 5 => cc0_scoped1.sem : Fin 6 → DmaSem sig) := by
  decide
theorem scr_inj1 : Function.Injective (fun | 0 => cc1_scratch4.sem | 1 => cc1_scratch5.sem | 2 => cc1_scratch6.sem | 3 => cc1_scratch7.sem | 4 => cc1_scoped0.sem | 5 => cc1_scoped1.sem : Fin 6 → DmaSem sig) := by
  decide

/-- From a body's triple over its own step buffers to the triple the launch asks: the buffers and semaphores come out of
    the subcore's own, and go back. -/
theorem tile_frame (hF : (K (F := F)).Facts) (d : Dev nD) (c : Fin 2) (s : Fin 16) (O : CellTallies nD τ sig (HIx 2)) (W : Waits sig (HIx 2))
    (hO : ∀ g, O g none = 0) (p : Prog (TpuEff nD τ sig (Elt F) Λ₀ (.scVector (tc c) (ts s))) PUnit) (A B X RB RS Y Z : sProp 𝕄)
    (hB : (ownBufs (thr d c s) : sProp 𝕄) = iprop(Y ∗ RB)) (hS : (ownSems0 (thr d c s) : sProp 𝕄) = iprop(Z ∗ RS)) (hX : X ⊣⊢ iprop(Y ∗ Z))
    (hp : iprop(Transfers.MayWaits (thr d c s) (default : HIx 2) O ∗ A ∗ X ∗ owed d (tc c) (ts s) O W)
      ⊢ wp (M := 𝕄) frame (wpE (defs₀ (F := F)) 𝒱₀ (thr d c s) none) Set.univ p fun _ => iprop(B ∗ X ∗ owed d (tc c) (ts s) O W)) :
    iprop(levAts (K (F := F)).L (K (F := F)).lev ∗ emp ∗ A ∗ scopedBufs (thr d c s) ∗ scopedSems0 (thr d c s) ∗ owes (thr d c s) O W)
      ⊢ wp (M := 𝕄) frame (wpE (defs₀ (F := F)) 𝒱₀ (thr d c s) none) Set.univ p
        fun _ => iprop(B ∗ scopedBufs (thr d c s) ∗ scopedSems0 (thr d c s) ∗ ∃ W', ⌜∀ p ∈ W', p ∈ W ∨ p.2 = none⌝ ∗ owes (thr d c s) O W') := by
  rw [(K (F := F)).scopedBufs_V hF d (tc c) (ts s), SparseCore.Cfg.scopedSems0_V (Val := Elt F) d (tc c) (ts s), hB, hS]
  iintro ⟨#Hlv, -, HA, ⟨HY, HRB⟩, ⟨HZ, HRS⟩, HO⟩
  ihave Hmw := (show levAts (K (F := F)).L (K (F := F)).lev ⊢ Transfers.MayWaits (thr d c s) (default : HIx 2) O from
    (K (F := F)).mayWaits_none (thr := thr d c s) hO) $$ Hlv
  iapply (wp_mono frame (wpE (defs₀ (F := F)) 𝒱₀ (thr d c s) none) Set.univ (Q := fun _ => iprop((_ ) ∗ (RB ∗ RS))) fun _ => ?_)
  rotate_left
  · iapply (wp_frame_r frame _ _)
    isplitr [HRB HRS]
    · iapply hp
      isplitl [Hmw]; · iexact Hmw
      isplitl [HA]; · iexact HA
      isplitl [HY HZ]; · iapply hX.2; isplitl [HY] <;> iassumption
      unfold owed
      iexists W; isplitr
      · ipureintro; exact fun _ h => .inl h
      · iexact HO
    · isplitl [HRB] <;> iassumption
  iintro ⟨⟨HB, HX, Hw⟩, HRB, HRS⟩
  ihave HX := hX.1 $$ HX
  icases HX with ⟨HY, HZ⟩
  isplitl [HB]; · iexact HB
  isplitl [HY HRB]; · isplitl [HY] <;> iassumption
  isplitl [HZ HRS]; · isplitl [HZ] <;> iassumption
  unfold owed
  iexact Hw

theorem scr0_split (d : Dev nD) (c : Fin 2) (s : Fin 16) : (scr0 d c s : sProp 𝕄) ⊣⊢ iprop(((∃ f, (thr d c s).loc cc0_scratch0 ↦{fullShare} f)
      ∗ (∃ f, (thr d c s).loc cc0_scratch1 ↦{fullShare} f) ∗ (∃ f, (thr d c s).loc cc0_scratch2 ↦{fullShare} f) ∗ (∃ f, (thr d c s).loc cc0_scratch3 ↦{fullShare} f))
    ∗ (semVal (thr d c s, SemLoc.dma cc0_scratch4.sem) 0 ∗ semVal (thr d c s, SemLoc.dma cc0_scratch5.sem) 0 ∗ semVal (thr d c s, SemLoc.dma cc0_scratch6.sem) 0
      ∗ semVal (thr d c s, SemLoc.dma cc0_scratch7.sem) 0 ∗ semVal (thr d c s, SemLoc.dma cc0_scoped0.sem) 0 ∗ semVal (thr d c s, SemLoc.dma cc0_scoped1.sem) 0)) := by
  rw [scr0, scratch_whole (F := F) d c s _ _ _ _ (View.set_whole _) (View.set_whole _) (View.set_whole _) (View.set_whole _)]
  constructor
  · iintro ⟨H1, H2, H3, H4, H⟩
    isplitr [H]
    · isplitl [H1]; · iexact H1
      isplitl [H2]; · iexact H2
      isplitl [H3] <;> iassumption
    · iexact H
  · iintro ⟨⟨H1, H2, H3, H4⟩, H⟩
    isplitl [H1]; · iexact H1
    isplitl [H2]; · iexact H2
    isplitl [H3]; · iexact H3
    isplitl [H4] <;> iassumption

theorem tile0 (hF : (K (F := F)).Facts) (d : Dev nD) (c : Fin 2) (s : Fin 16) (O : CellTallies nD τ sig (HIx 2)) (W : Waits sig (HIx 2))
    (hO : ∀ g, O g none = 0) (t : S32768x2x128.Idx → Elt F .f32) (n : S8192.Idx → BitVec 32) (hn : ∀ x, (n x).toNat < 32768) (a : S8192x2x128.Idx → Elt F .f32) :
    iprop(levAts (K (F := F)).L (K (F := F)).lev ∗ emp ∗ held0 d c s t n a ∗ scopedBufs (thr d c s) ∗ scopedSems0 (thr d c s) ∗ owes (thr d c s) O W)
      ⊢ wp (M := 𝕄) frame (wpE (defs₀ (F := F)) 𝒱₀ (thr d c s) none) Set.univ (body0 c s)
        fun _ => iprop(held0 d c s t n (gathered t n) ∗ scopedBufs (thr d c s) ∗ scopedSems0 (thr d c s) ∗ ∃ W', ⌜∀ p ∈ W', p ∈ W ∨ p.2 = none⌝ ∗ owes (thr d c s) O W') := by
  obtain ⟨RB, hB⟩ := ownBufs_four (F := F) d c s (fun | 0 => cc0_scratch0 | 1 => cc0_scratch1 | 2 => cc0_scratch2 | 3 => cc0_scratch3) (by decide)
    (fun k => match k with | 0 => rfl | 1 => rfl | 2 => rfl | 3 => rfl)
  obtain ⟨RS, hS⟩ := ownSems_six (F := F) d c s _ scr_inj0 (by decide)
  exact tile_frame hF d c s O W hO _ _ _ (scr0 d c s) RB RS _ _ hB hS (scr0_split d c s) (body0_wp d c s t n hn a)

/-- A subcore's body in call 1: thirty-two steps. -/
def loop1 (c : Fin 2) (s : Fin 16) : Prog (TpuEff nD τ sig (Elt F) Λ₀ (.scVector (tc c) (ts s))) PUnit :=
  Scf.Loop.for k1_t1_loop k1_t1_ok 0#32 (fun u _ => trip1 (F := F) c s u >>= fun _ => pure 0#32) >>= fun _ => pure ⟨⟩

theorem scr1_split (d : Dev nD) (c : Fin 2) (s : Fin 16) : (scr1 d c s : sProp 𝕄) ⊣⊢ iprop(((∃ f, (thr d c s).loc cc1_scratch0 ↦{fullShare} f)
      ∗ (∃ f, (thr d c s).loc cc1_scratch1 ↦{fullShare} f) ∗ (∃ f, (thr d c s).loc cc1_scratch2 ↦{fullShare} f) ∗ (∃ f, (thr d c s).loc cc1_scratch3 ↦{fullShare} f))
    ∗ (semVal (thr d c s, SemLoc.dma cc1_scratch4.sem) 0 ∗ semVal (thr d c s, SemLoc.dma cc1_scratch5.sem) 0 ∗ semVal (thr d c s, SemLoc.dma cc1_scratch6.sem) 0
      ∗ semVal (thr d c s, SemLoc.dma cc1_scratch7.sem) 0 ∗ semVal (thr d c s, SemLoc.dma cc1_scoped0.sem) 0 ∗ semVal (thr d c s, SemLoc.dma cc1_scoped1.sem) 0)) := by
  rw [scr1, scratch_whole (F := F) d c s _ _ _ _ (View.set_whole _) (View.set_whole _) (View.set_whole _) (View.set_whole _)]
  constructor
  · iintro ⟨H1, H2, H3, H4, H⟩
    isplitr [H]
    · isplitl [H1]; · iexact H1
      isplitl [H2]; · iexact H2
      isplitl [H3] <;> iassumption
    · iexact H
  · iintro ⟨⟨H1, H2, H3, H4⟩, H⟩
    isplitl [H1]; · iexact H1
    isplitl [H2]; · iexact H2
    isplitl [H3]; · iexact H3
    isplitl [H4] <;> iassumption

theorem tile1 (hF : (K (F := F)).Facts) (d : Dev nD) (c : Fin 2) (s : Fin 16) (O : CellTallies nD τ sig (HIx 2)) (W : Waits sig (HIx 2))
    (hO : ∀ g, O g none = 0) (t : S32768x2x128.Idx → Elt F .f32) (n : S262144.Idx → BitVec 32) (hn : ∀ x, (n x).toNat < 32768) (a : S262144x2x128.Idx → Elt F .f32) :
    iprop(levAts (K (F := F)).L (K (F := F)).lev ∗ emp ∗ held1 d c s t n (fun _ => a) ∗ scopedBufs (thr d c s) ∗ scopedSems0 (thr d c s) ∗ owes (thr d c s) O W)
      ⊢ wp (M := 𝕄) frame (wpE (defs₀ (F := F)) 𝒱₀ (thr d c s) none) Set.univ (loop1 c s)
        fun _ => iprop(held1 d c s t n (fun _ => gathered t n) ∗ scopedBufs (thr d c s) ∗ scopedSems0 (thr d c s) ∗ ∃ W', ⌜∀ p ∈ W', p ∈ W ∨ p.2 = none⌝ ∗ owes (thr d c s) O W') := by
  obtain ⟨RB, hB⟩ := ownBufs_four (F := F) d c s (fun | 0 => cc1_scratch0 | 1 => cc1_scratch1 | 2 => cc1_scratch2 | 3 => cc1_scratch3) (by decide)
    (fun k => match k with | 0 => rfl | 1 => rfl | 2 => rfl | 3 => rfl)
  obtain ⟨RS, hS⟩ := ownSems_six (F := F) d c s _ scr_inj1 (by decide)
  exact tile_frame hF d c s O W hO _ _ _ (scr1 d c s) RB RS _ _ hB hS (scr1_split d c s) (body1_wp d c s t n hn a)

/-! ## What the handshakes carry -/

variable (t : Dev nD → S32768x2x128.Idx → Elt F .f32) (n0 : Dev nD → S8192.Idx → BitVec 32) (n1 : Dev nD → S262144.Idx → BitVec 32)
  (a0 : Dev nD → S8192x2x128.Idx → Elt F .f32) (a1 : Dev nD → S262144x2x128.Idx → Elt F .f32)

def P : (K (F := F)).Pay (nD := nD) (Val := Elt F) (Name := ℕ) (U := UU) where
  st := fun q d c => match q with
    | 0 => bigSep Finset.univ fun i : Fin 16 => held0 d c i (t d) (n0 d) (a0 d)
    | 1 => bigSep Finset.univ fun i : Fin 16 => held1 d c i (t d) (n1 d) (fun _ => a1 d)
  dn := fun q d c => match q with
    | 0 => bigSep Finset.univ fun i : Fin 16 => held0 d c i (t d) (n0 d) (gathered (t d) (n0 d))
    | 1 => bigSep Finset.univ fun i : Fin 16 => held1 d c i (t d) (n1 d) (fun _ => gathered (t d) (n1 d))
  go := fun q d c i => match q with
    | 0 => held0 d c i (t d) (n0 d) (a0 d)
    | 1 => held1 d c i (t d) (n1 d) (fun _ => a1 d)
  td := fun q d c i => match q with
    | 0 => held0 d c i (t d) (n0 d) (gathered (t d) (n0 d))
    | 1 => held1 d c i (t d) (n1 d) (fun _ => gathered (t d) (n1 d))
  x := fun _ _ => iprop(emp)

instance held0_storable (d : Dev nD) (c : Fin 2) (i : Fin 16) (t n a) : BI.Storable (upEmb : UEmb _ 𝕄) (held0 (F := F) d c i t n a) := by
  unfold held0; infer_instance
instance held1_storable (d : Dev nD) (c : Fin 2) (i : Fin 16) (t n a) : BI.Storable (upEmb : UEmb _ 𝕄) (held1 (F := F) d c i t n a) := by
  unfold held1; infer_instance

instance P_storable : (P (F := F) t n0 n1 a0 a1).IsStorable where
  st q d c := match q with
    | 0 => (inferInstance : BI.Storable (upEmb : UEmb _ 𝕄) (bigSep Finset.univ fun i : Fin 16 => held0 d c i (t d) (n0 d) (a0 d)))
    | 1 => (inferInstance : BI.Storable (upEmb : UEmb _ 𝕄) (bigSep Finset.univ fun i : Fin 16 => held1 d c i (t d) (n1 d) (fun _ => a1 d)))
  dn q d c := match q with
    | 0 => (inferInstance : BI.Storable (upEmb : UEmb _ 𝕄) (bigSep Finset.univ fun i : Fin 16 => held0 d c i (t d) (n0 d) (gathered (t d) (n0 d))))
    | 1 => (inferInstance : BI.Storable (upEmb : UEmb _ 𝕄) (bigSep Finset.univ fun i : Fin 16 => held1 d c i (t d) (n1 d) (fun _ => gathered (t d) (n1 d))))
  go q d c i := match q with
    | 0 => held0_storable d c i _ _ _
    | 1 => held1_storable d c i _ _ _
  td q d c i := match q with
    | 0 => held0_storable d c i _ _ _
    | 1 => held1_storable d c i _ _ _

theorem obl_post {th : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes th O W')
      ⊢ iprop(A ∗ B ∗ C ∗ ∃ W', ⌜∀ p ∈ W', p ∈ W ∨ p.2 = none ∨ p.2 = some q⌝ ∗ owes th O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem defs₀_call0 (c : Fin 2) (s : Fin 16) : defs₀ (F := F) (.scVector (tc c) (ts s)) 0 () = body0 (F := F) c s := by
  rw [show defs₀ (F := F) (.scVector (tc c) (ts s)) 0 () = SparseCore.onTile hcore0 hsub0 (fun c s => cc0_k (F := F) (coords0 c s)
    (Memref.whole main_v2_scv) (Memref.isWhole_whole _) (Memref.whole main_v3_scv) (Memref.isWhole_whole _) (Memref.whole main_v4_scv) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) cc0_scratch4 cc0_scratch5 cc0_scratch6 cc0_scratch7 cc0_scoped0 cc0_scoped1) ⟨⟩ (tc c) (ts s) from rfl]
  unfold SparseCore.onTile
  exact (dif_pos ⟨c.isLt, s.isLt⟩).trans (cc0_eq c s)

set_option maxRecDepth 16384 in
theorem tileObl0 (hn : ∀ d x, (n0 d x).toNat < 32768) : (K (F := F)).TileObl (D (F := F)) 𝒱 (P t n0 n1 a0 a1) v₀ 0 := by
  intro d c i O W hO _ _
  simp only [show (P t n0 n1 a0 a1).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [show defs₀ (F := F) (.scVector ((K (F := F)).core 0 c) ((K (F := F)).sub 0 i)) 0 () = _ from defs₀_call0 c i]
  exact (tile0 facts d c i O W hO (t d) (n0 d) (hn d) (a0 d)).trans (wp_mono frame _ _ fun _ => obl_post)

theorem defs₀_call1 (c : Fin 2) (s : Fin 16) : defs₀ (F := F) (.scVector (tc c) (ts s)) 1 () = loop1 (F := F) c s := by
  rw [show defs₀ (F := F) (.scVector (tc c) (ts s)) 1 () = SparseCore.onTile hcore1 hsub1 (fun c s => cc1_k (F := F) (coords1 c s)
    (Memref.whole main_v2_scv) (Memref.isWhole_whole _) (Memref.whole main_v5_scv) (Memref.isWhole_whole _) (Memref.whole main_v6_scv) (Memref.isWhole_whole _)
    (Memref.whole cc1_scratch0) (Memref.isWhole_whole _) (Memref.whole cc1_scratch1) (Memref.isWhole_whole _) (Memref.whole cc1_scratch2) (Memref.isWhole_whole _)
    (Memref.whole cc1_scratch3) (Memref.isWhole_whole _) cc1_scratch4 cc1_scratch5 cc1_scratch6 cc1_scratch7 cc1_scoped0 cc1_scoped1) ⟨⟩ (tc c) (ts s) from rfl]
  unfold SparseCore.onTile
  exact (dif_pos ⟨c.isLt, s.isLt⟩).trans (cc1_eq c s)

set_option maxRecDepth 16384 in
theorem tileObl1 (hn : ∀ d x, (n1 d x).toNat < 32768) : (K (F := F)).TileObl (D (F := F)) 𝒱 (P t n0 n1 a0 a1) v₀ 1 := by
  intro d c i O W hO _ _
  simp only [show (P t n0 n1 a0 a1).ox = fun _ _ => 0 from rfl, add_zero]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [show defs₀ (F := F) (.scVector ((K (F := F)).core 1 c) ((K (F := F)).sub 1 i)) 1 () = _ from defs₀_call1 c i]
  exact (tile1 facts d c i O W hO (t d) (n1 d) (hn d) (a1 d)).trans (wp_mono frame _ _ fun _ => obl_post)

theorem vecSplit0 : (K (F := F)).VecSplit' (P t n0 n1 a0 a1) 0 := by
  intro d c
  show (bigSep Finset.univ fun i : Fin 16 => held0 d c i (t d) (n0 d) (a0 d)) ⊢ |={Set.univ}=> iprop(
    (bigSep Finset.univ fun i : Fin 16 => held0 d c i (t d) (n0 d) (a0 d))
    ∗ ((bigSep Finset.univ fun i : Fin 16 => held0 d c i (t d) (n0 d) (gathered (t d) (n0 d)))
      -∗ bigSep Finset.univ fun i : Fin 16 => held0 d c i (t d) (n0 d) (gathered (t d) (n0 d))))
  iintro H; imodintro
  isplitl [H]; · iexact H
  iintro H; iexact H

theorem vecSplit1 : (K (F := F)).VecSplit' (P t n0 n1 a0 a1) 1 := by
  intro d c
  show (bigSep Finset.univ fun i : Fin 16 => held1 d c i (t d) (n1 d) (fun _ => a1 d)) ⊢ |={Set.univ}=> iprop(
    (bigSep Finset.univ fun i : Fin 16 => held1 d c i (t d) (n1 d) (fun _ => a1 d))
    ∗ ((bigSep Finset.univ fun i : Fin 16 => held1 d c i (t d) (n1 d) (fun _ => gathered (t d) (n1 d)))
      -∗ bigSep Finset.univ fun i : Fin 16 => held1 d c i (t d) (n1 d) (fun _ => gathered (t d) (n1 d))))
  iintro H; imodintro
  isplitl [H]; · iexact H
  iintro H; iexact H

end Cert.Proof.Rows
-- ==== Proof.Whole.lean ====
/-
  The whole program: the host builds the table and the two flat lists of row numbers, and the two calls gather. Each
  call's arrays are cut into the subcores' shares and blocks and put together again; what is left at the end is both
  outputs at the named rows of the table, and the arguments as they were.
-/
module

public import proofs.«01_k».proof.Proof.Launch

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_sub_split held_congr seq after after_of_forall_not_mem tcRefs devRef_mem_tcRefs launchContents wp_seq)

variable {F : FTy → Type}

local notation "𝕄" => MT nD τ sig (HIx 2) (Elt F) ℕ UU ℕ

variable [FloatOps F] (m : (ℓ : Loc nD τ sig) → Buf (Elt F) ℓ) (ρ : Dev nD → PrngReg)

/-! ## The host's operations -/

/-- What the host runs before call 0: the clouds side by side (the second padded with zeros), as rows of two halves;
    the first list of row numbers, flat. -/
abbrev hostOps0 : List (HloOp τ sig (Elt F)) :=
  [StableHlo.nullary main_c (constantI S_ 32 0#32),
   StableHlo.TRef.unary (StableHlo.TRef.of (T := ⟨S_, .i32⟩) main_c) (StableHlo.TRef.of (T := ⟨S_, .f32⟩) main_call0_v0) (sitofp .f32),
   StableHlo.TRef.binary (StableHlo.TRef.of (T := ⟨S8x4096x3, .f32⟩) main_arg0) (StableHlo.TRef.of (T := ⟨S_, .f32⟩) main_call0_v0) (StableHlo.TRef.of (T := ⟨S8x4096x128, .f32⟩) main_v0) (fun x v => pad S8x4096x128 ![0, 0, 0] ![0, 0, 125] ![0, 0, 0] x v pads_S8x4096x3_S8x4096x128_000_000_01250 h_S_),
   StableHlo.binary main_arg1 main_v0 main_v1 ((fun a b => concatenate S8x4096x256 2 [⟨S8x4096x128, a⟩, ⟨S8x4096x128, b⟩] concatenates_S8x4096x128_S8x4096x128_S8x4096x256_d2) : (⟨S8x4096x128, .f32⟩ : BufTy).Contents (Elt F) → (⟨S8x4096x128, .f32⟩ : BufTy).Contents (Elt F) → (⟨S8x4096x256, .f32⟩ : BufTy).Contents (Elt F)),
   StableHlo.reshape main_v1 main_v2 (rfl : (.f32 : EltTy) = .f32) shapeCasts_S8x4096x256_S32768x2x128,
   StableHlo.reshape main_arg2 main_v3 (rfl : (.i32 : EltTy) = .i32) shapeCasts_S8x1024_S8192]

/-- What it runs between the calls: the second list of row numbers, flat. -/
abbrev hostOps1 : List (HloOp τ sig (Elt F)) :=
  [StableHlo.reshape main_arg3 main_v5 (rfl : (.i32 : EltTy) = .i32) shapeCasts_S8x32x1024_S262144]

theorem main_eq (d : Dev nD) : main (F := F) d
    = seq hostOps0 >>= fun _ => sc.run d 0 >>= fun _ => seq hostOps1 >>= fun _ => sc.run d 1 >>= fun _ => pure ⟨⟩ := rfl

abbrev b2 : DevRef τ sig := Proc.devRef .tc main_v2
abbrev b3 : DevRef τ sig := Proc.devRef .tc main_v3
abbrev b4 : DevRef τ sig := Proc.devRef .tc main_v4
abbrev b5 : DevRef τ sig := Proc.devRef .tc main_v5
abbrev b6 : DevRef τ sig := Proc.devRef .tc main_v6

/-- The arrays when call 0 starts, -/
def V1 (d : Dev nD) : Valuation τ sig (Elt F) := after hostOps0 (launchContents m d)
/-- the table, the row numbers and the output call 0 finds, -/
def tab (d : Dev nD) : S32768x2x128.Idx → Elt F .f32 := V1 m d b2
def no0 (d : Dev nD) : S8192.Idx → BitVec 32 := V1 m d b3
def old0 (d : Dev nD) : S8192x2x128.Idx → Elt F .f32 := V1 m d b4
/-- the arrays when call 0 is done, -/
def V2 (d : Dev nD) : Valuation τ sig (Elt F) := Function.update (V1 m d) b4 (gathered (tab m d) (no0 m d))
/-- and when call 1 starts, -/
def V3 (d : Dev nD) : Valuation τ sig (Elt F) := after hostOps1 (V2 m d)
/-- the row numbers and the output call 1 finds, -/
def no1 (d : Dev nD) : S262144.Idx → BitVec 32 := V3 m d b5
def old1 (d : Dev nD) : S262144x2x128.Idx → Elt F .f32 := V3 m d b6
/-- and the arrays at the end. -/
def V4 (d : Dev nD) : Valuation τ sig (Elt F) := Function.update (V3 m d) b6 (gathered (tab m d) (no1 m d))

theorem V3_of_ne (d : Dev nD) (b : Ref sig .tc) (h : b ≠ main_v5) : V3 m d (Proc.devRef .tc b) = V2 m d (Proc.devRef .tc b) :=
  StableHlo.reshape_result_ne (x := main_arg3) (y := main_v5) _ _ _ _ (V2 m d) h

theorem V3_tab (d : Dev nD) : V3 m d b2 = tab m d :=
  (V3_of_ne m d main_v2 (by decide)).trans (Function.update_of_ne (show b2 ≠ b4 by decide) _ _)

/-! ## The arrays, and a call's arrays out of them -/

theorem held_three (d : Dev nD) (x y z : DevRef τ sig) (hx : x ∉ ({y, z} : Finset (DevRef τ sig))) (hy : y ∉ ({z} : Finset (DevRef τ sig)))
    (hs : {x, y, z} ⊆ tcRefs τ sig) (V : Valuation τ sig (Elt F)) :
    (held (SparseCore.T d) (tcRefs τ sig) V : sProp 𝕄) = iprop(((((d, x) : Loc nD τ sig) ↦{fullShare} V x) ∗ (((d, y) : Loc nD τ sig) ↦{fullShare} V y)
      ∗ (((d, z) : Loc nD τ sig) ↦{fullShare} V z)) ∗ held (SparseCore.T d) (tcRefs τ sig \ {x, y, z}) V) := by
  rw [held_sub_split (SparseCore.T d) hs]
  congr 1
  unfold held
  rw [SparseCore.bigSep_insert' hx, SparseCore.bigSep_insert' hy, bigSep_singleton]

/-- What is not among a call's arrays is not touched by the call's writing its output. -/
theorem held_rest (d : Dev nD) (x y z : DevRef τ sig) (V : Valuation τ sig (Elt F)) (f) :
    (held (SparseCore.T d) (tcRefs τ sig \ {x, y, z}) V : sProp 𝕄) = held (SparseCore.T d) (tcRefs τ sig \ {x, y, z}) (Function.update V z f) :=
  held_congr _ fun b hb => (Function.update_of_ne (fun e => by subst e; simp at hb) _ _).symm

theorem call0_arrays (d : Dev nD) (t : S32768x2x128.Idx → Elt F .f32) (n : S8192.Idx → BitVec 32) (a : S8192x2x128.Idx → Elt F .f32) :
    (bigSep Finset.univ fun c : Fin 2 => bigSep Finset.univ fun i : Fin 16 => held0 d c i t n a : sProp 𝕄)
      = iprop(((SparseCore.T d).loc main_v2 ↦{fullShare} t) ∗ ((SparseCore.T d).loc main_v3 ↦{fullShare} n) ∗ (SparseCore.T d).loc main_v4 ↦{fullShare} a) := by
  rw [pts_shares (ℓ := (SparseCore.T d).loc main_v2), pts_shares (ℓ := (SparseCore.T d).loc main_v3), out0_blocks d a]
  unfold held0
  simp only [bigSep_sep']

theorem call1_arrays (d : Dev nD) (t : S32768x2x128.Idx → Elt F .f32) (n : S262144.Idx → BitVec 32) (a : S262144x2x128.Idx → Elt F .f32) :
    (bigSep Finset.univ fun c : Fin 2 => bigSep Finset.univ fun i : Fin 16 => held1 d c i t n (fun _ => a) : sProp 𝕄)
      = iprop(((SparseCore.T d).loc main_v2 ↦{fullShare} t) ∗ ((SparseCore.T d).loc main_v5 ↦{fullShare} n) ∗ (SparseCore.T d).loc main_v6 ↦{fullShare} a) := by
  rw [pts_shares (ℓ := (SparseCore.T d).loc main_v2), pts_shares (ℓ := (SparseCore.T d).loc main_v5), out1_blocks d a]
  unfold held1
  simp only [bigSep_sep']

theorem unscoped_held (d : Dev nD) : (unscopedBufs d (fun b => m ((SparseCore.T d).loc b)) : sProp 𝕄) = held (SparseCore.T d) (tcRefs τ sig) (launchContents m d) := by
  unfold unscopedBufs held tcRefs
  rw [show (Finset.univ.filter fun b : Ref sig .tc => ¬ b.isScoped) = Finset.univ by decide, bigSep_map]
  rfl

/-- The hand-off of both calls, at this launch's contents. -/
abbrev PM : (K (F := F)).Pay (nD := nD) (Val := Elt F) (Name := ℕ) (U := UU) := P (tab m) (no0 m) (no1 m) (old0 m) (old1 m)

theorem call0_in (d : Dev nD) : (held (SparseCore.T d) (tcRefs τ sig) (V1 m d) : sProp 𝕄)
    = iprop((bigSep Finset.univ fun c : Fin ((K (F := F)).nCore 0) => (PM m).st 0 d c) ∗ held (SparseCore.T d) (tcRefs τ sig \ {b2, b3, b4}) (V1 m d)) := by
  rw [held_three d b2 b3 b4 (by decide) (by decide) (by decide), show (bigSep Finset.univ fun c : Fin ((K (F := F)).nCore 0) => (PM m).st 0 d c) = _ from
    call0_arrays d (tab m d) (no0 m d) (old0 m d)]
  rfl

theorem call0_out (d : Dev nD) : (held (SparseCore.T d) (tcRefs τ sig) (V2 m d) : sProp 𝕄)
    = iprop((bigSep Finset.univ fun c : Fin ((K (F := F)).nCore 0) => (PM m).dn 0 d c) ∗ held (SparseCore.T d) (tcRefs τ sig \ {b2, b3, b4}) (V1 m d)) := by
  rw [held_three d b2 b3 b4 (by decide) (by decide) (by decide), show (bigSep Finset.univ fun c : Fin ((K (F := F)).nCore 0) => (PM m).dn 0 d c) = _ from
    call0_arrays d (tab m d) (no0 m d) (gathered (tab m d) (no0 m d)), held_rest d b2 b3 b4 (V1 m d) (gathered (tab m d) (no0 m d)),
    V2, Function.update_of_ne (show b2 ≠ b4 by decide), Function.update_of_ne (show b3 ≠ b4 by decide), Function.update_self]
  rfl

theorem call1_in (d : Dev nD) : (held (SparseCore.T d) (tcRefs τ sig) (V3 m d) : sProp 𝕄)
    = iprop((bigSep Finset.univ fun c : Fin ((K (F := F)).nCore 1) => (PM m).st 1 d c) ∗ held (SparseCore.T d) (tcRefs τ sig \ {b2, b5, b6}) (V3 m d)) := by
  rw [held_three d b2 b5 b6 (by decide) (by decide) (by decide), show (bigSep Finset.univ fun c : Fin ((K (F := F)).nCore 1) => (PM m).st 1 d c) = _ from
    call1_arrays d (tab m d) (no1 m d) (old1 m d), V3_tab]
  rfl

theorem call1_out (d : Dev nD) : (held (SparseCore.T d) (tcRefs τ sig) (V4 m d) : sProp 𝕄)
    = iprop((bigSep Finset.univ fun c : Fin ((K (F := F)).nCore 1) => (PM m).dn 1 d c) ∗ held (SparseCore.T d) (tcRefs τ sig \ {b2, b5, b6}) (V3 m d)) := by
  rw [held_three d b2 b5 b6 (by decide) (by decide) (by decide), show (bigSep Finset.univ fun c : Fin ((K (F := F)).nCore 1) => (PM m).dn 1 d c) = _ from
    call1_arrays d (tab m d) (no1 m d) (gathered (tab m d) (no1 m d)), held_rest d b2 b5 b6 (V3 m d) (gathered (tab m d) (no1 m d)),
    V4, Function.update_of_ne (show b2 ≠ b6 by decide), Function.update_of_ne (show b5 ≠ b6 by decide), Function.update_self, V3_tab]
  rfl

/-! ## The program on the TensorCore -/

/-- The launch's initial user resource: the handshakes' whole state. -/
def u₀ : UU := (initOf (K (F := F)).hsCells (K (F := F)).hsToks, 1)

/-- Nothing for everyone is nothing. -/
theorem nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun th : Thread nD τ => bigSep Finset.univ fun q : Fin 2 => (PM m).x q th) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [nothing]; iempintro
  rw [show (bigSep Finset.univ fun th : Thread nD τ => bigSep Finset.univ fun q : Fin 2 => (PM m).x q th) = bigSep Finset.univ fun _ => iprop(emp) from
    bigSep_congr fun _ _ => nothing _, nothing]
  iempintro

theorem hmain (κ : GSem nD τ sig → ℕ) (d : Dev nD) :
    iprop((K (F := F)).ctx EH (PM m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ held (SparseCore.T d) (tcRefs τ sig) (V4 m d) ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq 𝒱 none Set.univ d (tcRefs τ sig) _ hostOps0 (List.forall_iff_forall_mem.mp (by simp)) (List.forall_iff_forall_mem.mp ⟨rfl, rfl, rfl, rfl, rfl, rfl⟩) (launchContents m d)) $$ [Hb Hheld]
  · isplitl [Hb] <;> iassumption
  rw [show after hostOps0 (launchContents m d) = V1 m d from rfl]
  iintro ⟨Hb, Hheld⟩
  ihave Hh := (Entails.of_eq (call0_in m d)) $$ Hheld
  icases Hh with ⟨Hin, Hrest⟩
  rw [wp_bind]
  iapply ((K (F := F)).wp_run (D (F := F)) 𝒱 (EH := EH) (P := PM m) κ d 0) $$ [Hst Hin Hb Hrest Hts]
  isplitr; · iexact Hctx
  isplitl [Hst]; · iexact Hst
  isplitl [Hin]; · iexact Hin
  iintro ⟨Hst, Hdn⟩
  ihave Hheld := (Entails.of_eq (call0_out m d).symm) $$ [Hdn Hrest]
  · isplitl [Hdn] <;> iassumption
  iapply (wp_seq 𝒱 none Set.univ d (tcRefs τ sig) _ hostOps1 (List.forall_iff_forall_mem.mp (by simp)) (fun op h => by rw [List.mem_singleton.mp h]; rfl) (V2 m d)) $$ [Hb Hheld]
  · isplitl [Hb] <;> iassumption
  rw [show after hostOps1 (V2 m d) = V3 m d from rfl]
  iintro ⟨Hb, Hheld⟩
  ihave Hh := (Entails.of_eq (call1_in m d)) $$ Hheld
  icases Hh with ⟨Hin, Hrest⟩
  rw [wp_bind]
  iapply ((K (F := F)).wp_run (D (F := F)) 𝒱 (EH := EH) (P := PM m) κ d 1) $$ [Hst Hin Hb Hrest Hts]
  isplitr; · iexact Hctx
  isplitl [Hst]; · iexact Hst
  isplitl [Hin]; · iexact Hin
  iintro ⟨Hst, Hdn⟩
  rw [wp_pure]; imodintro
  isplitl [Hst]; · iexact Hst
  isplitr [Hb Hts]
  · iapply (Entails.of_eq (call1_out m d).symm)
    isplitl [Hdn] <;> iassumption
  isplitl [Hb] <;> iassumption

/-- What the claims read of device `d`'s final state: every array at its end contents. -/
def fq (d : Dev nD) (s' : Phys nD τ sig (Elt F)) : Prop := ∀ b : Ref sig .tc, s'.mem.mem ((SparseCore.T d).loc b) = V4 m d (Proc.devRef .tc b)

theorem hfin (d : Dev nD) (s' : Phys nD τ sig (Elt F)) :
    iprop(held (SparseCore.T d) (tcRefs τ sig) (V4 m d) ∗ SI s') ⊢ (⌜fq m d s'⌝ : sProp 𝕄) := by
  have h (b : Ref sig .tc) : iprop(held (SparseCore.T d) (tcRefs τ sig) (V4 m d) ∗ SI s')
      ⊢ (⌜s'.mem.mem ((SparseCore.T d).loc b) = V4 m d (Proc.devRef .tc b)⌝ : sProp 𝕄) := by
    rw [held_sub_split (SparseCore.T d) (Finset.singleton_subset_iff.mpr (devRef_mem_tcRefs b))]
    unfold held
    rw [bigSep_singleton]
    iintro ⟨⟨Hb, -⟩, HSI⟩
    ihave H := (SI_pointsTo_agree (st := s') (ℓ := (SparseCore.T d).loc b) (I := Finset.univ) (q := fullShare) (f := V4 m d (Proc.devRef .tc b))) $$ [HSI Hb]
    · isplitl [HSI] <;> iassumption
    icases H with %e
    ipureintro; exact funext fun i => e i (Finset.mem_univ i)
  unfold fq
  exact (forall_intro h).trans pure_forall.2

/-- Every index word of the two arguments names a row of the table. -/
def PreOK : Prop := ∀ d : Dev nD, (∀ j, (m ((SparseCore.T d).loc main_arg2) j : BitVec 32).toNat < 32768)
  ∧ ∀ j, (m ((SparseCore.T d).loc main_arg3) j : BitVec 32).toNat < 32768

/-! ## The host's values -/

/-- The table: each point's features, then its coordinates padded with zeros, as a row of two halves. -/
def tableOf (xyz : S8x4096x3.Idx → Elt F .f32) (feat : S8x4096x128.Idx → Elt F .f32) : S32768x2x128.Idx → Elt F .f32 :=
  shapeCast S32768x2x128 (concatenate S8x4096x256 2 [⟨S8x4096x128, feat⟩, ⟨S8x4096x128,
    pad S8x4096x128 ![0, 0, 0] ![0, 0, 125] ![0, 0, 0] xyz (sitofp .f32 (constantI S_ 32 0#32)) pads_S8x4096x3_S8x4096x128_000_000_01250 h_S_⟩]
    concatenates_S8x4096x128_S8x4096x128_S8x4096x256_d2) shapeCasts_S8x4096x256_S32768x2x128

theorem tab_eq (d : Dev nD) : tab m d = tableOf (m ((SparseCore.T d).loc main_arg0)) (m ((SparseCore.T d).loc main_arg1)) := by
  unfold tab V1
  after_results
  rfl

theorem no0_eq (d : Dev nD) : no0 m d = shapeCast S8192 (m ((SparseCore.T d).loc main_arg2) : S8x1024.Idx → BitVec 32) shapeCasts_S8x1024_S8192 := by
  unfold no0 V1
  after_results
  rfl

/-- An argument is nobody's result. -/
theorem V3_arg (d : Dev nD) (b : Ref sig .tc) (h : b ∉ [main_c, main_call0_v0, main_v0, main_v1, main_v2, main_v3, main_v4, main_v5]) :
    V3 m d (Proc.devRef .tc b) = m ((SparseCore.T d).loc b) := by
  have e4 : b ≠ main_v4 := fun e => h (by subst e; decide)
  rw [V3_of_ne m d b (fun e => h (by subst e; decide)), V2, Function.update_of_ne (StableHlo.devRef_ne_of_ne e4), V1]
  refine (StableHlo.after_of_writes_sub (W := [main_c, main_call0_v0, main_v0, main_v1, main_v2, main_v3]) hostOps0 _ (StableHlo.forall_writes_sub_of_map rfl)
    fun hb => h (List.mem_of_mem_take (i := 6) hb)).trans rfl

theorem no1_eq (d : Dev nD) : no1 m d = shapeCast S262144 (m ((SparseCore.T d).loc main_arg3) : S8x32x1024.Idx → BitVec 32) shapeCasts_S8x32x1024_S262144 := by
  have e : V2 m d (Proc.devRef .tc main_arg3) = m ((SparseCore.T d).loc main_arg3) :=
    (V3_of_ne m d main_arg3 (by decide)).symm.trans (V3_arg m d main_arg3 (by decide))
  unfold no1 V3
  rw [← e]
  after_results
  rfl

theorem V4_arg (d : Dev nD) (b : Ref sig .tc) (h : b ∉ [main_c, main_call0_v0, main_v0, main_v1, main_v2, main_v3, main_v4, main_v5, main_v6]) :
    V4 m d (Proc.devRef .tc b) = m ((SparseCore.T d).loc b) :=
  (Function.update_of_ne (StableHlo.devRef_ne_of_ne fun e => h (by subst e; decide)) _ _).trans (V3_arg m d b fun hb => h (List.mem_of_mem_take (i := 8) hb))

theorem V4_out0 (d : Dev nD) : V4 m d b4 = gathered (tab m d) (no0 m d) :=
  (Function.update_of_ne (show b4 ≠ b6 by decide) _ _).trans ((V3_of_ne m d main_v4 (by decide)).trans (Function.update_self _ _ _))

theorem V4_out1 (d : Dev nD) : V4 m d b6 = gathered (tab m d) (no1 m d) := Function.update_self _ _ _

/-- A reshaped list holds the words of the list. -/
theorem cast_bound {s t : Shape} (x : s.Idx → BitVec 32) (h : s.ShapeCasts t) (hx : ∀ j, (x j).toNat < 32768) (i : t.Idx) : (shapeCast t x h i).toNat < 32768 :=
  hx _

/-! ## The run -/

/-- At the end: every array at its end contents, every counter at zero. -/
def QC : PUnit × MemSt nD τ sig (Elt F) → Prop := fun r =>
  (∀ (d : Dev nD) (b : Ref sig .tc), r.2.mem ((SparseCore.T d).loc b) = V4 m d (Proc.devRef .tc b)) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq | 1 => nomatch hq)
    (fun q _ => match q with
      | 0 => tileObl0 _ _ _ _ _ fun d x => by rw [no0_eq]; exact cast_bound _ _ (hpre d).1 x
      | 1 => tileObl1 _ _ _ _ _ fun d x => by rw [no1_eq]; exact cast_bound _ _ (hpre d).2 x)
    (fun q _ => match q with
      | 0 => SparseCore.Cfg.VecSplit.of_plain (vecSplit0 _ _ _ _ _)
      | 1 => SparseCore.Cfg.VecSplit.of_plain (vecSplit1 _ _ _ _ _))
    m ρ main (fun _ => iprop(emp)) (fun d => held (SparseCore.T d) (tcRefs τ sig) (V4 m d)) (u₀ (F := F)) (sep_elim_left.trans (hu₀ m)) (hmain m ρ)
    (fq m) (hfin m) (QC m) (fun _ h hz => ⟨h, hz⟩)

end Cert.Proof.Rows
-- ==== Proof.Frames.lean ====
/-
  The precondition read out: every word of both lists names a row of the table. From it the frames of the program as
  printed, of its ideal form (both one run, at two readings of the floats) and of the reference.
-/
module

public import proofs.«01_k».proof.Proof.Whole
public import proofs.«01_k».proof.Proof.Gen.Kernel
public import proofs.«01_k».proof.Proof.Gen.Pre_indices_name_rows
public import proofs.«01_k».proof.Proof.Gen.ReferenceIdeal.Run
public import proofs.«01_k».proof.Defs
public import Idealize.ShloMosaic.Lib.ReduceAll
public import Idealize.ShloMosaic.Lib.Quiescent

@[expose] public section

noncomputable section

namespace Cert.Proof.Rows

open Idealize.ShloMosaic Idealize.SL.Sem

variable {F : FTy → Type} [FloatOps F]

/-- A word between zero and 32768, compared as signed words, has a value below 32768. -/
theorem word_lt {v : BitVec 32} (h : IntOp.andi (IntOp.cmpi .sge v 0#32) (IntOp.cmpi .slt v 32768#32) = 1#1) : v.toNat < 32768 := by
  obtain ⟨h0, h1⟩ := IntOp.andi_eq_one.1 h
  have t (p : Bool) (e : BitVec.ofBool p = 1#1) : p = true := by cases p <;> simp_all
  have e0 := t _ h0
  have e1 := t _ h1
  simp only [BitVec.sle_eq_decide, BitVec.slt_eq_decide, decide_eq_true_eq, BitVec.toInt_eq_toNat_cond, BitVec.toNat_ofNat,
    Nat.reducePow, Nat.reduceMod] at e0 e1
  omega

/-- Where the precondition's function is true, every word of both lists is below 32768. -/
theorem words_lt (x0 : FVec F Cert.Pre_indices_name_rows.S8x4096x3 .f32) (x1 : FVec F Cert.Pre_indices_name_rows.S8x4096x128 .f32)
    (x2 : IVec Cert.Pre_indices_name_rows.S8x1024 32) (x3 : IVec Cert.Pre_indices_name_rows.S8x32x1024 32)
    (h : Cert.Pre_indices_name_rows.fn (F := F) x0 x1 x2 x3 = fun _ => 1#1) :
    (∀ j, (x2 j).toNat < 32768) ∧ ∀ j, (x3 j).toNat < 32768 := by
  have : Subsingleton Cert.Pre_indices_name_rows.S_.Idx := ⟨fun a b => funext fun i => i.elim0⟩
  have e := congrFun h (fun i => i.elim0)
  obtain ⟨e2, e3⟩ := IntOp.andi_eq_one.1 e
  exact ⟨fun j => word_lt (Host.reduce_andi_all _ _ _ _ _ e2 j), fun j => word_lt (Host.reduce_andi_all _ _ _ _ _ e3 j)⟩

/-- The frame of the program as printed. -/
theorem frame_printed : Cert.quiescent_Kernel := fun m ρ hpre =>
  (θ_run Cert.Kernel.defs _ _).mono
    (fun r (h : QC (F := Bits) m r) => ⟨fun c =>
      ⟨(h.1 c _).trans (V4_arg m c _ (by decide)), (h.1 c _).trans (V4_arg m c _ (by decide)),
        (h.1 c _).trans (V4_arg m c _ (by decide)), (h.1 c _).trans (V4_arg m c _ (by decide))⟩, h.2⟩)
    (run_main (F := Bits) m ρ fun d => words_lt _ _ _ _ (hpre d))

/-- The frame of the ideal form. -/
theorem frame_ideal : Cert.quiescent_KernelIdeal := fun m ρ hpre =>
  (θ_run Cert.KernelIdeal.defs _ _).mono
    (fun r (h : QC (F := Ideal) m r) => ⟨fun c =>
      ⟨(h.1 c _).trans (V4_arg m c _ (by decide)), (h.1 c _).trans (V4_arg m c _ (by decide)),
        (h.1 c _).trans (V4_arg m c _ (by decide)), (h.1 c _).trans (V4_arg m c _ (by decide))⟩, h.2⟩)
    (run_main (F := Ideal) m ρ fun d => words_lt _ _ _ _ (hpre d))

/-- The frame of the reference, which has no counter. -/
theorem frame_ref : Cert.quiescent_ReferenceIdeal := fun m ρ _ =>
  (θ_run Cert.ReferenceIdeal.defs _ _).mono
    (fun r h => ⟨fun c => (h c).2.2, sem_eq_zero_of_no_sems rfl _⟩)
    (Cert.ReferenceIdeal.Value.run (F := Ideal) m ρ)

end Cert.Proof.Rows

end
-- ==== Proof.Values.lean ====
/-
  The reference takes whole rows of the two clouds and joins each point's features with its padded coordinates; the
  kernel takes rows of the joined table. Here both are the same array: one statement for any number of rows, read at the
  two calls.
-/
module

public import proofs.«01_k».proof.Proof.Whole
public import proofs.«01_k».proof.Proof.Gen.ReferenceIdeal.Read
public import Idealize.ShloMosaic.Lib.Routing.Ops
public import Idealize.ShloMosaic.Lib.KernelVsHost
public import Idealize.ShloMosaic.Lib.WordCmp

@[expose] public section

noncomputable section

namespace Cert.Proof.Rows

open Cert.KernelIdeal Cert.KernelIdeal.Gen
open Idealize.ShloMosaic Idealize.ShloMosaic.Routing Idealize.ShloMosaic.ValueIdx

variable {F : FTy → Type} [FloatOps F]

/-- Point `k` of all the clouds' points, feature or coordinate `l`. -/
def pt {w : ℕ} (k : Fin 32768) (l : Fin w) : (⟨3, ![8, 4096, w]⟩ : Shape).Idx :=
  ix3 ⟨k.val / 4096, by have := k.isLt; omega⟩ ⟨k.val % 4096, Nat.mod_lt _ (by decide)⟩ l

/-- A flat row of a cloud is the point's row. -/
theorem flat_pt {α : Type} {w : ℕ} (x : (⟨3, ![8, 4096, w]⟩ : Shape).Idx → α) (h : (⟨3, ![8, 4096, w]⟩ : Shape).ShapeCasts ⟨2, ![32768, w]⟩)
    (k : Fin 32768) (l : Fin w) : shapeCast ⟨2, ![32768, w]⟩ x h (ix2 k l) = x (pt k l) := by
  refine shapeCast_apply x h _ _ ?_
  rw [Shape.rowMajor_val_three, Shape.rowMajor_val_two]
  show (k.val / 4096 * 4096 + k.val % 4096) * w + l.val = k.val * w + l.val
  rw [Nat.div_add_mod' k.val 4096]

/-- The first half of a table row is the point's features. -/
theorem table_feat (x0 : S8x4096x3.Idx → Elt F .f32) (x1 : S8x4096x128.Idx → Elt F .f32) (k : Fin 32768) (l : Fin 128) :
    tableOf x0 x1 (cell k 0 l) = x1 (pt k l) := by
  refine (shapeCast_apply _ _ _ (pt (w := 256) k ⟨l.val, by omega⟩) ?_).trans ?_
  · rw [Shape.rowMajor_val_three, Shape.rowMajor_val_three]
    show (k.val / 4096 * 4096 + k.val % 4096) * 256 + l.val = (k.val * 2 + 0) * 128 + l.val
    omega
  · refine concatenate_pair_apply_left (t := S8x4096x256) (s₁ := S8x4096x128) (s₂ := S8x4096x128) 2 x1 _ _ _ rfl (pt k l) fun b => ?_
    match b with
    | ⟨0, _⟩ => rfl
    | ⟨1, _⟩ => rfl
    | ⟨2, _⟩ => rfl

/-- The second half is the point's coordinates, then zeros. -/
theorem table_xyz (x0 : S8x4096x3.Idx → Elt F .f32) (x1 : S8x4096x128.Idx → Elt F .f32) (k : Fin 32768) (l : Fin 128) :
    tableOf x0 x1 (cell k 1 l) = if h : l.val < 3 then x0 (pt k ⟨l.val, h⟩) else FloatOps.sitofp .f32 (0#32 : BitVec 32) := by
  refine (shapeCast_apply _ _ _ (pt (w := 256) k ⟨128 + l.val, by omega⟩) ?_).trans ?_
  · rw [Shape.rowMajor_val_three, Shape.rowMajor_val_three]
    show (k.val / 4096 * 4096 + k.val % 4096) * 256 + (128 + l.val) = (k.val * 2 + 1) * 128 + l.val
    omega
  · refine (concatenate_pair_apply_right (t := S8x4096x256) (s₁ := S8x4096x128) (s₂ := S8x4096x128) 2 x1 _ _ _ rfl rfl (pt k l) (fun b hb => ?_) ?_).trans ?_
    · match b with
      | ⟨0, _⟩ => rfl
      | ⟨1, _⟩ => rfl
      | ⟨2, _⟩ => exact absurd rfl hb
    · show l.val + 128 = 128 + l.val
      omega
    · by_cases h : l.val < 3
      · rw [dif_pos h]
        refine pad_apply_of_inside _ _ _ _ _ _ _ _ (pt k ⟨l.val, h⟩) fun a => ?_
        match a with
        | ⟨0, _⟩ => show k.val / 4096 = 0 + k.val / 4096 * 1; omega
        | ⟨1, _⟩ => show k.val % 4096 = 0 + k.val % 4096 * 1; omega
        | ⟨2, _⟩ => show l.val = 0 + l.val * 1; omega
      · rw [dif_neg h]
        refine (pad_apply_of_not_inside _ _ _ _ _ _ _ _ 2 fun hl => h ?_).trans rfl
        have : (l.val - 0) / 1 < 3 := hl.2.2
        omega

/-- THE ROWS, TWO WAYS. For `N` row numbers: taking a flat row of each cloud, padding the coordinates and joining the two
    gives the rows of the table. -/
theorem rows_two_ways {N : ℕ} (n : (⟨1, ![N]⟩ : Shape).Idx → BitVec 32) (hn : ∀ i, (n i).toNat < 32768)
    (x0 : S8x4096x3.Idx → Elt F .f32) (x1 : S8x4096x128.Idx → Elt F .f32)
    (d : GatherDims (shape2 32768 128) (shape2 N 1) (shape2 N 128)) (h1 : d.offsetDims = [1]) (h2 : d.collapsedSliceDims = [0])
    (h3 : d.operandBatchingDims = []) (h4 : d.startIndexMap = [0]) (h5 : d.indexVectorDim = 1)
    (d' : GatherDims (shape2 32768 3) (shape2 N 1) (shape2 N 3)) (h1' : d'.offsetDims = [1]) (h2' : d'.collapsedSliceDims = [0])
    (h3' : d'.operandBatchingDims = []) (h4' : d'.startIndexMap = [0]) (h5' : d'.indexVectorDim = 1)
    (I I' : IVec (shape2 N 1) 32) (hI : ∀ c : Fin N, I (ix2 c 0) = n fun | 0 => c) (hI' : ∀ c : Fin N, I' (ix2 c 0) = n fun | 0 => c)
    (X : (shape2 32768 128).Idx → Elt F .f32) (hX : ∀ k l, X (ix2 k l) = x1 (pt k l))
    (Y : (shape2 32768 3).Idx → Elt F .f32) (hY : ∀ k l, Y (ix2 k l) = x0 (pt k l))
    (hp : (shape2 N 3).Pads ![0, 0] ![0, 125] ![0, 0] (shape2 N 128)) {u : Shape} (hu : 0 < u.numel) (z : u.Idx → Elt F .f32)
    (hz : ∀ i, z i = FloatOps.sitofp .f32 (0#32 : BitVec 32))
    (a b : (⟨3, ![N, 1, 128]⟩ : Shape).Idx → Elt F .f32) (ha : ∀ c l, a (ix3 c 0 l) = Host.gather d X I (ix2 c l))
    (hb : ∀ c l, b (ix3 c 0 l) = pad (shape2 N 128) ![0, 0] ![0, 125] ![0, 0] (Host.gather d' Y I') z hp hu (ix2 c l))
    (hc : Shape.Concatenates [⟨3, ![N, 1, 128]⟩, ⟨3, ![N, 1, 128]⟩] ⟨3, ![N, 2, 128]⟩ 1) :
    gathered (tableOf x0 x1) n = concatenate ⟨3, ![N, 2, 128]⟩ 1 [⟨⟨3, ![N, 1, 128]⟩, a⟩, ⟨⟨3, ![N, 1, 128]⟩, b⟩] hc := by
  have word (w : BitVec 32) (h : w.toNat < 32768) : w = BitVec.ofNat 32 (rowNo w).val := by
    show w = BitVec.ofNat 32 (w.toNat % 32768)
    rw [Nat.mod_eq_of_lt h, BitVec.ofNat_toNat, BitVec.setWidth_eq]
  funext j
  have hj : (j 1).val < 2 := (j 1).isLt
  show tableOf x0 x1 (cell (rowNo (n fun | 0 => j 0)) (j 1) (j 2)) = _
  generalize hk : rowNo (n fun | 0 => j 0) = k
  have hw : n (fun | 0 => j 0) = BitVec.ofNat 32 k.val := hk ▸ word _ (hn _)
  obtain h | h : j 1 = (0 : Fin 2) ∨ j 1 = (1 : Fin 2) := by
    rcases Nat.lt_or_ge (j 1).val 1 with h | h
    · exact .inl (Fin.ext (by show (j 1).val = 0; omega))
    · exact .inr (Fin.ext (by show (j 1).val = 1; omega))
  · rw [h]
    refine (table_feat x0 x1 k (j 2)).trans (.symm ?_)
    refine (concatenate_pair_apply_left (t := ⟨3, ![N, 2, 128]⟩) (s₁ := ⟨3, ![N, 1, 128]⟩) (s₂ := ⟨3, ![N, 1, 128]⟩) 1 a b hc j rfl (ix3 (j 0) 0 (j 2)) fun b => ?_).trans ?_
    · match b with
      | ⟨0, _⟩ => rfl
      | ⟨1, _⟩ => exact (congrArg Fin.val h).symm
      | ⟨2, _⟩ => rfl
    · exact (ha _ _).trans ((gather_row d h1 h2 h3 h4 h5 X I (j 0) (j 2) k ((hI _).trans hw) (by decide)).trans (hX _ _))
  · rw [h]
    refine (table_xyz x0 x1 k (j 2)).trans (.symm ?_)
    refine (concatenate_pair_apply_right (t := ⟨3, ![N, 2, 128]⟩) (s₁ := ⟨3, ![N, 1, 128]⟩) (s₂ := ⟨3, ![N, 1, 128]⟩) 1 a b hc j rfl rfl (ix3 (j 0) 0 (j 2)) (fun b' hb' => ?_) ?_).trans ((hb _ _).trans ?_)
    · match b' with
      | ⟨0, _⟩ => rfl
      | ⟨1, _⟩ => exact absurd rfl hb'
      | ⟨2, _⟩ => rfl
    · exact (congrArg Fin.val h).symm
    · by_cases hl : (j 2).val < 3
      · rw [dif_pos hl]
        refine (pad_apply_of_inside _ _ _ _ _ _ _ _ (ix2 (j 0) ⟨(j 2).val, hl⟩) fun a => ?_).trans
          ((gather_row d' h1' h2' h3' h4' h5' Y I' (j 0) ⟨(j 2).val, hl⟩ k ((hI' _).trans hw) (by decide)).trans (hY _ _))
        match a with
        | ⟨0, _⟩ => show (j 0).val = 0 + (j 0).val * 1; omega
        | ⟨1, _⟩ => show (j 2).val = 0 + (j 2).val * 1; omega
      · rw [dif_neg hl]
        refine (pad_apply_of_not_inside _ _ _ _ _ _ _ _ 1 fun hi => hl ?_).trans (hz _)
        have : ((j 2).val - 0) / 1 < 3 := hi.2.2
        omega

/-- The reference adds the number of rows to a negative row number; one below 32768 it leaves alone. -/
theorem not_negative (w v : BitVec 32) (h : w.toNat < 32768) : Scalar.select (IntOp.cmpi .slt w 0#32) v w = w := by
  have e : IntOp.cmpi .slt w 0#32 = 0#1 := by
    simp only [IntOp.cmpi, BitVec.slt_eq_decide, BitVec.toInt_eq_toNat_cond, BitVec.toNat_ofNat, Nat.reducePow, Nat.reduceMod]
    rw [decide_eq_false (by omega)]
    rfl
  rw [e]
  rfl

open Cert.ReferenceIdeal.Read in
/-- Call 0's rows are the reference's. -/
theorem rows0 (x0 : S8x4096x3.Idx → Elt F .f32) (x1 : S8x4096x128.Idx → Elt F .f32) (x2 : S8x1024.Idx → BitVec 32)
    (h : ∀ j, (x2 j).toNat < 32768) :
    gathered (tableOf x0 x1) (shapeCast S8192 x2 shapeCasts_S8x1024_S8192) = val_main_v21 (F := F) x0 x1 x2 := by
  have hn := cast_bound x2 shapeCasts_S8x1024_S8192 h
  have hI : ∀ c : Fin 8192, val_main_v7 (F := F) x2 (ix2 c 0) = shapeCast S8192 x2 shapeCasts_S8x1024_S8192 fun | 0 => c := fun c =>
    (val_main_v7_apply (F := F) x2 (ix2 c 0)).trans (not_negative _ _ (hn _))
  have hI' : ∀ c : Fin 8192, val_main_v16 (F := F) x2 (ix2 c 0) = shapeCast S8192 x2 shapeCasts_S8x1024_S8192 fun | 0 => c := fun c =>
    (val_main_v16_apply (F := F) x2 (ix2 c 0)).trans (not_negative _ _ (hn _))
  have hX : ∀ k l, val_main_v0 (F := F) x1 (ix2 k l) = x1 (pt k l) := flat_pt x1 _
  have hY : ∀ k l, val_main_v9 (F := F) x0 (ix2 k l) = x0 (pt k l) := flat_pt x0 _
  have ha : ∀ c l, val_main_v19 (F := F) x1 x2 (ix3 c 0 l) = val_main_v8 (F := F) x1 x2 (ix2 c l) := fun c l =>
    (val_main_v19_apply (F := F) x1 x2 (ix3 c 0 l)).trans
      (congrArg (val_main_v8 (F := F) x1 x2) (funext fun | 0 => rfl | 1 => rfl))
  have hb : ∀ c l, val_main_v20 (F := F) x0 x2 (ix3 c 0 l) = val_main_v18 (F := F) x0 x2 (ix2 c l) := fun c l =>
    (val_main_v20_apply (F := F) x0 x2 (ix3 c 0 l)).trans
      (congrArg (val_main_v18 (F := F) x0 x2) (funext fun | 0 => rfl | 1 => rfl))
  unfold val_main_v21
  unfold val_main_v8 at ha
  unfold val_main_v18 val_main_v17 at hb
  exact rows_two_ways _ hn x0 x1 _ rfl rfl rfl rfl rfl _ rfl rfl rfl rfl rfl _ _ hI hI' _ hX _ hY _ _ _ (fun _ => rfl) _ _ ha hb _

open Cert.ReferenceIdeal.Read in
/-- Call 1's rows are the reference's. -/
theorem rows1 (x0 : S8x4096x3.Idx → Elt F .f32) (x1 : S8x4096x128.Idx → Elt F .f32) (x2 : S8x32x1024.Idx → BitVec 32)
    (h : ∀ j, (x2 j).toNat < 32768) :
    gathered (tableOf x0 x1) (shapeCast S262144 x2 shapeCasts_S8x32x1024_S262144) = val_main_v43 (F := F) x0 x1 x2 := by
  have hn := cast_bound x2 shapeCasts_S8x32x1024_S262144 h
  have hI : ∀ c : Fin 262144, val_main_v29 (F := F) x2 (ix2 c 0) = shapeCast S262144 x2 shapeCasts_S8x32x1024_S262144 fun | 0 => c := fun c =>
    (val_main_v29_apply (F := F) x2 (ix2 c 0)).trans (not_negative _ _ (hn _))
  have hI' : ∀ c : Fin 262144, val_main_v38 (F := F) x2 (ix2 c 0) = shapeCast S262144 x2 shapeCasts_S8x32x1024_S262144 fun | 0 => c := fun c =>
    (val_main_v38_apply (F := F) x2 (ix2 c 0)).trans (not_negative _ _ (hn _))
  have hX : ∀ k l, val_main_v22 (F := F) x1 (ix2 k l) = x1 (pt k l) := flat_pt x1 _
  have hY : ∀ k l, val_main_v31 (F := F) x0 (ix2 k l) = x0 (pt k l) := flat_pt x0 _
  have ha : ∀ c l, val_main_v41 (F := F) x1 x2 (ix3 c 0 l) = val_main_v30 (F := F) x1 x2 (ix2 c l) := fun c l =>
    (val_main_v41_apply (F := F) x1 x2 (ix3 c 0 l)).trans
      (congrArg (val_main_v30 (F := F) x1 x2) (funext fun | 0 => rfl | 1 => rfl))
  have hb : ∀ c l, val_main_v42 (F := F) x0 x2 (ix3 c 0 l) = val_main_v40 (F := F) x0 x2 (ix2 c l) := fun c l =>
    (val_main_v42_apply (F := F) x0 x2 (ix3 c 0 l)).trans
      (congrArg (val_main_v40 (F := F) x0 x2) (funext fun | 0 => rfl | 1 => rfl))
  unfold val_main_v43
  unfold val_main_v30 at ha
  unfold val_main_v40 val_main_v39 at hb
  exact rows_two_ways _ hn x0 x1 _ rfl rfl rfl rfl rfl _ rfl rfl rfl rfl rfl _ _ hI hI' _ hX _ hY _ _ _ (fun _ => rfl) _ _ ha hb _

end Cert.Proof.Rows

end
-- ==== Proof.Sums.lean ====
/-
  The statistics call adds up, for each of a cloud's 32 neighbour positions, the differences between a neighbour's row and
  its sampled point's row, in four blocks of 256 points. Here the four blocks' sums are the sums over all 1024 points.
-/
module

public import proofs.«01_k».proof.Defs
public import proofs.«01_k».proof.Proof.Gen.Stats.Frame
public import proofs.«01_k».proof.Proof.Gen.StatsIdeal.Value
public import proofs.«01_k».proof.Proof.Gen.StatsReferenceIdeal.Run
public import proofs.«01_k».proof.Proof.Gen.StatsReferenceIdeal.Read
public import Idealize.ShloMosaic.Lib.Pipeline.ValueKit
public import Idealize.ShloMosaic.Lib.Quiescent

@[expose] public section

set_option maxRecDepth 16384

noncomputable section

namespace Cert.Proof.Sums

open Cert.StatsIdeal Cert.StatsIdeal.Gen Cert.StatsIdeal.Value
open Cert.StatsReferenceIdeal.Read (val_main_v4 val_main_v8)
open Idealize.ShloMosaic Idealize.ShloMosaic.TcCoe Idealize.SL.Sem

/-- Grid point `n` works on cloud `n / 4`. -/
def cloud (n : ℕ) (h : n < cfg0.N) : Fin 8 := ⟨n / 4, by have := lt_of_lt_of_eq h (show cfg0.N = 32 from N_0); omega⟩

/-- Row `r` of grid point `n`'s block is this point of its cloud. -/
def spot (n : ℕ) (r : Fin 256) : Fin 1024 := ⟨n % 4 * 256 + r.val, by omega⟩

/-- A run of four grid points, each adding its own block's sum, ends with the sum over the whole cloud. -/
theorem run_total {ι : Type} (a : (n : ℕ) → n < cfg0.N → ι → EReal) (g : (n : ℕ) → n < cfg0.N → (ι → EReal) → ι → EReal)
    (T : Fin 8 → Fin 1024 → ι → EReal)
    (ha : ∀ n h i, a n h i = 0 + ∑ r : Fin 256, T (cloud n h) (spot n r) i)
    (hg : ∀ n h acc i, g n h acc i = acc i + ∑ r : Fin 256, T (cloud n h) (spot n r) i)
    (b : Fin 8) (q : ℕ) (hq : q = b.val) (h : 4 * q + 3 < cfg0.N) (i : ι) :
    Pipeline.accAt a g (4 * q) 3 h i = 0 + ∑ l : Fin 1024, T b l i := by
  subst hq
  have hc : ∀ n (h : n < cfg0.N), n / 4 = b.val → cloud n h = b := fun n h e => Fin.ext e
  rw [Pipeline.accAt_add_apply a g (fun _ => 0) (fun n i => ∑ r : Fin 256, T b (spot n r) i) (4 * b.val) 3
    (fun h i => by rw [ha, hc _ h (by omega)])
    (fun n h acc i h1 h2 => by rw [hg, hc _ h (by omega)]) 3 le_rfl h i]
  refine congrArg (0 + ·) ?_
  rw [← Fin.sum_univ_eq_sum_range (fun s => ∑ r : Fin 256, T b (spot (4 * b.val + s) r) i) 4]
  refine Fin.sum_mul_add_congr fun s r hl => ?_
  refine congrArg (T b · i) (Fin.ext ?_)
  show (4 * b.val + s.val) % 4 * 256 + r.val = s.val * 256 + r.val
  have := s.isLt
  omega

/-- The blocks the two inputs' windows bring in at each grid point. -/
theorem idx : ∀ t : Fin cfg0.N, win0_0.index t = ![t.val / 4, 0, t.val % 4, 0] ∧ win0_1.index t = ![t.val, 0] :=
  (by decide +kernel : ∀ t : Fin grid0.N, _)

variable (m : (ℓ : Loc nD τ sig) → Buf (Elt Ideal) ℓ) (c : Dev nD)

/-- The coordinates' differences of a block, among all of them. -/
theorem diff_x (n : ℕ) (h : n < cfg0.N) (k : Fin 32) (r : Fin 256) (d : Fin 16) :
    k0_pay4 (F := Ideal) (iblk m c 0 ⟨n, h⟩) (iblk m c 1 ⟨n, h⟩) (ix3 k r d)
      = val_main_v4 (F := Ideal) (m ((c : Thread nD τ).loc main_arg0)) (m ((c : Thread nD τ).loc main_arg1)) (ix4 (cloud n h) k (spot n r) d) := by
  have hN : cfg0.N = 32 := N_0
  pointwise [k0_pay4, k0_pay3, val_main_v4, Cert.StatsReferenceIdeal.Read.val_main_v1, Cert.StatsReferenceIdeal.Read.val_main_v3, Cert.StatsReferenceIdeal.Read.val_main_v2, Cert.StatsReferenceIdeal.Read.val_main_v0, cloud, spot]
  blk_point [iblk, V, idx ⟨n, h⟩]

/-- The features' differences of a block, among all of them. -/
theorem diff_f (n : ℕ) (h : n < cfg0.N) (k : Fin 32) (r : Fin 256) (d : Fin 128) :
    k0_pay5 (F := Ideal) (iblk m c 0 ⟨n, h⟩) (iblk m c 1 ⟨n, h⟩) (ix3 k r d)
      = val_main_v8 (F := Ideal) (m ((c : Thread nD τ).loc main_arg0)) (m ((c : Thread nD τ).loc main_arg1)) (ix4 (cloud n h) k (spot n r) d) := by
  have hN : cfg0.N = 32 := N_0
  pointwise [k0_pay5, k0_pay3, val_main_v8, Cert.StatsReferenceIdeal.Read.val_main_v5, Cert.StatsReferenceIdeal.Read.val_main_v7, Cert.StatsReferenceIdeal.Read.val_main_v6, Cert.StatsReferenceIdeal.Read.val_main_v0, cloud, spot]
  blk_point [iblk, V, idx ⟨n, h⟩]

/-- One block's addition to the sums of the coordinates' differences. -/
theorem add_x (v0 : Vec Ideal S1x32x256x256 .f32) (v2 : Vec Ideal S256x256 .f32) (acc : Vec Ideal S1x32x16 .f32) (y : S1x32x16.Idx) :
    k0_pay12 v0 v2 acc y = acc y + ∑ r : Fin 256, k0_pay4 v0 v2 (ix3 (y 1) r (y 2)) := by
  pointwise [k0_pay12]

/-- One block's addition to the sums of the coordinates' squared differences. -/
theorem add_xx (v0 : Vec Ideal S1x32x256x256 .f32) (v2 : Vec Ideal S256x256 .f32) (acc : Vec Ideal S1x32x16 .f32) (y : S1x32x16.Idx) :
    k0_pay13 v0 v2 acc y = acc y + ∑ r : Fin 256, k0_pay4 v0 v2 (ix3 (y 1) r (y 2)) * k0_pay4 v0 v2 (ix3 (y 1) r (y 2)) := by
  pointwise [k0_pay13]

/-- One block's addition to the sums of the features' differences. -/
theorem add_f (v0 : Vec Ideal S1x32x256x256 .f32) (v2 : Vec Ideal S256x256 .f32) (acc : Vec Ideal S1x1x32 .f32) (y : S1x1x32.Idx) :
    k0_pay1 (k0_pay6 v0 v2) acc y = acc y + ∑ r : Fin 256, ∑ d : Fin 128, k0_pay5 v0 v2 (ix3 (y 2) r d) := by
  pointwise [k0_pay1, k0_pay6]

/-- One block's addition to the sums of the features' squared differences. -/
theorem add_ff (v0 : Vec Ideal S1x32x256x256 .f32) (v2 : Vec Ideal S256x256 .f32) (acc : Vec Ideal S1x1x32 .f32) (y : S1x1x32.Idx) :
    k0_pay2 (k0_pay7 v0 v2) acc y = acc y + ∑ r : Fin 256, ∑ d : Fin 128, k0_pay5 v0 v2 (ix3 (y 2) r d) * k0_pay5 v0 v2 (ix3 (y 2) r d) := by
  pointwise [k0_pay2, k0_pay7]

/-- All the coordinates' differences. -/
abbrev dx : Vec Ideal Cert.StatsReferenceIdeal.S8x32x1024x16 .f32 := val_main_v4 (F := Ideal) (m ((c : Thread nD τ).loc main_arg0)) (m ((c : Thread nD τ).loc main_arg1))

/-- All the features' differences. -/
abbrev df : Vec Ideal Cert.StatsReferenceIdeal.S8x32x1024x128 .f32 := val_main_v8 (F := Ideal) (m ((c : Thread nD τ).loc main_arg0)) (m ((c : Thread nD τ).loc main_arg1))

/-- What point `l` of cloud `b` adds to the sums of the coordinates' differences. -/
abbrev term2 (b : Fin 8) (l : Fin 1024) (y : S1x32x16.Idx) : EReal := dx m c (ix4 b (y 1) l (y 2))

/-- A later block of a cloud adds its own sums of the coordinates' differences to what the earlier ones left. -/
theorem step2_apply (n : ℕ) (h : n < cfg0.N) (acc : Vec Ideal S1x32x16 .f32) (y : S1x32x16.Idx) :
    step2 m c n h acc y = acc y + ∑ r : Fin 256, term2 m c (cloud n h) (spot n r) y :=
  (add_x (iblk m c 0 ⟨n, h⟩) (iblk m c 1 ⟨n, h⟩) acc y).trans (congrArg (acc y + ·) (Finset.sum_congr rfl fun r _ => diff_x m c n h _ r _))

/-- The first block of a cloud starts its sums of the coordinates' differences from zero. -/
theorem reset2_apply (n : ℕ) (h : n < cfg0.N) (y : S1x32x16.Idx) :
    reset2 m c n h y = 0 + ∑ r : Fin 256, term2 m c (cloud n h) (spot n r) y :=
  (step2_apply m c n h (k0_pay8 (F := Ideal)) y).trans (congrArg (· + _) Ideal.ofBits_zero_f32)

/-- The first result is the reference's: the sums of the coordinates' differences. -/
theorem whole2 : G2 m c = Cert.StatsReferenceIdeal.Read.val_main_v9 (F := Ideal) (m ((c : Thread nD τ).loc main_arg0)) (m ((c : Thread nD τ).loc main_arg1)) := by
  funext i
  have h0 : (i 0).val < 8 := (i 0).isLt
  have h1 : (i 1).val < 32 := (i 1).isLt
  have h2 : (i 2).val < 16 := (i 2).isLt
  have hN : cfg0.N = 32 := N_0
  have hq : run2Of i = (⟨(i 0).val, h0⟩ : Fin 8).val := by
    show 1 * ((i 0).val / 1 - 0) + 1 * ((i 1).val / 32 - 0) + 1 * ((i 2).val / 16 - 0) = (i 0).val
    omega
  have hr : 4 * run2Of i + 3 < cfg0.N := by rw [hq, hN]; show 4 * (i 0).val + 3 < 32; omega
  have e1 : loc2Of i 1 = i 1 := Fin.ext (Nat.mod_eq_of_lt h1)
  have e2 : loc2Of i 2 = i 2 := Fin.ext (Nat.mod_eq_of_lt h2)
  unfold G2
  rw [dif_pos hr, run_total (reset2 m c) (step2 m c) (term2 m c) (reset2_apply m c) (step2_apply m c) ⟨(i 0).val, h0⟩ _ hq hr _]
  pointwise [Cert.StatsReferenceIdeal.Read.val_main_v9, Cert.StatsReferenceIdeal.Read.val_main_cst]
  exact Finset.sum_congr (M := EReal) rfl fun x _ => congrArg₂ (fun k d => dx m c (ix4 (i 0) k x d)) e1 e2

/-- What point `l` of cloud `b` adds to the sums of the coordinates' squared differences. -/
abbrev term3 (b : Fin 8) (l : Fin 1024) (y : S1x32x16.Idx) : EReal := dx m c (ix4 b (y 1) l (y 2)) * dx m c (ix4 b (y 1) l (y 2))

/-- A later block of a cloud adds its own sums of the coordinates' squared differences to what the earlier ones left. -/
theorem step3_apply (n : ℕ) (h : n < cfg0.N) (acc : Vec Ideal S1x32x16 .f32) (y : S1x32x16.Idx) :
    step3 m c n h acc y = acc y + ∑ r : Fin 256, term3 m c (cloud n h) (spot n r) y :=
  (add_xx (iblk m c 0 ⟨n, h⟩) (iblk m c 1 ⟨n, h⟩) acc y).trans (congrArg (acc y + ·) (Finset.sum_congr rfl fun r _ => congrArg (fun z : EReal => z * z) (diff_x m c n h _ r _)))

/-- The first block of a cloud starts its sums of the coordinates' squared differences from zero. -/
theorem reset3_apply (n : ℕ) (h : n < cfg0.N) (y : S1x32x16.Idx) :
    reset3 m c n h y = 0 + ∑ r : Fin 256, term3 m c (cloud n h) (spot n r) y :=
  (step3_apply m c n h (k0_pay9 (F := Ideal)) y).trans (congrArg (· + _) Ideal.ofBits_zero_f32)

/-- The second result is the reference's: the sums of the coordinates' squared differences. -/
theorem whole3 : G3 m c = Cert.StatsReferenceIdeal.Read.val_main_v11 (F := Ideal) (m ((c : Thread nD τ).loc main_arg0)) (m ((c : Thread nD τ).loc main_arg1)) := by
  funext i
  have h0 : (i 0).val < 8 := (i 0).isLt
  have h1 : (i 1).val < 32 := (i 1).isLt
  have h2 : (i 2).val < 16 := (i 2).isLt
  have hN : cfg0.N = 32 := N_0
  have hq : run3Of i = (⟨(i 0).val, h0⟩ : Fin 8).val := by
    show 1 * ((i 0).val / 1 - 0) + 1 * ((i 1).val / 32 - 0) + 1 * ((i 2).val / 16 - 0) = (i 0).val
    omega
  have hr : 4 * run3Of i + 3 < cfg0.N := by rw [hq, hN]; show 4 * (i 0).val + 3 < 32; omega
  have e1 : loc3Of i 1 = i 1 := Fin.ext (Nat.mod_eq_of_lt h1)
  have e2 : loc3Of i 2 = i 2 := Fin.ext (Nat.mod_eq_of_lt h2)
  unfold G3
  rw [dif_pos hr, run_total (reset3 m c) (step3 m c) (term3 m c) (reset3_apply m c) (step3_apply m c) ⟨(i 0).val, h0⟩ _ hq hr _]
  pointwise [Cert.StatsReferenceIdeal.Read.val_main_v11, Cert.StatsReferenceIdeal.Read.val_main_v10, Cert.StatsReferenceIdeal.Read.val_main_cst_0]
  exact Finset.sum_congr (M := EReal) rfl fun x _ => congrArg (fun z : EReal => z * z) (congrArg₂ (fun k d => dx m c (ix4 (i 0) k x d)) e1 e2)

/-- What point `l` of cloud `b` adds to the sums of the features' differences. -/
abbrev term4 (b : Fin 8) (l : Fin 1024) (y : S1x1x32.Idx) : EReal := ∑ d : Fin 128, df m c (ix4 b (y 2) l d)

/-- A later block of a cloud adds its own sums of the features' differences to what the earlier ones left. -/
theorem step4_apply (n : ℕ) (h : n < cfg0.N) (acc : Vec Ideal S1x1x32 .f32) (y : S1x1x32.Idx) :
    step4 m c n h acc y = acc y + ∑ r : Fin 256, term4 m c (cloud n h) (spot n r) y :=
  (add_f (iblk m c 0 ⟨n, h⟩) (iblk m c 1 ⟨n, h⟩) acc y).trans (congrArg (acc y + ·) (Finset.sum_congr rfl fun r _ => Finset.sum_congr rfl fun d _ => diff_f m c n h _ r d))

/-- The first block of a cloud starts its sums of the features' differences from zero. -/
theorem reset4_apply (n : ℕ) (h : n < cfg0.N) (y : S1x1x32.Idx) :
    reset4 m c n h y = 0 + ∑ r : Fin 256, term4 m c (cloud n h) (spot n r) y :=
  (step4_apply m c n h (k0_pay10 (F := Ideal)) y).trans (congrArg (· + _) Ideal.ofBits_zero_f32)

/-- The third result is the reference's: the sums of the features' differences. -/
theorem whole4 : G4 m c = Cert.StatsReferenceIdeal.Read.val_main_v14 (F := Ideal) (m ((c : Thread nD τ).loc main_arg0)) (m ((c : Thread nD τ).loc main_arg1)) := by
  funext i
  have h0 : (i 0).val < 8 := (i 0).isLt
  have h1 : (i 1).val < 1 := (i 1).isLt
  have h2 : (i 2).val < 32 := (i 2).isLt
  have hN : cfg0.N = 32 := N_0
  have hq : run4Of i = (⟨(i 0).val, h0⟩ : Fin 8).val := by
    show 1 * ((i 0).val / 1 - 0) + 1 * ((i 1).val / 1 - 0) + 1 * ((i 2).val / 32 - 0) = (i 0).val
    omega
  have hr : 4 * run4Of i + 3 < cfg0.N := by rw [hq, hN]; show 4 * (i 0).val + 3 < 32; omega
  have e2 : loc4Of i 2 = i 2 := Fin.ext (Nat.mod_eq_of_lt h2)
  unfold G4
  rw [dif_pos hr, run_total (reset4 m c) (step4 m c) (term4 m c) (reset4_apply m c) (step4_apply m c) ⟨(i 0).val, h0⟩ _ hq hr _]
  pointwise [Cert.StatsReferenceIdeal.Read.val_main_v14, Cert.StatsReferenceIdeal.Read.val_main_v13, Cert.StatsReferenceIdeal.Read.val_main_v12, Cert.StatsReferenceIdeal.Read.val_main_cst_1, Cert.StatsReferenceIdeal.Read.val_main_cst_2]
  exact Finset.sum_congr (M := EReal) rfl fun x _ => Finset.sum_congr (M := EReal) rfl fun d _ => congrArg (fun k => df m c (ix4 (i 0) k x d)) e2

/-- What point `l` of cloud `b` adds to the sums of the features' squared differences. -/
abbrev term5 (b : Fin 8) (l : Fin 1024) (y : S1x1x32.Idx) : EReal := ∑ d : Fin 128, df m c (ix4 b (y 2) l d) * df m c (ix4 b (y 2) l d)

/-- A later block of a cloud adds its own sums of the features' squared differences to what the earlier ones left. -/
theorem step5_apply (n : ℕ) (h : n < cfg0.N) (acc : Vec Ideal S1x1x32 .f32) (y : S1x1x32.Idx) :
    step5 m c n h acc y = acc y + ∑ r : Fin 256, term5 m c (cloud n h) (spot n r) y :=
  (add_ff (iblk m c 0 ⟨n, h⟩) (iblk m c 1 ⟨n, h⟩) acc y).trans (congrArg (acc y + ·) (Finset.sum_congr rfl fun r _ => Finset.sum_congr rfl fun d _ => congrArg (fun z : EReal => z * z) (diff_f m c n h _ r d)))

/-- The first block of a cloud starts its sums of the features' squared differences from zero. -/
theorem reset5_apply (n : ℕ) (h : n < cfg0.N) (y : S1x1x32.Idx) :
    reset5 m c n h y = 0 + ∑ r : Fin 256, term5 m c (cloud n h) (spot n r) y :=
  (step5_apply m c n h (k0_pay11 (F := Ideal)) y).trans (congrArg (· + _) Ideal.ofBits_zero_f32)

/-- The fourth result is the reference's: the sums of the features' squared differences. -/
theorem whole5 : G5 m c = Cert.StatsReferenceIdeal.Read.val_main_v18 (F := Ideal) (m ((c : Thread nD τ).loc main_arg0)) (m ((c : Thread nD τ).loc main_arg1)) := by
  funext i
  have h0 : (i 0).val < 8 := (i 0).isLt
  have h1 : (i 1).val < 1 := (i 1).isLt
  have h2 : (i 2).val < 32 := (i 2).isLt
  have hN : cfg0.N = 32 := N_0
  have hq : run5Of i = (⟨(i 0).val, h0⟩ : Fin 8).val := by
    show 1 * ((i 0).val / 1 - 0) + 1 * ((i 1).val / 1 - 0) + 1 * ((i 2).val / 32 - 0) = (i 0).val
    omega
  have hr : 4 * run5Of i + 3 < cfg0.N := by rw [hq, hN]; show 4 * (i 0).val + 3 < 32; omega
  have e2 : loc5Of i 2 = i 2 := Fin.ext (Nat.mod_eq_of_lt h2)
  unfold G5
  rw [dif_pos hr, run_total (reset5 m c) (step5 m c) (term5 m c) (reset5_apply m c) (step5_apply m c) ⟨(i 0).val, h0⟩ _ hq hr _]
  pointwise [Cert.StatsReferenceIdeal.Read.val_main_v18, Cert.StatsReferenceIdeal.Read.val_main_v17, Cert.StatsReferenceIdeal.Read.val_main_v16, Cert.StatsReferenceIdeal.Read.val_main_v15, Cert.StatsReferenceIdeal.Read.val_main_cst_3, Cert.StatsReferenceIdeal.Read.val_main_cst_4]
  exact Finset.sum_congr (M := EReal) rfl fun x _ => Finset.sum_congr (M := EReal) rfl fun d _ => congrArg (fun z : EReal => z * z) (congrArg (fun k => df m c (ix4 (i 0) k x d)) e2)

/-- The frame of the statistics call as printed. -/
theorem frame_printed : Cert.quiescent_Stats := fun m ρ _ => Cert.Stats.Gen.frame m ρ

/-- The frame of its ideal form. -/
theorem frame_ideal : Cert.quiescent_StatsIdeal := fun m ρ _ => Cert.StatsIdeal.Gen.frame m ρ

/-- The frame of its reference, which has no counter. -/
theorem frame_ref : Cert.quiescent_StatsReferenceIdeal := fun m ρ _ =>
  (θ_run Cert.StatsReferenceIdeal.defs _ _).mono
    (fun r h => ⟨fun c => (h c).2.2.2.2, sem_eq_zero_of_no_sems rfl _⟩)
    (Cert.StatsReferenceIdeal.Value.run (F := Ideal) m ρ)

/-- The first result, at arguments that agree. -/
theorem same2 {x0 : Vec Ideal S8x32x1024x256 .f32} {x1 : Vec Ideal S8192x256 .f32} (a0 : x0 = m ((c : Thread nD τ).loc main_arg0))
    (a1 : x1 = m ((c : Thread nD τ).loc main_arg1)) : Cert.StatsReferenceIdeal.Read.val_main_v9 (F := Ideal) x0 x1 = G2 m c := by
  subst a0 a1
  exact (whole2 m c).symm

/-- The second result, at arguments that agree. -/
theorem same3 {x0 : Vec Ideal S8x32x1024x256 .f32} {x1 : Vec Ideal S8192x256 .f32} (a0 : x0 = m ((c : Thread nD τ).loc main_arg0))
    (a1 : x1 = m ((c : Thread nD τ).loc main_arg1)) : Cert.StatsReferenceIdeal.Read.val_main_v11 (F := Ideal) x0 x1 = G3 m c := by
  subst a0 a1
  exact (whole3 m c).symm

/-- The third result, at arguments that agree. -/
theorem same4 {x0 : Vec Ideal S8x32x1024x256 .f32} {x1 : Vec Ideal S8192x256 .f32} (a0 : x0 = m ((c : Thread nD τ).loc main_arg0))
    (a1 : x1 = m ((c : Thread nD τ).loc main_arg1)) : Cert.StatsReferenceIdeal.Read.val_main_v14 (F := Ideal) x0 x1 = G4 m c := by
  subst a0 a1
  exact (whole4 m c).symm

/-- The fourth result, at arguments that agree. -/
theorem same5 {x0 : Vec Ideal S8x32x1024x256 .f32} {x1 : Vec Ideal S8192x256 .f32} (a0 : x0 = m ((c : Thread nD τ).loc main_arg0))
    (a1 : x1 = m ((c : Thread nD τ).loc main_arg1)) : Cert.StatsReferenceIdeal.Read.val_main_v18 (F := Ideal) x0 x1 = G5 m c := by
  subst a0 a1
  exact (whole5 m c).symm

/-- All four results of the ideal form are the reference's. -/
theorem same_sums : Cert.algebraic_StatsIdeal_StatsReferenceIdeal := fun m g m' g' _ hargs => by
  refine ⟨fun c => G2 m c, fun c => G3 m c, fun c => G4 m c, fun c => G5 m c, Cert.StatsIdeal.Value.run (F := Ideal) m g, ?_⟩
  refine (θ_run Cert.StatsReferenceIdeal.defs _ _).mono (fun r h c => ?_) (Cert.StatsReferenceIdeal.Value.run (F := Ideal) m' g')
  obtain ⟨h0, h1, h2, h3, hr⟩ := h c
  obtain ⟨a0, a1⟩ := hargs c
  exact ⟨h0.trans (same2 m c a0 a1), h1.trans (same3 m c a0 a1), h2.trans (same4 m c a0 a1), h3.trans (same5 m c a0 a1), hr⟩

end Cert.Proof.Sums

end
-- ==== Proof.Spread.lean ====
/-
  Picking points far apart, as plain mathematics: each point's distance to the nearest picked point so far, and the
  first of the points whose distance is largest. Also two readings of "the first largest": as the least place no other
  beats, and as the least place whose value is the maximum.
-/
module

public import Idealize.ShloMosaic.Lib.Pipeline.ValueKit
public import Idealize.ShloMosaic.PureOps.Ideal.Laws

@[expose] public section

noncomputable section

namespace Cert.Proof.Farthest

open Idealize.ShloMosaic

/-- Some place is the first at which `g` is largest. -/
theorem exists_first {n : ℕ} (g : Fin (n + 1) → EReal) : ∃ k, (∀ l, g l ≤ g k) ∧ ∀ l, (∀ l', g l' ≤ g l) → k ≤ l := by
  classical
  obtain ⟨k, -, hk⟩ := Finset.exists_max_image Finset.univ g ⟨0, Finset.mem_univ _⟩
  have hne : (Finset.univ.filter fun l => ∀ l', g l' ≤ g l).Nonempty :=
    ⟨k, Finset.mem_filter.mpr ⟨Finset.mem_univ _, fun l' => hk l' (Finset.mem_univ _)⟩⟩
  exact ⟨_, (Finset.mem_filter.mp (Finset.min'_mem _ hne)).2,
    fun l hl => Finset.min'_le _ _ (Finset.mem_filter.mpr ⟨Finset.mem_univ _, hl⟩)⟩

/-- The first place at which `g` is largest. -/
def first (g : Fin 4096 → EReal) : Fin 4096 := (exists_first g).choose

theorem le_first (g : Fin 4096 → EReal) (l : Fin 4096) : g l ≤ g (first g) := (exists_first g).choose_spec.1 l

theorem first_le (g : Fin 4096 → EReal) (l : Fin 4096) (h : ∀ l', g l' ≤ g l) : first g ≤ l := (exists_first g).choose_spec.2 l h

/-- The points' coordinates, of all eight clouds. -/
abbrev Points : Type := Fin 8 → Fin 4096 → Fin 3 → EReal

/-- Every point's distance to the nearest picked point, once point `f b` of each cloud `b` is picked too. -/
def near (x : Points) (d : Fin 8 → Fin 4096 → EReal) (f : Fin 8 → Fin 4096) (b : Fin 8) (n : Fin 4096) : EReal :=
  min (d b n) (∑ k : Fin 3, (x b n k - x b (f b) k) * (x b n k - x b (f b) k))

/-- The distances before the `k`-th pick, and the `k`-th pick, of every cloud: point 0 first, then the farthest. -/
def spread (x : Points) (far : EReal) : ℕ → (Fin 8 → Fin 4096 → EReal) × (Fin 8 → Fin 4096)
  | 0 => (fun _ _ => far, fun _ => 0)
  | k + 1 => (near x (spread x far k).1 (spread x far k).2, fun b => first (near x (spread x far k).1 (spread x far k).2 b))

/-- The largest value, folded from below, is the one at the first place. -/
theorem fold_largest (g : Fin 4096 → EReal) : Finset.fold max (⊥ : EReal) g Finset.univ = g (first g) :=
  le_antisymm ((Finset.fold_max_le _).2 ⟨bot_le, fun l _ => le_first g l⟩)
    ((Finset.le_fold_max _).2 (.inr ⟨first g, Finset.mem_univ _, le_rfl⟩))

/-- The smaller of two words below 2^31 is the word of the smaller number. -/
theorem smaller_word (a b : ℕ) (ha : a < 2 ^ 31) (hb : b < 2 ^ 31) :
    IntOp.minsi (BitVec.ofNat 32 a) (BitVec.ofNat 32 b) = BitVec.ofNat 32 (min a b) := by
  have e : (BitVec.ofNat 32 a).slt (BitVec.ofNat 32 b) = decide (a < b) := by
    rw [BitVec.slt_eq_decide, BitVec.toInt_eq_toNat_cond, BitVec.toInt_eq_toNat_cond, BitVec.toNat_ofNat, BitVec.toNat_ofNat]
    refine decide_eq_decide.mpr ?_
    rw [Nat.mod_eq_of_lt (by omega), Nat.mod_eq_of_lt (by omega)]
    omega
  unfold IntOp.minsi
  rw [e]
  by_cases h : a < b
  · simp [h, min_eq_left h.le]
  · simp [h, min_eq_right (not_lt.mp h)]

/-- The smallest of words below 2^31 is the word of the smallest number. -/
theorem fold_smaller {ι : Type} [DecidableEq ι] (s : Finset ι) (f : ι → ℕ) (B : ℕ) (hB : B < 2 ^ 31) (hf : ∀ i, f i < 2 ^ 31) :
    Finset.fold IntOp.minsi (BitVec.ofNat 32 B) (fun i => BitVec.ofNat 32 (f i)) s = BitVec.ofNat 32 (Finset.fold min B f s) := by
  induction s using Finset.induction_on with
  | empty => rfl
  | insert i s hi ih =>
    have hlt : Finset.fold min B f s < 2 ^ 31 := lt_of_le_of_lt ((Finset.fold_min_le _).2 (.inl le_rfl)) hB
    rw [Finset.fold_insert hi, Finset.fold_insert hi, ih, smaller_word _ _ (hf i) hlt]

/-- The least place whose value is the maximum is the first place. -/
theorem fold_first (g : Fin 4096 → EReal) (M : EReal) (hM : M = g (first g)) (w : Fin 4096 → BitVec 32)
    (hw : ∀ l, w l = if g l = M then BitVec.ofNat 32 l.val else 4096#32) :
    Finset.fold IntOp.minsi 2147483647#32 w Finset.univ = BitVec.ofNat 32 (first g).val := by
  classical
  have e : w = fun l => BitVec.ofNat 32 (if g l = M then l.val else 4096) := funext fun l => by rw [hw]; split <;> rfl
  rw [e]
  refine (fold_smaller Finset.univ (fun l : Fin 4096 => if g l = M then l.val else 4096) 2147483647 (by decide)
    fun l => by split <;> omega).trans (congrArg _ (le_antisymm ?_ ?_))
  · exact (Finset.fold_min_le _).2 (.inr ⟨first g, Finset.mem_univ _, by rw [if_pos hM.symm]⟩)
  · refine (Finset.le_fold_min _).2 ⟨by have := (first g).isLt; omega, fun l _ => ?_⟩
    split
    · rename_i h
      exact first_le g l fun l' => (le_first g l').trans_eq (hM.symm.trans h.symm)
    · have := (first g).isLt; omega

/-- The least number of a set, when it is `n`. -/
theorem least_is (E : Finset ℕ) (n : ℕ) (h : E.min = (n : WithTop ℕ)) : E.min.getD 0 = n := by
  rw [h]
  rfl

/-- An element of the part of a set with a property, however the property is decided. -/
theorem kept_iff {α : Type} (s : Finset α) (p : α → Prop) {_ : DecidablePred p} (a : α) : a ∈ s.filter p ↔ a ∈ s ∧ p a := Finset.mem_filter

/-- The least place along the second axis that no other beats is the first place. -/
theorem index_first (x : (⟨2, ![8, 4096]⟩ : Shape).Idx → EReal) (h : (⟨2, ![8, 4096]⟩ : Shape).Reduces [1] ⟨1, ![8]⟩) (j : (⟨1, ![8]⟩ : Shape).Idx) :
    Ideal.reduceIndex .argMax 1 h x j = BitVec.ofNat 32 (first fun n => x (ix2 (j 0) n)).val := by
  have hd : ∀ i : (⟨2, ![8, 4096]⟩ : Shape).Idx, h.drop i = j ↔ i = ix2 (j 0) (i 1) := fun i => by
    refine (show h.drop i = j ↔ (i 0).val = (j 0).val by simp [funext_iff, Fin.ext_iff, Fin.forall_fin_one, h.drop_apply_val_of_eq i 0 0]).trans
      ⟨fun e => funext fun a => ?_, fun e => congrArg (fun i : (⟨2, ![8, 4096]⟩ : Shape).Idx => (i 0).val) e⟩
    match a with
    | ⟨0, _⟩ => exact Fin.ext e
    | ⟨1, _⟩ => rfl
  have hm : ∀ n : Fin 4096, h.drop (ix2 (j 0) n) = j := fun n => (hd _).mpr rfl
  unfold Ideal.reduceIndex
  dsimp only
  refine congrArg (BitVec.ofNat 32) ?_
  refine least_is _ _ ?_
  refine le_antisymm (Finset.min_le (Finset.mem_image.mpr ⟨ix2 (j 0) (first fun n => x (ix2 (j 0) n)), ?_, rfl⟩)) (Finset.le_min fun b hb => ?_)
  · refine (kept_iff _ _ _).mpr ⟨Finset.mem_filter.mpr ⟨Finset.mem_univ _, hm _⟩, fun i' hi' => ?_⟩
    rw [if_pos rfl, not_lt, (hd i').mp (Finset.mem_filter.mp hi').2]
    exact le_first (fun n => x (ix2 (j 0) n)) (i' 1)
  · obtain ⟨i, hi, rfl⟩ := Finset.mem_image.mp hb
    obtain ⟨hi, hmax⟩ := (kept_iff _ _ _).mp hi
    have hi := (hd i).mp (Finset.mem_filter.mp hi).2
    refine WithTop.coe_le_coe.mpr (first_le (fun n => x (ix2 (j 0) n)) (i 1) fun l' => ?_)
    have := hmax (ix2 (j 0) l') (Finset.mem_filter.mpr ⟨Finset.mem_univ _, hm _⟩)
    rw [if_pos rfl, not_lt] at this
    exact this.trans_eq (congrArg x hi)

/-- What holds before a counted loop and is kept by each trip holds after it. -/
theorem fold_keeps {σ : Type} : ∀ (n : ℕ) (g : Fin n → σ → σ) (P : ℕ → σ → Prop) (s : σ) (_ : P 0 s) (_ : ∀ (k : Fin n) a, P k.val a → P (k.val + 1) (g k a)),
    P n (Scf.fold g s) := by
  intro n g P s h0 hs
  rw [Scf.fold_eq]
  induction n with
  | zero => exact h0
  | succ n ih =>
    rw [List.finRange_succ_last, List.foldl_append, List.foldl_map]
    exact hs (Fin.last n) _ (ih (fun k a => g k.castSucc a) fun k a => hs k.castSucc a)

/-- The distance every point starts from. -/
abbrev big : EReal := Ideal.ofBits FTy.f32 1343554297#32

/-- The clouds' points. -/
def pts (a : (⟨3, ![8, 4096, 3]⟩ : Shape).Idx → EReal) : Points := fun b n k => a (ix3 b n k)

/-- Zero as a whole number. -/
theorem whole_zero : Ideal.fptosi 32 (0 : EReal) = 0#32 := by
  have e : Ideal.toIntClamped (-(2 ^ (32 - 1) : Nat)) ((2 ^ (32 - 1) : Nat) - 1) ((0 : ℝ) : EReal) = 0 := by
    rw [Ideal.toIntClamped_coe, if_pos le_rfl, Int.floor_zero]
    rfl
  exact congrArg (BitVec.ofInt 32) e

/-- Choosing on whether two small numbers are the same. -/
theorem slot {α : Type} (t k : ℕ) (ht : t < 2 ^ 32) (hk : k < 2 ^ 32) (a b : α) :
    Scalar.select (IntOp.cmpi CmpIPredicate.eq (BitVec.ofNat 32 t) (BitVec.ofNat 32 k)) a b = if t = k then a else b := by
  have e : (BitVec.ofNat 32 t == BitVec.ofNat 32 k) = decide (t = k) := by
    rw [Bool.beq_eq_decide_eq]
    refine decide_eq_decide.mpr ⟨fun h => ?_, fun h => h ▸ rfl⟩
    have := congrArg BitVec.toNat h
    rwa [BitVec.toNat_ofNat, BitVec.toNat_ofNat, Nat.mod_eq_of_lt ht, Nat.mod_eq_of_lt hk] at this
  simp only [IntOp.cmpi, e]
  by_cases h : t = k <;> simp [h, Scalar.select]

/-- The row, among all the clouds' points, of the point sampled at each turn. -/
def sampled (x : Points) (b : Fin 8) (t : ℕ) : BitVec 32 :=
  BitVec.ofNat 32 ((spread x big t).2 b).val + BitVec.ofNat 32 b.val * 4096#32

end Cert.Proof.Farthest

end
-- ==== Proof.Sampled.lean ====
/-
  The kernel that samples the clouds' points: its loop, trip by trip, and what it leaves in its result.
-/
module

public import proofs.«01_k».proof.Defs
public import proofs.«01_k».proof.Proof.Spread
public import proofs.«01_k».proof.Proof.Gen.FarthestIdeal.Value

@[expose] public section

set_option maxRecDepth 16384

noncomputable section

namespace Cert.Proof.Farthest

open Cert.FarthestIdeal Cert.FarthestIdeal.Gen Cert.FarthestIdeal.Value
open Idealize.ShloMosaic Idealize.ShloMosaic.TcCoe Idealize.SL.Sem

/-- Adding up a row with all but one entry made zero gives that entry. -/
theorem pick (g : Fin 4096 → EReal) (f : Fin 4096) :
    ∑ l : Fin 4096, Scalar.select (IntOp.cmpi CmpIPredicate.eq (BitVec.ofNat 32 l.val) (BitVec.ofNat 32 f.val)) (g l) 0 = g f := by
  refine (Finset.sum_eq_single (M := EReal) f (fun l _ hl => ?_) fun h => absurd (Finset.mem_univ f) h).trans ?_
  · have e : IntOp.cmpi CmpIPredicate.eq (BitVec.ofNat 32 l.val) (BitVec.ofNat 32 f.val) = 0#1 := by
      simp only [IntOp.cmpi, BitVec.ofNat_eq_ofNat]
      rw [beq_eq_false_iff_ne.mpr fun h => hl (Fin.ext ?_)]
      · rfl
      · have := congrArg BitVec.toNat h
        rwa [BitVec.toNat_ofNat, BitVec.toNat_ofNat, Nat.mod_eq_of_lt (by omega), Nat.mod_eq_of_lt (by omega)] at this
    rw [e]
    rfl
  · have e : IntOp.cmpi CmpIPredicate.eq (BitVec.ofNat 32 f.val) (BitVec.ofNat 32 f.val) = 1#1 := by
      simp [IntOp.cmpi]
    rw [e]
    rfl

/-- What the loop carries before its `k`-th trip. -/
def Holds (x : Points) (k : ℕ) (s : FVec Ideal S8x4096 .f32 × IVec S8x1 32 × IVec S8x1024 32) : Prop :=
  (∀ b n, s.1 (ix2 b n) = (spread x big k).1 b n) ∧ (∀ b, s.2.1 (ix2 b 0) = BitVec.ofNat 32 ((spread x big k).2 b).val)
    ∧ ∀ (b : Fin 8) (t : Fin 1024), s.2.2 (ix2 b t) = if t.val < k then BitVec.ofNat 32 ((spread x big t.val).2 b).val else 0#32

variable (x : Points) (u v w : Vec Ideal S8x4096 .f32) (hu : ∀ b n, u (ix2 b n) = x b n 0) (hv : ∀ b n, v (ix2 b n) = x b n 1)
  (hw : ∀ b n, w (ix2 b n) = x b n 2)

include hu hv hw in
/-- One trip's distances. -/
theorem trip_near (k : ℕ) (d : FVec Ideal S8x4096 .f32) (f : IVec S8x1 32) (hd : ∀ b n, d (ix2 b n) = (spread x big k).1 b n)
    (hf : ∀ b, f (ix2 b 0) = BitVec.ofNat 32 ((spread x big k).2 b).val) (b : Fin 8) (n : Fin 4096) :
    k0_pay6 (F := Ideal) u v w d f (ix2 b n) = (spread x big (k + 1)).1 b n := by
  pointwise [k0_pay6, k0_pay1]
  rw [hd, hf]
  simp only [hu, hv, hw]
  rw [pick (fun l => x b l 0), pick (fun l => x b l 1), pick (fun l => x b l 2)]
  exact congrArg (min _) (Fin.sum_univ_three (M := EReal) fun i =>
    (x b n i - x b ((spread x big k).2 b) i) * (x b n i - x b ((spread x big k).2 b) i)).symm

include hu hv hw in
/-- A trip keeps what the loop carries. -/
theorem trip (k : Fin k0_t1_loop.trips) (s : FVec Ideal S8x4096 .f32 × IVec S8x1 32 × IVec S8x1024 32) (h : Holds x k.val s) :
    Holds x (k.val + 1) (k0_pay6 u v w s.1 s.2.1, k0_pay7 u v w s.1 s.2.1, k0_pay5 k s.2.1 s.2.2) := by
  obtain ⟨hd, hf, ha⟩ := h
  have hn := trip_near x u v w hu hv hw k.val s.1 s.2.1 hd hf
  refine ⟨hn, fun b => ?_, fun b t => ?_⟩
  · show k0_pay7 (F := Ideal) u v w s.1 s.2.1 (ix2 b 0) = _
    pointwise [k0_pay7]
    refine (index_first _ _ _).trans ?_
    refine congrArg (fun g => BitVec.ofNat 32 (first g).val) (funext fun n => hn b n)
  · show k0_pay5 k s.2.1 s.2.2 (ix2 b t) = _
    pointwise [k0_pay5]
    rw [hf, ha]
    have hk : k.val < 1024 := k.isLt
    have e : Scf.iv 0#32 1#32 k.val = BitVec.ofNat 32 k.val := by simp [Scf.iv]
    rw [e, slot t.val k.val (by omega) (by omega)]
    by_cases h : t.val = k.val
    · rw [if_pos h, if_pos (by omega), h]
    · rw [if_neg h]
      exact if_congr (by omega) rfl rfl

include hu in
/-- Before the first trip. -/
theorem start : Holds x 0 (k0_pay2 u, k0_pay3 u, k0_pay4 u) := by
  refine ⟨fun b n => ?_, fun b => ?_, fun b t => ?_⟩
  · show k0_pay2 (F := Ideal) u (ix2 b n) = big
    pointwise [k0_pay2, k0_pay1]
    rw [mul_zero, zero_add]
  · show k0_pay3 (F := Ideal) u (ix2 b 0) = 0#32
    pointwise [k0_pay3, k0_pay1]
    rw [mul_zero]
    exact whole_zero
  · show k0_pay4 (F := Ideal) u (ix2 b t) = 0#32
    pointwise [k0_pay4, k0_pay1]
    rw [mul_zero]
    exact whole_zero

include hu hv hw in
/-- What the loop leaves. -/
theorem looped : Holds x 1024 (Scf.fold (fun (k : Fin k0_t1_loop.trips) (s : FVec Ideal S8x4096 .f32 × IVec S8x1 32 × IVec S8x1024 32) =>
    (k0_pay6 u v w s.1 s.2.1, k0_pay7 u v w s.1 s.2.1, k0_pay5 k s.2.1 s.2.2)) (k0_pay2 u, k0_pay3 u, k0_pay4 u)) :=
  fold_keeps (n := 1024) _ (Holds x) _ (start x u hu) fun k s h => trip x u v w hu hv hw k s h

variable (m : (ℓ : Loc nD τ sig) → Buf (Elt Ideal) ℓ) (c : Dev nD)

theorem zero2 : (![0, 0] : Fin 2 → Nat) = fun _ => 0 := funext fun a => by fin_cases a <;> rfl

/-- What the one point leaves in the result's buffer. -/
theorem left_eq (arg0 : Memref sig .tc .vmem S8x4096 .f32) (harg0 : arg0.IsWhole) (arg1 : Memref sig .tc .vmem S8x4096 .f32) (harg1 : arg1.IsWhole) (arg2 : Memref sig .tc .vmem S8x4096 .f32) (harg2 : arg2.IsWhole) (arg3 : Memref sig .tc .vmem S8x1024 .i32) (harg3 : arg3.IsWhole) :
    out0_A_3 c arg0 harg0 arg1 harg1 arg2 harg2 arg3 harg3 u v w = k0_pay8 (Scf.fold (fun (k : Fin k0_t1_loop.trips) (s : FVec Ideal S8x4096 .f32 × IVec S8x1 32 × IVec S8x1024 32) =>
    (k0_pay6 u v w s.1 s.2.1, k0_pay7 u v w s.1 s.2.1, k0_pay5 k s.2.1 s.2.2)) (k0_pay2 u, k0_pay3 u, k0_pay4 u)).2.2 := by
  unfold out0_A_3
  rw [View.read_writes_eq_canon _ _ _ (cover0_A_3 c arg0 harg0 arg1 harg1 arg2 harg2 arg3 harg3 u v w)]
  unfold kernelRun0_A
  dsimp only
  try sl_unfold_words
  rw [View.canon_unit_zero zero2]
  simp only [View.readAt_eq_ld, harg0.read_unread, harg1.read_unread, harg2.read_unread, View.ld_unit_zero (S := S8x4096) zero2, shapeCast_self]

/-- Each input's one block is the whole of it. -/
theorem at_zero : ∀ t : Fin cfg0.N, (win0_0.index t 0 = 0 ∧ win0_0.index t 1 = 0) ∧ (win0_1.index t 0 = 0 ∧ win0_1.index t 1 = 0)
    ∧ (win0_2.index t 0 = 0 ∧ win0_2.index t 1 = 0) ∧ win0_3.index t 0 = 0 ∧ win0_3.index t 1 = 0 :=
  (by decide +kernel : ∀ t : Fin grid0.N, _)

/-- The first coordinates, as the kernel is handed them. -/
theorem block0 (t : Fin cfg0.N) (b : Fin 8) (n : Fin 4096) :
    iblk m c 0 t (ix2 b n) = pts (m ((c : Thread nD τ).loc main_arg0)) b n 0 := by
  obtain ⟨⟨h, h'⟩, -, -, -⟩ := at_zero t
  unfold pts
  blk_point [iblk, V, h, h']
  all_goals omega

/-- The second coordinates, as the kernel is handed them. -/
theorem block1 (t : Fin cfg0.N) (b : Fin 8) (n : Fin 4096) :
    iblk m c 1 t (ix2 b n) = pts (m ((c : Thread nD τ).loc main_arg0)) b n 1 := by
  obtain ⟨-, ⟨h, h'⟩, -, -⟩ := at_zero t
  unfold pts
  blk_point [iblk, V, h, h']
  all_goals omega

/-- The third coordinates, as the kernel is handed them. -/
theorem block2 (t : Fin cfg0.N) (b : Fin 8) (n : Fin 4096) :
    iblk m c 2 t (ix2 b n) = pts (m ((c : Thread nD τ).loc main_arg0)) b n 2 := by
  obtain ⟨-, -, ⟨h, h'⟩, -⟩ := at_zero t
  unfold pts
  blk_point [iblk, V, h, h']
  all_goals omega

/-- The one point of the grid. -/
abbrev only : Fin cfg0.N := ⟨0, by decide⟩

/-- The result is what the one point left. -/
theorem arr_eq (i : S8x1024.Idx) : (dats m 0 c).arrAt 3 cfg0.N i = outsAt0 m c only i := by
  have h := (dats m 0 c).arrAt_emb_eq_flushed 3 disjoint3 only (by decide +kernel) i
  rw [flushed3] at h
  obtain ⟨-, -, -, h0, h1⟩ := at_zero only
  have e : (((cfg0.win 3).blk only).view.emb i : S8x1024.Idx) = i := by
    funext a
    apply Fin.ext
    match a with
    | ⟨0, _⟩ => show win0_3.index only (0 : Fin 2) * 8 + 1 * (i 0).val = (i 0).val; rw [h0]; omega
    | ⟨1, _⟩ => show win0_3.index only (1 : Fin 2) * 1024 + 1 * (i 1).val = (i 1).val; rw [h1]; omega
  generalize outsAt0 m c only = o at h ⊢
  refine (congrArg ((dats m 0 c).arrAt 3 cfg0.N) e).symm.trans (h.trans ?_)
  exact (cast_eq _ _).trans rfl

/-- The result is the sampled points' rows. -/
theorem result_eq (b : Fin 8) (t : Fin 1024) :
    (dats m 0 c).arrAt 3 cfg0.N (ix2 b t) = sampled (pts (m ((c : Thread nD τ).loc main_arg0))) b t.val := by
  refine (arr_eq m c (ix2 b t)).trans ?_
  unfold outsAt0
  rw [left_eq]
  have h := (looped _ _ _ _ (block0 m c only) (block1 m c only) (block2 m c only)).2.2 b t
  rw [if_pos t.isLt] at h
  pointwise [k0_pay8]
  exact congrArg (· + BitVec.ofNat 32 b.val * 4096#32) h

end Cert.Proof.Farthest

end
-- ==== Proof.Turns.lean ====
/-
  The reference that samples the clouds' points: its loop, turn by turn.
-/
module

public import proofs.«01_k».proof.Defs
public import proofs.«01_k».proof.Proof.Spread
public import proofs.«01_k».proof.Proof.Values
public import proofs.«01_k».proof.Proof.Gen.FarthestReferenceIdeal.Run
public import Idealize.ShloMosaic.Lib.Pipeline.ValueKit
public import Idealize.ShloMosaic.Lib.Routing.Ops

@[expose] public section

set_option maxRecDepth 16384

noncomputable section

namespace Cert.Proof.Farthest

open Cert.FarthestReferenceIdeal Cert.FarthestReferenceIdeal.Gen Cert.FarthestReferenceIdeal.Value
open Idealize.ShloMosaic Idealize.ShloMosaic.TcCoe Idealize.SL.Sem Idealize.ShloMosaic.StableHlo
open Idealize.ShloMosaic.Routing (gather_row)

/-- The coordinates of the points with the given rows. -/
def row (r : FVec Ideal S32768x3 .f32) (p : IVec S8 32) : FVec Ideal S8x3 .f32 :=
  Host.gather gather_S32768x3_S8x1_S8x3_1_0_n_n_0_1_13 r (broadcastInDim S8x1 ![0] bcast_S8_S8x1_0 (select (cmpi .slt p (broadcastInDim S8 ![] bcast_S_S8 (constantI S_ 32 0#32))) (addi p (broadcastInDim S8 ![] bcast_S_S8 (constantI S_ 32 32768#32))) p))

/-- One turn's distances. -/
def dist (r : FVec Ideal S32768x3 .f32) (x : FVec Ideal S8x4096x3 .f32) (p : IVec S8 32) (d : FVec Ideal S8x4096 .f32) : FVec Ideal S8x4096 .f32 :=
  minimumf d (Host.reduceAdd (mulf (subf x (broadcastInDim S8x4096x3 ![0, 1, 2] bcast_S8x1x3_S8x4096x3_0_1_2 (broadcastInDim S8x1x3 ![0, 2] bcast_S8x3_S8x1x3_0_2 (row r p)))) (subf x (broadcastInDim S8x4096x3 ![0, 1, 2] bcast_S8x1x3_S8x4096x3_0_1_2 (broadcastInDim S8x1x3 ![0, 2] bcast_S8x3_S8x1x3_0_2 (row r p))))) (constant S_ .f32 0x00000000#32) reducesTo_S8x4096x3_S8x4096_d2 h_S_)

/-- The loop's distances after a turn. -/
theorem dist_eq (V : Valuation τ sig (Elt Ideal)) : step_main_v6_4 V = dist (V (Proc.devRef .tc main_v6_0)) (V (Proc.devRef .tc main_v6_1)) (V (Proc.devRef .tc main_v6_5)) (V (Proc.devRef .tc main_v6_4)) := rfl

/-- The first farthest points. -/
def most (d : FVec Ideal S8x4096 .f32) : IVec S8 32 :=
  Host.reduce IntOp.minsi (select (cmpf .oeq d (broadcastInDim S8x4096 ![0, 1] bcast_S8x1_S8x4096_0_1 (broadcastInDim S8x1 ![0] bcast_S8_S8x1_0 (Host.reduce (FloatOps.maximumf (F := Ideal) (φ := .f32)) d (constant S_ .f32 0xFF800000#32) reducesTo_S8x4096_S8_d1 h_S_)))) (broadcastInDim S8x4096 ![1] bcast_S4096_S8x4096_1 (iotaInDim S4096 32 0)) (broadcastInDim S8x4096 ![] bcast_S_S8x4096 (id (constantI S_ 32 4096#32)))) (constantI S_ 32 2147483647#32) reducesTo_S8x4096_S8_d1 h_S_

/-- The loop's rows after a turn. -/
theorem most_eq (V : Valuation τ sig (Elt Ideal)) : step_main_v6_5 V = addi (most (step_main_v6_4 V)) (V (Proc.devRef .tc main_v6_2)) := by
  unfold step_main_v6_5 step_main_v6_4 most
  rfl

/-- A sampled point's row is the cloud's first row and the point's number within it. -/
theorem sampled_eq (x : Points) (b : Fin 8) (t : ℕ) :
    sampled x b t = BitVec.ofNat 32 (b.val * 4096 + ((spread x big t).2 b).val) := by
  rw [Nat.add_comm, BitVec.ofNat_add, BitVec.ofNat_mul]
  rfl

variable (a : FVec Ideal S8x4096x3 .f32) (x : Points) (ha : ∀ b n k, a (ix3 b n k) = x b n k)

include ha in
/-- The coordinates of the sampled points. -/
theorem row_eq (p : IVec S8 32) (t : ℕ) (hp : ∀ b, p (ix1 b) = sampled x b t) (b : Fin 8) (k : Fin 3) :
    row (shapeCast S32768x3 a shapeCasts_S8x4096x3_S32768x3) p (ix2 b k) = x b ((spread x big t).2 b) k := by
  have hb := b.isLt
  have hf := ((spread x big t).2 b).isLt
  have hl : b.val * 4096 + ((spread x big t).2 b).val < 32768 := by omega
  unfold row
  refine (gather_row _ rfl rfl rfl rfl rfl _ _ b k ⟨b.val * 4096 + ((spread x big t).2 b).val, hl⟩ ?_ (by decide)).trans ?_
  · pointwise
    rw [hp, sampled_eq]
    exact Cert.Proof.Rows.not_negative _ _ (by rw [BitVec.toNat_ofNat]; omega)
  · refine (Cert.Proof.Rows.flat_pt a _ _ k).trans (Eq.trans ?_ (ha _ _ _))
    unfold Cert.Proof.Rows.pt
    refine congrArg a ?_
    have e0 : (b.val * 4096 + ((spread x big t).2 b).val) / 4096 = b.val := by omega
    have e1 : (b.val * 4096 + ((spread x big t).2 b).val) % 4096 = ((spread x big t).2 b).val := by omega
    funext i
    match i with
    | ⟨0, _⟩ => exact Fin.ext e0
    | ⟨1, _⟩ => exact Fin.ext e1
    | ⟨2, _⟩ => rfl

include ha in
/-- One turn's distances. -/
theorem turn_near (p : IVec S8 32) (d : FVec Ideal S8x4096 .f32) (t : ℕ) (hp : ∀ b, p (ix1 b) = sampled x b t)
    (hd : ∀ b n, d (ix2 b n) = (spread x big t).1 b n) (b : Fin 8) (n : Fin 4096) :
    dist (shapeCast S32768x3 a shapeCasts_S8x4096x3_S32768x3) a p d (ix2 b n) = (spread x big (t + 1)).1 b n := by
  pointwise [dist]
  rw [hd]
  refine congrArg (min _) (Finset.sum_congr (M := EReal) rfl fun k _ => ?_)
  show (a (ix3 b n k) - row (shapeCast S32768x3 a shapeCasts_S8x4096x3_S32768x3) p (ix2 b k))
    * (a (ix3 b n k) - row (shapeCast S32768x3 a shapeCasts_S8x4096x3_S32768x3) p (ix2 b k)) = _
  rw [row_eq a x ha p t hp b k, ha b n k]

/-- The first farthest point of each cloud. -/
theorem most_first (d : FVec Ideal S8x4096 .f32) (b : Fin 8) :
    most d (ix1 b) = BitVec.ofNat 32 (first fun n => d (ix2 b n)).val := by
  pointwise [most]
  refine fold_first (fun n => d (ix2 b n)) (Finset.fold max (Ideal.ofBits FTy.f32 4286578688#32) (fun x => d (ix2 b x)) Finset.univ) ?_ _ fun l => ?_
  · have e : Ideal.ofBits FTy.f32 4286578688#32 = ⊥ := by simp [Ideal.ofBits, Ideal.ieee]
    rw [e]
    exact fold_largest _
  · rfl

/-- Writing a turn's rows among the earlier ones. -/
theorem kept (o : IVec S1024x8 32) (p : IVec S8 32) (k : ℕ) (hk : k < 1024) (t : Fin 1024) (b : Fin 8) :
    Host.dynamicUpdateSlice o (broadcastInDim S1x8 ![1] bcast_S8_S1x8_1 p)
      (fun j => (((![fun _ => BitVec.ofNat 32 k, constantI S_ 32 0#32] : Fin 2 → IVec S_ 32)) j (Shape.Idx.first h_S_)).toInt)
      updateFits_S1024x8_S1x8 (ix2 t b) = if t.val = k then p (ix1 b) else o (ix2 t b) := by
  have e0 : ∀ h, Host.clampedStart S1024x8 S1x8 h (fun j => (((![fun _ => BitVec.ofNat 32 k, constantI S_ 32 0#32] : Fin 2 → IVec S_ 32)) j (Shape.Idx.first h_S_)).toInt) 0 = k := fun h => by
    refine Host.clampedStart_of_le h _ 0 k ?_ ?_
    · show (BitVec.ofNat 32 k).toInt = (k : ℤ)
      rw [BitVec.toInt_eq_toNat_cond, BitVec.toNat_ofNat, if_pos (by omega)]
      omega
    · show k + 1 ≤ 1024
      omega
  have e1 : ∀ h, Host.clampedStart S1024x8 S1x8 h (fun j => (((![fun _ => BitVec.ofNat 32 k, constantI S_ 32 0#32] : Fin 2 → IVec S_ 32)) j (Shape.Idx.first h_S_)).toInt) 1 = 0 := fun h => by
    refine Host.clampedStart_of_le h _ 1 0 ?_ ?_
    · rfl
    · show 0 + 8 ≤ 8
      omega
  pointwise
  simp only [e0, e1]
  by_cases e : t.val = k
  · rw [dif_pos ⟨⟨by omega, by omega⟩, Nat.zero_le _⟩, if_pos e]
    rfl
  · rw [dif_neg fun h => e (by omega), if_neg e]

/-- What the loop carries after `k` turns. -/
structure Turned (k : ℕ) (V : Valuation τ sig (Elt Ideal)) : Prop where
  rows : V (Proc.devRef .tc main_v6_0) = shapeCast S32768x3 a shapeCasts_S8x4096x3_S32768x3
  pts : V (Proc.devRef .tc main_v6_1) = a
  off : V (Proc.devRef .tc main_v6_2) = fun j : S8.Idx => BitVec.ofNat 32 (j 0).val * 4096#32
  count : V (Proc.devRef .tc main_v6_3) = fun _ => BitVec.ofNat 32 k
  near : ∀ b n, (V (Proc.devRef .tc main_v6_4) : FVec Ideal S8x4096 .f32) (ix2 b n) = (spread x big k).1 b n
  next : ∀ b, (V (Proc.devRef .tc main_v6_5) : IVec S8 32) (ix1 b) = sampled x b k
  got : ∀ (t : Fin 1024) (b : Fin 8), (V (Proc.devRef .tc main_v6_6) : IVec S1024x8 32) (ix2 t b) = if t.val < k then sampled x b t.val else 0#32

include ha in
/-- A turn keeps it. -/
theorem turn (k : ℕ) (hk : k < 1024) (V : Valuation τ sig (Elt Ideal)) (h : Turned a x k V) : Turned a x (k + 1) (STEP V) := by
  have hn : ∀ b n, (step_main_v6_4 V : FVec Ideal S8x4096 .f32) (ix2 b n) = (spread x big (k + 1)).1 b n := fun b n => by
    rw [dist_eq, h.rows, h.pts]
    exact turn_near a x ha _ _ k h.next h.near b n
  constructor
  · rw [STEP_main_v6_0, h.rows]
  · rw [STEP_main_v6_1, h.pts]
  · rw [STEP_main_v6_2, h.off]
  · rw [STEP_main_v6_3]
    unfold step_main_v6_3
    rw [h.count]
    funext i
    exact (BitVec.ofNat_add k 1).symm
  · rw [STEP_main_v6_4]
    exact hn
  · intro b
    rw [STEP_main_v6_5, most_eq, h.off]
    refine congrArg (· + BitVec.ofNat 32 b.val * 4096#32) ((most_first _ b).trans ?_)
    exact congrArg (fun g => BitVec.ofNat 32 (first g).val) (funext fun n => hn b n)
  · intro t b
    rw [STEP_main_v6_6]
    unfold step_main_v6_6
    rw [h.count]
    refine (kept _ _ k hk t b).trans ?_
    rw [h.next, h.got]
    by_cases e : t.val = k
    · rw [if_pos e, if_pos (by omega), e]
    · rw [if_neg e]
      exact if_congr (by omega) rfl rfl

variable (m : (ℓ : Loc nD τ sig) → Buf (Elt Ideal) ℓ) (c : Dev nD)

/-- Before the first turn. -/
theorem entry : Turned (m (c.tc.loc main_arg0)) (pts (m (c.tc.loc main_arg0))) 0 (entryContents preI m c) := by
  constructor
  · simp only [entryContents, afterL_cons, afterL_nil]
    after_reads_simp
    rfl
  · simp only [entryContents, afterL_cons, afterL_nil]
    after_reads_simp
    rfl
  · simp only [entryContents, afterL_cons, afterL_nil]
    after_reads_simp
    rfl
  · exact ctr_entry m c
  · intro b n
    simp only [entryContents, afterL_cons, afterL_nil]
    after_reads_simp
    rfl
  · intro b
    simp only [entryContents, afterL_cons, afterL_nil]
    after_reads_simp
    exact (BitVec.zero_add _).symm
  · intro t b
    simp only [entryContents, afterL_cons, afterL_nil]
    after_reads_simp
    rfl

/-- After any number of turns. -/
theorem turned : ∀ k, k ≤ 1024 → Turned (m (c.tc.loc main_arg0)) (pts (m (c.tc.loc main_arg0))) k (STEP^[k] (entryContents preI m c))
  | 0, _ => entry m c
  | k + 1, hk => by
    rw [Function.iterate_succ_apply']
    exact turn _ _ (fun _ _ _ => rfl) k (by omega) _ (turned k (by omega))

/-- The reference's result is the sampled points' rows. -/
theorem reference_eq (b : Fin 8) (t : Fin 1024) :
    (out_main_v7 (STEP^[1024] (entryContents preI m c)) : IVec S8x1024 32) (ix2 b t) = sampled (pts (m (c.tc.loc main_arg0))) b t.val := by
  unfold out_main_v7
  pointwise
  refine ((turned m c 1024 le_rfl).got t b).trans (if_pos t.isLt)

end Cert.Proof.Farthest

end
-- ==== Proof.Farthest.lean ====
/-
  The call that samples the clouds' points: the frames of its programs, and that the kernel's sampled points are its
  reference's.
-/
module

public import proofs.«01_k».proof.Defs
public import proofs.«01_k».proof.Proof.Sampled
public import proofs.«01_k».proof.Proof.Turns
public import proofs.«01_k».proof.Proof.Gen.Farthest.Frame
public import proofs.«01_k».proof.Proof.Gen.FarthestIdeal.Frame
public import proofs.«01_k».proof.Proof.Gen.FarthestReferenceIdeal
public import proofs.«01_k».proof.Proof.Gen.Pre_one_farthest
public import Idealize.ShloMosaic.Lib.Quiescent

@[expose] public section

noncomputable section

namespace Cert.Proof.Farthest

open Idealize.ShloMosaic Idealize.ShloMosaic.TcCoe Idealize.SL.Sem

/-- The frame of the sampling call as printed. -/
theorem frame_printed : Cert.quiescent_Farthest := fun m ρ _ => Cert.Farthest.Gen.frame m ρ

/-- The same, under the ideal form's precondition. -/
theorem frame_printed_one : Cert.quiescent_Farthest_pre_one_farthest := fun m ρ _ => Cert.Farthest.Gen.frame m ρ

/-- The frame of its ideal form. -/
theorem frame_ideal : Cert.quiescent_FarthestIdeal := fun m ρ _ => Cert.FarthestIdeal.Gen.frame m ρ

/-- The frame of its reference, which has no counter. -/
theorem frame_ref : Cert.quiescent_FarthestReferenceIdeal := fun m ρ _ =>
  (θ_run Cert.FarthestReferenceIdeal.defs _ _).mono
    (fun r h => ⟨fun c => (h c).2, sem_eq_zero_of_no_sems (by decide) _⟩)
    (Cert.FarthestReferenceIdeal.Value.run (F := Ideal) m ρ)

/-- The same, under the ideal form's precondition. -/
theorem frame_ref_one : Cert.quiescent_FarthestReferenceIdeal_pre_one_farthest := fun m ρ _ => frame_ref m ρ trivial

/-- The kernel samples the reference's points. -/
theorem same_points : Cert.algebraic_FarthestIdeal_FarthestReferenceIdeal := fun m g m' g' _ hargs => by
  refine ⟨fun c => (Cert.FarthestIdeal.Gen.dats m 0 c).arrAt 3 Cert.FarthestIdeal.cfg0.N,
    Cert.FarthestIdeal.Value.run_blocks (F := Ideal) m g, ?_⟩
  refine (θ_run Cert.FarthestReferenceIdeal.defs _ _).mono (fun r h c => ?_) (Cert.FarthestReferenceIdeal.Value.run (F := Ideal) m' g')
  refine ⟨(h c).1.trans (funext fun i => ?_), (h c).2⟩
  rw [eq_ix2 i]
  refine (reference_eq m' c (i 0) (i 1)).trans (Eq.trans ?_ (result_eq m c (i 0) (i 1)).symm)
  exact congrArg (fun a => sampled (pts a) (i 0) (i 1).val) (hargs c)

end Cert.Proof.Farthest

end
-- ==== Proof.Near.lean ====
/-
  Picking the nearest points, as plain mathematics: a row of distances, its places ranked by distance, and the same
  places found one after the other as the least of those not found yet.
-/
module

public import Idealize.ShloMosaic.Lib.Pipeline.ValueKit
public import Idealize.ShloMosaic.Lib.SortFacts
public import proofs.«01_k».proof.Proof.Spread

@[expose] public section

namespace Cert.Proof.Nearest

open Idealize.ShloMosaic Cert.Proof.Farthest
open ArgKind

/-- A row's distances with the places found before turn `k` set out of reach. -/
noncomputable def rest (D : Fin 4096 → EReal) (s : ℕ → Fin 4096) : ℕ → Fin 4096 → EReal
  | 0 => D
  | k + 1 => fun n => if n = s k then ⊤ else rest D s k n

/-- A place not found before turn `k` keeps its distance. -/
theorem rest_of_new (D : Fin 4096 → EReal) (s : ℕ → Fin 4096) (n : Fin 4096) : ∀ k, (∀ j < k, n ≠ s j) → rest D s k n = D n
  | 0, _ => rfl
  | k + 1, h => (if_neg (h k k.lt_succ_self)).trans (rest_of_new D s n k fun j hj => h j (hj.trans k.lt_succ_self))

/-- A place found before turn `k` is out of reach. -/
theorem rest_of_found (D : Fin 4096 → EReal) (s : ℕ → Fin 4096) (n : Fin 4096) : ∀ k, (∃ j < k, n = s j) → rest D s k n = ⊤
  | 0, ⟨_, hj, _⟩ => absurd hj (Nat.not_lt_zero _)
  | k + 1, ⟨j, hj, e⟩ => by
    by_cases h : n = s k
    · exact if_pos h
    · refine (if_neg h).trans (rest_of_found D s n k ⟨j, ?_, e⟩)
      rcases Nat.lt_succ_iff_lt_or_eq.mp hj with h' | h'
      · exact h'
      · exact absurd (h' ▸ e) h

/-- The places of a row ranked by an order, each rank past the last being the first. -/
def ranked (R : Fin 4096 → Fin 4096 → Bool) (k : ℕ) : Fin 4096 := if h : k < 4096 then sortedFrom R ⟨k, h⟩ else 0

/-- At a rank that there is. -/
theorem ranked_eq (R : Fin 4096 → Fin 4096 → Bool) (k : ℕ) (h : k < 4096) : ranked R k = sortedFrom R ⟨k, h⟩ := dif_pos h

/-- Where the order is by distance and the first 33 distances rise, the place of rank `k` is nearer than any other not
    found before turn `k`. -/
theorem nearest_is (D : Fin 4096 → EReal) (R : Fin 4096 → Fin 4096 → Bool) (hR : ∀ a b, R a b = true ↔ D a < D b)
    (hs : ∀ i < 32, D (ranked R i) < D (ranked R (i + 1))) (k : ℕ) (hk : k < 32) (n : Fin 4096) (hn : n ≠ ranked R k) :
    rest D (ranked R) k (ranked R k) < rest D (ranked R) k n := by
  have hF : ∀ a b, R a b = false ↔ D b ≤ D a := fun a b => by rw [← not_lt, ← hR, Bool.not_eq_true]
  have inj : ∀ i j, i < 4096 → j < 4096 → ranked R i = ranked R j → i = j := fun i j hi hj e => by
    rw [ranked_eq R i hi, ranked_eq R j hj] at e
    exact congrArg Fin.val (sortedFrom_injective R e)
  have up : ∀ i j, i < j → j < 4096 → D (ranked R i) ≤ D (ranked R j) := fun i j hij hj => by
    rw [ranked_eq R i (hij.trans hj), ranked_eq R j hj]
    refine (hF _ _).mp (sortedFrom_noInversion R R (fun a b h => (hF _ _).mpr ((hR _ _).mp h).le) (fun _ _ h => h) (fun a b c h h' => ?_) _ _ hij)
    exact (hF _ _).mpr (((hF _ _).mp h').trans ((hF _ _).mp h))
  rw [rest_of_new D (ranked R) (ranked R k) k fun j hj e => absurd (inj k j (by omega) (by omega) e) (by omega)]
  by_cases hf : ∃ j < k, n = ranked R j
  · rw [rest_of_found D _ n k hf]
    exact (hs k hk).trans_le le_top
  · rw [rest_of_new D _ n k fun j hj e => hf ⟨j, hj, e⟩]
    obtain ⟨⟨p, hp⟩, e⟩ := sortedFrom_surjective R n
    have e' : n = ranked R p := (ranked_eq R p hp).trans e |>.symm
    subst e'
    have h1 : ¬ p < k := fun h => hf ⟨p, h, rfl⟩
    have h2 : p ≠ k := fun h => hn (h ▸ rfl)
    refine (hs k hk).trans_le ?_
    rcases Nat.lt_or_ge (k + 1) p with h | h
    · exact up _ _ h hp
    · rw [show p = k + 1 by omega]

/-- The squared distance of two points, from their product and their squares. -/
noncomputable def apart (q p : Fin 3 → EReal) : EReal :=
  Ideal.ofBits FTy.f32 0xC0000000#32 * (∑ k, q k * p k) + (∑ k, q k * q k) + ∑ k, p k * p k

/-- The coordinates of sampled point `s` of cloud `b`, in the table of sampled rows. -/
def own (q : (⟨2, ![8192, 256]⟩ : Shape).Idx → EReal) (b : Fin 8) (s : Fin 1024) (k : Fin 3) : EReal :=
  q (ix2 ⟨1024 * b.val + s.val, by omega⟩ ⟨128 + k.val, by omega⟩)

/-- The distance of sampled point `s` of cloud `b` from the cloud's point `n`. -/
noncomputable def far (x : (⟨3, ![8, 4096, 3]⟩ : Shape).Idx → EReal) (q : (⟨2, ![8192, 256]⟩ : Shape).Idx → EReal) (b : Fin 8) (s : Fin 1024) (n : Fin 4096) : EReal :=
  apart (own q b s) fun k => x (ix3 b n k)

/-- The order the greatest of the negated distances are picked by. -/
noncomputable def order (D : Fin 4096 → EReal) (a b : Fin 4096) : Bool := FloatOps.cmpfTotal (F := Ideal) (φ := .f32) .gt (-D a) (-D b) == 1#1

/-- It is the order by distance. -/
theorem order_iff (D : Fin 4096 → EReal) (a b : Fin 4096) : order D a b = true ↔ D a < D b := by
  unfold order
  rw [Ideal.cmpfTotal_def]
  simp only [Ideal.cmp, CmpDirection.ordered, gt_iff_lt, EReal.neg_lt_neg_iff, beq_iff_eq]
  by_cases h : D a < D b <;> simp [h]

/-- The greatest of each row, and where they lie. -/
theorem greatest {K : ℕ} (x : (⟨3, ![8, 1024, 4096]⟩ : Shape).Idx → EReal) (h : (⟨3, ![8, 1024, 4096]⟩ : Shape).Slices (fun _ => 0) ⟨3, ![8, 1024, K]⟩)
    (D : Fin 4096 → EReal) (b : Fin 8) (s : Fin 1024) (hx : ∀ n, x (ix3 b s n) = -D n) (i : Fin K) (hi : i.val < 4096) :
    (Host.topK (⟨3, ![8, 1024, K]⟩ : Shape) 2 (FloatOps.cmpfTotal (F := Ideal) (φ := .f32) .gt) x h).1 (ix3 b s i) = -D (ranked (order D) i)
    ∧ (Host.topK (⟨3, ![8, 1024, K]⟩ : Shape) 2 (FloatOps.cmpfTotal (F := Ideal) (φ := .f32) .gt) x h).2 (ix3 b s i) = BitVec.ofNat 32 (ranked (order D) i).val := by
  have along : ∀ n : Fin 4096, (Shape.Idx.along (s := ⟨3, ![8, 1024, 4096]⟩) (ix3 b s ⟨i.val, hi⟩) 2 n) = ix3 b s n := fun n => by
    funext a
    match a with
    | ⟨0, _⟩ => rfl
    | ⟨1, _⟩ => rfl
    | ⟨2, _⟩ => rfl
  have cut : ∀ {α : Type} (y : (⟨3, ![8, 1024, 4096]⟩ : Shape).Idx → α), extractStridedSlice (⟨3, ![8, 1024, K]⟩ : Shape) (fun _ => 0) y h (ix3 b s i) = y (ix3 b s ⟨i.val, hi⟩) :=
    fun y => extractStridedSlice_apply _ y h (ix3 b s i) (ix3 b s ⟨i.val, hi⟩) fun a => match a with
      | ⟨0, _⟩ => (Nat.zero_add _).symm
      | ⟨1, _⟩ => (Nat.zero_add _).symm
      | ⟨2, _⟩ => (Nat.zero_add _).symm
  have rank : sortedFrom (fun k k' : Fin 4096 => FloatOps.cmpfTotal (F := Ideal) (φ := .f32) .gt (x (Shape.Idx.along (s := ⟨3, ![8, 1024, 4096]⟩) (ix3 b s ⟨i.val, hi⟩) 2 k))
      (x (Shape.Idx.along (s := ⟨3, ![8, 1024, 4096]⟩) (ix3 b s ⟨i.val, hi⟩) 2 k')) == 1#1) ⟨i.val, hi⟩ = ranked (order D) i := by
    rw [ranked_eq _ _ hi]
    refine congrArg (fun R => sortedFrom R (⟨i.val, hi⟩ : Fin 4096)) (funext fun k => funext fun k' => ?_)
    rw [along, along, hx, hx]
    rfl
  unfold Host.topK Host.sort2
  constructor
  · dsimp only
    refine (cut _).trans ?_
    exact (congrArg x (along _)).trans ((hx _).trans (congrArg (fun n => -D n) rank))
  · dsimp only
    refine (cut _).trans ?_
    rw [dif_pos (by decide : 2 < 3)]
    refine (congrArg (iotaInDim (⟨3, ![8, 1024, 4096]⟩ : Shape) 32 2) (along _)).trans ?_
    exact congrArg (fun n : Fin 4096 => BitVec.ofNat 32 n.val) rank

/-- The least place along the second axis that no other is less than is the place less than all others. -/
theorem index_least (x : (⟨2, ![256, 4096]⟩ : Shape).Idx → EReal) (h : (⟨2, ![256, 4096]⟩ : Shape).Reduces [1] ⟨1, ![256]⟩) (j : (⟨1, ![256]⟩ : Shape).Idx)
    (p : Fin 4096) (hp : ∀ n, n ≠ p → x (ix2 (j 0) p) < x (ix2 (j 0) n)) :
    Ideal.reduceIndex .argMin 1 h x j = BitVec.ofNat 32 p.val := by
  have hd : ∀ i : (⟨2, ![256, 4096]⟩ : Shape).Idx, h.drop i = j ↔ i = ix2 (j 0) (i 1) := fun i => by
    refine (show h.drop i = j ↔ (i 0).val = (j 0).val by simp [funext_iff, Fin.ext_iff, Fin.forall_fin_one, h.drop_apply_val_of_eq i 0 0]).trans
      ⟨fun e => funext fun a => ?_, fun e => congrArg (fun i : (⟨2, ![256, 4096]⟩ : Shape).Idx => (i 0).val) e⟩
    match a with
    | ⟨0, _⟩ => exact Fin.ext e
    | ⟨1, _⟩ => rfl
  have hm : ∀ n : Fin 4096, h.drop (ix2 (j 0) n) = j := fun n => (hd _).mpr rfl
  unfold Ideal.reduceIndex
  dsimp only
  refine congrArg (BitVec.ofNat 32) ?_
  refine least_is _ _ ?_
  have ha : argMin ≠ argMax := by decide
  refine le_antisymm (Finset.min_le (Finset.mem_image.mpr ⟨ix2 (j 0) p, ?_, rfl⟩)) (Finset.le_min fun b hb => ?_)
  · refine (kept_iff _ _ _).mpr ⟨Finset.mem_filter.mpr ⟨Finset.mem_univ _, hm _⟩, fun i' hi' => ?_⟩
    rw [if_neg ha, not_lt, (hd i').mp (Finset.mem_filter.mp hi').2]
    by_cases e : i' 1 = p
    · exact le_of_eq (congrArg (fun n : Fin 4096 => x (ix2 (j 0) n)) e).symm
    · exact (hp _ e).le
  · obtain ⟨i, hi, rfl⟩ := Finset.mem_image.mp hb
    obtain ⟨hi, hmin⟩ := (kept_iff _ _ _).mp hi
    have hi := (hd i).mp (Finset.mem_filter.mp hi).2
    by_cases e : i 1 = p
    · exact WithTop.coe_le_coe.mpr (congrArg Fin.val e).ge
    · have := hmin (ix2 (j 0) p) (Finset.mem_filter.mpr ⟨Finset.mem_univ _, hm _⟩)
      rw [if_neg ha, hi] at this
      exact absurd (hp _ e) this

end Cert.Proof.Nearest

end
-- ==== Proof.Rounds.lean ====
/-
  The nearest-neighbour kernel's 32 rounds: what a round finds and leaves, read row by row.
-/
module

public import proofs.«01_k».proof.Defs
public import proofs.«01_k».proof.Proof.Near
public import proofs.«01_k».proof.Proof.Gen.NearestIdeal.Value

@[expose] public section

noncomputable section

namespace Cert.Proof.Nearest

open Cert.NearestIdeal Cert.NearestIdeal.Gen Idealize.ShloMosaic Cert.Proof.Farthest

/-- Each row's least distance's place. -/
def least (d : FVec Ideal S256x4096 .f32) : IVec S256x1 32 :=
  shapeCast S256x1 (reduceIndex .argMin 1 S256 d reduces_S256x4096_S256) shapeCasts_S256_S256x1

/-- The distances with each row's named place out of reach. -/
def hidden (d : FVec Ideal S256x4096 .f32) (p : IVec S256x1 32) : FVec Ideal S256x4096 .f32 :=
  select (cmpi .eq (iota .tc S256x4096 32 [1] iota_S256x4096_d1_w32) (broadcastTo S256x4096 p broadcasts_S256x1_S256x4096))
    (broadcast S256x4096 (Scalar.ofBits .f32 0x7F800000#32)) d

/-- The places, moved by an offset, written down in column `k`. -/
def noted (k o : BitVec 32) (p : IVec S256x1 32) (a : IVec S256x32 32) : IVec S256x32 32 :=
  select (cmpi .eq (iota .tc S256x32 32 [1] iota_S256x32_d1_w32) (broadcast S256x32 k))
    (broadcastTo S256x32 (shapeCast S256x1 (addi p (broadcast S256x1 o)) shapeCasts_S256x1_S256x1) broadcasts_S256x1_S256x32) a

/-- The distances before round `k`. -/
def before (d : FVec Ideal S256x4096 .f32) : ℕ → FVec Ideal S256x4096 .f32
  | 0 => d
  | k + 1 => hidden (before d k) (least (before d k))

/-- What is written down before round `k`. -/
def found (o : BitVec 32) (d : FVec Ideal S256x4096 .f32) : ℕ → IVec S256x32 32
  | 0 => broadcast S256x32 0#32
  | k + 1 => noted (BitVec.ofNat 32 k) o (least (before d k)) (found o d k)

abbrev cols : IVec S256x4096 32 := iota .tc S256x4096 32 [1] iota_S256x4096_d1_w32
abbrev slots : IVec S256x32 32 := iota .tc S256x32 32 [1] iota_S256x32_d1_w32

section
variable (o : BitVec 32) (d : FVec Ideal S256x4096 .f32)

/-- The second part's rounds. -/
theorem found5 : k0_pay14 cols slots o (found o d 1) (before d 1) (least (before d 1)) k0_pay7 = found o d 5 := rfl
theorem before5 : k0_pay15 cols (before d 1) (least (before d 1)) = before d 5 := rfl
theorem least5 : k0_pay16 cols (before d 1) (least (before d 1)) = least (before d 5) := rfl

/-- The third part's rounds. -/
theorem found9 : k0_pay24 cols slots o (found o d 5) (before d 5) (least (before d 5)) k0_pay17 = found o d 9 := rfl
theorem before9 : k0_pay25 cols (before d 5) (least (before d 5)) = before d 9 := rfl
theorem least9 : k0_pay26 cols (before d 5) (least (before d 5)) = least (before d 9) := rfl

/-- The fourth part's rounds. -/
theorem found13 : k0_pay34 cols slots o (found o d 9) (before d 9) (least (before d 9)) k0_pay27 = found o d 13 := rfl
theorem before13 : k0_pay35 cols (before d 9) (least (before d 9)) = before d 13 := rfl
theorem least13 : k0_pay36 cols (before d 9) (least (before d 9)) = least (before d 13) := rfl

/-- The fifth part's rounds. -/
theorem found17 : k0_pay44 cols slots o (found o d 13) (before d 13) (least (before d 13)) k0_pay37 = found o d 17 := rfl
theorem before17 : k0_pay45 cols (before d 13) (least (before d 13)) = before d 17 := rfl
theorem least17 : k0_pay46 cols (before d 13) (least (before d 13)) = least (before d 17) := rfl

/-- The sixth part's rounds. -/
theorem found21 : k0_pay54 cols slots o (found o d 17) (before d 17) (least (before d 17)) k0_pay47 = found o d 21 := rfl
theorem before21 : k0_pay55 cols (before d 17) (least (before d 17)) = before d 21 := rfl
theorem least21 : k0_pay56 cols (before d 17) (least (before d 17)) = least (before d 21) := rfl

/-- The seventh part's rounds. -/
theorem found25 : k0_pay64 cols slots o (found o d 21) (before d 21) (least (before d 21)) k0_pay57 = found o d 25 := rfl
theorem before25 : k0_pay65 cols (before d 21) (least (before d 21)) = before d 25 := rfl
theorem least25 : k0_pay66 cols (before d 21) (least (before d 21)) = least (before d 25) := rfl

/-- The eighth part's rounds. -/
theorem found29 : k0_pay74 cols slots o (found o d 25) (before d 25) (least (before d 25)) k0_pay67 = found o d 29 := rfl
theorem before29 : k0_pay75 cols (before d 25) (least (before d 25)) = before d 29 := rfl
theorem least29 : k0_pay76 cols (before d 25) (least (before d 25)) = least (before d 29) := rfl

/-- The last part's rounds, and the record turned about. -/
theorem found32 : k0_pay1 cols slots o (found o d 29) (before d 29) (least (before d 29)) k0_pay77 =
    shapeCast S1x32x256 (transpose S32x256 [1, 0] (found o d 32) transposes_S256x32_p1_0_S32x256) shapeCasts_S32x256_S1x32x256 := rfl
end

theorem zero3 : (![0, 0, 0] : Fin 3 → Nat) = fun _ => 0 := funext fun a => by fin_cases a <;> rfl

/-- What a point leaves in the result's buffer, the distances being `d`. -/
theorem left_eq (i : grid0.Coords) (x0 : Vec Ideal S256x256 .f32) (x1 : Vec Ideal S1x16x4096 .f32) :
    out0_2 i x0 x1 = shapeCast S1x32x256 (transpose S32x256 [1, 0]
      (found (Scalar.muli (BitVec.ofNat 32 (i 0).val) 4096#32) (k0_pay2 (View.ld x0 r0_0) (View.ld x1 r0_1)) 32) transposes_S256x32_p1_0_S32x256) shapeCasts_S32x256_S1x32x256 := by
  unfold out0_2
  rw [View.canon_unit_zero zero3]
  have e1 : ∀ y0 y1, k0_pay4 i y0 y1 = found (Scalar.muli (BitVec.ofNat 32 (i 0).val) 4096#32) (k0_pay2 y0 y1) 1 := fun _ _ => rfl
  have e2 : ∀ y0 y1, k0_pay5 y0 y1 = before (k0_pay2 y0 y1) 1 := fun _ _ => rfl
  have e3 : ∀ y0 y1, k0_pay6 y0 y1 = least (before (k0_pay2 y0 y1) 1) := fun _ _ => rfl
  simp only [k0_pay78, k0_pay79, k0_pay80, k0_pay81, k0_pay82, k0_pay83, k0_pay84, k0_pay85, k0_pay86, k0_pay87, k0_pay88, k0_pay89, k0_pay90, k0_pay91,
    k0_pay92, k0_pay93, e1, e2, e3]
  generalize Scalar.muli (BitVec.ofNat 32 (i 0).val) 4096#32 = o
  generalize k0_pay2 (View.ld x0 r0_0) (View.ld x1 r0_1) = d
  rw [before5, least5, before9, least9, before13, least13, before17, least17, before21, least21, before25, least25, before29, least29,
    found5, found9, found13, found17, found21, found25, found29, found32]

section
variable (d : FVec Ideal S256x4096 .f32) (r : Fin 256) (D : Fin 4096 → EReal) (hd : ∀ n, d (ix2 r n) = D n)
variable (R : Fin 4096 → Fin 4096 → Bool) (hR : ∀ a b, R a b = true ↔ D a < D b) (hs : ∀ i < 32, D (ranked R i) < D (ranked R (i + 1)))

/-- The place of a least distance. -/
theorem least_place (e : FVec Ideal S256x4096 .f32) (p : Fin 4096) (hp : ∀ n, n ≠ p → e (ix2 r p) < e (ix2 r n)) :
    least e (ix2 r 0) = BitVec.ofNat 32 p.val := by
  unfold least
  refine (shapeCast_apply _ shapeCasts_S256_S256x1 (ix2 r 0) (ix1 r) ?_).trans ?_
  · simp [Shape.rowMajor_val_one, Shape.rowMajor_val_two]
  · exact index_least e reduces_S256x4096_S256 (ix1 r) p hp

/-- A distance after its row's place is set out of reach. -/
theorem hidden_apply (e : FVec Ideal S256x4096 .f32) (q : IVec S256x1 32) (p n : Fin 4096) (hq : q (ix2 r 0) = BitVec.ofNat 32 p.val) :
    hidden e q (ix2 r n) = if n = p then ⊤ else e (ix2 r n) := by
  pointwise [hidden]
  rw [hq]
  have e : Ideal.ofBits FTy.f32 0x7F800000#32 = ⊤ := by simp [Ideal.ofBits, Ideal.ieee]
  refine (slot n.val p.val (by omega) (by omega) _ _).trans ?_
  exact if_congr Fin.ext_iff.symm e rfl

include hd hR hs in
/-- Before round `k` the places of the ranks below `k` are out of reach, and the next found is the place of rank `k`. -/
theorem rounds : ∀ k ≤ 32, (∀ n, before d k (ix2 r n) = rest D (ranked R) k n) ∧
    (k < 32 → least (before d k) (ix2 r 0) = BitVec.ofNat 32 (ranked R k).val) := by
  have step : ∀ k, (∀ n, before d k (ix2 r n) = rest D (ranked R) k n) → k < 32 → least (before d k) (ix2 r 0) = BitVec.ofNat 32 (ranked R k).val :=
    fun k h hk => least_place r _ _ fun n hn => by
      rw [h, h]
      exact nearest_is D R hR hs k hk n hn
  intro k
  induction k with
  | zero => exact fun _ => ⟨hd, step 0 hd⟩
  | succ k ih =>
    intro hk
    obtain ⟨h, hl⟩ := ih (by omega)
    have h' : ∀ n, before d (k + 1) (ix2 r n) = rest D (ranked R) (k + 1) n := fun n => by
      refine (hidden_apply r _ _ _ n (hl (by omega))).trans ?_
      rw [h]
      rfl
    exact ⟨h', step (k + 1) h'⟩

include hd hR hs in
/-- What is written down before round `k`: the places of the ranks below `k`. -/
theorem written (o : BitVec 32) (t : Fin 32) : ∀ k ≤ 32, found o d k (ix2 r t) = if t.val < k then BitVec.ofNat 32 (ranked R t).val + o else 0#32 := by
  intro k
  induction k with
  | zero => exact fun _ => rfl
  | succ k ih =>
    intro hk
    have h := ih (by omega)
    have hl := (rounds d r D hd R hR hs k (by omega)).2 (by omega)
    show noted _ o _ _ _ = _
    pointwise [noted]
    rw [hl, h]
    refine (slot t.val k (by omega) (by omega) _ _).trans ?_
    by_cases e : t.val = k
    · rw [if_pos e, if_pos (by omega), e]
      rfl
    · rw [if_neg e]
      exact if_congr (by omega) rfl rfl

end

end Cert.Proof.Nearest

end
-- ==== Proof.Picked.lean ====
/-
  The nearest-neighbour kernel's result: the blocks its points are handed, the distances, and the places written back.
-/
module

public import proofs.«01_k».proof.Defs
public import proofs.«01_k».proof.Proof.Rounds
public import Idealize.ShloMosaic.Lib.KernelVsHost

@[expose] public section

noncomputable section

namespace Cert.Proof.Nearest

open Cert.NearestIdeal Cert.NearestIdeal.Gen Cert.NearestIdeal.Value
open Idealize.ShloMosaic Idealize.ShloMosaic.TcCoe Idealize.SL.Sem Cert.Proof.Farthest

/-- A sum over sixteen lanes of which only the first three are not zero. -/
theorem sum_three (f : Fin 16 → EReal) (h : ∀ k : Fin 16, 3 ≤ k.val → f k = 0) : ∑ k, f k = ∑ k : Fin 3, f (k.castLE (by omega)) := by
  refine (Fin.sum_univ_add (a := 3) (b := 13) f).trans ?_
  have e : ∑ i : Fin 13, f (Fin.natAdd 3 i) = 0 := Finset.sum_eq_zero fun k _ => h _ (Nat.le_add_right 3 k.val)
  exact (congrArg (_ + ·) e).trans (add_zero _)

/-- The distances, one by one. -/
theorem distance (y0 : Vec Ideal S256x16 .f32) (y1 : Vec Ideal S1x16x4096 .f32) (r : Fin 256) (n : Fin 4096) (q p : Fin 16 → EReal)
    (hq : ∀ k, y0 (ix2 r k) = q k) (hp : ∀ k, y1 (ix3 0 k n) = p k) (h0 : ∀ k : Fin 16, 3 ≤ k.val → p k = 0) :
    k0_pay2 y0 y1 (ix2 r n) = apart (fun k => q (k.castLE (by omega))) (fun k => p (k.castLE (by omega))) := by
  have e := sum_three (fun k => q k * p k) fun k hk => by rw [h0 k hk, mul_zero]
  pointwise [k0_pay2]
  simp only [hq, hp, e, apart, Fin.sum_univ_three]
  rfl

variable (m : (ℓ : Loc nD τ sig) → Buf (Elt Ideal) ℓ) (c : Dev nD)

/-- Where each point's blocks lie. -/
theorem place : ∀ t : Fin cfg0.N, (win0_0.index t 0 = t.val ∧ win0_0.index t 1 = 0) ∧ (win0_1.index t 0 = t.val / 4 ∧ win0_1.index t 1 = 0 ∧ win0_1.index t 2 = 0)
    ∧ (win0_2.index t 0 = t.val / 4 ∧ win0_2.index t 1 = 0 ∧ win0_2.index t 2 = t.val % 4) ∧ (grid0.coords t 0).val = t.val / 4 :=
  (by decide +kernel : ∀ t : Fin grid0.N, _)

/-- A point's sampled rows. -/
theorem block0 (t : Fin cfg0.N) (r : Fin 256) (j : Fin 256) (s : Fin 8192) (hs : s.val = 256 * t.val + r.val) :
    iblk m c 0 t (ix2 r j) = m ((c : Thread nD τ).loc main_arg1) (ix2 s j) := by
  obtain ⟨⟨h, h'⟩, -⟩ := place t
  blk_point [iblk, V, h, h']
  all_goals omega

/-- The clouds, turned about and padded, as the kernel finds them. -/
theorem turned : V m c main_v1 = transpose (s := S8x4096x16) (α := EReal) S8x16x4096 [0, 2, 1] (pad S8x4096x16 ![0, 0, 0] ![0, 0, 13] ![0, 0, 0] (m ((c : Thread nD τ).loc main_arg0)) (sitofp (F := Ideal) .f32 (constantI S_ 32 0#32)) pads_S8x4096x3_S8x4096x16_000_000_0130 h_S_) transposes_S8x4096x16_S8x16x4096_0_2_1 := by
  rfl

/-- A point's cloud, turned about and padded. -/
theorem block1 (t : Fin cfg0.N) (k : Fin 16) (n : Fin 4096) (b : Fin 8) (hb : b.val = t.val / 4) :
    iblk m c 1 t (ix3 0 k n) = V m c main_v1 (ix3 b k n) := by
  obtain ⟨-, ⟨h, h', h''⟩, -⟩ := place t
  blk_point [iblk, h, h', h'']
  all_goals omega

/-- The three coordinates lead, and nothing follows. -/
theorem lanes (b : Fin 8) (k : Fin 16) (n : Fin 4096) :
    V m c main_v1 (ix3 b k n) = if h : k.val < 3 then m ((c : Thread nD τ).loc main_arg0) (ix3 b n ⟨k.val, h⟩) else (0 : EReal) := by
  rw [turned]
  refine (transpose_apply (s := S8x4096x16) (α := EReal) [0, 2, 1] _ transposes_S8x4096x16_S8x16x4096_0_2_1 (ix3 b k n) (ix3 b n k) fun a => match a with
    | ⟨0, _⟩ => rfl
    | ⟨1, _⟩ => rfl
    | ⟨2, _⟩ => rfl).trans ?_
  by_cases h : k.val < 3
  · rw [dif_pos h]
    refine pad_apply_of_inside _ _ _ _ _ _ _ _ (ix3 b n ⟨k.val, h⟩) fun a => ?_
    match a with
    | ⟨0, _⟩ => show b.val = 0 + b.val * 1; omega
    | ⟨1, _⟩ => show n.val = 0 + n.val * 1; omega
    | ⟨2, _⟩ => show k.val = 0 + k.val * 1; omega
  · rw [dif_neg h]
    refine (pad_apply_of_not_inside _ _ _ _ _ _ _ _ 2 fun hl => h ?_).trans ?_
    · have : (k.val - 0) / 1 < 3 := hl.2.2
      omega
    · show ((((0#32 : BitVec 32).toInt : ℝ)) : EReal) = 0
      simp

/-- A point's distances are the sampled points' distances from their cloud's points. -/
theorem apart_eq (t : Fin cfg0.N) (b : Fin 8) (s : Fin 1024) (r : Fin 256) (ht : t.val = 4 * b.val + s.val / 256) (hr : r.val = s.val % 256) (n : Fin 4096) :
    k0_pay2 (View.ld (iblk m c 0 t) r0_0) (View.ld (iblk m c 1 t) r0_1) (ix2 r n)
      = far (m ((c : Thread nD τ).loc main_arg0)) (m ((c : Thread nD τ).loc main_arg1)) b s n := by
  refine (distance _ _ r n (fun k => m ((c : Thread nD τ).loc main_arg1) (ix2 ⟨1024 * b.val + s.val, by omega⟩ ⟨128 + k.val, by omega⟩))
    (fun k => if h : k.val < 3 then m ((c : Thread nD τ).loc main_arg0) (ix3 b n ⟨k.val, h⟩) else (0 : EReal)) (fun k => ?_) (fun k => ?_) fun k hk => dif_neg (by omega)).trans ?_
  · refine Eq.trans ?_ (block0 m c t r ⟨128 + k.val, by omega⟩ ⟨1024 * b.val + s.val, by omega⟩ (by show 1024 * b.val + s.val = _; omega))
    generalize iblk m c 0 t = y
    refine congrArg y (funext fun a => Fin.ext ?_)
    match a with
    | ⟨0, _⟩ => show 0 + 1 * r.val = r.val; omega
    | ⟨1, _⟩ => show 128 + 1 * k.val = 128 + k.val; omega
  · refine Eq.trans ?_ ((block1 m c t k n b (by omega)).trans (lanes m c b k n))
    generalize iblk m c 1 t = y
    refine congrArg y (funext fun a => Fin.ext ?_)
    match a with
    | ⟨0, _⟩ => rfl
    | ⟨1, _⟩ => show 0 + 1 * k.val = k.val; omega
    | ⟨2, _⟩ => show 0 + 1 * n.val = n.val; omega
  · unfold far apart own
    refine congrArg₂ (· + ·) (congrArg₂ (· + ·) (congrArg _ (Finset.sum_congr rfl fun k _ => ?_)) rfl) (Finset.sum_congr rfl fun k _ => ?_)
    · exact congrArg₂ (· * ·) rfl (dif_pos k.isLt)
    · exact congrArg₂ (· * ·) (dif_pos k.isLt) (dif_pos k.isLt)

/-- Every point writes its block back. -/
theorem every : ∀ t : Fin cfg0.N, (cfg0.win 2).flush t = true := (by decide +kernel : ∀ t : Fin grid0.N, win0_2.flush t = true)

/-- The result is the places of the nearest points, as rows of all the clouds. -/
theorem result_eq (hs : ∀ (b : Fin 8) (s : Fin 1024), ∀ i < 32, far (m ((c : Thread nD τ).loc main_arg0)) (m ((c : Thread nD τ).loc main_arg1)) b s (ranked (order (far (m ((c : Thread nD τ).loc main_arg0)) (m ((c : Thread nD τ).loc main_arg1)) b s)) i)
      < far (m ((c : Thread nD τ).loc main_arg0)) (m ((c : Thread nD τ).loc main_arg1)) b s (ranked (order (far (m ((c : Thread nD τ).loc main_arg0)) (m ((c : Thread nD τ).loc main_arg1)) b s)) (i + 1)))
    (b : Fin 8) (k : Fin 32) (s : Fin 1024) :
    (dats m 0 c).arrAt 2 cfg0.N (ix3 b k s)
      = BitVec.ofNat 32 (ranked (order (far (m ((c : Thread nD τ).loc main_arg0)) (m ((c : Thread nD τ).loc main_arg1)) b s)) k).val + BitVec.ofNat 32 b.val * 4096#32 := by
  have hN : cfg0.N = 32 := N_0
  let t : Fin cfg0.N := ⟨4 * b.val + s.val / 256, by omega⟩
  let r : Fin 256 := ⟨s.val % 256, by omega⟩
  have h := (dats m 0 c).arrAt_emb_eq_flushed 2 disjoint2 t (every t) (ix3 0 k r)
  rw [flushed2, left_eq] at h
  obtain ⟨-, -, ⟨h0, h1, h2⟩, hb⟩ := place t
  have e : (((cfg0.win 2).blk t).view.emb (ix3 0 k r) : S8x32x1024.Idx) = ix3 b k s := by
    funext a
    apply Fin.ext
    match a with
    | ⟨0, _⟩ => show win0_2.index t (0 : Fin 3) * 1 + 1 * 0 = b.val; rw [h0]; show (4 * b.val + s.val / 256) / 4 * 1 + 1 * 0 = _; omega
    | ⟨1, _⟩ => show win0_2.index t (1 : Fin 3) * 32 + 1 * k.val = k.val; rw [h1]; omega
    | ⟨2, _⟩ => show win0_2.index t (2 : Fin 3) * 256 + 1 * (s.val % 256) = s.val; rw [h2]; show (4 * b.val + s.val / 256) % 4 * 256 + 1 * (s.val % 256) = _; omega
  have hw := written _ r _ (apart_eq m c t b s r rfl rfl) (order _) (order_iff _) (hs b s) (Scalar.muli (BitVec.ofNat 32 (grid0.coords t 0).val) 4096#32) k 32 le_rfl
  rw [if_pos k.isLt] at hw
  generalize found (Scalar.muli (BitVec.ofNat 32 (grid0.coords t 0).val) 4096#32) (k0_pay2 (View.ld (iblk m c 0 t) r0_0) (View.ld (iblk m c 1 t) r0_1)) 32 = o at h hw
  refine (congrArg ((dats m 0 c).arrAt 2 cfg0.N) e).symm.trans (h.trans ((cast_eq _ _).trans ?_))
  refine (shapeCast_apply _ shapeCasts_S32x256_S1x32x256 (ix3 0 k r) (ix2 k r) ?_).trans ?_
  · simp [Shape.rowMajor_val_two, Shape.rowMajor_val_three]
  · refine (transpose_apply [1, 0] o transposes_S256x32_p1_0_S32x256 (ix2 k r) (ix2 r k) fun a => match a with
      | ⟨0, _⟩ => rfl
      | ⟨1, _⟩ => rfl).trans (hw.trans ?_)
    rw [hb, show t.val / 4 = b.val by show (4 * b.val + s.val / 256) / 4 = _; omega]
    rfl

end Cert.Proof.Nearest

end
-- ==== Proof.Nearest.lean ====
/-
  The nearest-neighbour call: the frames of its programs, and that the kernel's neighbours are its reference's.
-/
module

public import proofs.«01_k».proof.Defs
public import proofs.«01_k».proof.Proof.Picked
public import proofs.«01_k».proof.Proof.Gen.Nearest
public import proofs.«01_k».proof.Proof.Gen.Nearest.Frame
public import proofs.«01_k».proof.Proof.Gen.NearestIdeal
public import proofs.«01_k».proof.Proof.Gen.NearestIdeal.Frame
public import proofs.«01_k».proof.Proof.Gen.NearestIdeal.Value
public import proofs.«01_k».proof.Proof.Gen.NearestReferenceIdeal
public import proofs.«01_k».proof.Proof.Gen.NearestReferenceIdeal.Run
public import proofs.«01_k».proof.Proof.Gen.NearestReferenceIdeal.Read
public import proofs.«01_k».proof.Proof.Gen.Pre_one_nearest
public import Idealize.ShloMosaic.Lib.Quiescent
public import Idealize.ShloMosaic.Lib.ReduceAll

@[expose] public section

noncomputable section

namespace Cert.Proof.Nearest

open Cert.NearestReferenceIdeal Cert.NearestReferenceIdeal.Read
open Idealize.ShloMosaic Idealize.ShloMosaic.TcCoe Idealize.SL.Sem

/-- The frame of the nearest-neighbour call as printed. -/
theorem frame_printed : Cert.quiescent_Nearest := fun m ρ _ => Cert.Nearest.Gen.frame m ρ

/-- The same, under the ideal form's precondition. -/
theorem frame_printed_one : Cert.quiescent_Nearest_pre_one_nearest := fun m ρ _ => Cert.Nearest.Gen.frame m ρ

/-- The frame of its ideal form. -/
theorem frame_ideal : Cert.quiescent_NearestIdeal := fun m ρ _ => Cert.NearestIdeal.Gen.frame m ρ

/-- The frame of its reference, which has no counter. -/
theorem frame_ref : Cert.quiescent_NearestReferenceIdeal := fun m ρ _ =>
  (θ_run Cert.NearestReferenceIdeal.defs _ _).mono
    (fun r h => ⟨fun c => (h c).2, sem_eq_zero_of_no_sems (by decide) _⟩)
    (Cert.NearestReferenceIdeal.Value.run (F := Ideal) m ρ)

/-- The same, under the ideal form's precondition. -/
theorem frame_ref_one : Cert.quiescent_NearestReferenceIdeal_pre_one_nearest := fun m ρ _ => frame_ref m ρ trivial

variable (x : S8x4096x3.Idx → EReal) (q : S8192x256.Idx → EReal)

/-- The reference's negated distances. -/
theorem negated (b : Fin 8) (s : Fin 1024) (n : Fin 4096) : val_main_v16 (F := Ideal) x q (ix3 b s n) = -far x q b s n := by
  have own_eq : ∀ (k : Fin 3), val_main_v1 (F := Ideal) q (ix3 b s k) = own q b s k := fun k => by
    rw [val_main_v1_apply, val_main_v0_apply]
    unfold own
    refine congrArg q (funext fun a => Fin.ext ?_)
    match a with
    | ⟨0, _⟩ => show ((b.val * 1024 + s.val) * 3 + k.val) / 3 = 1024 * b.val + s.val; omega
    | ⟨1, _⟩ => show 128 + ((b.val * 1024 + s.val) * 3 + k.val) % 3 = 128 + k.val; omega
  have e3 : val_main_v3 (F := Ideal) x q (ix3 b s n) = ∑ k : Fin 3, own q b s k * x (ix3 b n k) := by
    rw [val_main_v3_apply]
    refine Finset.sum_congr rfl fun k _ => congrArg₂ (· * ·) ?_ ?_
    · exact own_eq k
    · rw [val_main_v2_apply]
      refine congrArg x (funext fun a => ?_)
      match a with
      | ⟨0, _⟩ => rfl
      | ⟨1, _⟩ => rfl
      | ⟨2, _⟩ => rfl
  have e7 : val_main_v7 (F := Ideal) q (ix2 b s) = ∑ k : Fin 3, own q b s k * own q b s k := by
    rw [val_main_v7_apply]
    refine (congrArg₂ (· + ·) (Ideal.ofBits_zero .f32) (Finset.sum_congr rfl fun k _ => ?_)).trans (zero_add _)
    rw [val_main_v6_apply]
    exact congrArg₂ (· * ·) (own_eq k) (own_eq k)
  have e12 : val_main_v12 (F := Ideal) x (ix2 b n) = ∑ k : Fin 3, x (ix3 b n k) * x (ix3 b n k) := by
    rw [val_main_v12_apply]
    refine (congrArg₂ (· + ·) (Ideal.ofBits_zero .f32) (Finset.sum_congr rfl fun k _ => ?_)).trans (zero_add _)
    have e : idx_main_v12 (ix2 b n) k = ix3 b n k := funext fun a => match a with
      | ⟨0, _⟩ => rfl
      | ⟨1, _⟩ => rfl
      | ⟨2, _⟩ => rfl
    rw [val_main_v11_apply, e]
    rfl
  rw [val_main_v16_apply, val_main_v15_apply, val_main_v10_apply, val_main_v5_apply, e3, val_main_v4_apply, val_main_v9_apply, val_main_v8_apply,
    val_main_v14_apply, val_main_v13_apply]
  refine congrArg (fun z : EReal => -z) (congrArg₂ (· + ·) (congrArg₂ (· + ·) rfl (Eq.trans ?_ e7)) (Eq.trans ?_ e12))
  · refine congrArg (val_main_v7 (F := Ideal) q) (funext fun a => ?_)
    match a with
    | ⟨0, _⟩ => rfl
    | ⟨1, _⟩ => rfl
  · refine congrArg (val_main_v12 (F := Ideal) x) (funext fun a => ?_)
    match a with
    | ⟨0, _⟩ => rfl
    | ⟨1, _⟩ => rfl

/-- The reference's result: the places of the greatest negated distances, as rows of all the clouds. -/
theorem reference_eq (b : Fin 8) (k : Fin 32) (s : Fin 1024) :
    val_main_v23 (F := Ideal) x q (ix3 b k s) = BitVec.ofNat 32 (ranked (order (far x q b s)) k).val + BitVec.ofNat 32 b.val * 4096#32 := by
  have e : idx_main_v23 (ix3 b k s) = ix3 b s k := funext fun a => match a with
    | ⟨0, _⟩ => rfl
    | ⟨1, _⟩ => rfl
    | ⟨2, _⟩ => rfl
  have e' : val_main_indices (F := Ideal) x q (ix3 b s k) = BitVec.ofNat 32 (ranked (order (far x q b s)) k).val := by
    unfold val_main_indices
    have h := negated x q b s
    generalize val_main_v16 (F := Ideal) x q = y at h ⊢
    exact (greatest (K := 32) y _ (far x q b s) b s h k (by omega)).2
  rw [val_main_v23_apply, val_main_v22_apply, e, e', val_main_v21_apply, val_main_v20_apply, val_main_v19_apply, val_main_v18_apply, val_main_v17_apply]
  exact congrArg (IntOp.addi _) (BitVec.mul_comm (4096#32) (BitVec.ofNat 32 b.val))

/-- The precondition: each sampled point's first 33 distances rise. -/
theorem rising (h : Cert.Pre_one_nearest.fn (F := Ideal) x q = fun _ => 1#1) (b : Fin 8) (s : Fin 1024) (i : ℕ) (hi : i < 32) :
    far x q b s (ranked (order (far x q b s)) i) < far x q b s (ranked (order (far x q b s)) (i + 1)) := by
  have : Subsingleton Cert.Pre_one_nearest.S_.Idx := ⟨fun a b => funext fun i => i.elim0⟩
  have e := Host.reduce_andi_all _ _ _ _ _ (congrFun h (fun i => i.elim0)) (ix3 b s ⟨i, hi⟩)
  have hx := negated x q b s
  obtain ⟨v, hv⟩ : ∃ v, v = (Host.topK Cert.Pre_one_nearest.S8x1024x33 2 (FloatOps.cmpfTotal (F := Ideal) (φ := .f32) .gt) (val_main_v16 (F := Ideal) x q)
    Cert.Pre_one_nearest.Facts.sliceFits_S8x1024x4096_S8x1024x33).1 := ⟨_, rfl⟩
  have e' : Ideal.cmp .ogt
      (extractStridedSlice S8x1024x32 ![0, 0, 0] v Cert.Pre_one_nearest.Facts.slices_S8x1024x33_S8x1024x32_0_0_0 (ix3 b s ⟨i, hi⟩))
      (extractStridedSlice S8x1024x32 ![0, 0, 1] v Cert.Pre_one_nearest.Facts.slices_S8x1024x33_S8x1024x32_0_0_1 (ix3 b s ⟨i, hi⟩)) = 1#1 := by
    rw [hv]
    exact e
  have hk : ∀ k : Fin 33, v (ix3 b s k) = -far x q b s (ranked (order (far x q b s)) k) := fun k => by
    rw [hv]
    generalize val_main_v16 (F := Ideal) x q = y at hx ⊢
    exact (greatest (K := 33) y _ (far x q b s) b s hx k (by omega)).1
  have e0 := extractStridedSlice_apply ![0, 0, 0] v Cert.Pre_one_nearest.Facts.slices_S8x1024x33_S8x1024x32_0_0_0 (ix3 b s ⟨i, hi⟩) (ix3 b s ⟨i, by omega⟩) fun a => match a with
    | ⟨0, _⟩ => (Nat.zero_add _).symm
    | ⟨1, _⟩ => (Nat.zero_add _).symm
    | ⟨2, _⟩ => (Nat.zero_add _).symm
  have e1 := extractStridedSlice_apply ![0, 0, 1] v Cert.Pre_one_nearest.Facts.slices_S8x1024x33_S8x1024x32_0_0_1 (ix3 b s ⟨i, hi⟩) (ix3 b s ⟨i + 1, by omega⟩) fun a => match a with
    | ⟨0, _⟩ => (Nat.zero_add _).symm
    | ⟨1, _⟩ => (Nat.zero_add _).symm
    | ⟨2, _⟩ => Nat.add_comm i 1
  rw [e0, e1, hk, hk] at e'
  clear e
  by_contra h'
  simp [Ideal.cmp, h'] at e'

/-- The kernel's neighbours are the reference's. -/
theorem same_neighbours : Cert.algebraic_NearestIdeal_NearestReferenceIdeal := fun m g m' g' hpre hargs => by
  refine ⟨fun c => (Cert.NearestIdeal.Gen.dats m 0 c).arrAt 2 Cert.NearestIdeal.cfg0.N,
    Cert.NearestIdeal.Value.run_blocks (F := Ideal) m g, ?_⟩
  refine (θ_run Cert.NearestReferenceIdeal.defs _ _).mono (fun r h c => ?_) (Cert.NearestReferenceIdeal.Value.run (F := Ideal) m' g')
  refine ⟨(h c).1.trans (funext fun i => ?_), (h c).2⟩
  rw [eq_ix3 i]
  refine ((congrFun (val_main_v23_eq _ _) _).trans (reference_eq _ _ (i 0) (i 1) (i 2))).trans (Eq.trans ?_ (result_eq m c (fun b s j hj => rising _ _ (hpre c) b s j hj) (i 0) (i 1) (i 2)).symm)
  rw [(hargs c).1, (hargs c).2]

end Cert.Proof.Nearest

end
-- ==== Proof.Waves.lean ====
/-
  The arithmetic of the embedding: quotients by deviations, and a cosine of a difference.
-/
module

public import proofs.«01_k».proof.Defs
public import Idealize.ShloMosaic.PureOps.Ideal.Laws
public import Idealize.ShloMosaic.Lib.IdealHost

@[expose] public section

noncomputable section

namespace Cert.Proof.Embed

open Idealize.ShloMosaic

/-- A quotient is a product with the inverse. -/
theorem div_of_pos {s : EReal} (h : 0 < s) (x : EReal) : Ideal.div x s = x * s⁻¹ := if_neg h.ne'

theorem over {s : EReal} (h : 0 < s) (x : EReal) : x * Ideal.div 1 s = Ideal.div x s := by
  rw [div_of_pos h, div_of_pos h, one_mul]

theorem over_sq {s : EReal} (h : 0 < s) (x : EReal) : x * (Ideal.div 1 s * Ideal.div 1 s) = Ideal.div x (s * s) := by
  rw [div_of_pos h, div_of_pos (EReal.mul_pos h h), one_mul, EReal.mul_inv]

/-- The inverse of a number away from zero is real. -/
theorem inv_real {e : ℝ} (he : 0 < e) {s : EReal} (h : (e : EReal) ≤ s) : ∃ v : ℝ, Ideal.div 1 s = v := by
  have hs : 0 < s := lt_of_lt_of_le (by exact_mod_cast he) h
  rw [div_of_pos hs, one_mul]
  induction s with
  | bot => exact absurd hs (by simp)
  | top => exact ⟨0, by simp⟩
  | coe r => exact ⟨r⁻¹, by rw [EReal.coe_inv]⟩

theorem exp_nonneg (z : EReal) : 0 ≤ Ideal.exp z := by
  induction z with
  | bot => exact le_rfl
  | top => exact le_top
  | coe r =>
    show (0 : EReal) ≤ (Real.exp r : EReal)
    exact_mod_cast (Real.exp_pos r).le

/-- The blending factor is real. -/
theorem blend_real (z : EReal) : ∃ β : ℝ, Ideal.div 1 (1 + Ideal.exp z) = β :=
  inv_real one_pos (by simpa using add_le_add (le_refl (1 : EReal)) (exp_nonneg z))

theorem sqrt_nonneg {z : EReal} (h : 0 ≤ z) : 0 ≤ Ideal.sqrt z := by
  induction z with
  | bot => exact absurd h (by simp)
  | top => exact le_top
  | coe r =>
    have hr : 0 ≤ r := by exact_mod_cast h
    rw [show Ideal.sqrt (r : EReal) = if r < 0 then ⊥ else (Real.sqrt r : EReal) from rfl, if_neg (not_lt.mpr hr)]
    exact_mod_cast Real.sqrt_nonneg r

/-- The words this program's constants are. -/
theorem tiny : ∃ e : ℝ, 0 < e ∧ Ideal.ofBits .f32 0x3727C5AC#32 = e := by
  refine ⟨_, ?_, by simp [Ideal.ofBits, Ideal.ieee, -EReal.coe_mul]; rfl⟩
  positivity

theorem tinier : ∃ e : ℝ, 0 < e ∧ Ideal.ofBits .f32 0x358637BD#32 = e := by
  refine ⟨_, ?_, by simp [Ideal.ofBits, Ideal.ieee, -EReal.coe_mul]; rfl⟩
  positivity

theorem width_pos : ∃ e : ℝ, 0 < e ∧ Ideal.ofBits .f32 0x3E851EB8#32 = e := by
  refine ⟨_, ?_, by simp [Ideal.ofBits, Ideal.ieee, -EReal.coe_mul]; rfl⟩
  positivity

theorem word24 : Ideal.ofBits .f32 0x41C00000#32 = ((24 : ℝ) : EReal) := by
  simp [Ideal.ofBits, Ideal.ieee, -EReal.coe_mul]; norm_num

theorem word32 : Ideal.ofBits .f32 0x42000000#32 = ((32 : ℝ) : EReal) := by
  simp [Ideal.ofBits, Ideal.ieee, -EReal.coe_mul]; norm_num

theorem part32 : Ideal.ofBits .f32 0x3D000000#32 = ((32 : ℝ)⁻¹ : ℝ) := by
  simp [Ideal.ofBits, Ideal.ieee, -EReal.coe_mul]; norm_num

/-- A word whose exponent is not the largest is a real number. -/
theorem real_word (w : BitVec 32) (h : (w.extractLsb' 23 8).toNat ≠ 255) : ∃ f : ℝ, Ideal.ofBits .f32 w = f := by
  show ∃ f : ℝ, Ideal.ieee 8 23 w = f
  simp only [Ideal.ieee]
  rw [if_neg (show ¬ _ = 2 ^ 8 - 1 from h)]
  split
  · exact ⟨_, rfl⟩
  · exact ⟨_, rfl⟩

theorem mean_eq (x : EReal) : x * Ideal.ofBits .f32 0x3D000000#32 = Ideal.div x (Ideal.ofBits .f32 0x42000000#32) := by
  rw [part32, word32, div_of_pos (by norm_num), EReal.coe_inv]

/-- The width of the embedding's windows. -/
theorem window_real {g : EReal} (hg : 0 ≤ g) :
    ∃ ρ : ℝ, Ideal.div 1 (Ideal.ofBits .f32 0x3E851EB8#32 * (1 + g) + Ideal.ofBits .f32 0x358637BD#32) = ρ := by
  obtain ⟨e, he, e'⟩ := tinier
  obtain ⟨u, hu, u'⟩ := width_pos
  rw [e', u']
  refine inv_real he ?_
  have h1 : (0 : EReal) ≤ (u : EReal) * (1 + g) := EReal.mul_nonneg (by exact_mod_cast hu.le) (add_nonneg zero_le_one hg)
  simpa using add_le_add h1 (le_refl (e : EReal))

/-- One channel of the embedding, by products with a column of zeros and one 1, is the direct one. -/
theorem wave_eq (X : Fin 16 → EReal) (s : Fin 16 → EReal) (c : Fin 16) (hs : ∀ a, s a = if a = c then 1 else 0)
    (x ρ f β : ℝ) (hX : X c = (x : EReal) * ρ) (h : EReal) :
    (β : EReal) * Ideal.exp (h * ((∑ a, X a * s a - (f : EReal) * ρ) * (∑ a, X a * s a - (f : EReal) * ρ)))
      + (∑ a, Ideal.cos (X a) * (s a * ((1 - (β : EReal)) * Ideal.cos ((f : EReal) * ρ)))
        + ∑ a, Ideal.sin (X a) * (s a * ((1 - (β : EReal)) * Ideal.sin ((f : EReal) * ρ))))
    = (β : EReal) * Ideal.exp (h * ((((x : EReal) - f) * ρ) * (((x : EReal) - f) * ρ)))
      + (1 - (β : EReal)) * Ideal.cos (((x : EReal) - f) * ρ) := by
  have pick : ∀ g : Fin 16 → EReal, ∑ a, g a * s a = g c := fun g => by
    rw [Finset.sum_eq_single c (fun a _ n => by rw [hs, if_neg n, mul_zero]) (fun n => absurd (Finset.mem_univ c) n), hs, if_pos rfl, mul_one]
  have pick' : ∀ (g : Fin 16 → EReal) (v : EReal), ∑ a, g a * (s a * v) = g c * v := fun g v => by
    rw [Finset.sum_eq_single c (fun a _ n => by rw [hs, if_neg n, zero_mul, mul_zero]) (fun n => absurd (Finset.mem_univ c) n), hs, if_pos rfl, one_mul]
  rw [pick, pick', pick', hX]
  have d : (x : EReal) * ρ - (f : EReal) * ρ = (((x - f) * ρ : ℝ) : EReal) := by rw [sub_mul]; push_cast; rfl
  have d' : ((x : EReal) - f) * ρ = (((x - f) * ρ : ℝ) : EReal) := by push_cast; rfl
  rw [d, d']
  congr 1
  have c1 : (x : EReal) * ρ = ((x * ρ : ℝ) : EReal) := by push_cast; rfl
  have c2 : (f : EReal) * ρ = ((f * ρ : ℝ) : EReal) := by push_cast; rfl
  rw [c1, c2]
  show (Real.cos (x * ρ) : EReal) * ((1 - (β : EReal)) * (Real.cos (f * ρ) : EReal)) + (Real.sin (x * ρ) : EReal) * ((1 - (β : EReal)) * (Real.sin (f * ρ) : EReal))
    = (1 - (β : EReal)) * (Real.cos ((x - f) * ρ) : EReal)
  rw [sub_mul, Real.cos_sub]
  norm_cast
  ring

end Cert.Proof.Embed

end
-- ==== Proof.Meant.lean ====
/-
  The numbers an embedding is made of: the deviations, the window, and one channel's value.
-/
module

public import proofs.«01_k».proof.Defs
public import proofs.«01_k».proof.Proof.Waves

@[expose] public section

noncomputable section

namespace Cert.Proof.Embed

open Idealize.ShloMosaic

section
variable (A Q : Fin 8 → Fin 32 → Fin 16 → EReal) (S T : Fin 8 → Fin 32 → EReal)

/-- The deviation of one neighbour's coordinates. -/
def devX (k : Fin 32) : EReal :=
  max (Ideal.sqrt (max (Ideal.div (∑ d, ∑ b, Q b k d - Ideal.div ((∑ d, ∑ b, A b k d) * ∑ d, ∑ b, A b k d) (Ideal.ofBits .f32 0x46C00000#32))
    (Ideal.ofBits .f32 0x46BFFE00#32)) 0)) (Ideal.ofBits .f32 0x3727C5AC#32)

/-- The deviation of one neighbour's features. -/
def devF (k : Fin 32) : EReal :=
  max (Ideal.sqrt (max (Ideal.div (∑ b, T b k - Ideal.div ((∑ b, S b k) * ∑ b, S b k) (Ideal.ofBits .f32 0x49800000#32))
    (Ideal.ofBits .f32 0x497FFFF0#32)) 0)) (Ideal.ofBits .f32 0x3727C5AC#32)

/-- How far a batch's normalised coordinates spread, squared. -/
def spread (b : Fin 8) (d : Fin 16) : EReal :=
  max (Ideal.div (∑ k, Ideal.div (Q b k d) (devX A Q k * devX A Q k)
    - Ideal.div ((∑ k, Ideal.div (A b k d) (devX A Q k)) * ∑ k, Ideal.div (A b k d) (devX A Q k)) (Ideal.ofBits .f32 0x47000000#32))
    (Ideal.ofBits .f32 0x46FFFE00#32)) 0

/-- The mean spread. -/
def gap : EReal := Ideal.div (∑ b, ∑ d, Ideal.sqrt (spread A Q b d)) (Ideal.ofBits .f32 0x41C00000#32)

/-- The windows' width. -/
def width : EReal := Ideal.ofBits .f32 0x3E851EB8#32 * (1 + gap A Q) + Ideal.ofBits .f32 0x358637BD#32

/-- How much of a channel is its window. -/
def mix : EReal := Ideal.div 1 (1 + Ideal.exp (-((gap A Q - Ideal.ofBits .f32 0x3DCCCCCD#32) * Ideal.ofBits .f32 0x41200000#32)))

theorem devX_le (k : Fin 32) : Ideal.ofBits .f32 0x3727C5AC#32 ≤ devX A Q k := le_max_right _ _

theorem devX_pos (k : Fin 32) : 0 < devX A Q k := by
  obtain ⟨e, he, h⟩ := tiny
  exact lt_of_lt_of_le (b := Ideal.ofBits .f32 0x3727C5AC#32) (by rw [h]; exact_mod_cast he) (devX_le A Q k)

theorem devF_pos (k : Fin 32) : 0 < devF S T k := by
  obtain ⟨e, he, h⟩ := tiny
  exact lt_of_lt_of_le (b := Ideal.ofBits .f32 0x3727C5AC#32) (by rw [h]; exact_mod_cast he) (le_max_right _ _)

theorem devX_real (k : Fin 32) : ∃ v : ℝ, Ideal.div 1 (devX A Q k) = v := by
  obtain ⟨e, he, h⟩ := tiny
  exact inv_real he (by rw [← h]; exact devX_le A Q k)

theorem gap_nonneg : 0 ≤ gap A Q := by
  have h : (0 : EReal) ≤ ∑ b, ∑ d, Ideal.sqrt (spread A Q b d) :=
    Finset.sum_nonneg fun b _ => Finset.sum_nonneg fun d _ => sqrt_nonneg (le_max_right _ _)
  have p : (0 : EReal) < Ideal.ofBits .f32 0x41C00000#32 := by rw [word24]; exact_mod_cast (by norm_num : (0 : ℝ) < 24)
  rw [gap, div_of_pos p]
  exact EReal.mul_nonneg h (EReal.inv_nonneg_of_nonneg p.le)

theorem width_pos' : 0 < width A Q := by
  obtain ⟨e, he, e'⟩ := tinier
  obtain ⟨u, hu, u'⟩ := width_pos
  have h1 : (0 : EReal) ≤ (u : EReal) * (1 + gap A Q) :=
    EReal.mul_nonneg (by exact_mod_cast hu.le) (add_nonneg zero_le_one (gap_nonneg A Q))
  rw [width, e', u']
  exact lt_of_lt_of_le (b := (e : EReal)) (by exact_mod_cast he) (by simpa using add_le_add h1 (le_refl (e : EReal)))

theorem width_real : ∃ ρ : ℝ, Ideal.div 1 (width A Q) = ρ := window_real (gap_nonneg A Q)

theorem mix_real : ∃ β : ℝ, mix A Q = β := blend_real _

end

/-- One channel's value at a distance. -/
def channel (β t : EReal) : EReal :=
  β * Ideal.exp (Ideal.ofBits .f32 0xBF000000#32 * (t * t)) + (1 - β) * Ideal.cos t

end Cert.Proof.Embed

end
-- ==== Proof.Pooled.lean ====
/-
  The embedding kernel's 32 rounds: what a round adds to the two halves' sums and maxima.
-/
module

public import proofs.«01_k».proof.Defs
public import proofs.«01_k».proof.Proof.Gen.EmbedIdeal.Value

@[expose] public section

noncomputable section

namespace Cert.Proof.Embed

open Cert.EmbedIdeal Cert.EmbedIdeal.Gen Idealize.ShloMosaic

theorem cut_x : ∀ k : Fin 32, S32x1.Slices ![k.val, 0] S1x1 := by decide
theorem cut_f : ∀ k : Fin 32, S1x32.Slices ![0, k.val] S1x1 := by decide
theorem cut_row : ∀ k : Fin 32, ∀ a, (![0, k.val, 0, 0] : Fin 4 → Nat) a + S1x1x256x256.size a ≤ S1x32x256x256.size a := by decide

/-- One neighbour's rows. -/
def rowsAt (x0 : Vec Ideal S1x32x256x256 .f32) (k : Fin 32) : FVec Ideal S256x256 .f32 :=
  shapeCast S256x256 (View.ld x0 (Rect.unit (s := S1x32x256x256) ![0, k.val, 0, 0] S1x1x256x256.size (cut_row k))) shapeCasts_S1x1x256x256_S256x256

section
variable (x0 : Vec Ideal S1x32x256x256 .f32) (ix : FVec Ideal S32x1 .f32) (r b : Ideal .f32) (iv : FVec Ideal S1x32 .f32)
  (fs : FVec Ideal S256x128 .f32) (xs : FVec Ideal S256x16 .f32) (sel : FVec Ideal S16x256 .f32) (rfv : FVec Ideal S1x256 .f32) (mc ms : FVec Ideal S16x256 .f32)

/-- The scaled coordinates. -/
def scaled (k : Fin 32) : FVec Ideal S256x16 .f32 :=
  mulf (mulf (subf (extractStridedSlice S256x16 ![0, 128] (rowsAt x0 k) slices_S256x256_o0_128_S256x16) xs)
    (broadcastTo S256x16 (extractStridedSlice S1x1 ![k.val, 0] ix (cut_x k)) broadcasts_S1x1_S256x16)) (broadcast S256x16 r)

/-- The coordinates' embedding. -/
def waves (k : Fin 32) : FVec Ideal S256x256 .f32 :=
  addf (mulf (broadcast S256x256 b) (exp (mulf (broadcast S256x256 (Scalar.ofBits .f32 0xBF000000#32))
      (mulf (subf (matmul dot_S256x16_S16x256_S256x256_1_0_0_1_n_n none (scaled x0 ix r xs k) sel (constant S256x256 .f32 0x00000000#32)) (broadcastTo S256x256 rfv broadcasts_S1x256_S256x256))
        (subf (matmul dot_S256x16_S16x256_S256x256_1_0_0_1_n_n none (scaled x0 ix r xs k) sel (constant S256x256 .f32 0x00000000#32)) (broadcastTo S256x256 rfv broadcasts_S1x256_S256x256))))))
    (addf (matmul dot_S256x16_S16x256_S256x256_1_0_0_1_n_n none (cos (scaled x0 ix r xs k)) mc (constant S256x256 .f32 0x00000000#32))
      (matmul dot_S256x16_S16x256_S256x256_1_0_0_1_n_n none (sin (scaled x0 ix r xs k)) ms (constant S256x256 .f32 0x00000000#32)))

/-- What a round adds to the first half. -/
def part0 (k : Fin 32) : FVec Ideal S256x128 .f32 :=
  mulf (addf (mulf (subf (extractStridedSlice S256x128 ![0, 0] (rowsAt x0 k) slices_S256x256_o0_0_S256x128) fs)
      (broadcastTo S256x128 (extractStridedSlice S1x1 ![0, k.val] iv (cut_f k)) broadcasts_S1x1_S256x128))
      (extractStridedSlice S256x128 ![0, 0] (waves x0 ix r b xs sel rfv mc ms k) slices_S256x256_o0_0_S256x128))
    (extractStridedSlice S256x128 ![0, 0] (waves x0 ix r b xs sel rfv mc ms k) slices_S256x256_o0_0_S256x128)

/-- What a round adds to the second half. -/
def part1 (k : Fin 32) : FVec Ideal S256x128 .f32 :=
  mulf (addf fs (extractStridedSlice S256x128 ![0, 128] (waves x0 ix r b xs sel rfv mc ms k) slices_S256x256_o0_128_S256x128))
    (extractStridedSlice S256x128 ![0, 128] (waves x0 ix r b xs sel rfv mc ms k) slices_S256x256_o0_128_S256x128)

end

/-- The sum of the first rounds. -/
def summed (w : Fin 32 → FVec Ideal S256x128 .f32) : (n : ℕ) → n ≤ 32 → FVec Ideal S256x128 .f32
  | 0, _ => broadcast S256x128 (Scalar.ofBits .f32 0x00000000#32)
  | n + 1, h => addf (summed w n (Nat.le_of_succ_le h)) (w ⟨n, h⟩)

/-- The largest of the first rounds. -/
def topped (w : Fin 32 → FVec Ideal S256x128 .f32) : (n : ℕ) → n ≤ 32 → FVec Ideal S256x128 .f32
  | 0, _ => broadcast S256x128 (Scalar.ofBits .f32 0xFF800000#32)
  | n + 1, h => maximumf (topped w n (Nat.le_of_succ_le h)) (w ⟨n, h⟩)

/-- The rounds' mean and largest. -/
def pooled (w : Fin 32 → FVec Ideal S256x128 .f32) : FVec Ideal S256x128 .f32 :=
  addf (mulf (summed w 32 le_rfl) (broadcast S256x128 (Scalar.ofBits .f32 0x3D000000#32))) (topped w 32 le_rfl)

section
variable (x0 : Vec Ideal S1x32x256x256 .f32) (x1 : Vec Ideal S256x256 .f32) (x2 x3 : Vec Ideal S8x32x16 .f32) (x4 x5 : Vec Ideal S8x1x32 .f32)
  (x6 : Vec Ideal S1x256 .f32) (x7 : Vec Ideal S16x256 .f32)

/-- The first half's rounds, of the loaded blocks. -/
def round0 (k : Fin 32) : FVec Ideal S256x128 .f32 :=
  part0 x0 (k0_pay286 x0 x1 x2 x3 x4 x5 x6 x7) (k0_pay5 (k0_pay287 x0 x1 x2 x3 x4 x5 x6 x7)) (k0_pay6 (k0_pay287 x0 x1 x2 x3 x4 x5 x6 x7))
    (k0_pay288 x0 x1 x2 x3 x4 x5 x6 x7) (k0_pay289 x0 x1 x2 x3 x4 x5 x6 x7) (k0_pay290 x0 x1 x2 x3 x4 x5 x6 x7) (View.ld x7 r0_4)
    (k0_pay291 x0 x1 x2 x3 x4 x5 x6 x7) (k0_pay292 x0 x1 x2 x3 x4 x5 x6 x7) (k0_pay293 x0 x1 x2 x3 x4 x5 x6 x7) k

/-- The second half's rounds, of the loaded blocks. -/
def round1 (k : Fin 32) : FVec Ideal S256x128 .f32 :=
  part1 x0 (k0_pay286 x0 x1 x2 x3 x4 x5 x6 x7) (k0_pay5 (k0_pay287 x0 x1 x2 x3 x4 x5 x6 x7)) (k0_pay6 (k0_pay287 x0 x1 x2 x3 x4 x5 x6 x7))
    (k0_pay289 x0 x1 x2 x3 x4 x5 x6 x7) (k0_pay290 x0 x1 x2 x3 x4 x5 x6 x7) (View.ld x7 r0_4)
    (k0_pay291 x0 x1 x2 x3 x4 x5 x6 x7) (k0_pay292 x0 x1 x2 x3 x4 x5 x6 x7) (k0_pay293 x0 x1 x2 x3 x4 x5 x6 x7) k

set_option maxRecDepth 100000 in
set_option maxHeartbeats 8000000 in
/-- What a point leaves in the result's buffer. -/
theorem left_eq : out0_8 x0 x1 x2 x3 x4 x5 x6 x7 = View.canon [⟨r0_38, k0_pay1 (pooled (round1 x0 x1 x2 x3 x4 x5 x6 x7))⟩,
    ⟨r0_37, k0_pay1 (pooled (round0 x0 x1 x2 x3 x4 x5 x6 x7))⟩] := rfl

end

end Cert.Proof.Embed

end
-- ==== Proof.Left.lean ====
/-
  The embedding kernel's result at a point of its grid, read at an index.
-/
module

public import proofs.«01_k».proof.Proof.Meant
public import proofs.«01_k».proof.Proof.Pooled
public import Idealize.ShloMosaic.Lib.Pipeline.Value
public import Idealize.ShloMosaic.Lib.Pointwise.Tactic
public import Idealize.ShloMosaic.Lib.Pointwise.Reduce
public import Idealize.ShloMosaic.Lib.Pointwise.Reshape
public import Idealize.ShloMosaic.Lib.Pointwise.Contract

@[expose] public section

noncomputable section

namespace Cert.Proof.Embed

open Cert.EmbedIdeal Cert.EmbedIdeal.Gen Idealize.ShloMosaic

/-- Lanes of the halves, and of the coordinates, among the 256. -/
theorem in_left (j : Fin 128) : j.val < 256 := by omega

theorem in_right (j : Fin 128) : 128 + j.val < 256 := by omega

theorem in_coord (d : Fin 3) : 128 + d.val < 256 := by omega

theorem zeros2 : (![0, 0] : Fin 2 → Nat) = fun _ => 0 := funext fun a => by fin_cases a <;> rfl
theorem zeros3 : (![0, 0, 0] : Fin 3 → Nat) = fun _ => 0 := funext fun a => by fin_cases a <;> rfl

/-- A block's numbers, by their places. -/
abbrev at3 (v : Vec Ideal S8x32x16 .f32) (b : Fin 8) (k : Fin 32) (d : Fin 16) : EReal := v (ix3 b k d)
abbrev at2 (v : Vec Ideal S8x1x32 .f32) (b : Fin 8) (k : Fin 32) : EReal := v (ix3 b 0 k)

section
variable (v w : Vec Ideal S8x32x16 .f32) (f g : Vec Ideal S8x1x32 .f32)

theorem inv_x (k : Fin 32) : k0_pay2 v w (ix2 k 0) = Ideal.div 1 (devX (at3 v) (at3 w) k) := by
  pointwise [k0_pay2, devX]

theorem inv_f (k : Fin 32) : k0_pay8 f g (ix2 0 k) = Ideal.div 1 (devF (at2 f) (at2 g) k) := by
  pointwise [k0_pay8, devF]

theorem spread_eq (b : Fin 8) (d : Fin 16) : k0_pay3 v w (ix2 b d) = spread (at3 v) (at3 w) b d := by
  pointwise [k0_pay3]
  simp only [inv_x, over_sq (devX_pos (at3 v) (at3 w) _)]
  simp only [over (devX_pos (at3 v) (at3 w) _)]
  rfl

theorem spread_gap : k0_pay4 (k0_pay3 v w) = gap (at3 v) (at3 w) := by
  pointwise [k0_pay4]
  simp only [spread_eq]
  rfl

theorem inv_width : k0_pay5 (k0_pay3 v w) = Ideal.div 1 (width (at3 v) (at3 w)) := by
  pointwise [k0_pay5]
  rw [spread_gap]
  rfl

theorem spread_mix : k0_pay6 (k0_pay3 v w) = mix (at3 v) (at3 w) := by
  pointwise [k0_pay6]
  rw [spread_gap, zero_sub, neg_mul]
  rfl

theorem spread_rest : k0_pay7 (k0_pay3 v w) = 1 - mix (at3 v) (at3 w) := by
  pointwise [k0_pay7]
  rw [spread_mix]

end

theorem rows_apply (x0 : Vec Ideal S1x32x256x256 .f32) (k : Fin 32) (p : Fin 256) (j : Fin 256) : rowsAt x0 k (ix2 p j) = x0 (ix4 0 k p j) := by
  unfold rowsAt
  refine (shapeCast_apply _ shapeCasts_S1x1x256x256_S256x256 (ix2 p j) (ix4 0 0 p j) ?_).trans ?_
  · simp [Shape.rowMajor_val_two, rowMajor_val4]
  · refine congrArg x0 (funext fun a => Fin.ext ?_)
    fin_cases a <;> simp [Rect.unit]

/-- A load of a whole block. -/
theorem all_x (v : Vec Ideal S8x32x16 .f32) : View.ld v r0_0 = v := View.ld_unit_zero zeros3 _ v
theorem all_f (v : Vec Ideal S8x1x32 .f32) : View.ld v r0_1 = v := View.ld_unit_zero zeros3 _ v
theorem all_v (v : Vec Ideal S1x256 .f32) : View.ld v r0_2 = v := View.ld_unit_zero zeros2 _ v
theorem all_s (v : Vec Ideal S256x256 .f32) : View.ld v r0_3 = v := View.ld_unit_zero zeros2 _ v
theorem all_w (v : Vec Ideal S16x256 .f32) : View.ld v r0_4 = v := View.ld_unit_zero zeros2 _ v

/-- The sum of the rounds. -/
theorem summed_apply (u : Fin 32 → FVec Ideal S256x128 .f32) (i : S256x128.Idx) : summed u 32 le_rfl i = ∑ k, u k i := by
  have h : ∀ n (hn : n ≤ 32), summed u n hn i = ∑ k : Fin n, u ⟨k.val, by omega⟩ i := by
    intro n
    induction n with
    | zero => intro _; exact Ideal.ofBits_zero_f32
    | succ n ih =>
      intro hn
      rw [Fin.sum_univ_castSucc]
      exact congrArg (· + u ⟨n, hn⟩ i) (ih _)
  exact h 32 le_rfl

/-- The largest of the rounds. -/
theorem topped_apply (u : Fin 32 → FVec Ideal S256x128 .f32) (i : S256x128.Idx) :
    topped u 32 le_rfl i = Finset.univ.sup fun k : Fin 32 => (u k i : EReal) := by
  have h : ∀ n (hn : n ≤ 32), topped u n hn i = Finset.univ.sup fun k : Fin n => (u ⟨k.val, by omega⟩ i : EReal) := by
    intro n
    induction n with
    | zero => intro _; exact (by simp [Ideal.ofBits, Ideal.ieee] : Ideal.ofBits .f32 0xFF800000#32 = ⊥)
    | succ n ih =>
      intro hn
      rw [Fin.univ_castSuccEmb, Finset.sup_cons, Finset.sup_map, sup_comm]
      exact congrArg (· ⊔ (u ⟨n, hn⟩ i : EReal)) (ih _)
  exact h 32 le_rfl

theorem pooled_apply (u : Fin 32 → FVec Ideal S256x128 .f32) (i : S256x128.Idx) :
    pooled u i = Ideal.div (∑ k, u k i) (Ideal.ofBits .f32 0x42000000#32) + Finset.univ.sup fun k : Fin 32 => (u k i : EReal) := by
  rw [← mean_eq, ← summed_apply, ← topped_apply]
  rfl

section
variable (x0 : Vec Ideal S1x32x256x256 .f32) (x1 : Vec Ideal S256x256 .f32) (x2 x3 : Vec Ideal S8x32x16 .f32) (x4 x5 : Vec Ideal S8x1x32 .f32)
  (x6 : Vec Ideal S1x256 .f32) (x7 : Vec Ideal S16x256 .f32)
variable (c : Fin 256 → Fin 3) (f : Fin 256 → ℝ)
  (h6 : ∀ j, x6 (ix2 0 j) = (f j : EReal)) (h7 : ∀ a j, x7 (ix2 a j) = if a.val = (c j).val then (1 : EReal) else 0)
  (h0 : ∀ k p (d : Fin 3), ∃ v : ℝ, x0 (ix4 0 k p (⟨128 + d.val, in_coord d⟩ : Fin 256)) = (v : EReal))
  (h1 : ∀ p (d : Fin 3), ∃ v : ℝ, x1 (ix2 p (⟨128 + d.val, in_coord d⟩ : Fin 256)) = (v : EReal))

/-- One channel of the embedding. -/
def meant (k : Fin 32) (p j : Fin 256) : EReal :=
  channel (mix (at3 x2) (at3 x3)) (Ideal.div (Ideal.div ((x0 (ix4 0 k p (⟨128 + (c j).val, in_coord (c j)⟩ : Fin 256)) : EReal)
    - x1 (ix2 p (⟨128 + (c j).val, in_coord (c j)⟩ : Fin 256))) (devX (at3 x2) (at3 x3) k) - (f j : EReal)) (width (at3 x2) (at3 x3)))

include h0 h1 h6 h7 in
theorem waves_apply (k : Fin 32) (p j : Fin 256) :
    waves x0 (k0_pay2 x2 x3) (k0_pay5 (k0_pay3 x2 x3)) (k0_pay6 (k0_pay3 x2 x3)) (k0_pay10 x1) x7
      (k0_pay11 (k0_pay5 (k0_pay3 x2 x3)) x6)
      (k0_pay12 (k0_pay5 (k0_pay3 x2 x3)) (k0_pay7 (k0_pay3 x2 x3)) x6 x7)
      (k0_pay13 (k0_pay5 (k0_pay3 x2 x3)) (k0_pay7 (k0_pay3 x2 x3)) x6 x7) k (ix2 p j) = meant x0 x1 x2 x3 c f k p j := by
  obtain ⟨β, hβ⟩ := mix_real (at3 x2) (at3 x3)
  obtain ⟨ρ, hρ⟩ := width_real (at3 x2) (at3 x3)
  obtain ⟨ι, hι⟩ := devX_real (at3 x2) (at3 x3) k
  obtain ⟨y, hy⟩ := h0 k p (c j)
  obtain ⟨z, hz⟩ := h1 p (c j)
  have eX : scaled x0 (k0_pay2 x2 x3) (k0_pay5 (k0_pay3 x2 x3)) (k0_pay10 x1) k (ix2 p (⟨(c j).val, by omega⟩ : Fin 16))
      = (((y - z) * ι : ℝ) : EReal) * ρ := by
    pointwise [scaled, k0_pay10]
    rw [rows_apply, hy, hz, inv_x, inv_width, hι, hρ]
    push_cast
    rfl
  have key := wave_eq (fun a => scaled x0 (k0_pay2 x2 x3) (k0_pay5 (k0_pay3 x2 x3)) (k0_pay10 x1) k (ix2 p a)) (fun a => x7 (ix2 a j))
    ⟨(c j).val, by omega⟩ (fun a => (h7 a j).trans (if_congr ⟨fun h => Fin.ext h, fun h => congrArg Fin.val h⟩ rfl rfl)) ((y - z) * ι) ρ (f j) β eX (Ideal.ofBits .f32 0xBF000000#32)
  pointwise [waves, dot_S256x16_S16x256_S256x256_1_0_0_1_n_n, k0_pay11, k0_pay12, k0_pay13]
  rw [spread_mix, spread_rest, inv_width, hρ, hβ, h6]
  rw [inv_width, hρ] at key
  refine key.trans ?_
  rw [meant, channel, hβ, hy, hz, ← over (devX_pos _ _ _), ← over (width_pos' _ _), hρ, hι]
  push_cast
  rfl

include h0 h1 h6 h7 in
/-- What a round adds to the first half. -/
theorem round0_apply (k : Fin 32) (p : Fin 256) (j : Fin 128) :
    round0 x0 x1 x2 x3 x4 x5 x6 x7 k (ix2 p j)
      = (Ideal.div ((x0 (ix4 0 k p (⟨j.val, in_left j⟩ : Fin 256)) : EReal) - x1 (ix2 p (⟨j.val, in_left j⟩ : Fin 256))) (devF (at2 x4) (at2 x5) k)
          + meant x0 x1 x2 x3 c f k p ⟨j.val, in_left j⟩) * meant x0 x1 x2 x3 c f k p ⟨j.val, in_left j⟩ := by
  unfold round0 k0_pay286 k0_pay287 k0_pay288 k0_pay289 k0_pay290 k0_pay291 k0_pay292 k0_pay293 k0_pay287
  rw [all_x, all_x, all_f, all_f, all_v, all_s, all_w]
  pointwise [part0, k0_pay9]
  rw [rows_apply, waves_apply x0 x1 x2 x3 x6 x7 c f h6 h7 h0 h1, inv_f, over (devF_pos _ _ _)]

include h0 h1 h6 h7 in
/-- What a round adds to the second half. -/
theorem round1_apply (k : Fin 32) (p : Fin 256) (j : Fin 128) :
    round1 x0 x1 x2 x3 x4 x5 x6 x7 k (ix2 p j)
      = ((x1 (ix2 p (⟨j.val, in_left j⟩ : Fin 256)) : EReal) + meant x0 x1 x2 x3 c f k p ⟨128 + j.val, in_right j⟩) * meant x0 x1 x2 x3 c f k p ⟨128 + j.val, in_right j⟩ := by
  unfold round1 k0_pay286 k0_pay287 k0_pay289 k0_pay290 k0_pay291 k0_pay292 k0_pay293 k0_pay287
  rw [all_x, all_x, all_v, all_s, all_w]
  pointwise [part1, k0_pay9]
  rw [waves_apply x0 x1 x2 x3 x6 x7 c f h6 h7 h0 h1]

end

/-- The result of a mean and a largest. -/
def bent (u : EReal) : EReal := Ideal.ofBits .f32 0x3F000000#32 * u * (1 + Ideal.erf (u * Ideal.ofBits .f32 0x3F3504F3#32))

theorem bent_apply (u : FVec Ideal S256x128 .f32) (p : Fin 256) (j : Fin 128) : k0_pay1 u (ix3 0 p j) = bent (u (ix2 p j)) := by
  pointwise [k0_pay1]
  rfl

/-- An element of a rectangle is not before it. -/
theorem off_le {s : Shape} (r : Rect s) {i : s.Idx} (h : i ∈ r.set) (a : Fin s.rank) : r.off a ≤ (i a).val := by
  obtain ⟨y, e⟩ := r.exists_idx_of_mem h
  rw [← e]
  exact Nat.le_add_right _ _

theorem not_right (p : Fin 256) (j : Fin 128) : (ix3 0 p (⟨j.val, in_left j⟩ : Fin 256) : S1x256x256.Idx) ∉ r0_38.set := fun h =>
  absurd (show 128 ≤ j.val from off_le r0_38 h 2) (Nat.not_le.mpr j.isLt)

/-- Two halves stored side by side. -/
theorem beside_left (u w : Vec Ideal S1x256x128 .f32) (p : Fin 256) (j : Fin 128) :
    View.canon [⟨r0_38, u⟩, ⟨r0_37, w⟩] (ix3 0 p (⟨j.val, in_left j⟩ : Fin 256) : S1x256x256.Idx) = w (ix3 0 p j) := by
  have e : (ix3 0 p (⟨j.val, in_left j⟩ : Fin 256) : S1x256x256.Idx) = r0_37.emb (ix3 0 p j) := by
    refine funext fun a => Fin.ext ?_
    fin_cases a
    · rfl
    · show p.val = 0 + 1 * p.val
      omega
    · show j.val = 0 + 1 * j.val
      omega
  exact (View.canon_cons_of_not_mem ⟨r0_38, u⟩ [⟨r0_37, w⟩] (not_right p j)).trans ((congrArg _ e).trans (View.canon_cons_emb r0_37 w [] (ix3 0 p j)))

theorem beside_right (u w : Vec Ideal S1x256x128 .f32) (p : Fin 256) (j : Fin 128) :
    View.canon [⟨r0_38, u⟩, ⟨r0_37, w⟩] (ix3 0 p (⟨128 + j.val, in_right j⟩ : Fin 256) : S1x256x256.Idx) = u (ix3 0 p j) := by
  have e : (ix3 0 p (⟨128 + j.val, in_right j⟩ : Fin 256) : S1x256x256.Idx) = r0_38.emb (ix3 0 p j) := by
    refine funext fun a => Fin.ext ?_
    fin_cases a
    · rfl
    · show p.val = 0 + 1 * p.val
      omega
    · show 128 + j.val = 128 + 1 * j.val
      omega
  rw [e, View.canon_cons_emb]

section
variable (x0 : Vec Ideal S1x32x256x256 .f32) (x1 : Vec Ideal S256x256 .f32) (x2 x3 : Vec Ideal S8x32x16 .f32) (x4 x5 : Vec Ideal S8x1x32 .f32)
  (x6 : Vec Ideal S1x256 .f32) (x7 : Vec Ideal S16x256 .f32)

/-- The first half of what a point leaves. -/
theorem left_first (p : Fin 256) (j : Fin 128) :
    out0_8 x0 x1 x2 x3 x4 x5 x6 x7 (ix3 0 p (⟨j.val, in_left j⟩ : Fin 256)) = bent (pooled (round0 x0 x1 x2 x3 x4 x5 x6 x7) (ix2 p j)) := by
  rw [left_eq]
  exact (beside_left _ _ p j).trans (bent_apply _ p j)

/-- The second half. -/
theorem left_second (p : Fin 256) (j : Fin 128) :
    out0_8 x0 x1 x2 x3 x4 x5 x6 x7 (ix3 0 p (⟨128 + j.val, in_right j⟩ : Fin 256)) = bent (pooled (round1 x0 x1 x2 x3 x4 x5 x6 x7) (ix2 p j)) := by
  rw [left_eq]
  exact (beside_right _ _ p j).trans (bent_apply _ p j)

end

end Cert.Proof.Embed

end
-- ==== Proof.Right.lean ====
/-
  The plain embedding's result, read at an index.
-/
module

public import proofs.«01_k».proof.Proof.Meant
public import proofs.«01_k».proof.Proof.Gen.EmbedReferenceIdeal.Run
public import Idealize.ShloMosaic.Lib.Pipeline.Value
public import Idealize.ShloMosaic.Lib.Pointwise.Tactic
public import Idealize.ShloMosaic.Lib.Pointwise.Reduce
public import Idealize.ShloMosaic.Lib.Pointwise.Reshape

@[expose] public section

noncomputable section

namespace Cert.Proof.Embed

open Cert.EmbedReferenceIdeal Cert.EmbedReferenceIdeal.Gen Cert.EmbedReferenceIdeal.Value Idealize.ShloMosaic

/-- The place of a result's lane among the 258 computed. -/
def placed (j : Fin 256) : ℕ := if j.val < 128 then j.val else if j.val < 255 then j.val + 1 else 257

theorem placed_lt (j : Fin 256) : placed j < 258 := by
  unfold placed
  split
  · omega
  · split <;> omega

theorem row86 : ∀ a : Fin 86, (S86.rowMajor (ix1 a)).val = a.val := by decide +kernel

/-- A channel of two joined halves. -/
theorem join_left (x y : FVec Ideal S8x32x1024x128 .f32) (h) (b : Fin 8) (k : Fin 32) (p : Fin 1024) (j : Fin 128) :
    concatenate S8x32x1024x256 3 [⟨S8x32x1024x128, x⟩, ⟨S8x32x1024x128, y⟩] h (ix4 b k p (⟨j.val, by omega⟩ : Fin 256)) = x (ix4 b k p j) :=
  concatenate_pair_apply_left 3 x y h _ rfl (ix4 b k p j) (by intro x; fin_cases x <;> rfl)

theorem join_right (x y : FVec Ideal S8x32x1024x128 .f32) (h) (b : Fin 8) (k : Fin 32) (p : Fin 1024) (j : Fin 128) :
    concatenate S8x32x1024x256 3 [⟨S8x32x1024x128, x⟩, ⟨S8x32x1024x128, y⟩] h (ix4 b k p (⟨128 + j.val, by omega⟩ : Fin 256)) = y (ix4 b k p j) :=
  concatenate_pair_apply_right 3 x y h _ rfl rfl (ix4 b k p j)
    (by intro x hx; fin_cases x <;> first | rfl | exact absurd rfl hx) (Nat.add_comm _ _)

section
variable (V : Valuation τ sig (Elt Ideal))

/-- The arguments. -/
abbrev rk : FVec Ideal S8x32x1024x256 .f32 := V (Proc.devRef .tc main_arg0)
abbrev sp : FVec Ideal S8192x256 .f32 := V (Proc.devRef .tc main_arg1)
abbrev ax (b : Fin 8) (k : Fin 32) (d : Fin 16) : EReal := (V (Proc.devRef .tc main_arg2) : FVec Ideal S8x32x16 .f32) (ix3 b k d)
abbrev qx (b : Fin 8) (k : Fin 32) (d : Fin 16) : EReal := (V (Proc.devRef .tc main_arg3) : FVec Ideal S8x32x16 .f32) (ix3 b k d)
abbrev af (b : Fin 8) (k : Fin 32) : EReal := (V (Proc.devRef .tc main_arg4) : FVec Ideal S8x1x32 .f32) (ix3 b 0 k)
abbrev qf (b : Fin 8) (k : Fin 32) : EReal := (V (Proc.devRef .tc main_arg5) : FVec Ideal S8x1x32 .f32) (ix3 b 0 k)

/-- A neighbour's term, and the neighbours' mean and largest. -/
abbrev term : FVec Ideal S8x32x1024x256 .f32 := res_main_v115 V
abbrev total : FVec Ideal S8x1024x256 .f32 := res_main_v120 V

/-- A sampled point's row. -/
abbrev own (b : Fin 8) (p : Fin 1024) (j : Fin 256) : EReal := sp V (ix2 (⟨b.val * 1024 + p.val, by omega⟩ : Fin 8192) j)

theorem dev_eq (k : Fin 32) : res_main_v14 V (ix1 k) = devX (ax V) (qx V) k := by
  pointwise [res_main_v14, res_main_v1, devX]

theorem own_eq (b : Fin 8) (p : Fin 1024) (j : Fin 256) : res_main_v30 V (ix4 b 0 p j) = own V b p j := by
  pointwise [res_main_v30]

/-- The normalised coordinates. -/
theorem near_eq (b : Fin 8) (k : Fin 32) (p : Fin 1024) (c : Fin 3) :
    res_main_v38 V (ix4 b k p c) = Ideal.div (rk V (ix4 b k p (⟨128 + c.val, by omega⟩ : Fin 256)) - own V b p ⟨128 + c.val, by omega⟩) (devX (ax V) (qx V) k) := by
  pointwise [res_main_v38]
  rw [own_eq, dev_eq]

theorem gap_eq : res_main_v71 V ix0 = gap (ax V) (qx V) := by
  pointwise [res_main_v71, res_main_v55, res_main_v54]
  simp only [dev_eq]
  rfl

theorem mix_eq : res_main_v79 V ix0 = mix (ax V) (qx V) := by
  pointwise [res_main_v79]
  rw [gap_eq]
  rfl

theorem lanes_eq (b : Fin 8) (k : Fin 32) (p : Fin 1024) (l : Fin 258) :
    res_main_v95 V (ix4 b k p l) = Ideal.div (rk V (ix4 b k p (⟨128 + l.val / 86, by omega⟩ : Fin 256)) - own V b p ⟨128 + l.val / 86, by omega⟩) (devX (ax V) (qx V) k)
      - Ideal.ofBits .f32 (lit0 ⟨l.val % 86, by omega⟩) := by
  rw [← near_eq V b k p ⟨l.val / 86, by omega⟩]
  unfold res_main_v95
  have hl := l.isLt
  rcases (by omega : l.val < 86 ∨ (86 ≤ l.val ∧ l.val < 172) ∨ 172 ≤ l.val) with h | h | h
  · rw [concatenate_apply_piece 3 _ _ (ix4 b k p l) 0 (by simp) S8x32x1024x86 _ rfl rfl 0 rfl
      (ix4 b k p (⟨l.val, h⟩ : Fin 86)) (by intro x hx; fin_cases x <;> first | rfl | exact absurd rfl hx) (by simp)]
    pointwise [res_main_cst]
    rw [show S86.rowMajor (ix1 (⟨l.val, h⟩ : Fin 86)) = (⟨l.val % 86, by omega⟩ : Fin 86) from Fin.ext ((row86 _).trans (by simp; omega)),
      show (0 : Fin 3) = ⟨l.val / 86, by omega⟩ from Fin.ext (by simp; omega)]
  · rw [concatenate_apply_piece 3 _ _ (ix4 b k p l) 1 (by simp) S8x32x1024x86 _ rfl rfl 86 rfl
      (ix4 b k p (⟨l.val - 86, by omega⟩ : Fin 86)) (by intro x hx; fin_cases x <;> first | rfl | exact absurd rfl hx) (by simp; omega)]
    pointwise [res_main_cst]
    rw [show S86.rowMajor (ix1 (⟨l.val - 86, by omega⟩ : Fin 86)) = (⟨l.val % 86, by omega⟩ : Fin 86) from Fin.ext ((row86 _).trans (by simp; omega)),
      show (1 : Fin 3) = ⟨l.val / 86, by omega⟩ from Fin.ext (by simp; omega)]
  · rw [concatenate_apply_piece 3 _ _ (ix4 b k p l) 2 (by simp) S8x32x1024x86 _ rfl rfl 172 rfl
      (ix4 b k p (⟨l.val - 172, by omega⟩ : Fin 86)) (by intro x hx; fin_cases x <;> first | rfl | exact absurd rfl hx) (by simp; omega)]
    pointwise [res_main_cst]
    rw [show S86.rowMajor (ix1 (⟨l.val - 172, by omega⟩ : Fin 86)) = (⟨l.val % 86, by omega⟩ : Fin 86) from Fin.ext ((row86 _).trans (by simp; omega)),
      show (2 : Fin 3) = ⟨l.val / 86, by omega⟩ from Fin.ext (by simp; omega)]

/-- The scaled distances from the fixed values. -/
theorem far_eq (b : Fin 8) (k : Fin 32) (p : Fin 1024) (j : Fin 256) :
    res_main_v102 V (ix4 b k p j) = Ideal.div (res_main_v95 V (ix4 b k p (⟨placed j, placed_lt j⟩ : Fin 258))) (width (ax V) (qx V)) := by
  pointwise [res_main_v102]
  rw [gap_eq]
  congr 1
  have hj := j.isLt
  by_cases h : j.val < 128
  · rw [concatenate_apply_piece 3 _ _ (ix4 b k p j) 0 (by simp) S8x32x1024x128 _ rfl rfl 0 rfl
      (ix4 b k p (⟨j.val, h⟩ : Fin 128)) (by intro x hx; fin_cases x <;> first | rfl | exact absurd rfl hx) (by simp)]
    pointwise [placed, if_pos h]
  · by_cases h' : j.val < 255
    · rw [concatenate_apply_piece 3 _ _ (ix4 b k p j) 1 (by simp) S8x32x1024x127 _ rfl rfl 128 rfl
        (ix4 b k p (⟨j.val - 128, by omega⟩ : Fin 127)) (by intro x hx; fin_cases x <;> first | rfl | exact absurd rfl hx) (by simp; omega)]
      pointwise [placed, if_neg h, if_pos h']
      rw [show (⟨129 + (j.val - 128), by omega⟩ : Fin 258) = ⟨j.val + 1, by omega⟩ from Fin.ext (by simp; omega)]
    · rw [concatenate_apply_piece 3 _ _ (ix4 b k p j) 2 (by simp) S8x32x1024x1 _ rfl rfl 255 rfl
        (ix4 b k p (0 : Fin 1)) (by intro x hx; fin_cases x <;> first | rfl | exact absurd rfl hx) (by simp; omega)]
      pointwise [placed, if_neg h, if_neg h']

/-- The embedding. -/
theorem channel_eq (b : Fin 8) (k : Fin 32) (p : Fin 1024) (j : Fin 256) :
    res_main_v113 V (ix4 b k p j) = channel (mix (ax V) (qx V)) (res_main_v102 V (ix4 b k p j)) := by
  pointwise [res_main_v113]
  rw [mix_eq]
  rfl

/-- The normalised features, and the sampled point's own. -/
theorem first_eq (b : Fin 8) (k : Fin 32) (p : Fin 1024) (j : Fin 128) :
    res_main_v115 V (ix4 b k p (⟨j.val, by omega⟩ : Fin 256))
      = (Ideal.div (rk V (ix4 b k p (⟨j.val, by omega⟩ : Fin 256)) - own V b p ⟨j.val, by omega⟩) (devF (af V) (qf V) k)
          + res_main_v113 V (ix4 b k p (⟨j.val, by omega⟩ : Fin 256))) * res_main_v113 V (ix4 b k p (⟨j.val, by omega⟩ : Fin 256)) := by
  pointwise [res_main_v115]
  rw [join_left]
  pointwise [res_main_v16, devF]
  rw [own_eq]

theorem second_eq (b : Fin 8) (k : Fin 32) (p : Fin 1024) (j : Fin 128) :
    res_main_v115 V (ix4 b k p (⟨128 + j.val, by omega⟩ : Fin 256))
      = (own V b p ⟨j.val, by omega⟩ + res_main_v113 V (ix4 b k p (⟨128 + j.val, by omega⟩ : Fin 256)))
        * res_main_v113 V (ix4 b k p (⟨128 + j.val, by omega⟩ : Fin 256)) := by
  pointwise [res_main_v115]
  rw [join_right]
  pointwise
  rw [own_eq]

/-- The neighbours' mean and largest. -/
theorem pool_eq (b : Fin 8) (p : Fin 1024) (j : Fin 256) :
    res_main_v120 V (ix3 b p j) = Ideal.div (∑ k, term V (ix4 b k p j)) (Ideal.ofBits .f32 0x42000000#32)
      + Finset.univ.sup fun k : Fin 32 => term V (ix4 b k p j) := by
  pointwise [res_main_v120]
  refine congrArg₂ (· + ·) rfl ((Shape.ReducesTo.fold_fiber_r4_a1 reducesTo_S8x32x1024x256_S8x1024x256_d1 (ix3 b p j)
    (max : EReal → EReal → EReal) _ (term V)).trans ?_)
  rw [show Ideal.ofBits .f32 0xFF800000#32 = ⊥ by simp [Ideal.ofBits, Ideal.ieee]]
  rfl

/-- The result. -/
theorem out_eq (b : Fin 8) (p : Fin 1024) (j : Fin 256) :
    (mulf (mulf (broadcastInDim S8x1024x256 ![] bcast_S_S8x1024x256 (constant S_ .f32 0x3F000000#32)) (res_main_v120 V))
      (Host.erfc (mulf (Host.negf (res_main_v120 V)) (broadcastInDim S8x1024x256 ![] bcast_S_S8x1024x256 (constant S_ .f32 0x3F3504F3#32)))) : FVec Ideal S8x1024x256 .f32) (ix3 b p j)
      = Ideal.ofBits .f32 0x3F000000#32 * total V (ix3 b p j) * (1 + Ideal.erf (total V (ix3 b p j) * Ideal.ofBits .f32 0x3F3504F3#32)) := by
  pointwise
  rw [← Ideal.erfc_neg, neg_mul]

end

end Cert.Proof.Embed

end
-- ==== Proof.Tables.lean ====
/-
  The embedding kernel's two tables of constants, beside the reference's.
-/
module

public import proofs.«01_k».proof.Proof.Waves
public import proofs.«01_k».proof.Proof.Right

@[expose] public section

noncomputable section

namespace Cert.Proof.Embed

open Idealize.ShloMosaic

/-- The coordinate a result's lane is computed from. -/
def coord (j : Fin 256) : Fin 3 := ⟨placed j / 86, by have := placed_lt j; omega⟩

/-- The centre a result's lane is compared with. -/
def centre (j : Fin 256) : BitVec 32 := Cert.EmbedReferenceIdeal.lit0 ⟨placed j % 86, Nat.mod_lt _ (by decide)⟩

/-- The kernel's first table is the centres, lane by lane. -/
theorem centres : ∀ j : Fin 256, Cert.EmbedIdeal.lit0 (Cert.EmbedIdeal.S1x256.rowMajor (ix2 0 j)) = centre j := by decide +kernel

/-- The kernel's second table picks out each lane's coordinate. -/
theorem picks : ∀ (a : Fin 16) (j : Fin 256), Cert.EmbedIdeal.lit1 (Cert.EmbedIdeal.S16x256.rowMajor (ix2 a j)) = if a.val = (coord j).val then 0x3F800000#32 else 0#32 := by
  decide +kernel

theorem ordinary : ∀ j : Fin 256, ((centre j).extractLsb' 23 8).toNat ≠ 255 := by decide +kernel

/-- The centres are real numbers. -/
theorem centre_real (j : Fin 256) : ∃ f : ℝ, Ideal.ofBits .f32 (centre j) = f := real_word _ (ordinary j)

end Cert.Proof.Embed

end
-- ==== Proof.Placed.lean ====
/-
  The embedding kernel's result: the blocks its points are handed, and what they write back.
-/
module

public import proofs.«01_k».proof.Proof.Left
public import proofs.«01_k».proof.Proof.Tables
public import proofs.«01_k».proof.Proof.Gen.EmbedIdeal.Value
public import Idealize.ShloMosaic.Lib.KernelVsHost
public import Idealize.ShloMosaic.Lib.Pipeline.ValueKit.Point

@[expose] public section

noncomputable section

namespace Cert.Proof.Embed

open Cert.EmbedIdeal Cert.EmbedIdeal.Gen Cert.EmbedIdeal.Value
open Idealize.ShloMosaic Idealize.ShloMosaic.TcCoe Idealize.SL.Sem

section
variable (W : Valuation Cert.EmbedReferenceIdeal.τ Cert.EmbedReferenceIdeal.sig (Elt Ideal))
variable (y0 : Vec Ideal S1x32x256x256 .f32) (y1 : Vec Ideal S256x256 .f32) (y2 y3 : Vec Ideal S8x32x16 .f32) (y4 y5 : Vec Ideal S8x1x32 .f32)
  (y6 : Vec Ideal S1x256 .f32) (y7 : Vec Ideal S16x256 .f32)
variable (f : Fin 256 → ℝ) (b : Fin 8) (p : Fin 1024) (r : Fin 256)
  (hf : ∀ j, Ideal.ofBits .f32 (centre j) = (f j : EReal))
  (e0 : ∀ k j, y0 (ix4 0 k r j) = rk W (ix4 b k p j)) (e1 : ∀ j, y1 (ix2 r j) = own W b p j)
  (e2 : at3 y2 = ax W) (e3 : at3 y3 = qx W) (e4 : at2 y4 = af W) (e5 : at2 y5 = qf W)

include hf e0 e1 e2 e3 in
/-- A channel of the kernel's is the reference's. -/
theorem meant_eq (k : Fin 32) (j : Fin 256) : meant y0 y1 y2 y3 coord f k r j = Cert.EmbedReferenceIdeal.Value.res_main_v113 W (ix4 b k p j) := by
  rw [channel_eq, far_eq, lanes_eq]
  unfold meant
  rw [e0, e1, e2, e3, ← hf]
  rfl

variable (h6 : ∀ j, y6 (ix2 0 j) = (f j : EReal)) (h7 : ∀ a j, y7 (ix2 a j) = if a.val = (coord j).val then (1 : EReal) else 0)
  (h0 : ∀ k q (d : Fin 3), ∃ v : ℝ, y0 (ix4 0 k q (⟨128 + d.val, in_coord d⟩ : Fin 256)) = (v : EReal))
  (h1 : ∀ q (d : Fin 3), ∃ v : ℝ, y1 (ix2 q (⟨128 + d.val, in_coord d⟩ : Fin 256)) = (v : EReal))

include hf e0 e1 e2 e3 e4 e5 h6 h7 h0 h1 in
/-- The first half's means and maxima are the reference's. -/
theorem first_total (j : Fin 128) : pooled (round0 y0 y1 y2 y3 y4 y5 y6 y7) (ix2 r j) = total W (ix3 b p (⟨j.val, in_left j⟩ : Fin 256)) := by
  have hk : ∀ k, round0 y0 y1 y2 y3 y4 y5 y6 y7 k (ix2 r j) = term W (ix4 b k p (⟨j.val, in_left j⟩ : Fin 256)) := fun k => by
    rw [round0_apply y0 y1 y2 y3 y4 y5 y6 y7 coord f h6 h7 h0 h1, meant_eq W y0 y1 y2 y3 f b p r hf e0 e1 e2 e3, e0, e1, e4, e5]
    exact (first_eq W b k p j).symm
  rw [pooled_apply]
  simp only [hk]
  exact (pool_eq W b p _).symm

include hf e0 e1 e2 e3 h6 h7 h0 h1 in
/-- The second half's. -/
theorem second_total (j : Fin 128) : pooled (round1 y0 y1 y2 y3 y4 y5 y6 y7) (ix2 r j) = total W (ix3 b p (⟨128 + j.val, in_right j⟩ : Fin 256)) := by
  have hk : ∀ k, round1 y0 y1 y2 y3 y4 y5 y6 y7 k (ix2 r j) = term W (ix4 b k p (⟨128 + j.val, in_right j⟩ : Fin 256)) := fun k => by
    rw [round1_apply y0 y1 y2 y3 y4 y5 y6 y7 coord f h6 h7 h0 h1, meant_eq W y0 y1 y2 y3 f b p r hf e0 e1 e2 e3, e1]
    exact (second_eq W b k p j).symm
  rw [pooled_apply]
  simp only [hk]
  exact (pool_eq W b p _).symm

include hf e0 e1 e2 e3 e4 e5 h6 h7 h0 h1 in
/-- A block whose halves bend the means and maxima is the reference's, bent. -/
theorem halves_total (g : EReal → EReal) (o : Vec Ideal S1x256x256 .f32)
    (l : ∀ j : Fin 128, o (ix3 0 r (⟨j.val, in_left j⟩ : Fin 256)) = g (pooled (round0 y0 y1 y2 y3 y4 y5 y6 y7) (ix2 r j)))
    (l' : ∀ j : Fin 128, o (ix3 0 r (⟨128 + j.val, in_right j⟩ : Fin 256)) = g (pooled (round1 y0 y1 y2 y3 y4 y5 y6 y7) (ix2 r j)))
    (j : Fin 256) : o (ix3 0 r j) = g (total W (ix3 b p j)) := by
  by_cases hj : j.val < 128
  · exact (l ⟨j.val, hj⟩).trans (congrArg g (first_total W y0 y1 y2 y3 y4 y5 y6 y7 f b p r hf e0 e1 e2 e3 e4 e5 h6 h7 h0 h1 ⟨j.val, hj⟩))
  · have e : (⟨128 + (j.val - 128), by omega⟩ : Fin 256) = j := Fin.ext (Nat.add_sub_cancel' (Nat.le_of_not_lt hj))
    have := (l' ⟨j.val - 128, by omega⟩).trans (congrArg g (second_total W y0 y1 y2 y3 y4 y5 y6 y7 f b p r hf e0 e1 e2 e3 h6 h7 h0 h1 ⟨j.val - 128, by omega⟩))
    simp only [e] at this
    exact this

include hf e0 e1 e2 e3 e4 e5 h6 h7 h0 h1 in
/-- What a point writes back is the reference's block. -/
theorem written (j : Fin 256) : out0_8 y0 y1 y2 y3 y4 y5 y6 y7 (ix3 0 r j) = bent (total W (ix3 b p j)) :=
  halves_total W y0 y1 y2 y3 y4 y5 y6 y7 f b p r hf e0 e1 e2 e3 e4 e5 h6 h7 h0 h1 bent _ (left_first y0 y1 y2 y3 y4 y5 y6 y7 r)
    (left_second y0 y1 y2 y3 y4 y5 y6 y7 r) j

end

variable (m : (ℓ : Loc nD τ sig) → Buf (Elt Ideal) ℓ) (c : Dev nD)

/-- Where each point's blocks lie. -/
theorem place : ∀ t : Fin cfg0.N, (win0_0.index t 0 = t.val / 4 ∧ win0_0.index t 1 = 0 ∧ win0_0.index t 2 = t.val % 4 ∧ win0_0.index t 3 = 0)
    ∧ (win0_1.index t 0 = t.val ∧ win0_1.index t 1 = 0)
    ∧ (win0_8.index t 0 = t.val / 4 ∧ win0_8.index t 1 = t.val % 4 ∧ win0_8.index t 2 = 0) :=
  (by decide +kernel : ∀ t : Fin grid0.N, _)

/-- The whole arrays every point is handed. -/
theorem whole : ∀ t : Fin cfg0.N, (win0_2.index t 0 = 0 ∧ win0_2.index t 1 = 0 ∧ win0_2.index t 2 = 0)
    ∧ (win0_3.index t 0 = 0 ∧ win0_3.index t 1 = 0 ∧ win0_3.index t 2 = 0) ∧ (win0_4.index t 0 = 0 ∧ win0_4.index t 1 = 0 ∧ win0_4.index t 2 = 0)
    ∧ (win0_5.index t 0 = 0 ∧ win0_5.index t 1 = 0 ∧ win0_5.index t 2 = 0) ∧ (win0_6.index t 0 = 0 ∧ win0_6.index t 1 = 0)
    ∧ (win0_7.index t 0 = 0 ∧ win0_7.index t 1 = 0) :=
  (by decide +kernel : ∀ t : Fin grid0.N, _)

/-- A point's neighbours' rows. -/
theorem block0 (t : Fin cfg0.N) (b : Fin 8) (k : Fin 32) (p : Fin 1024) (r j : Fin 256) (hb : b.val = t.val / 4) (hp : p.val = 256 * (t.val % 4) + r.val) :
    iblk m c 0 t (ix4 0 k r j) = m ((c : Thread nD τ).loc main_arg0) (ix4 b k p j) := by
  obtain ⟨⟨h, h', h'', h'''⟩, -⟩ := place t
  blk_point [iblk, V, h, h', h'', h''']
  all_goals omega

/-- A point's own rows. -/
theorem block1 (t : Fin cfg0.N) (s : Fin 8192) (r j : Fin 256) (hs : s.val = 256 * t.val + r.val) :
    iblk m c 1 t (ix2 r j) = m ((c : Thread nD τ).loc main_arg1) (ix2 s j) := by
  obtain ⟨-, ⟨h, h'⟩, -⟩ := place t
  blk_point [iblk, V, h, h']
  all_goals omega

theorem block2 (t : Fin cfg0.N) (b : Fin 8) (k : Fin 32) (d : Fin 16) : iblk m c 2 t (ix3 b k d) = m ((c : Thread nD τ).loc main_arg2) (ix3 b k d) := by
  obtain ⟨⟨h, h', h''⟩, -⟩ := whole t
  blk_point [iblk, V, h, h', h'']
  all_goals omega

theorem block3 (t : Fin cfg0.N) (b : Fin 8) (k : Fin 32) (d : Fin 16) : iblk m c 3 t (ix3 b k d) = m ((c : Thread nD τ).loc main_arg3) (ix3 b k d) := by
  obtain ⟨-, ⟨h, h', h''⟩, -⟩ := whole t
  blk_point [iblk, V, h, h', h'']
  all_goals omega

theorem block4 (t : Fin cfg0.N) (b : Fin 8) (k : Fin 32) : iblk m c 4 t (ix3 b 0 k) = m ((c : Thread nD τ).loc main_arg4) (ix3 b 0 k) := by
  obtain ⟨-, -, ⟨h, h', h''⟩, -⟩ := whole t
  blk_point [iblk, V, h, h', h'']
  all_goals omega

theorem block5 (t : Fin cfg0.N) (b : Fin 8) (k : Fin 32) : iblk m c 5 t (ix3 b 0 k) = m ((c : Thread nD τ).loc main_arg5) (ix3 b 0 k) := by
  obtain ⟨-, -, -, ⟨h, h', h''⟩, -⟩ := whole t
  blk_point [iblk, V, h, h', h'']
  all_goals omega

theorem block6 (t : Fin cfg0.N) (j : Fin 256) : iblk m c 6 t (ix2 0 j) = V m c main_cst (ix2 0 j) := by
  obtain ⟨-, -, -, -, ⟨h, h'⟩, -⟩ := whole t
  blk_point [iblk, h, h']
  all_goals omega

theorem block7 (t : Fin cfg0.N) (a : Fin 16) (j : Fin 256) : iblk m c 7 t (ix2 a j) = V m c main_cst_0 (ix2 a j) := by
  obtain ⟨-, -, -, -, -, ⟨h, h'⟩⟩ := whole t
  blk_point [iblk, h, h']
  all_goals omega

theorem table6 (j : Fin 256) : V m c main_cst (ix2 0 j) = Ideal.ofBits .f32 (lit0 (S1x256.rowMajor (ix2 0 j))) := rfl

theorem table7 (a : Fin 16) (j : Fin 256) : V m c main_cst_0 (ix2 a j) = Ideal.ofBits .f32 (lit1 (S16x256.rowMajor (ix2 a j))) := rfl

/-- Every point writes its block back. -/
theorem every : ∀ t : Fin cfg0.N, (cfg0.win 8).flush t = true := (by decide +kernel : ∀ t : Fin grid0.N, win0_8.flush t = true)

/-- The kernel's result is the reference's. -/
theorem result_eq (W : Valuation Cert.EmbedReferenceIdeal.τ Cert.EmbedReferenceIdeal.sig (Elt Ideal))
    (a0 : rk W = m ((c : Thread nD τ).loc main_arg0)) (a1 : sp W = m ((c : Thread nD τ).loc main_arg1))
    (a2 : ∀ b k d, ax W b k d = m ((c : Thread nD τ).loc main_arg2) (ix3 b k d)) (a3 : ∀ b k d, qx W b k d = m ((c : Thread nD τ).loc main_arg3) (ix3 b k d))
    (a4 : ∀ b k, af W b k = m ((c : Thread nD τ).loc main_arg4) (ix3 b 0 k)) (a5 : ∀ b k, qf W b k = m ((c : Thread nD τ).loc main_arg5) (ix3 b 0 k))
    (n0 : ∀ b k p (d : Fin 3), ∃ v : ℝ, m ((c : Thread nD τ).loc main_arg0) (ix4 b k p (⟨128 + d.val, in_coord d⟩ : Fin 256)) = (v : EReal))
    (n1 : ∀ s (d : Fin 3), ∃ v : ℝ, m ((c : Thread nD τ).loc main_arg1) (ix2 s (⟨128 + d.val, in_coord d⟩ : Fin 256)) = (v : EReal))
    (b : Fin 8) (p : Fin 1024) (j : Fin 256) : (dats m 0 c).arrAt 8 cfg0.N (ix3 b p j) = bent (total W (ix3 b p j)) := by
  have hN : cfg0.N = 32 := N_0
  let t : Fin cfg0.N := ⟨4 * b.val + p.val / 256, by omega⟩
  let r : Fin 256 := ⟨p.val % 256, by omega⟩
  have h := (dats m 0 c).arrAt_emb_eq_flushed 8 disjoint8 t (every t) (ix3 0 r j)
  rw [flushed8] at h
  obtain ⟨-, -, ⟨h0, h1, h2⟩⟩ := place t
  have e : (((cfg0.win 8).blk t).view.emb (ix3 0 r j) : S8x1024x256.Idx) = ix3 b p j := by
    funext a
    refine Fin.ext ?_
    match a with
    | ⟨0, _⟩ =>
      show win0_8.index t (0 : Fin 3) * 1 + 1 * 0 = b.val
      rw [h0]
      show (4 * b.val + p.val / 256) / 4 * 1 + 1 * 0 = b.val
      omega
    | ⟨1, _⟩ =>
      show win0_8.index t (1 : Fin 3) * 256 + 1 * (p.val % 256) = p.val
      rw [h1]
      show (4 * b.val + p.val / 256) % 4 * 256 + 1 * (p.val % 256) = p.val
      omega
    | ⟨2, _⟩ =>
      show win0_8.index t (2 : Fin 3) * 256 + 1 * j.val = j.val
      rw [h2]
      omega
  refine (congrArg ((dats m 0 c).arrAt 8 cfg0.N) e).symm.trans (h.trans ((cast_eq _ _).trans ?_))
  choose f hf using centre_real
  have ht : t.val = 4 * b.val + p.val / 256 := rfl
  have hr : r.val = p.val % 256 := rfl
  refine written W (iblk m c 0 t) (iblk m c 1 t) (iblk m c 2 t) (iblk m c 3 t) (iblk m c 4 t) (iblk m c 5 t) (iblk m c 6 t) (iblk m c 7 t) f b p r hf
    (fun k j => ?_) (fun j => ?_) ?_ ?_ ?_ ?_ (fun j => ?_) (fun a j => ?_) (fun k q d => ?_) (fun q d => ?_) j
  · rw [a0]
    exact block0 m c t b k p r j (by omega) (by omega)
  · show _ = sp W _
    rw [a1]
    exact block1 m c t _ r j (by show b.val * 1024 + p.val = _; omega)
  · funext b k d
    exact (block2 m c t b k d).trans (a2 b k d).symm
  · funext b k d
    exact (block3 m c t b k d).trans (a3 b k d).symm
  · funext b k
    exact (block4 m c t b k).trans (a4 b k).symm
  · funext b k
    exact (block5 m c t b k).trans (a5 b k).symm
  · rw [block6, table6, centres, hf]
  · rw [block7, table7, picks]
    split
    · exact Ideal.ofBits_one_f32
    · exact Ideal.ofBits_zero_f32
  · rw [block0 m c t b k ⟨256 * (t.val % 4) + q.val, by omega⟩ q _ (by omega) rfl]
    exact n0 _ _ _ _
  · rw [block1 m c t ⟨256 * t.val + q.val, by omega⟩ q _ rfl]
    exact n1 _ _

end Cert.Proof.Embed

end
-- ==== Proof.Embed.lean ====
/-
  The embedding call: the frames of its programs, and that the kernel's result is its reference's.
-/
module

public import proofs.«01_k».proof.Defs
public import proofs.«01_k».proof.Proof.Placed
public import proofs.«01_k».proof.Proof.Gen.Embed
public import proofs.«01_k».proof.Proof.Gen.Embed.Frame
public import proofs.«01_k».proof.Proof.Gen.EmbedIdeal
public import proofs.«01_k».proof.Proof.Gen.EmbedIdeal.Frame
public import proofs.«01_k».proof.Proof.Gen.EmbedIdeal.Value
public import proofs.«01_k».proof.Proof.Gen.EmbedReferenceIdeal
public import proofs.«01_k».proof.Proof.Gen.EmbedReferenceIdeal.Run
public import proofs.«01_k».proof.Proof.Gen.Pre_coordinates_finite
public import Idealize.ShloMosaic.Lib.Quiescent
public import Idealize.ShloMosaic.Lib.ReduceAll

@[expose] public section

noncomputable section

namespace Cert.Proof.Embed

open Idealize.ShloMosaic Idealize.ShloMosaic.TcCoe Idealize.SL.Sem

/-- The frame of the embedding kernel. -/
theorem frame_printed : Cert.quiescent_Embed := fun m ρ _ => Cert.Embed.Gen.frame m ρ

/-- The frame of its ideal form. -/
theorem frame_ideal : Cert.quiescent_EmbedIdeal := fun m ρ _ => Cert.EmbedIdeal.Gen.frame m ρ

/-- The same, under the value claim's precondition. -/
theorem frame_ideal_finite : Cert.quiescent_EmbedIdeal_pre_coordinates_finite := fun m ρ _ => Cert.EmbedIdeal.Gen.frame m ρ

/-- The frame of its reference, which has no counter. -/
theorem frame_ref : Cert.quiescent_EmbedReferenceIdeal := fun m ρ _ =>
  (θ_run Cert.EmbedReferenceIdeal.defs _ _).mono
    (fun r h => ⟨fun c => (h c).2, sem_eq_zero_of_no_sems (by decide) _⟩)
    (Cert.EmbedReferenceIdeal.Value.run (F := Ideal) m ρ)

/-- The same, under the value claim's precondition. -/
theorem frame_ref_finite : Cert.quiescent_EmbedReferenceIdeal_pre_coordinates_finite := fun m ρ _ => frame_ref m ρ trivial

/-- What is less than infinity in absolute value is a real number. -/
theorem real_of_lt (x : EReal) (h : Ideal.cmp .olt (max x (-x)) (Ideal.ofBits .f32 0x7F800000#32) = 1#1) : ∃ v : ℝ, x = v := by
  induction x with
  | coe v => exact ⟨v, rfl⟩
  | bot =>
    exfalso
    simp [Ideal.cmp, Ideal.ofBits, Ideal.ieee] at h
  | top =>
    exfalso
    simp [Ideal.cmp, Ideal.ofBits, Ideal.ieee] at h

section
variable (x : Cert.Pre_coordinates_finite.S8x32x1024x256.Idx → EReal) (q : Cert.Pre_coordinates_finite.S8192x256.Idx → EReal)
  (u v : Cert.Pre_coordinates_finite.S8x32x16.Idx → EReal) (w z : Cert.Pre_coordinates_finite.S8x1x32.Idx → EReal)

/-- The precondition: the coordinates are real numbers. -/
theorem finite (h : Cert.Pre_coordinates_finite.fn (F := Ideal) x q u v w z = fun _ => 1#1) :
    (∀ b k p (d : Fin 3), ∃ r : ℝ, x (ix4 b k p (⟨128 + d.val, in_coord d⟩ : Fin 256)) = (r : EReal))
      ∧ ∀ s (d : Fin 3), ∃ r : ℝ, q (ix2 s (⟨128 + d.val, in_coord d⟩ : Fin 256)) = (r : EReal) := by
  have : Subsingleton Cert.Pre_coordinates_finite.S_.Idx := ⟨fun a b => funext fun i => i.elim0⟩
  obtain ⟨h0, h1⟩ := IntOp.andi_eq_one.1 (congrFun h (fun i => i.elim0))
  constructor
  · intro b k p d
    have e := Host.reduce_andi_all _ _ _ _ _ h0 (ix4 b k p d)
    have e' := extractStridedSlice_apply ![0, 0, 0, 128] x Cert.Pre_coordinates_finite.Facts.slices_S8x32x1024x256_S8x32x1024x3_0_0_0_128 (ix4 b k p d)
      (ix4 b k p (⟨128 + d.val, in_coord d⟩ : Fin 256)) fun a => match a with
      | ⟨0, _⟩ => (Nat.zero_add _).symm
      | ⟨1, _⟩ => (Nat.zero_add _).symm
      | ⟨2, _⟩ => (Nat.zero_add _).symm
      | ⟨3, _⟩ => rfl
    rw [← e']
    exact real_of_lt _ e
  · intro s d
    have e := Host.reduce_andi_all _ _ _ _ _ h1 (ix2 s d)
    have e' := extractStridedSlice_apply ![0, 128] q Cert.Pre_coordinates_finite.Facts.slices_S8192x256_S8192x3_0_128 (ix2 s d)
      (ix2 s (⟨128 + d.val, in_coord d⟩ : Fin 256)) fun a => match a with
      | ⟨0, _⟩ => (Nat.zero_add _).symm
      | ⟨1, _⟩ => rfl
    rw [← e']
    exact real_of_lt _ e

end

/-- The kernel's embedding is the reference's. -/
theorem same_embedding : Cert.algebraic_EmbedIdeal_EmbedReferenceIdeal_pre_coordinates_finite := fun m g m' g' hpre hargs => by
  refine ⟨fun c => (Cert.EmbedIdeal.Gen.dats m 0 c).arrAt 8 Cert.EmbedIdeal.cfg0.N, Cert.EmbedIdeal.Value.run_blocks (F := Ideal) m g, ?_⟩
  refine (θ_run Cert.EmbedReferenceIdeal.defs _ _).mono (fun r h c => ?_) (Cert.EmbedReferenceIdeal.Value.run (F := Ideal) m' g')
  refine ⟨(h c).1.trans (funext fun i => ?_), (h c).2⟩
  rw [eq_ix3 i]
  obtain ⟨a0, a1, a2, a3, a4, a5⟩ := hargs c
  obtain ⟨n0, n1⟩ := finite _ _ _ _ _ _ (hpre c)
  exact (out_eq (StableHlo.launchContents m' c) (i 0) (i 1) (i 2)).trans (result_eq m c (StableHlo.launchContents m' c) a0 a1
    (fun b k d => congrFun a2 (ix3 b k d)) (fun b k d => congrFun a3 (ix3 b k d)) (fun b k => congrFun a4 (ix3 b 0 k)) (fun b k => congrFun a5 (ix3 b 0 k))
    n0 n1 (i 0) (i 1) (i 2)).symm

end Cert.Proof.Embed

end
-- ==== Proof.Agree.lean ====
/-
  The two references of the main call pool the same embeddings.
-/
module

public import proofs.«01_k».proof.Proof.Right
public import proofs.«01_k».proof.Proof.Gen.WholeReferenceIdeal.Run

@[expose] public section

noncomputable section

namespace Cert.Proof.Agree

open Idealize.ShloMosaic Idealize.ShloMosaic.TcCoe
open Cert.EmbedReferenceIdeal (S8x32x1024x256 S8192x256 S8x32x16 S8x1x32)

section
variable (W : Valuation Cert.EmbedReferenceIdeal.τ Cert.EmbedReferenceIdeal.sig (Elt Ideal))
  (V : Valuation Cert.WholeReferenceIdeal.τ Cert.WholeReferenceIdeal.sig (Elt Ideal))
  (a0 : (W (Proc.devRef .tc Cert.EmbedReferenceIdeal.main_arg0) : FVec Ideal S8x32x1024x256 .f32) = V (Proc.devRef .tc Cert.WholeReferenceIdeal.main_arg0))
  (a1 : (W (Proc.devRef .tc Cert.EmbedReferenceIdeal.main_arg1) : FVec Ideal S8192x256 .f32) = V (Proc.devRef .tc Cert.WholeReferenceIdeal.main_arg1))
  (a2 : (W (Proc.devRef .tc Cert.EmbedReferenceIdeal.main_arg2) : FVec Ideal S8x32x16 .f32) = V (Proc.devRef .tc Cert.WholeReferenceIdeal.main_arg2))
  (a3 : (W (Proc.devRef .tc Cert.EmbedReferenceIdeal.main_arg3) : FVec Ideal S8x32x16 .f32) = V (Proc.devRef .tc Cert.WholeReferenceIdeal.main_arg3))
  (a4 : (W (Proc.devRef .tc Cert.EmbedReferenceIdeal.main_arg4) : FVec Ideal S8x1x32 .f32) = V (Proc.devRef .tc Cert.WholeReferenceIdeal.main_arg4))
  (a5 : (W (Proc.devRef .tc Cert.EmbedReferenceIdeal.main_arg5) : FVec Ideal S8x1x32 .f32) = V (Proc.devRef .tc Cert.WholeReferenceIdeal.main_arg5))

theorem cst_eq : Cert.EmbedReferenceIdeal.Value.res_main_cst W = Cert.WholeReferenceIdeal.Value.res_main_cst V := by
  unfold Cert.EmbedReferenceIdeal.Value.res_main_cst Cert.WholeReferenceIdeal.Value.res_main_cst
  rfl

include a2 in
theorem v1_eq : Cert.EmbedReferenceIdeal.Value.res_main_v1 W = Cert.WholeReferenceIdeal.Value.res_main_v1 V := by
  unfold Cert.EmbedReferenceIdeal.Value.res_main_v1 Cert.WholeReferenceIdeal.Value.res_main_v1
  rw [a2]

include a2 a3 in
theorem v14_eq : Cert.EmbedReferenceIdeal.Value.res_main_v14 W = Cert.WholeReferenceIdeal.Value.res_main_v14 V := by
  unfold Cert.EmbedReferenceIdeal.Value.res_main_v14 Cert.WholeReferenceIdeal.Value.res_main_v14
  rw [a3, v1_eq W V a2]

include a4 in
theorem v16_eq : Cert.EmbedReferenceIdeal.Value.res_main_v16 W = Cert.WholeReferenceIdeal.Value.res_main_v16 V := by
  unfold Cert.EmbedReferenceIdeal.Value.res_main_v16 Cert.WholeReferenceIdeal.Value.res_main_v16
  rw [a4]
  rfl

include a1 in
theorem v30_eq : Cert.EmbedReferenceIdeal.Value.res_main_v30 W = Cert.WholeReferenceIdeal.Value.res_main_v30 V := by
  unfold Cert.EmbedReferenceIdeal.Value.res_main_v30 Cert.WholeReferenceIdeal.Value.res_main_v30
  rw [a1]
  rfl

include a0 a1 a2 a3 in
theorem v38_eq : Cert.EmbedReferenceIdeal.Value.res_main_v38 W = Cert.WholeReferenceIdeal.Value.res_main_v38 V := by
  unfold Cert.EmbedReferenceIdeal.Value.res_main_v38 Cert.WholeReferenceIdeal.Value.res_main_v38
  rw [a0, v30_eq W V a1, v14_eq W V a2 a3]

include a2 a3 in
theorem v54_eq : Cert.EmbedReferenceIdeal.Value.res_main_v54 W = Cert.WholeReferenceIdeal.Value.res_main_v54 V := by
  unfold Cert.EmbedReferenceIdeal.Value.res_main_v54 Cert.WholeReferenceIdeal.Value.res_main_v54
  rw [a2, v14_eq W V a2 a3]

include a2 a3 in
theorem v55_eq : Cert.EmbedReferenceIdeal.Value.res_main_v55 W = Cert.WholeReferenceIdeal.Value.res_main_v55 V := by
  unfold Cert.EmbedReferenceIdeal.Value.res_main_v55 Cert.WholeReferenceIdeal.Value.res_main_v55
  rw [v14_eq W V a2 a3]

include a2 a3 in
theorem v71_eq : Cert.EmbedReferenceIdeal.Value.res_main_v71 W = Cert.WholeReferenceIdeal.Value.res_main_v71 V := by
  unfold Cert.EmbedReferenceIdeal.Value.res_main_v71 Cert.WholeReferenceIdeal.Value.res_main_v71
  rw [a3, v55_eq W V a2 a3, v54_eq W V a2 a3]

include a2 a3 in
theorem v79_eq : Cert.EmbedReferenceIdeal.Value.res_main_v79 W = Cert.WholeReferenceIdeal.Value.res_main_v79 V := by
  unfold Cert.EmbedReferenceIdeal.Value.res_main_v79 Cert.WholeReferenceIdeal.Value.res_main_v79
  rw [v71_eq W V a2 a3]

include a0 a1 a2 a3 in
theorem v95_eq : Cert.EmbedReferenceIdeal.Value.res_main_v95 W = Cert.WholeReferenceIdeal.Value.res_main_v95 V := by
  unfold Cert.EmbedReferenceIdeal.Value.res_main_v95 Cert.WholeReferenceIdeal.Value.res_main_v95
  rw [v38_eq W V a0 a1 a2 a3, cst_eq W V]

include a0 a1 a2 a3 in
theorem v102_eq : Cert.EmbedReferenceIdeal.Value.res_main_v102 W = Cert.WholeReferenceIdeal.Value.res_main_v102 V := by
  unfold Cert.EmbedReferenceIdeal.Value.res_main_v102 Cert.WholeReferenceIdeal.Value.res_main_v102
  rw [v95_eq W V a0 a1 a2 a3, v71_eq W V a2 a3]

include a0 a1 a2 a3 in
theorem v113_eq : Cert.EmbedReferenceIdeal.Value.res_main_v113 W = Cert.WholeReferenceIdeal.Value.res_main_v113 V := by
  unfold Cert.EmbedReferenceIdeal.Value.res_main_v113 Cert.WholeReferenceIdeal.Value.res_main_v113
  rw [v79_eq W V a2 a3, v102_eq W V a0 a1 a2 a3]

include a0 a1 a2 a3 a4 a5 in
theorem v115_eq : Cert.EmbedReferenceIdeal.Value.res_main_v115 W = Cert.WholeReferenceIdeal.Value.res_main_v115 V := by
  unfold Cert.EmbedReferenceIdeal.Value.res_main_v115 Cert.WholeReferenceIdeal.Value.res_main_v115
  rw [a0, a5, v30_eq W V a1, v16_eq W V a4, v113_eq W V a0 a1 a2 a3]

include a0 a1 a2 a3 a4 a5 in
theorem v120_eq : Cert.EmbedReferenceIdeal.Value.res_main_v120 W = Cert.WholeReferenceIdeal.Value.res_main_v120 V := by
  unfold Cert.EmbedReferenceIdeal.Value.res_main_v120 Cert.WholeReferenceIdeal.Value.res_main_v120
  rw [v115_eq W V a0 a1 a2 a3 a4 a5]

end

variable (V : Valuation Cert.WholeReferenceIdeal.τ Cert.WholeReferenceIdeal.sig (Elt Ideal))

/-- The other reference, run on the same arguments, pools the same means and maxima. -/
theorem pooled_agree : ∃ W : Valuation Cert.EmbedReferenceIdeal.τ Cert.EmbedReferenceIdeal.sig (Elt Ideal),
    (Embed.rk W = V (Proc.devRef .tc Cert.WholeReferenceIdeal.main_arg0) ∧ Embed.sp W = V (Proc.devRef .tc Cert.WholeReferenceIdeal.main_arg1)
      ∧ (W (Proc.devRef .tc Cert.EmbedReferenceIdeal.main_arg2) : FVec Ideal S8x32x16 .f32) = V (Proc.devRef .tc Cert.WholeReferenceIdeal.main_arg2)
      ∧ (W (Proc.devRef .tc Cert.EmbedReferenceIdeal.main_arg3) : FVec Ideal S8x32x16 .f32) = V (Proc.devRef .tc Cert.WholeReferenceIdeal.main_arg3)
      ∧ (W (Proc.devRef .tc Cert.EmbedReferenceIdeal.main_arg4) : FVec Ideal S8x1x32 .f32) = V (Proc.devRef .tc Cert.WholeReferenceIdeal.main_arg4)
      ∧ (W (Proc.devRef .tc Cert.EmbedReferenceIdeal.main_arg5) : FVec Ideal S8x1x32 .f32) = V (Proc.devRef .tc Cert.WholeReferenceIdeal.main_arg5))
      ∧ Embed.total W = Cert.WholeReferenceIdeal.Value.res_main_v120 V := by
  let e : Valuation Cert.EmbedReferenceIdeal.τ Cert.EmbedReferenceIdeal.sig (Elt Ideal) := fun r _ => default
  let W := Function.update (Function.update (Function.update (Function.update (Function.update (Function.update e
    (Proc.devRef .tc Cert.EmbedReferenceIdeal.main_arg0) (V (Proc.devRef .tc Cert.WholeReferenceIdeal.main_arg0)))
    (Proc.devRef .tc Cert.EmbedReferenceIdeal.main_arg1) (V (Proc.devRef .tc Cert.WholeReferenceIdeal.main_arg1)))
    (Proc.devRef .tc Cert.EmbedReferenceIdeal.main_arg2) (V (Proc.devRef .tc Cert.WholeReferenceIdeal.main_arg2)))
    (Proc.devRef .tc Cert.EmbedReferenceIdeal.main_arg3) (V (Proc.devRef .tc Cert.WholeReferenceIdeal.main_arg3)))
    (Proc.devRef .tc Cert.EmbedReferenceIdeal.main_arg4) (V (Proc.devRef .tc Cert.WholeReferenceIdeal.main_arg4)))
    (Proc.devRef .tc Cert.EmbedReferenceIdeal.main_arg5) (V (Proc.devRef .tc Cert.WholeReferenceIdeal.main_arg5))
  have a0 : (W (Proc.devRef .tc Cert.EmbedReferenceIdeal.main_arg0) : FVec Ideal S8x32x1024x256 .f32) = V (Proc.devRef .tc Cert.WholeReferenceIdeal.main_arg0) := by
    iterate 5 refine (Function.update_of_ne (by decide) _ _).trans ?_
    exact Function.update_self _ _ _
  have a1 : (W (Proc.devRef .tc Cert.EmbedReferenceIdeal.main_arg1) : FVec Ideal S8192x256 .f32) = V (Proc.devRef .tc Cert.WholeReferenceIdeal.main_arg1) := by
    iterate 4 refine (Function.update_of_ne (by decide) _ _).trans ?_
    exact Function.update_self _ _ _
  have a2 : (W (Proc.devRef .tc Cert.EmbedReferenceIdeal.main_arg2) : FVec Ideal S8x32x16 .f32) = V (Proc.devRef .tc Cert.WholeReferenceIdeal.main_arg2) := by
    iterate 3 refine (Function.update_of_ne (by decide) _ _).trans ?_
    exact Function.update_self _ _ _
  have a3 : (W (Proc.devRef .tc Cert.EmbedReferenceIdeal.main_arg3) : FVec Ideal S8x32x16 .f32) = V (Proc.devRef .tc Cert.WholeReferenceIdeal.main_arg3) := by
    iterate 2 refine (Function.update_of_ne (by decide) _ _).trans ?_
    exact Function.update_self _ _ _
  have a4 : (W (Proc.devRef .tc Cert.EmbedReferenceIdeal.main_arg4) : FVec Ideal S8x1x32 .f32) = V (Proc.devRef .tc Cert.WholeReferenceIdeal.main_arg4) := by
    refine (Function.update_of_ne (by decide) _ _).trans ?_
    exact Function.update_self _ _ _
  have a5 : (W (Proc.devRef .tc Cert.EmbedReferenceIdeal.main_arg5) : FVec Ideal S8x1x32 .f32) = V (Proc.devRef .tc Cert.WholeReferenceIdeal.main_arg5) :=
    Function.update_self _ _ _
  exact ⟨W, ⟨a0, a1, a2, a3, a4, a5⟩, v120_eq W V a0 a1 a2 a3 a4 a5⟩

end Cert.Proof.Agree

end
-- ==== Proof.Bend.lean ====
/-
  The main call as it stands: its stored halves, from the rounds' means and maxima.
-/
module

public import proofs.«01_k».proof.Proof.Left
public import proofs.«01_k».proof.Proof.Gen.WholeIdeal.Value

@[expose] public section

noncomputable section

namespace Cert.Proof.Bend

open Cert.WholeIdeal Cert.WholeIdeal.Gen Idealize.ShloMosaic
open Cert.Proof.Embed (pooled round0 round1 in_left in_right)

/-- A stored half, from its mean and largest. -/
def curved (v : FVec Ideal S256x128 .f32) : FVec Ideal S1x256x128 .f32 :=
  let z := mulf v (broadcast S256x128 (Scalar.ofBits .f32 0x3F3504F3#32))
  k0_pay1 (mulf (broadcast S256x128 (Scalar.ofBits .f32 0x3F000000#32)) v) z
    (k0_pay300 (absf z) (mulf (broadcast S256x128 (Scalar.ofBits .f32 0x3EA7BA05#32)) (absf z)) k0_pay299) k0_pay301

section
variable (x0 : Vec Ideal S1x32x256x256 .f32) (x1 : Vec Ideal S256x256 .f32) (x2 x3 : Vec Ideal S8x32x16 .f32) (x4 x5 : Vec Ideal S8x1x32 .f32)
  (x6 : Vec Ideal S1x256 .f32) (x7 : Vec Ideal S16x256 .f32)

set_option maxRecDepth 100000 in
set_option maxHeartbeats 8000000 in
theorem halves : out0_8 x0 x1 x2 x3 x4 x5 x6 x7 = View.canon [⟨r0_38, curved (pooled (round1 x0 x1 x2 x3 x4 x5 x6 x7))⟩,
    ⟨r0_37, curved (pooled (round0 x0 x1 x2 x3 x4 x5 x6 x7))⟩] := rfl

end

/-- The rational argument of the curve. -/
def recip (z : EReal) : EReal := Ideal.div 1 (1 + Ideal.ofBits .f32 0x3EA7BA05#32 * max z (-z))

/-- The curve's fifth-degree polynomial, as a sum of powers. -/
def powers (t : EReal) : EReal :=
  Ideal.ofBits .f32 0x3E827906#32 * t - Ideal.ofBits .f32 0x3E91A98E#32 * (t * t) + Ideal.ofBits .f32 0x3FB5F0E3#32 * (t * t * t)
    - Ideal.ofBits .f32 0x3FBA00E3#32 * (t * t * (t * t)) + Ideal.ofBits .f32 0x3F87DC22#32 * (t * (t * t * (t * t)))

/-- The same polynomial, nested. -/
def nested (t : EReal) : EReal :=
  t * (Ideal.ofBits .f32 0x3E827906#32 + t * (Ideal.ofBits .f32 0xBE91A98E#32 + t * (Ideal.ofBits .f32 0x3FB5F0E3#32
    + t * (Ideal.ofBits .f32 0xBFBA00E3#32 + t * Ideal.ofBits .f32 0x3F87DC22#32))))

/-- The curve of a mean and a largest. -/
def curve (u : EReal) : EReal :=
  let z := u * Ideal.ofBits .f32 0x3F3504F3#32
  Ideal.ofBits .f32 0x3F000000#32 * u * (1 + Ideal.sign z * (1 - powers (recip z) * Ideal.exp (-(z * z))))

theorem recip_real (z : EReal) : ∃ t : ℝ, recip z = t := by
  obtain ⟨c, hc⟩ : ∃ c : ℝ, 0 < c ∧ Ideal.ofBits .f32 0x3EA7BA05#32 = (c : EReal) :=
    ⟨_, by norm_num, show Ideal.ieee 8 23 0x3EA7BA05#32 = ((1 * (2 ^ 23 + 2603525 : Nat) * (2 : ℝ) ^ (-25 : Int) : ℝ) : EReal) by simp [Ideal.ieee]⟩
  have top : recip ⊤ = 0 := by
    unfold recip
    rw [hc.2, max_eq_left (b := -⊤) le_top, EReal.coe_mul_top_of_pos hc.1, show (1 : EReal) + ⊤ = ⊤ from rfl, Ideal.div, if_neg EReal.top_ne_zero, EReal.inv_top, mul_zero]
  induction z with
  | top => exact ⟨0, top⟩
  | bot => exact ⟨0, (show recip ⊥ = recip ⊤ by simp [recip]).trans top⟩
  | coe v =>
    have h : (0 : ℝ) < 1 + c * max v (-v) := by
      have : 0 ≤ max v (-v) := abs_nonneg v
      have := mul_nonneg hc.1.le this
      linarith
    refine ⟨(1 + c * max v (-v))⁻¹, ?_⟩
    have e : (1 : EReal) + Ideal.ofBits .f32 0x3EA7BA05#32 * max (v : EReal) (-v) = ((1 + c * max v (-v) : ℝ) : EReal) := by
      rw [hc.2, ← EReal.coe_neg, ← EReal.coe_strictMono.monotone.map_max, EReal.coe_add, EReal.coe_mul]
      rfl
    unfold recip
    rw [e, Ideal.div, if_neg (by exact_mod_cast h.ne'), one_mul, EReal.coe_inv]

theorem nested_eq (t : ℝ) : nested t = powers t := by
  obtain ⟨a, ha⟩ := Embed.real_word 0x3E827906#32 (by decide)
  obtain ⟨b, hb⟩ := Embed.real_word 0x3E91A98E#32 (by decide)
  obtain ⟨c, hc⟩ := Embed.real_word 0x3FB5F0E3#32 (by decide)
  obtain ⟨d, hd⟩ := Embed.real_word 0x3FBA00E3#32 (by decide)
  obtain ⟨e, he⟩ := Embed.real_word 0x3F87DC22#32 (by decide)
  have nb : Ideal.ofBits .f32 0xBE91A98E#32 = ((-b : ℝ) : EReal) := by
    rw [EReal.coe_neg, ← hb]
    simp [Ideal.ofBits, Ideal.ieee]
  have nd : Ideal.ofBits .f32 0xBFBA00E3#32 = ((-d : ℝ) : EReal) := by
    rw [EReal.coe_neg, ← hd]
    simp [Ideal.ofBits, Ideal.ieee]
  unfold nested powers
  rw [ha, hb, hc, hd, he, nb, nd]
  simp only [← EReal.coe_mul, ← EReal.coe_add, ← EReal.coe_sub]
  exact congrArg _ (by ring)

theorem square_eq (z : EReal) : (0 - max z (-z)) * max z (-z) = -(z * z) := by
  induction z with
  | top => simp
  | bot => simp
  | coe v =>
    rcases le_total 0 v with h | h
    · rw [max_eq_left (by exact_mod_cast (neg_nonpos.mpr h).trans h), zero_sub, neg_mul]
    · rw [max_eq_right (by exact_mod_cast h.trans (neg_nonneg.mpr h)), zero_sub, neg_neg, mul_neg]

theorem curved_apply (u : FVec Ideal S256x128 .f32) (p : Fin 256) (j : Fin 128) : curved u (ix3 0 p j) = curve (u (ix2 p j)) := by
  obtain ⟨t, ht⟩ := recip_real (u (ix2 p j) * Ideal.ofBits .f32 0x3F3504F3#32)
  have h := nested_eq t
  rw [← ht] at h
  simp only [curve]
  rw [← h, ← square_eq, ← Ideal.jnp_sign_eq_sign_f32]
  pointwise [curved, k0_pay1, k0_pay299, k0_pay300, k0_pay301]
  rfl

section
variable (x0 : Vec Ideal S1x32x256x256 .f32) (x1 : Vec Ideal S256x256 .f32) (x2 x3 : Vec Ideal S8x32x16 .f32) (x4 x5 : Vec Ideal S8x1x32 .f32)
  (x6 : Vec Ideal S1x256 .f32) (x7 : Vec Ideal S16x256 .f32)

/-- The first half of a block. -/
theorem left_first (p : Fin 256) (j : Fin 128) :
    out0_8 x0 x1 x2 x3 x4 x5 x6 x7 (ix3 0 p (⟨j.val, in_left j⟩ : Fin 256)) = curve (pooled (round0 x0 x1 x2 x3 x4 x5 x6 x7) (ix2 p j)) := by
  rw [halves]
  exact (Embed.beside_left _ _ p j).trans (curved_apply _ p j)

/-- The second half. -/
theorem left_second (p : Fin 256) (j : Fin 128) :
    out0_8 x0 x1 x2 x3 x4 x5 x6 x7 (ix3 0 p (⟨128 + j.val, in_right j⟩ : Fin 256)) = curve (pooled (round1 x0 x1 x2 x3 x4 x5 x6 x7) (ix2 p j)) := by
  rw [halves]
  exact (Embed.beside_right _ _ p j).trans (curved_apply _ p j)

end

end Cert.Proof.Bend

end
-- ==== Proof.Drawn.lean ====
/-
  The main call's result as it stands: the blocks its points are handed, and what they write back.
-/
module

public import proofs.«01_k».proof.Proof.Placed
public import proofs.«01_k».proof.Proof.Bend
public import proofs.«01_k».proof.Proof.Gen.WholeIdeal.Value
public import Idealize.ShloMosaic.Lib.KernelVsHost
public import Idealize.ShloMosaic.Lib.Pipeline.ValueKit.Point

@[expose] public section

noncomputable section

namespace Cert.Proof.Drawn

open Cert.WholeIdeal Cert.WholeIdeal.Gen Cert.WholeIdeal.Value
open Idealize.ShloMosaic Idealize.ShloMosaic.TcCoe Idealize.SL.Sem
open Cert.Proof.Bend (curve left_first left_second)
open Cert.Proof.Embed (rk sp ax qx af qf total halves_total in_coord centres coord centre_real)

variable (m : (ℓ : Loc nD τ sig) → Buf (Elt Ideal) ℓ) (c : Dev nD)

/-- Where each point's blocks lie. -/
theorem place : ∀ t : Fin cfg0.N, (win0_0.index t 0 = t.val / 4 ∧ win0_0.index t 1 = 0 ∧ win0_0.index t 2 = t.val % 4 ∧ win0_0.index t 3 = 0)
    ∧ (win0_1.index t 0 = t.val ∧ win0_1.index t 1 = 0)
    ∧ (win0_8.index t 0 = t.val / 4 ∧ win0_8.index t 1 = t.val % 4 ∧ win0_8.index t 2 = 0) :=
  (by decide +kernel : ∀ t : Fin grid0.N, _)

/-- The whole arrays every point is handed. -/
theorem whole : ∀ t : Fin cfg0.N, (win0_2.index t 0 = 0 ∧ win0_2.index t 1 = 0 ∧ win0_2.index t 2 = 0)
    ∧ (win0_3.index t 0 = 0 ∧ win0_3.index t 1 = 0 ∧ win0_3.index t 2 = 0) ∧ (win0_4.index t 0 = 0 ∧ win0_4.index t 1 = 0 ∧ win0_4.index t 2 = 0)
    ∧ (win0_5.index t 0 = 0 ∧ win0_5.index t 1 = 0 ∧ win0_5.index t 2 = 0) ∧ (win0_6.index t 0 = 0 ∧ win0_6.index t 1 = 0)
    ∧ (win0_7.index t 0 = 0 ∧ win0_7.index t 1 = 0) :=
  (by decide +kernel : ∀ t : Fin grid0.N, _)

/-- A point's neighbours' rows. -/
theorem block0 (t : Fin cfg0.N) (b : Fin 8) (k : Fin 32) (p : Fin 1024) (r j : Fin 256) (hb : b.val = t.val / 4) (hp : p.val = 256 * (t.val % 4) + r.val) :
    iblk m c 0 t (ix4 0 k r j) = m ((c : Thread nD τ).loc main_arg0) (ix4 b k p j) := by
  obtain ⟨⟨h, h', h'', h'''⟩, -⟩ := place t
  blk_point [iblk, V, h, h', h'', h''']
  all_goals omega

/-- A point's own rows. -/
theorem block1 (t : Fin cfg0.N) (s : Fin 8192) (r j : Fin 256) (hs : s.val = 256 * t.val + r.val) :
    iblk m c 1 t (ix2 r j) = m ((c : Thread nD τ).loc main_arg1) (ix2 s j) := by
  obtain ⟨-, ⟨h, h'⟩, -⟩ := place t
  blk_point [iblk, V, h, h']
  all_goals omega

theorem block2 (t : Fin cfg0.N) (b : Fin 8) (k : Fin 32) (d : Fin 16) : iblk m c 2 t (ix3 b k d) = m ((c : Thread nD τ).loc main_arg2) (ix3 b k d) := by
  obtain ⟨⟨h, h', h''⟩, -⟩ := whole t
  blk_point [iblk, V, h, h', h'']
  all_goals omega

theorem block3 (t : Fin cfg0.N) (b : Fin 8) (k : Fin 32) (d : Fin 16) : iblk m c 3 t (ix3 b k d) = m ((c : Thread nD τ).loc main_arg3) (ix3 b k d) := by
  obtain ⟨-, ⟨h, h', h''⟩, -⟩ := whole t
  blk_point [iblk, V, h, h', h'']
  all_goals omega

theorem block4 (t : Fin cfg0.N) (b : Fin 8) (k : Fin 32) : iblk m c 4 t (ix3 b 0 k) = m ((c : Thread nD τ).loc main_arg4) (ix3 b 0 k) := by
  obtain ⟨-, -, ⟨h, h', h''⟩, -⟩ := whole t
  blk_point [iblk, V, h, h', h'']
  all_goals omega

theorem block5 (t : Fin cfg0.N) (b : Fin 8) (k : Fin 32) : iblk m c 5 t (ix3 b 0 k) = m ((c : Thread nD τ).loc main_arg5) (ix3 b 0 k) := by
  obtain ⟨-, -, -, ⟨h, h', h''⟩, -⟩ := whole t
  blk_point [iblk, V, h, h', h'']
  all_goals omega

theorem block6 (t : Fin cfg0.N) (j : Fin 256) : iblk m c 6 t (ix2 0 j) = V m c main_cst (ix2 0 j) := by
  obtain ⟨-, -, -, -, ⟨h, h'⟩, -⟩ := whole t
  blk_point [iblk, h, h']
  all_goals omega

theorem block7 (t : Fin cfg0.N) (a : Fin 16) (j : Fin 256) : iblk m c 7 t (ix2 a j) = V m c main_cst_0 (ix2 a j) := by
  obtain ⟨-, -, -, -, -, ⟨h, h'⟩⟩ := whole t
  blk_point [iblk, h, h']
  all_goals omega

theorem table6 (j : Fin 256) : V m c main_cst (ix2 0 j) = Ideal.ofBits .f32 (Cert.EmbedIdeal.lit0 (Cert.EmbedIdeal.S1x256.rowMajor (ix2 0 j))) := rfl

/-- The second table picks out each lane's coordinate. -/
theorem picks : ∀ (a : Fin 16) (j : Fin 256), lit1 (S16x256.rowMajor (ix2 a j)) = if a.val = (coord j).val then 0x3F800000#32 else 0#32 := by decide +kernel

theorem table7 (a : Fin 16) (j : Fin 256) : V m c main_cst_0 (ix2 a j) = Ideal.ofBits .f32 (lit1 (S16x256.rowMajor (ix2 a j))) := rfl

/-- Every point writes its block back. -/
theorem every : ∀ t : Fin cfg0.N, (cfg0.win 8).flush t = true := (by decide +kernel : ∀ t : Fin grid0.N, win0_8.flush t = true)

/-- The kernel's result is the reference's. -/
theorem result_eq (W : Valuation Cert.EmbedReferenceIdeal.τ Cert.EmbedReferenceIdeal.sig (Elt Ideal))
    (a0 : rk W = m ((c : Thread nD τ).loc main_arg0)) (a1 : sp W = m ((c : Thread nD τ).loc main_arg1))
    (a2 : ∀ b k d, ax W b k d = m ((c : Thread nD τ).loc main_arg2) (ix3 b k d)) (a3 : ∀ b k d, qx W b k d = m ((c : Thread nD τ).loc main_arg3) (ix3 b k d))
    (a4 : ∀ b k, af W b k = m ((c : Thread nD τ).loc main_arg4) (ix3 b 0 k)) (a5 : ∀ b k, qf W b k = m ((c : Thread nD τ).loc main_arg5) (ix3 b 0 k))
    (n0 : ∀ b k p (d : Fin 3), ∃ v : ℝ, m ((c : Thread nD τ).loc main_arg0) (ix4 b k p (⟨128 + d.val, in_coord d⟩ : Fin 256)) = (v : EReal))
    (n1 : ∀ s (d : Fin 3), ∃ v : ℝ, m ((c : Thread nD τ).loc main_arg1) (ix2 s (⟨128 + d.val, in_coord d⟩ : Fin 256)) = (v : EReal))
    (b : Fin 8) (p : Fin 1024) (j : Fin 256) : (dats m 0 c).arrAt 8 cfg0.N (ix3 b p j) = curve (total W (ix3 b p j)) := by
  have hN : cfg0.N = 32 := N_0
  let t : Fin cfg0.N := ⟨4 * b.val + p.val / 256, by omega⟩
  let r : Fin 256 := ⟨p.val % 256, by omega⟩
  have h := (dats m 0 c).arrAt_emb_eq_flushed 8 disjoint8 t (every t) (ix3 0 r j)
  rw [flushed8] at h
  obtain ⟨-, -, ⟨h0, h1, h2⟩⟩ := place t
  have e : (((cfg0.win 8).blk t).view.emb (ix3 0 r j) : S8x1024x256.Idx) = ix3 b p j := by
    funext a
    refine Fin.ext ?_
    match a with
    | ⟨0, _⟩ =>
      show win0_8.index t (0 : Fin 3) * 1 + 1 * 0 = b.val
      rw [h0]
      show (4 * b.val + p.val / 256) / 4 * 1 + 1 * 0 = b.val
      omega
    | ⟨1, _⟩ =>
      show win0_8.index t (1 : Fin 3) * 256 + 1 * (p.val % 256) = p.val
      rw [h1]
      show (4 * b.val + p.val / 256) % 4 * 256 + 1 * (p.val % 256) = p.val
      omega
    | ⟨2, _⟩ =>
      show win0_8.index t (2 : Fin 3) * 256 + 1 * j.val = j.val
      rw [h2]
      omega
  refine (congrArg ((dats m 0 c).arrAt 8 cfg0.N) e).symm.trans (h.trans ((cast_eq _ _).trans ?_))
  choose f hf using centre_real
  have ht : t.val = 4 * b.val + p.val / 256 := rfl
  have hr : r.val = p.val % 256 := rfl
  refine halves_total W (iblk m c 0 t) (iblk m c 1 t) (iblk m c 2 t) (iblk m c 3 t) (iblk m c 4 t) (iblk m c 5 t) (iblk m c 6 t) (iblk m c 7 t) f b p r hf
    (fun k j => ?_) (fun j => ?_) ?_ ?_ ?_ ?_ (fun j => ?_) (fun a j => ?_) (fun k q d => ?_) (fun q d => ?_) curve _ (left_first _ _ _ _ _ _ _ _ r) (left_second _ _ _ _ _ _ _ _ r) j
  · rw [a0]
    exact block0 m c t b k p r j (by omega) (by omega)
  · show _ = sp W _
    rw [a1]
    exact block1 m c t _ r j (by show b.val * 1024 + p.val = _; omega)
  · funext b k d
    exact (block2 m c t b k d).trans (a2 b k d).symm
  · funext b k d
    exact (block3 m c t b k d).trans (a3 b k d).symm
  · funext b k
    exact (block4 m c t b k).trans (a4 b k).symm
  · funext b k
    exact (block5 m c t b k).trans (a5 b k).symm
  · rw [block6, table6, centres, hf]
  · rw [block7, table7, picks]
    split
    · exact Ideal.ofBits_one_f32
    · exact Ideal.ofBits_zero_f32
  · rw [block0 m c t b k ⟨256 * (t.val % 4) + q.val, by omega⟩ q _ (by omega) rfl]
    exact n0 _ _ _ _
  · rw [block1 m c t ⟨256 * t.val + q.val, by omega⟩ q _ rfl]
    exact n1 _ _

end Cert.Proof.Drawn

end
-- ==== Proof.Curve.lean ====
/-
  The main call as it stands: the frames of its programs, and that the kernel's result is its reference's.
-/
module

public import proofs.«01_k».proof.Defs
public import proofs.«01_k».proof.Proof.Agree
public import proofs.«01_k».proof.Proof.Drawn
public import proofs.«01_k».proof.Proof.Embed
public import proofs.«01_k».proof.Proof.Gen.Whole
public import proofs.«01_k».proof.Proof.Gen.Whole.Frame
public import proofs.«01_k».proof.Proof.Gen.WholeIdeal
public import proofs.«01_k».proof.Proof.Gen.WholeIdeal.Frame
public import proofs.«01_k».proof.Proof.Gen.WholeIdeal.Value
public import proofs.«01_k».proof.Proof.Gen.WholeReferenceIdeal
public import proofs.«01_k».proof.Proof.Gen.WholeReferenceIdeal.Run
public import proofs.«01_k».proof.Proof.Gen.Pre_coordinates_finite
public import Idealize.ShloMosaic.Lib.Quiescent

@[expose] public section

noncomputable section

namespace Cert.Proof.Curve

open Idealize.ShloMosaic Idealize.ShloMosaic.TcCoe Idealize.SL.Sem

/-- The frame of the main call. -/
theorem frame_printed : Cert.quiescent_Whole := fun m ρ _ => Cert.Whole.Gen.frame m ρ

/-- The frame of its ideal form. -/
theorem frame_ideal : Cert.quiescent_WholeIdeal := fun m ρ _ => Cert.WholeIdeal.Gen.frame m ρ

/-- The same, under the value claim's precondition. -/
theorem frame_ideal_finite : Cert.quiescent_WholeIdeal_pre_coordinates_finite := fun m ρ _ => Cert.WholeIdeal.Gen.frame m ρ

/-- The frame of its reference, which has no counter. -/
theorem frame_ref : Cert.quiescent_WholeReferenceIdeal := fun m ρ _ =>
  (θ_run Cert.WholeReferenceIdeal.defs _ _).mono
    (fun r h => ⟨fun c => (h c).2, sem_eq_zero_of_no_sems (by decide) _⟩)
    (Cert.WholeReferenceIdeal.Value.run (F := Ideal) m ρ)

/-- The same, under the value claim's precondition. -/
theorem frame_ref_finite : Cert.quiescent_WholeReferenceIdeal_pre_coordinates_finite := fun m ρ _ => frame_ref m ρ trivial

/-- The sign of a number, read off its bits, is its sign. -/
theorem same_sign : Cert.preserves_Whole_WholeIdeal := IdealRules.sign_bit.statement Cert.WholeIdeal.S256x128 .f32

section
open Cert.WholeReferenceIdeal Cert.WholeReferenceIdeal.Value
variable (V : Valuation τ sig (Elt Ideal))

/-- The reference's result, read at a place. -/
theorem out_eq (b : Fin 8) (p : Fin 1024) (j : Fin 256) :
    (mulf (mulf (broadcastInDim S8x1024x256 ![] bcast_S_S8x1024x256 (constant S_ .f32 0x3F000000#32)) (res_main_v120 V)) (addf (broadcastInDim S8x1024x256 ![] bcast_S_S8x1024x256 (constant S_ .f32 0x3F800000#32)) (mulf (Host.sign (res_main_v122 V)) (subf (broadcastInDim S8x1024x256 ![] bcast_S_S8x1024x256 (constant S_ .f32 0x3F800000#32)) (mulf (addf (subf (addf (subf (mulf (broadcastInDim S8x1024x256 ![] bcast_S_S8x1024x256 (constant S_ .f32 0x3E827906#32)) (res_main_v129 V)) (mulf (broadcastInDim S8x1024x256 ![] bcast_S_S8x1024x256 (constant S_ .f32 0x3E91A98E#32)) (mulf (res_main_v129 V) (res_main_v129 V)))) (mulf (broadcastInDim S8x1024x256 ![] bcast_S_S8x1024x256 (constant S_ .f32 0x3FB5F0E3#32)) (mulf (mulf (res_main_v129 V) (res_main_v129 V)) (res_main_v129 V)))) (mulf (broadcastInDim S8x1024x256 ![] bcast_S_S8x1024x256 (constant S_ .f32 0x3FBA00E3#32)) (mulf (res_main_v141 V) (res_main_v141 V)))) (mulf (broadcastInDim S8x1024x256 ![] bcast_S_S8x1024x256 (constant S_ .f32 0x3F87DC22#32)) (mulf (res_main_v129 V) (mulf (res_main_v146 V) (res_main_v146 V))))) (Host.exp (Host.negf (mulf (res_main_v122 V) (res_main_v122 V)))))))) : FVec Ideal S8x1024x256 .f32) (ix3 b p j)
      = Bend.curve (res_main_v120 V (ix3 b p j)) := by
  pointwise [res_main_v122, res_main_v129, res_main_v141, res_main_v146]
  rfl

end

/-- The kernel's result is the reference's. -/
theorem same_embedding : Cert.algebraic_WholeIdeal_WholeReferenceIdeal_pre_coordinates_finite := fun m g m' g' hpre hargs => by
  refine ⟨fun c => (Cert.WholeIdeal.Gen.dats m 0 c).arrAt 8 Cert.WholeIdeal.cfg0.N, Cert.WholeIdeal.Value.run_blocks (F := Ideal) m g, ?_⟩
  refine (θ_run Cert.WholeReferenceIdeal.defs _ _).mono (fun r h c => ?_) (Cert.WholeReferenceIdeal.Value.run (F := Ideal) m' g')
  refine ⟨(h c).1.trans (funext fun i => ?_), (h c).2⟩
  rw [eq_ix3 i]
  obtain ⟨a0, a1, a2, a3, a4, a5⟩ := hargs c
  obtain ⟨n0, n1⟩ := Embed.finite _ _ _ _ _ _ (hpre c)
  obtain ⟨W, ⟨w0, w1, w2, w3, w4, w5⟩, hW⟩ := Agree.pooled_agree (StableHlo.launchContents m' c)
  refine (out_eq (StableHlo.launchContents m' c) (i 0) (i 1) (i 2)).trans ?_
  rw [← hW]
  exact (Drawn.result_eq m c W (w0.trans a0) (w1.trans a1) (fun b k d => congrFun (w2.trans a2) (ix3 b k d)) (fun b k d => congrFun (w3.trans a3) (ix3 b k d))
    (fun b k => congrFun (w4.trans a4) (ix3 b 0 k)) (fun b k => congrFun (w5.trans a5) (ix3 b 0 k)) n0 n1 (i 0) (i 1) (i 2)).symm

end Cert.Proof.Curve

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_indices_name_rows
public import proofs.«01_k».proof.Proof.Gen.Stats
public import proofs.«01_k».proof.Proof.Gen.Stats.Frame
public import proofs.«01_k».proof.Proof.Gen.StatsIdeal
public import proofs.«01_k».proof.Proof.Gen.StatsIdeal.Frame
public import proofs.«01_k».proof.Proof.Gen.StatsIdeal.Value
public import proofs.«01_k».proof.Proof.Gen.StatsReferenceIdeal
public import proofs.«01_k».proof.Proof.Gen.StatsReferenceIdeal.Run
public import proofs.«01_k».proof.Proof.Gen.StatsReferenceIdeal.Read
public import proofs.«01_k».proof.Proof.Frames
public import proofs.«01_k».proof.Proof.Values
public import proofs.«01_k».proof.Proof.Sums
public import proofs.«01_k».proof.Proof.Farthest
public import proofs.«01_k».proof.Proof.Nearest
public import proofs.«01_k».proof.Proof.Embed
public import proofs.«01_k».proof.Proof.Curve
public import Idealize.ShloMosaic.Adequacy
public import Idealize.ShloMosaic.Init

@[expose] public section

noncomputable section

namespace Cert.Proof

open Idealize.ShloMosaic Idealize.SL.Sem Cert.Kernel

/-- Call 0's output, at arguments that agree. -/
theorem kernel_rows0 (m : (ℓ : Loc Cert.KernelIdeal.nD Cert.KernelIdeal.τ Cert.KernelIdeal.sig) → Buf (Elt Ideal) ℓ) (c : Dev Cert.KernelIdeal.nD)
    (h : ∀ j, (m ((SparseCore.T c).loc Cert.KernelIdeal.main_arg2) j : BitVec 32).toNat < 32768)
    {x0 : Cert.KernelIdeal.S8x4096x3.Idx → Elt Ideal .f32} {x1 : Cert.KernelIdeal.S8x4096x128.Idx → Elt Ideal .f32}
    {x2 : Cert.KernelIdeal.S8x1024.Idx → BitVec 32} (a0 : x0 = m ((SparseCore.T c).loc Cert.KernelIdeal.main_arg0))
    (a1 : x1 = m ((SparseCore.T c).loc Cert.KernelIdeal.main_arg1)) (a2 : x2 = m ((SparseCore.T c).loc Cert.KernelIdeal.main_arg2)) :
    Cert.ReferenceIdeal.Read.val_main_v21 (F := Ideal) x0 x1 x2 = Rows.gathered (Rows.tab m c) (Rows.no0 m c) := by
  subst a0 a1 a2
  rw [Rows.tab_eq, Rows.no0_eq]
  exact (Rows.rows0 (F := Ideal) _ _ _ h).symm

/-- Call 1's output, at arguments that agree. -/
theorem kernel_rows1 (m : (ℓ : Loc Cert.KernelIdeal.nD Cert.KernelIdeal.τ Cert.KernelIdeal.sig) → Buf (Elt Ideal) ℓ) (c : Dev Cert.KernelIdeal.nD)
    (h : ∀ j, (m ((SparseCore.T c).loc Cert.KernelIdeal.main_arg3) j : BitVec 32).toNat < 32768)
    {x0 : Cert.KernelIdeal.S8x4096x3.Idx → Elt Ideal .f32} {x1 : Cert.KernelIdeal.S8x4096x128.Idx → Elt Ideal .f32}
    {x3 : Cert.KernelIdeal.S8x32x1024.Idx → BitVec 32} (a0 : x0 = m ((SparseCore.T c).loc Cert.KernelIdeal.main_arg0))
    (a1 : x1 = m ((SparseCore.T c).loc Cert.KernelIdeal.main_arg1)) (a3 : x3 = m ((SparseCore.T c).loc Cert.KernelIdeal.main_arg3)) :
    Cert.ReferenceIdeal.Read.val_main_v43 (F := Ideal) x0 x1 x3 = Rows.gathered (Rows.tab m c) (Rows.no1 m c) := by
  subst a0 a1 a3
  rw [Rows.tab_eq, Rows.no1_eq]
  exact (Rows.rows1 (F := Ideal) _ _ _ h).symm

/-- Both outputs of the ideal form are the reference's, element for element. -/
theorem same_rows : Cert.algebraic_KernelIdeal_ReferenceIdeal := fun m g m' g' hpre hargs => by
  have hok : Rows.PreOK (F := Ideal) m := fun d => Rows.words_lt _ _ _ _ (hpre d)
  refine ⟨fun c => Rows.gathered (Rows.tab m c) (Rows.no0 m c), fun c => Rows.gathered (Rows.tab m c) (Rows.no1 m c), ?_, ?_⟩
  · exact (θ_run Cert.KernelIdeal.defs _ _).mono
      (fun r (h : Rows.QC (F := Ideal) m r) c =>
        ⟨(h.1 c _).trans (Rows.V4_out0 m c), (h.1 c _).trans (Rows.V4_out1 m c),
          (h.1 c _).trans (Rows.V4_arg m c _ (by decide)), (h.1 c _).trans (Rows.V4_arg m c _ (by decide)),
          (h.1 c _).trans (Rows.V4_arg m c _ (by decide)), (h.1 c _).trans (Rows.V4_arg m c _ (by decide))⟩)
      (Rows.run_main (F := Ideal) m g hok)
  · refine (θ_run Cert.ReferenceIdeal.defs _ _).mono (fun r h c => ?_) (Cert.ReferenceIdeal.Value.run (F := Ideal) m' g')
    obtain ⟨h0, h1, hr⟩ := h c
    obtain ⟨a0, a1, a2, a3⟩ := hargs c
    exact ⟨h0.trans (kernel_rows0 m c (hok c).1 a0 a1 a2), h1.trans (kernel_rows1 m c (hok c).2 a0 a1 a3), hr⟩

theorem claim : Cert.Claim := ⟨Cert.Kernel.Gen.facts, Cert.KernelIdeal.Gen.facts, Cert.ReferenceIdeal.Gen.facts, Cert.Stats.Gen.facts,
  Cert.StatsIdeal.Gen.facts, Cert.StatsReferenceIdeal.Gen.facts, Cert.Farthest.Gen.facts, Cert.FarthestIdeal.Gen.facts,
  Cert.FarthestReferenceIdeal.Gen.facts, Cert.Nearest.Gen.facts, Cert.NearestIdeal.Gen.facts, Cert.NearestReferenceIdeal.Gen.facts,
  Cert.Embed.Gen.facts, Cert.EmbedIdeal.Gen.facts, Cert.EmbedReferenceIdeal.Gen.facts,
  Cert.Whole.Gen.facts, Cert.WholeIdeal.Gen.facts, Cert.WholeReferenceIdeal.Gen.facts,
  Cert.Pre_indices_name_rows.Gen.facts, Cert.Pre_one_farthest.Gen.facts, Cert.Pre_one_nearest.Gen.facts, Cert.Pre_coordinates_finite.Gen.facts,
  Rows.frame_printed, Rows.frame_ideal, Rows.frame_ref, Sums.frame_printed, Sums.frame_ideal, Sums.frame_ref,
  Farthest.frame_printed, Farthest.frame_printed_one, Farthest.frame_ideal, Farthest.frame_ref, Farthest.frame_ref_one,
  Nearest.frame_printed, Nearest.frame_printed_one, Nearest.frame_ideal, Nearest.frame_ref, Nearest.frame_ref_one,
  Embed.frame_printed, Embed.frame_ideal, Embed.frame_ideal_finite, Embed.frame_ref, Embed.frame_ref_finite,
  Curve.frame_printed, Curve.frame_ideal, Curve.frame_ideal_finite, Curve.frame_ref, Curve.frame_ref_finite,
  trivial, same_rows, trivial, Sums.same_sums, trivial, Farthest.same_points, trivial, Nearest.same_neighbours,
  trivial, Embed.same_embedding, Curve.same_sign, Curve.same_embedding⟩

end Cert.Proof

end
